-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v75_0)) (v1 : (c : Dev Cert.Kernel2Ideal.nD) → Buf (Elt Ideal) ((c.tc : Thread Cert.Kernel2Ideal.nD Cert.Kernel2Ideal.τ).loc Cert.Kernel2Ideal.main_v75_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v75_0) = v0 c
          ∧ r.2.mem ((c.tc : Thread Cert.Kernel2Ideal.nD Cert.Kernel2Ideal.τ).loc Cert.Kernel2Ideal.main_v75_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v80) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)) (v4 : (c : Dev Cert.Kernel3Ideal.nD) → Buf (Elt Ideal) ((c.tc : Thread Cert.Kernel3Ideal.nD Cert.Kernel3Ideal.τ).loc Cert.Kernel3Ideal.main_v16_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_v16_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_v59) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)) (v5 : (c : Dev Cert.Kernel4Ideal.nD) → Buf (Elt Ideal) ((c.tc : Thread Cert.Kernel4Ideal.nD Cert.Kernel4Ideal.τ).loc Cert.Kernel4Ideal.main_v16_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_v16_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v74) = v4 c
          ∧ r.2.mem ((c.tc : Thread Cert.Reference4Ideal.nD Cert.Reference4Ideal.τ).loc Cert.Reference4Ideal.main_v75) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)) (v2 : (c : Dev Cert.Kernel7Ideal.nD) → Buf (Elt Ideal) ((c.tc : Thread Cert.Kernel7Ideal.nD Cert.Kernel7Ideal.τ).loc Cert.Kernel7Ideal.main_v12_2)) (v3 : (c : Dev Cert.Kernel7Ideal.nD) → Buf (Elt Ideal) ((c.tc : Thread Cert.Kernel7Ideal.nD Cert.Kernel7Ideal.τ).loc Cert.Kernel7Ideal.main_v12_3)) (v4 : (c : Dev Cert.Kernel7Ideal.nD) → Buf (Elt Ideal) ((c.tc : Thread Cert.Kernel7Ideal.nD Cert.Kernel7Ideal.τ).loc Cert.Kernel7Ideal.main_v12_4)) (v5 : (c : Dev Cert.Kernel7Ideal.nD) → Buf (Elt Ideal) ((c.tc : Thread Cert.Kernel7Ideal.nD Cert.Kernel7Ideal.τ).loc Cert.Kernel7Ideal.main_v12_5)) (v6 : (c : Dev Cert.Kernel7Ideal.nD) → Buf (Elt Ideal) ((c.tc : Thread Cert.Kernel7Ideal.nD Cert.Kernel7Ideal.τ).loc Cert.Kernel7Ideal.main_v12_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_v12_2) = v2 c
          ∧ r.2.mem ((c.tc : Thread Cert.Kernel7Ideal.nD Cert.Kernel7Ideal.τ).loc Cert.Kernel7Ideal.main_v12_3) = v3 c
          ∧ r.2.mem ((c.tc : Thread Cert.Kernel7Ideal.nD Cert.Kernel7Ideal.τ).loc Cert.Kernel7Ideal.main_v12_4) = v4 c
          ∧ r.2.mem ((c.tc : Thread Cert.Kernel7Ideal.nD Cert.Kernel7Ideal.τ).loc Cert.Kernel7Ideal.main_v12_5) = v5 c
          ∧ r.2.mem ((c.tc : Thread Cert.Kernel7Ideal.nD Cert.Kernel7Ideal.τ).loc Cert.Kernel7Ideal.main_v12_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v73) = v0 c
          ∧ r.2.mem ((c.tc : Thread Cert.Reference7Ideal.nD Cert.Reference7Ideal.τ).loc Cert.Reference7Ideal.main_v74) = v1 c
          ∧ r.2.mem ((c.tc : Thread Cert.Reference7Ideal.nD Cert.Reference7Ideal.τ).loc Cert.Reference7Ideal.main_v75) = v2 c
          ∧ r.2.mem ((c.tc : Thread Cert.Reference7Ideal.nD Cert.Reference7Ideal.τ).loc Cert.Reference7Ideal.main_v72) = v3 c
          ∧ r.2.mem ((c.tc : Thread Cert.Reference7Ideal.nD Cert.Reference7Ideal.τ).loc Cert.Reference7Ideal.main_v76) = v4 c
          ∧ r.2.mem ((c.tc : Thread Cert.Reference7Ideal.nD Cert.Reference7Ideal.τ).loc Cert.Reference7Ideal.main_v77) = v5 c
          ∧ r.2.mem ((c.tc : Thread Cert.Reference7Ideal.nD Cert.Reference7Ideal.τ).loc Cert.Reference7Ideal.main_v78) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v29) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v16_0)) (v1 : (c : Dev Cert.Kernel9Ideal.nD) → Buf (Elt Ideal) ((c.tc : Thread Cert.Kernel9Ideal.nD Cert.Kernel9Ideal.τ).loc Cert.Kernel9Ideal.main_v16_1)) (v2 : (c : Dev Cert.Kernel9Ideal.nD) → Buf (Elt Ideal) ((c.tc : Thread Cert.Kernel9Ideal.nD Cert.Kernel9Ideal.τ).loc Cert.Kernel9Ideal.main_v16_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16_0) = v0 c
          ∧ r.2.mem ((c.tc : Thread Cert.Kernel9Ideal.nD Cert.Kernel9Ideal.τ).loc Cert.Kernel9Ideal.main_v16_1) = v1 c
          ∧ r.2.mem ((c.tc : Thread Cert.Kernel9Ideal.nD Cert.Kernel9Ideal.τ).loc Cert.Kernel9Ideal.main_v16_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v30) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)) (v3 : (c : Dev Cert.Kernel11Ideal.nD) → Buf (Elt Ideal) ((c.tc : Thread Cert.Kernel11Ideal.nD Cert.Kernel11Ideal.τ).loc Cert.Kernel11Ideal.main_v6_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_v6_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v31) = v2 c
          ∧ r.2.mem ((c.tc : Thread Cert.Reference11Ideal.nD Cert.Reference11Ideal.τ).loc Cert.Reference11Ideal.main_v33) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v26) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_v29) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S1024 : S_.BroadcastsInDim S1024 (![] : Fin 0 → Fin S1024.rank)

variable [Facts]

def fn {F : FTy → Type} [FloatOps F] (main_arg0 : FVec F S4096x1024 .f32) (main_arg1 : FVec F S1024x4096 .f32) (main_arg2 : FVec F S4096x1024 .f32) (main_arg3 : FVec F S1024 .f32) (main_arg4 : FVec F S4096x1024 .f32) : IVec S4096x1024 1 × IVec S1024x4096 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite7.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024x1024 .f32) (main_arg3 : FVec F S1024 .f32) (main_arg4 : FVec F S4096x1024 .f32) : IVec S4096x1024 1 × IVec S4096x1024 1 × IVec S1024x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 27
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S4096x4096, .bf16⟩
  | .hbm, ⟨16, _⟩ => ⟨S1024x4x1024, .f32⟩
  | .hbm, ⟨17, _⟩ => ⟨S4x1024x1024, .f32⟩
  | .hbm, ⟨18, _⟩ => ⟨S4x1024x1024, .bf16⟩
  | .hbm, ⟨19, _⟩ => ⟨S4x1024x1024, .f32⟩
  | .hbm, ⟨20, _⟩ => ⟨S4x1024x1024, .bf16⟩
  | .hbm, ⟨21, _⟩ => ⟨S1x1024, .f32⟩
  | .hbm, ⟨22, _⟩ => ⟨S4096x4096, .bf16⟩
  | .hbm, ⟨23, _⟩ => ⟨S4096x1024, .bf16⟩
  | .hbm, ⟨24, _⟩ => ⟨S4096x1024, .f32⟩
  | .hbm, ⟨25, _⟩ => ⟨S1x1024, .f32⟩
  | .hbm, ⟨26, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S4x1024x1024, .bf16⟩
  | .local _ .vmem, ⟨7, _⟩ => ⟨S4x1024x1024, .bf16⟩
  | .local _ .vmem, ⟨8, _⟩ => ⟨S1x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x4096, .f32⟩
  | .hbm, ⟨107, _⟩ => ⟨S4096x4096, .f32⟩
  | .hbm, ⟨108, _⟩ => ⟨S_, .f32⟩
  | .hbm, ⟨109, _⟩ => ⟨S4096x4096, .f32⟩
  | .hbm, ⟨110, _⟩ => ⟨S4096x4096, .f32⟩
  | .hbm, ⟨111, _⟩ => ⟨S_, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x4096, .bf16⟩
  | .hbm, ⟨117, _⟩ => ⟨S4096x1024, .bf16⟩
  | .hbm, ⟨118, _⟩ => ⟨S1x1024, .f32⟩
  | .hbm, ⟨119, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_16 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_19 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_20 : Ref sig .tc := ⟨.hbm, 99, rfl⟩
abbrev main_v71 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_22 : Ref sig .tc := ⟨.hbm, 108, rfl⟩
abbrev main_v78 : Ref sig .tc := ⟨.hbm, 109, rfl⟩
abbrev main_v79 : Ref sig .tc := ⟨.hbm, 110, rfl⟩
abbrev main_cst_23 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 104
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x4096, .f32⟩
  | .hbm, ⟨95, _⟩ => ⟨S4096x4096, .f32⟩
  | .hbm, ⟨96, _⟩ => ⟨S_, .f32⟩
  | .hbm, ⟨97, _⟩ => ⟨S4096x4096, .f32⟩
  | .hbm, ⟨98, _⟩ => ⟨S4096x4096, .f32⟩
  | .hbm, ⟨99, _⟩ => ⟨S4096x4096, .bf16⟩
  | .hbm, ⟨100, _⟩ => ⟨S4096x4096, .bf16⟩
  | .hbm, ⟨101, _⟩ => ⟨S4096x1024, .bf16⟩
  | .hbm, ⟨102, _⟩ => ⟨S4x1024x1024, .bf16⟩
  | .hbm, ⟨103, _⟩ => ⟨S4x1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .f32⟩
  | .local _ .vmem, ⟨13, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75_0 : Ref sig .tc := ⟨.hbm, 102, rfl⟩
abbrev main_v75_1 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_22 : BitVec 32 := 0#32
  let v32 : BitVec 1 := Scalar.cmpi .ne v31 c0_i32_22
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩
abbrev S1024x4x1024 : Shape := ⟨3, ![1024, 4, 1024]⟩
abbrev S4x1024x1024 : Shape := ⟨3, ![4, 1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S1024x4096, .f32⟩
  | .hbm, ⟨95, _⟩ => ⟨S4096x1024, .f32⟩
  | .hbm, ⟨96, _⟩ => ⟨S4096x4096, .f32⟩
  | .hbm, ⟨97, _⟩ => ⟨S4096x4096, .f32⟩
  | .hbm, ⟨98, _⟩ => ⟨S_, .f32⟩
  | .hbm, ⟨99, _⟩ => ⟨S4096x4096, .f32⟩
  | .hbm, ⟨100, _⟩ => ⟨S4096x4096, .f32⟩
  | .hbm, ⟨101, _⟩ => ⟨S4096x1024, .f32⟩
  | .hbm, ⟨102, _⟩ => ⟨S1024x4096, .f32⟩
  | .hbm, ⟨103, _⟩ => ⟨S1024x4x1024, .f32⟩
  | .hbm, ⟨104, _⟩ => ⟨S4x1024x1024, .f32⟩
  | .hbm, ⟨105, _⟩ => ⟨S4x1024x1024, .bf16⟩
  | .hbm, ⟨106, _⟩ => ⟨S4x1024x1024, .f32⟩
  | .hbm, ⟨107, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_18 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096x256 : Shape := ⟨2, ![4096, 256]⟩
abbrev S4096x512 : Shape := ⟨2, ![4096, 512]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x256 : Shape := ⟨2, ![512, 256]⟩
abbrev S512x512 : Shape := ⟨2, ![512, 512]⟩
abbrev S512x1024 : Shape := ⟨2, ![512, 1024]⟩
abbrev S512x4096 : Shape := ⟨2, ![512, 4096]⟩
abbrev S256x1024 : Shape := ⟨2, ![256, 1024]⟩
abbrev S512 : Shape := ⟨1, ![512]⟩
abbrev S512x1 : Shape := ⟨2, ![512, 1]⟩
abbrev S1x1024x1024 : Shape := ⟨3, ![1, 1024, 1024]⟩

abbrev nBuf : Space → Nat
  | .hbm => 30
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S4096x256, .f32⟩
  | .hbm, ⟨10, _⟩ => ⟨S4096x256, .bf16⟩
  | .hbm, ⟨11, _⟩ => ⟨S4096x256, .f32⟩
  | .hbm, ⟨12, _⟩ => ⟨S4096x256, .bf16⟩
  | .hbm, ⟨13, _⟩ => ⟨S4096x512, .f32⟩
  | .hbm, ⟨14, _⟩ => ⟨S4096x512, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1024x4x1024, .f32⟩
  | .hbm, ⟨19, _⟩ => ⟨S4x1024x1024, .f32⟩
  | .hbm, ⟨20, _⟩ => ⟨S4x1024x1024, .bf16⟩
  | .hbm, ⟨21, _⟩ => ⟨S4x1024x1024, .f32⟩
  | .hbm, ⟨22, _⟩ => ⟨S4x1024x1024, .bf16⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .bf16⟩
  | .hbm, ⟨28, _⟩ => ⟨S4096x1024, .f32⟩
  | .hbm, ⟨29, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S4x1024x1024, .bf16⟩
  | .local _ .vmem, ⟨12, _⟩ => ⟨S4x1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x4096, .bf16⟩
  | .local _ .vmem, ⟨20, _⟩ => ⟨S512x4096, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x4096, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x1024, .f32⟩
  | .hbm, ⟨52, _⟩ => ⟨S4096x1024, .f32⟩
  | .hbm, ⟨53, _⟩ => ⟨S4096x4096, .bf16⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S1x1024, .f32⟩
  | .hbm, ⟨81, _⟩ => ⟨S4096x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096x256 : Shape := ⟨2, ![4096, 256]⟩
abbrev S4096x512 : Shape := ⟨2, ![4096, 512]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S8x128 : Shape := ⟨2, ![8, 128]⟩
abbrev S512x256 : Shape := ⟨2, ![512, 256]⟩
abbrev S512x512 : Shape := ⟨2, ![512, 512]⟩
abbrev S512x1024 : Shape := ⟨2, ![512, 1024]⟩
abbrev S512x4096 : Shape := ⟨2, ![512, 4096]⟩
abbrev S256x1024 : Shape := ⟨2, ![256, 1024]⟩
abbrev S512 : Shape := ⟨1, ![512]⟩
abbrev S512x1 : Shape := ⟨2, ![512, 1]⟩
abbrev S1x1024x1024 : Shape := ⟨3, ![1, 1024, 1024]⟩
abbrev S1 : Shape := ⟨1, ![1]⟩
abbrev S1x1 : Shape := ⟨2, ![1, 1]⟩

abbrev nBuf : Space → Nat
  | .hbm => 32
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S4096x256, .f32⟩
  | .hbm, ⟨11, _⟩ => ⟨S4096x256, .bf16⟩
  | .hbm, ⟨12, _⟩ => ⟨S4096x256, .f32⟩
  | .hbm, ⟨13, _⟩ => ⟨S4096x256, .bf16⟩
  | .hbm, ⟨14, _⟩ => ⟨S4096x512, .f32⟩
  | .hbm, ⟨15, _⟩ => ⟨S4096x512, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1024x4x1024, .f32⟩
  | .hbm, ⟨20, _⟩ => ⟨S4x1024x1024, .f32⟩
  | .hbm, ⟨21, _⟩ => ⟨S4x1024x1024, .bf16⟩
  | .hbm, ⟨22, _⟩ => ⟨S4x1024x1024, .f32⟩
  | .hbm, ⟨23, _⟩ => ⟨S4x1024x1024, .bf16⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x4096, .bf16⟩
  | .hbm, ⟨29, _⟩ => ⟨S4096x1024, .f32⟩
  | .hbm, ⟨30, _⟩ => ⟨S4096x1024, .f32⟩
  | .hbm, ⟨31, _⟩ => ⟨S8x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S4x1024x1024, .bf16⟩
  | .local _ .vmem, ⟨12, _⟩ => ⟨S4x1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x4096, .bf16⟩
  | .local _ .vmem, ⟨22, _⟩ => ⟨S512x4096, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference4Ideal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x128 : Shape := ⟨2, ![8, 128]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x1024, .f32⟩
  | .hbm, ⟨53, _⟩ => ⟨S4096x1024, .f32⟩
  | .hbm, ⟨54, _⟩ => ⟨S4096x4096, .bf16⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S4096x1024, .f32⟩
  | .hbm, ⟨106, _⟩ => ⟨S4096x1024, .f32⟩
  | .hbm, ⟨107, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_cst_16 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_cst_18 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== Kernel5.lean ====
abbrev S4096x1024 : Shape := ⟨2, ![4096, 1024]⟩
abbrev S1024x1824 : Shape := ⟨2, ![1024, 1824]⟩
abbrev S2x16x128 : Shape := ⟨3, ![2, 16, 128]⟩
abbrev S2x128 : Shape := ⟨2, ![2, 128]⟩
abbrev S1024x1024 : Shape := ⟨2, ![1024, 1024]⟩
abbrev S1024x768 : Shape := ⟨2, ![1024, 768]⟩
abbrev S1024x32 : Shape := ⟨2, ![1024, 32]⟩
abbrev S_ : Shape := ⟨0, ![]⟩
abbrev S1024x96 : Shape := ⟨2, ![1024, 96]⟩
abbrev S1024x1920 : Shape := ⟨2, ![1024, 1920]⟩
abbrev S1920x1024 : Shape := ⟨2, ![1920, 1024]⟩
abbrev S16x128 : Shape := ⟨2, ![16, 128]⟩
abbrev S1x16x128 : Shape := ⟨3, ![1, 16, 128]⟩
abbrev S16x256 : Shape := ⟨2, ![16, 256]⟩
abbrev S96x256 : Shape := ⟨2, ![96, 256]⟩
abbrev S128x256 : Shape := ⟨2, ![128, 256]⟩
abbrev S1x256 : Shape := ⟨2, ![1, 256]⟩
abbrev S4096x1920 : Shape := ⟨2, ![4096, 1920]⟩
abbrev S4096x256 : Shape := ⟨2, ![4096, 256]⟩
abbrev S512x1024 : Shape := ⟨2, ![512, 1024]⟩
abbrev S512x1920 : Shape := ⟨2, ![512, 1920]⟩
abbrev S512x256 : Shape := ⟨2, ![512, 256]⟩
abbrev S512x128 : Shape := ⟨2, ![512, 128]⟩

abbrev nBuf : Space → Nat
  | .hbm => 27
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1824, .f32⟩
  | .hbm, ⟨2, _⟩ => ⟨S2x16x128, .f32⟩
  | .hbm, ⟨3, _⟩ => ⟨S2x128, .f32⟩
  | .hbm, ⟨4, _⟩ => ⟨S1024x1024, .f32⟩
  | .hbm, ⟨5, _⟩ => ⟨S1024x768, .f32⟩
  | .hbm, ⟨6, _⟩ => ⟨S1024x32, .f32⟩
  | .hbm, ⟨7, _⟩ => ⟨S_, .f32⟩
  | .hbm, ⟨8, _⟩ => ⟨S1024x96, .f32⟩
  | .hbm, ⟨9, _⟩ => ⟨S1024x1920, .f32⟩
  | .hbm, ⟨10, _⟩ => ⟨S1920x1024, .f32⟩
  | .hbm, ⟨11, _⟩ => ⟨S1920x1024, .bf16⟩
  | .hbm, ⟨12, _⟩ => ⟨S_, .f32⟩
  | .hbm, ⟨13, _⟩ => ⟨S16x128, .f32⟩
  | .hbm, ⟨14, _⟩ => ⟨S1x16x128, .f32⟩
  | .hbm, ⟨15, _⟩ => ⟨S16x128, .f32⟩
  | .hbm, ⟨16, _⟩ => ⟨S16x256, .f32⟩
  | .hbm, ⟨17, _⟩ => ⟨S1x16x128, .f32⟩
  | .hbm, ⟨18, _⟩ => ⟨S16x128, .f32⟩
  | .hbm, ⟨19, _⟩ => ⟨S16x256, .f32⟩
  | .hbm, ⟨20, _⟩ => ⟨S_, .f32⟩
  | .hbm, ⟨21, _⟩ => ⟨S96x256, .f32⟩
  | .hbm, ⟨22, _⟩ => ⟨S128x256, .f32⟩
  | .hbm, ⟨23, _⟩ => ⟨S128x256, .bf16⟩
  | .hbm, ⟨24, _⟩ => ⟨S1x256, .f32⟩
  | .hbm, ⟨25, _⟩ => ⟨S4096x1920, .f32⟩
  | .hbm, ⟨26, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1920x1024, .bf16⟩
  | .local _ .vmem, ⟨3, _⟩ => ⟨S128x256, .bf16⟩
  | .local _ .vmem, ⟨4, _⟩ => ⟨S1x256, .f32⟩
  | .local _ .vmem, ⟨5, _⟩ => ⟨S512x1920, .f32⟩
  | .local _ .vmem, ⟨6, _⟩ => ⟨S512x1920, .f32⟩
  | .local _ .vmem, ⟨7, _⟩ => ⟨S512x256, .f32⟩
  | .local _ .vmem, ⟨8, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1024x1824 : Shape := ⟨2, ![1024, 1824]⟩
abbrev S2x16x128 : Shape := ⟨3, ![2, 16, 128]⟩
abbrev S2x128 : Shape := ⟨2, ![2, 128]⟩
abbrev S4096x1824 : Shape := ⟨2, ![4096, 1824]⟩
abbrev S4096x16 : Shape := ⟨2, ![4096, 16]⟩
abbrev S1x16x128 : Shape := ⟨3, ![1, 16, 128]⟩
abbrev S16x128 : Shape := ⟨2, ![16, 128]⟩
abbrev S4096x128 : Shape := ⟨2, ![4096, 128]⟩
abbrev S1x128 : Shape := ⟨2, ![1, 128]⟩
abbrev S128 : Shape := ⟨1, ![128]⟩
abbrev S_ : Shape := ⟨0, ![]⟩
abbrev S4096x768 : Shape := ⟨2, ![4096, 768]⟩
abbrev S4096x32 : Shape := ⟨2, ![4096, 32]⟩
abbrev S4096x96 : Shape := ⟨2, ![4096, 96]⟩
abbrev S4096x1920 : Shape := ⟨2, ![4096, 1920]⟩
abbrev S4096x256 : Shape := ⟨2, ![4096, 256]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1824, .f32⟩
  | .hbm, ⟨2, _⟩ => ⟨S2x16x128, .f32⟩
  | .hbm, ⟨3, _⟩ => ⟨S2x128, .f32⟩
  | .hbm, ⟨4, _⟩ => ⟨S4096x1824, .f32⟩
  | .hbm, ⟨5, _⟩ => ⟨S4096x16, .f32⟩
  | .hbm, ⟨6, _⟩ => ⟨S1x16x128, .f32⟩
  | .hbm, ⟨7, _⟩ => ⟨S16x128, .f32⟩
  | .hbm, ⟨8, _⟩ => ⟨S4096x128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .i1⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x16, .f32⟩
  | .hbm, ⟨34, _⟩ => ⟨S1x16x128, .f32⟩
  | .hbm, ⟨35, _⟩ => ⟨S16x128, .f32⟩
  | .hbm, ⟨36, _⟩ => ⟨S4096x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S_, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .i1⟩
  | .hbm, ⟨49, _⟩ => ⟨S4096x128, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S_, .f32⟩
  | .hbm, ⟨59, _⟩ => ⟨S4096x128, .f32⟩
  | .hbm, ⟨60, _⟩ => ⟨S4096x128, .f32⟩
  | .hbm, ⟨61, _⟩ => ⟨S4096x1024, .f32⟩
  | .hbm, ⟨62, _⟩ => ⟨S4096x768, .f32⟩
  | .hbm, ⟨63, _⟩ => ⟨S4096x32, .f32⟩
  | .hbm, ⟨64, _⟩ => ⟨S_, .f32⟩
  | .hbm, ⟨65, _⟩ => ⟨S4096x96, .f32⟩
  | .hbm, ⟨66, _⟩ => ⟨S4096x1920, .f32⟩
  | .hbm, ⟨67, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v22 : Ref sig .tc := ⟨.hbm, 57, rfl⟩
abbrev main_cst_0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_1 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩

abbrev nD : Nat := 1
abbrev τ : Topo := Topo.v7x

variable {F : FTy → Type} [FloatOps F]
-- ==== Kernel6.lean ====
abbrev S4096x1024 : Shape := ⟨2, ![4096, 1024]⟩
abbrev S1024x1824 : Shape := ⟨2, ![1024, 1824]⟩
abbrev S2x4096x256 : Shape := ⟨3, ![2, 4096, 256]⟩
abbrev S4096x256 : Shape := ⟨2, ![4096, 256]⟩
abbrev S4096x128 : Shape := ⟨2, ![4096, 128]⟩
abbrev S4096x512 : Shape := ⟨2, ![4096, 512]⟩
abbrev S4096x32 : Shape := ⟨2, ![4096, 32]⟩
abbrev S_ : Shape := ⟨0, ![]⟩
abbrev S4096x96 : Shape := ⟨2, ![4096, 96]⟩
abbrev S1024x1024 : Shape := ⟨2, ![1024, 1024]⟩
abbrev S1024x768 : Shape := ⟨2, ![1024, 768]⟩
abbrev S1024x32 : Shape := ⟨2, ![1024, 32]⟩
abbrev S1024x96 : Shape := ⟨2, ![1024, 96]⟩
abbrev S1024x1920 : Shape := ⟨2, ![1024, 1920]⟩
abbrev S1920x1024 : Shape := ⟨2, ![1920, 1024]⟩
abbrev S4x456x1024 : Shape := ⟨3, ![4, 456, 1024]⟩
abbrev S512x1024 : Shape := ⟨2, ![512, 1024]⟩
abbrev S2x512x256 : Shape := ⟨3, ![2, 512, 256]⟩
abbrev S512x256 : Shape := ⟨2, ![512, 256]⟩
abbrev S512x128 : Shape := ⟨2, ![512, 128]⟩
abbrev S512x512 : Shape := ⟨2, ![512, 512]⟩
abbrev S1x512x256 : Shape := ⟨3, ![1, 512, 256]⟩
abbrev S512x1920 : Shape := ⟨2, ![512, 1920]⟩
abbrev S456x1024 : Shape := ⟨2, ![456, 1024]⟩
abbrev S1x456x1024 : Shape := ⟨3, ![1, 456, 1024]⟩
abbrev S112x1024 : Shape := ⟨2, ![112, 1024]⟩
abbrev S1x112x1024 : Shape := ⟨3, ![1, 112, 1024]⟩
abbrev S32x1024 : Shape := ⟨2, ![32, 1024]⟩
abbrev S1x32x1024 : Shape := ⟨3, ![1, 32, 1024]⟩
abbrev S312x1024 : Shape := ⟨2, ![312, 1024]⟩
abbrev S1x312x1024 : Shape := ⟨3, ![1, 312, 1024]⟩

abbrev nBuf : Space → Nat
  | .hbm => 39
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1024x1824, .f32⟩
  | .hbm, ⟨2, _⟩ => ⟨S4096x1024, .f32⟩
  | .hbm, ⟨3, _⟩ => ⟨S2x4096x256, .f32⟩
  | .hbm, ⟨4, _⟩ => ⟨S4096x256, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x512, .f32⟩
  | .hbm, ⟨13, _⟩ => ⟨S4096x256, .f32⟩
  | .hbm, ⟨14, _⟩ => ⟨S4096x32, .f32⟩
  | .hbm, ⟨15, _⟩ => ⟨S_, .f32⟩
  | .hbm, ⟨16, _⟩ => ⟨S4096x96, .f32⟩
  | .hbm, ⟨17, _⟩ => ⟨S4096x128, .f32⟩
  | .hbm, ⟨18, _⟩ => ⟨S1024x1024, .f32⟩
  | .hbm, ⟨19, _⟩ => ⟨S1024x768, .f32⟩
  | .hbm, ⟨20, _⟩ => ⟨S1024x32, .f32⟩
  | .hbm, ⟨21, _⟩ => ⟨S_, .f32⟩
  | .hbm, ⟨22, _⟩ => ⟨S1024x96, .f32⟩
  | .hbm, ⟨23, _⟩ => ⟨S1024x1920, .f32⟩
  | .hbm, ⟨24, _⟩ => ⟨S1920x1024, .f32⟩
  | .hbm, ⟨25, _⟩ => ⟨S1920x1024, .bf16⟩
  | .hbm, ⟨26, _⟩ => ⟨S4096x256, .bf16⟩
  | .hbm, ⟨27, _⟩ => ⟨S4096x128, .bf16⟩
  | .hbm, ⟨28, _⟩ => ⟨S4096x128, .bf16⟩
  | .hbm, ⟨29, _⟩ => ⟨S4096x128, .bf16⟩
  | .hbm, ⟨30, _⟩ => ⟨S4096x128, .bf16⟩
  | .hbm, ⟨31, _⟩ => ⟨S4096x256, .bf16⟩
  | .hbm, ⟨32, _⟩ => ⟨S4096x256, .bf16⟩
  | .hbm, ⟨33, _⟩ => ⟨S4096x256, .bf16⟩
  | .hbm, ⟨34, _⟩ => ⟨S4096x512, .bf16⟩
  | .hbm, ⟨35, _⟩ => ⟨S4096x256, .bf16⟩
  | .hbm, ⟨36, _⟩ => ⟨S4096x128, .bf16⟩
  | .hbm, ⟨37, _⟩ => ⟨S4096x1024, .f32⟩
  | .hbm, ⟨38, _⟩ => ⟨S4x456x1024, .bf16⟩
  | .local _ .vmem, ⟨0, _⟩ => ⟨S512x1024, .f32⟩
  | .local _ .vmem, ⟨1, _⟩ => ⟨S512x1024, .f32⟩
  | .local _ .vmem, ⟨2, _⟩ => ⟨S1920x1024, .bf16⟩
  | .local _ .vmem, ⟨3, _⟩ => ⟨S512x1024, .f32⟩
  | .local _ .vmem, ⟨4, _⟩ => ⟨S512x1024, .f32⟩
  | .local _ .vmem, ⟨5, _⟩ => ⟨S2x512x256, .f32⟩
  | .local _ .vmem, ⟨6, _⟩ => ⟨S2x512x256, .f32⟩
  | .local _ .vmem, ⟨7, _⟩ => ⟨S512x256, .bf16⟩
  | .local _ .vmem, ⟨8, _⟩ => ⟨S512x256, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x512, .bf16⟩
  | .local _ .vmem, ⟨24, _⟩ => ⟨S512x512, .bf16⟩
  | .local _ .vmem, ⟨25, _⟩ => ⟨S512x256, .bf16⟩
  | .local _ .vmem, ⟨26, _⟩ => ⟨S512x256, .bf16⟩
  | .local _ .vmem, ⟨27, _⟩ => ⟨S512x128, .bf16⟩
  | .local _ .vmem, ⟨28, _⟩ => ⟨S512x128, .bf16⟩
  | .local _ .vmem, ⟨29, _⟩ => ⟨S512x1024, .f32⟩
  | .local _ .vmem, ⟨30, _⟩ => ⟨S512x1024, .f32⟩
  | .local _ .vmem, ⟨31, _⟩ => ⟨S4x456x1024, .bf16⟩
  | .local _ .vmem, ⟨32, _⟩ => ⟨S1920x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v60 : BitVec 1 := Scalar.cmpi .eq arg0 c7_i32
  let v61 : BitVec 32 := Scalar.extui v60
  let c0_i32_38 : BitVec 32 := 0#32
  let v62 : BitVec 1 := Scalar.cmpi .ne v61 c0_i32_38
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x456x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference6Ideal.lean ====
abbrev S4096x1024 : Shape := ⟨2, ![4096, 1024]⟩
abbrev S1024x1824 : Shape := ⟨2, ![1024, 1824]⟩
abbrev S2x4096x256 : Shape := ⟨3, ![2, 4096, 256]⟩
abbrev S4096x256 : Shape := ⟨2, ![4096, 256]⟩
abbrev S4096x128 : Shape := ⟨2, ![4096, 128]⟩
abbrev S4096x512 : Shape := ⟨2, ![4096, 512]⟩
abbrev S4096x32 : Shape := ⟨2, ![4096, 32]⟩
abbrev S4096x1824 : Shape := ⟨2, ![4096, 1824]⟩
abbrev S1x4096x256 : Shape := ⟨3, ![1, 4096, 256]⟩
abbrev S_ : Shape := ⟨0, ![]⟩
abbrev S1824x1024 : Shape := ⟨2, ![1824, 1024]⟩
abbrev S4x456x1024 : Shape := ⟨3, ![4, 456, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1824, .f32⟩
  | .hbm, ⟨2, _⟩ => ⟨S4096x1024, .f32⟩
  | .hbm, ⟨3, _⟩ => ⟨S2x4096x256, .f32⟩
  | .hbm, ⟨4, _⟩ => ⟨S4096x256, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x512, .f32⟩
  | .hbm, ⟨13, _⟩ => ⟨S4096x256, .f32⟩
  | .hbm, ⟨14, _⟩ => ⟨S4096x32, .f32⟩
  | .hbm, ⟨15, _⟩ => ⟨S4096x1824, .f32⟩
  | .hbm, ⟨16, _⟩ => ⟨S4096x256, .f32⟩
  | .hbm, ⟨17, _⟩ => ⟨S4096x128, .f32⟩
  | .hbm, ⟨18, _⟩ => ⟨S4096x128, .f32⟩
  | .hbm, ⟨19, _⟩ => ⟨S4096x256, .f32⟩
  | .hbm, ⟨20, _⟩ => ⟨S4096x256, .f32⟩
  | .hbm, ⟨21, _⟩ => ⟨S4096x32, .f32⟩
  | .hbm, ⟨22, _⟩ => ⟨S4096x512, .f32⟩
  | .hbm, ⟨23, _⟩ => ⟨S4096x256, .f32⟩
  | .hbm, ⟨24, _⟩ => ⟨S1x4096x256, .f32⟩
  | .hbm, ⟨25, _⟩ => ⟨S4096x256, .f32⟩
  | .hbm, ⟨26, _⟩ => ⟨S1x4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x128, .f32⟩
  | .hbm, ⟨31, _⟩ => ⟨S4096x128, .f32⟩
  | .hbm, ⟨32, _⟩ => ⟨S4096x256, .f32⟩
  | .hbm, ⟨33, _⟩ => ⟨S_, .f32⟩
  | .hbm, ⟨34, _⟩ => ⟨S4096x1824, .f32⟩
  | .hbm, ⟨35, _⟩ => ⟨S_, .f32⟩
  | .hbm, ⟨36, _⟩ => ⟨S4096x1824, .f32⟩
  | .hbm, ⟨37, _⟩ => ⟨S4096x1824, .f32⟩
  | .hbm, ⟨38, _⟩ => ⟨S_, .f32⟩
  | .hbm, ⟨39, _⟩ => ⟨S4096x1824, .f32⟩
  | .hbm, ⟨40, _⟩ => ⟨S4096x1824, .f32⟩
  | .hbm, ⟨41, _⟩ => ⟨S_, .f32⟩
  | .hbm, ⟨42, _⟩ => ⟨S4096x1824, .f32⟩
  | .hbm, ⟨43, _⟩ => ⟨S4096x1824, .f32⟩
  | .hbm, ⟨44, _⟩ => ⟨S_, .f32⟩
  | .hbm, ⟨45, _⟩ => ⟨S4096x1824, .f32⟩
  | .hbm, ⟨46, _⟩ => ⟨S4096x1824, .f32⟩
  | .hbm, ⟨47, _⟩ => ⟨S_, .f32⟩
  | .hbm, ⟨48, _⟩ => ⟨S4096x1824, .f32⟩
  | .hbm, ⟨49, _⟩ => ⟨S4096x1824, .f32⟩
  | .hbm, ⟨50, _⟩ => ⟨S_, .f32⟩
  | .hbm, ⟨51, _⟩ => ⟨S4096x1824, .f32⟩
  | .hbm, ⟨52, _⟩ => ⟨S4096x1824, .f32⟩
  | .hbm, ⟨53, _⟩ => ⟨S_, .f32⟩
  | .hbm, ⟨54, _⟩ => ⟨S4096x1824, .f32⟩
  | .hbm, ⟨55, _⟩ => ⟨S4096x1824, .f32⟩
  | .hbm, ⟨56, _⟩ => ⟨S1824x1024, .f32⟩
  | .hbm, ⟨57, _⟩ => ⟨S1024x1824, .f32⟩
  | .hbm, ⟨58, _⟩ => ⟨S4096x1024, .f32⟩
  | .hbm, ⟨59, _⟩ => ⟨S4096x1024, .f32⟩
  | .hbm, ⟨60, _⟩ => ⟨S1824x1024, .f32⟩
  | .hbm, ⟨61, _⟩ => ⟨S4x456x1024, .f32⟩
  | .hbm, ⟨62, _⟩ => ⟨S4x456x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096x256 : Shape := ⟨2, ![4096, 256]⟩
abbrev S4096x512 : Shape := ⟨2, ![4096, 512]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S256x1024 : Shape := ⟨2, ![256, 1024]⟩

abbrev nBuf : Space → Nat
  | .hbm => 25
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x256, .f32⟩
  | .hbm, ⟨11, _⟩ => ⟨S4096x256, .bf16⟩
  | .hbm, ⟨12, _⟩ => ⟨S4096x256, .f32⟩
  | .hbm, ⟨13, _⟩ => ⟨S4096x256, .bf16⟩
  | .hbm, ⟨14, _⟩ => ⟨S4096x512, .f32⟩
  | .hbm, ⟨15, _⟩ => ⟨S4096x512, .bf16⟩
  | .hbm, ⟨16, _⟩ => ⟨S1024x1024, .bf16⟩
  | .hbm, ⟨17, _⟩ => ⟨S1x1024, .f32⟩
  | .hbm, ⟨18, _⟩ => ⟨S4096x256, .f32⟩
  | .hbm, ⟨19, _⟩ => ⟨S4096x256, .f32⟩
  | .hbm, ⟨20, _⟩ => ⟨S4096x512, .f32⟩
  | .hbm, ⟨21, _⟩ => ⟨S4096x1024, .f32⟩
  | .hbm, ⟨22, _⟩ => ⟨S1024x1024, .bf16⟩
  | .hbm, ⟨23, _⟩ => ⟨S1x1024, .f32⟩
  | .hbm, ⟨24, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S1x1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev main_v12_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v95 : BitVec 1 := Scalar.cmpi .eq arg0 c7_i32
  let v96 : BitVec 32 := Scalar.extui v95
  let c0_i32_55 : BitVec 32 := 0#32
  let v97 : BitVec 1 := Scalar.cmpi .ne v96 c0_i32_55
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x256 : Shape := ⟨2, ![4096, 256]⟩
abbrev S4096x512 : Shape := ⟨2, ![4096, 512]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S1024x1024, .f32⟩
  | .hbm, ⟨94, _⟩ => ⟨S1024x1024, .f32⟩
  | .hbm, ⟨95, _⟩ => ⟨S4096x1024, .f32⟩
  | .hbm, ⟨96, _⟩ => ⟨S_, .f32⟩
  | .hbm, ⟨97, _⟩ => ⟨S4096x1024, .f32⟩
  | .hbm, ⟨98, _⟩ => ⟨S4096x1024, .f32⟩
  | .hbm, ⟨99, _⟩ => ⟨S4096x256, .f32⟩
  | .hbm, ⟨100, _⟩ => ⟨S4096x256, .f32⟩
  | .hbm, ⟨101, _⟩ => ⟨S4096x512, .f32⟩
  | .hbm, ⟨102, _⟩ => ⟨S1024x1024, .bf16⟩
  | .hbm, ⟨103, _⟩ => ⟨S1x1024, .f32⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_19 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Kernel8.lean ====
abbrev S2048x1024 : Shape := ⟨2, ![2048, 1024]⟩
abbrev S2x1024x1024 : Shape := ⟨3, ![2, 1024, 1024]⟩
abbrev S256x1024 : Shape := ⟨2, ![256, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S2048x1024 : Shape := ⟨2, ![2048, 1024]⟩
abbrev S2x1024x1024 : Shape := ⟨3, ![2, 1024, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2048x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S_, .f32⟩
  | .hbm, ⟨11, _⟩ => ⟨S2x1024x1024, .f32⟩
  | .hbm, ⟨12, _⟩ => ⟨S2x1024x1024, .f32⟩
  | .hbm, ⟨13, _⟩ => ⟨S2x1024x1024, .f32⟩
  | .hbm, ⟨14, _⟩ => ⟨S_, .f32⟩
  | .hbm, ⟨15, _⟩ => ⟨S2x1024x1024, .f32⟩
  | .hbm, ⟨16, _⟩ => ⟨S2x1024x1024, .f32⟩
  | .hbm, ⟨17, _⟩ => ⟨S2x1024x1024, .f32⟩
  | .hbm, ⟨18, _⟩ => ⟨S_, .f32⟩
  | .hbm, ⟨19, _⟩ => ⟨S2x1024x1024, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S_, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S_, .f32⟩
  | .hbm, ⟨30, _⟩ => ⟨S2x1024x1024, .f32⟩
  | .hbm, ⟨31, _⟩ => ⟨S2x1024x1024, .f32⟩
  | .hbm, ⟨32, _⟩ => ⟨S2x1024x1024, .f32⟩
  | .hbm, ⟨33, _⟩ => ⟨S_, .f32⟩
  | .hbm, ⟨34, _⟩ => ⟨S2x1024x1024, .f32⟩
  | .hbm, ⟨35, _⟩ => ⟨S2x1024x1024, .f32⟩
  | .hbm, ⟨36, _⟩ => ⟨S2x1024x1024, .f32⟩
  | .hbm, ⟨37, _⟩ => ⟨S_, .f32⟩
  | .hbm, ⟨38, _⟩ => ⟨S2x1024x1024, .f32⟩
  | .hbm, ⟨39, _⟩ => ⟨S2x1024x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel9.lean ====
abbrev S4096x1824 : Shape := ⟨2, ![4096, 1824]⟩
abbrev S2x16x128 : Shape := ⟨3, ![2, 16, 128]⟩
abbrev S2x128 : Shape := ⟨2, ![2, 128]⟩
abbrev S4096x128 : Shape := ⟨2, ![4096, 128]⟩
abbrev S4096x1024 : Shape := ⟨2, ![4096, 1024]⟩
abbrev S4096x768 : Shape := ⟨2, ![4096, 768]⟩
abbrev S4096x32 : Shape := ⟨2, ![4096, 32]⟩
abbrev S_ : Shape := ⟨0, ![]⟩
abbrev S4096x96 : Shape := ⟨2, ![4096, 96]⟩
abbrev S4096x1920 : Shape := ⟨2, ![4096, 1920]⟩
abbrev S16x128 : Shape := ⟨2, ![16, 128]⟩
abbrev S1x16x128 : Shape := ⟨3, ![1, 16, 128]⟩
abbrev S16x256 : Shape := ⟨2, ![16, 256]⟩
abbrev S96x256 : Shape := ⟨2, ![96, 256]⟩
abbrev S128x256 : Shape := ⟨2, ![128, 256]⟩
abbrev S1x256 : Shape := ⟨2, ![1, 256]⟩
abbrev S32x256 : Shape := ⟨2, ![32, 256]⟩
abbrev S512x128 : Shape := ⟨2, ![512, 128]⟩
abbrev S512x256 : Shape := ⟨2, ![512, 256]⟩
abbrev S256 : Shape := ⟨1, ![256]⟩

abbrev nBuf : Space → Nat
  | .hbm => 27
  | .vmem => 12
  | .smem => 0
  | _ => 0

abbrev bufTy : (tb : Table) → Fin (tcTables nBuf tb) → BufTy
  | .hbm, ⟨0, _⟩ => ⟨S4096x1824, .f32⟩
  | .hbm, ⟨1, _⟩ => ⟨S2x16x128, .f32⟩
  | .hbm, ⟨2, _⟩ => ⟨S2x128, .f32⟩
  | .hbm, ⟨3, _⟩ => ⟨S4096x128, .f32⟩
  | .hbm, ⟨4, _⟩ => ⟨S4096x128, .f32⟩
  | .hbm, ⟨5, _⟩ => ⟨S4096x1024, .f32⟩
  | .hbm, ⟨6, _⟩ => ⟨S4096x768, .f32⟩
  | .hbm, ⟨7, _⟩ => ⟨S4096x32, .f32⟩
  | .hbm, ⟨8, _⟩ => ⟨S_, .f32⟩
  | .hbm, ⟨9, _⟩ => ⟨S4096x96, .f32⟩
  | .hbm, ⟨10, _⟩ => ⟨S4096x1920, .f32⟩
  | .hbm, ⟨11, _⟩ => ⟨S_, .f32⟩
  | .hbm, ⟨12, _⟩ => ⟨S16x128, .f32⟩
  | .hbm, ⟨13, _⟩ => ⟨S1x16x128, .f32⟩
  | .hbm, ⟨14, _⟩ => ⟨S16x128, .f32⟩
  | .hbm, ⟨15, _⟩ => ⟨S16x256, .f32⟩
  | .hbm, ⟨16, _⟩ => ⟨S1x16x128, .f32⟩
  | .hbm, ⟨17, _⟩ => ⟨S16x128, .f32⟩
  | .hbm, ⟨18, _⟩ => ⟨S16x256, .f32⟩
  | .hbm, ⟨19, _⟩ => ⟨S_, .f32⟩
  | .hbm, ⟨20, _⟩ => ⟨S96x256, .f32⟩
  | .hbm, ⟨21, _⟩ => ⟨S128x256, .f32⟩
  | .hbm, ⟨22, _⟩ => ⟨S128x256, .bf16⟩
  | .hbm, ⟨23, _⟩ => ⟨S1x256, .f32⟩
  | .hbm, ⟨24, _⟩ => ⟨S4096x128, .bf16⟩
  | .hbm, ⟨25, _⟩ => ⟨S32x256, .f32⟩
  | .hbm, ⟨26, _⟩ => ⟨S1x256, .f32⟩
  | .local _ .vmem, ⟨0, _⟩ => ⟨S512x128, .f32⟩
  | .local _ .vmem, ⟨1, _⟩ => ⟨S512x128, .f32⟩
  | .local _ .vmem, ⟨2, _⟩ => ⟨S128x256, .bf16⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S32x256, .f32⟩
  | .local _ .vmem, ⟨11, _⟩ => ⟨S1x256, .f32⟩
  | _, _ => ⟨S4096x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S4096x1824 : Shape := ⟨2, ![4096, 1824]⟩
abbrev S2x16x128 : Shape := ⟨3, ![2, 16, 128]⟩
abbrev S2x128 : Shape := ⟨2, ![2, 128]⟩
abbrev S4096x128 : Shape := ⟨2, ![4096, 128]⟩
abbrev S_ : Shape := ⟨0, ![]⟩
abbrev S16x128 : Shape := ⟨2, ![16, 128]⟩
abbrev S1x16x128 : Shape := ⟨3, ![1, 16, 128]⟩
abbrev S16x256 : Shape := ⟨2, ![16, 256]⟩
abbrev S32x256 : Shape := ⟨2, ![32, 256]⟩
abbrev S4096x256 : Shape := ⟨2, ![4096, 256]⟩
abbrev S4096x32 : Shape := ⟨2, ![4096, 32]⟩
abbrev S256 : Shape := ⟨1, ![256]⟩
abbrev S1x256 : Shape := ⟨2, ![1, 256]⟩
abbrev S256x32 : Shape := ⟨2, ![256, 32]⟩
abbrev S4096x96 : Shape := ⟨2, ![4096, 96]⟩

abbrev nBuf : Space → Nat
  | .hbm => 91
  | .vmem => 0
  | .smem => 0
  | _ => 0

abbrev bufTy : (tb : Table) → Fin (tcTables nBuf tb) → BufTy
  | .hbm, ⟨0, _⟩ => ⟨S4096x1824, .f32⟩
  | .hbm, ⟨1, _⟩ => ⟨S2x16x128, .f32⟩
  | .hbm, ⟨2, _⟩ => ⟨S2x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S16x128, .f32⟩
  | .hbm, ⟨7, _⟩ => ⟨S1x16x128, .f32⟩
  | .hbm, ⟨8, _⟩ => ⟨S16x128, .f32⟩
  | .hbm, ⟨9, _⟩ => ⟨S16x256, .f32⟩
  | .hbm, ⟨10, _⟩ => ⟨S1x16x128, .f32⟩
  | .hbm, ⟨11, _⟩ => ⟨S16x128, .f32⟩
  | .hbm, ⟨12, _⟩ => ⟨S16x256, .f32⟩
  | .hbm, ⟨13, _⟩ => ⟨S32x256, .f32⟩
  | .hbm, ⟨14, _⟩ => ⟨S4096x256, .f32⟩
  | .hbm, ⟨15, _⟩ => ⟨S4096x32, .f32⟩
  | .hbm, ⟨16, _⟩ => ⟨S256, .f32⟩
  | .hbm, ⟨17, _⟩ => ⟨S4096x256, .f32⟩
  | .hbm, ⟨18, _⟩ => ⟨S1x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .i1⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096x256, .f32⟩
  | .hbm, ⟨38, _⟩ => ⟨S4096x256, .i1⟩
  | .hbm, ⟨39, _⟩ => ⟨S_, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096x256, .f32⟩
  | .hbm, ⟨44, _⟩ => ⟨S4096x256, .i1⟩
  | .hbm, ⟨45, _⟩ => ⟨S_, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x256, .f32⟩
  | .hbm, ⟨58, _⟩ => ⟨S4096x256, .i1⟩
  | .hbm, ⟨59, _⟩ => ⟨S_, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096x256, .f32⟩
  | .hbm, ⟨67, _⟩ => ⟨S4096x256, .f32⟩
  | .hbm, ⟨68, _⟩ => ⟨S4096x256, .f32⟩
  | .hbm, ⟨69, _⟩ => ⟨S_, .f32⟩
  | .hbm, ⟨70, _⟩ => ⟨S4096x256, .f32⟩
  | .hbm, ⟨71, _⟩ => ⟨S4096x256, .f32⟩
  | .hbm, ⟨72, _⟩ => ⟨S_, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S_, .f32⟩
  | .hbm, ⟨79, _⟩ => ⟨S256, .f32⟩
  | .hbm, ⟨80, _⟩ => ⟨S1x256, .f32⟩
  | .hbm, ⟨81, _⟩ => ⟨S_, .f32⟩
  | .hbm, ⟨82, _⟩ => ⟨S256, .f32⟩
  | .hbm, ⟨83, _⟩ => ⟨S256x32, .f32⟩
  | .hbm, ⟨84, _⟩ => ⟨S32x256, .f32⟩
  | .hbm, ⟨85, _⟩ => ⟨S4096x32, .f32⟩
  | .hbm, ⟨86, _⟩ => ⟨S_, .f32⟩
  | .hbm, ⟨87, _⟩ => ⟨S4096x96, .f32⟩
  | .hbm, ⟨88, _⟩ => ⟨S4096x128, .f32⟩
  | .hbm, ⟨89, _⟩ => ⟨S4096x128, .bf16⟩
  | .hbm, ⟨90, _⟩ => ⟨S1x256, .f32⟩
  | _, _ => ⟨S4096x1824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v15_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v15_2 : Ref sig .tc := ⟨.hbm, 67, rfl⟩
abbrev main_v15_0 : Ref sig .tc := ⟨.hbm, 68, rfl⟩
abbrev main_cst_0 : Ref sig .tc := ⟨.hbm, 69, rfl⟩
abbrev main_v16 : Ref sig .tc := ⟨.hbm, 70, rfl⟩
abbrev main_v17 : Ref sig .tc := ⟨.hbm, 71, rfl⟩
abbrev main_cst_1 : Ref sig .tc := ⟨.hbm, 72, rfl⟩
abbrev main_v18 : Ref sig .tc := ⟨.hbm, 73, rfl⟩
abbrev main_v19 : Ref sig .tc := ⟨.hbm, 74, rfl⟩
abbrev main_call1_v0 : Ref sig .tc := ⟨.hbm, 75, rfl⟩
abbrev main_call1_v1 : Ref sig .tc := ⟨.hbm, 76, rfl⟩
abbrev main_v20 : Ref sig .tc := ⟨.hbm, 77, rfl⟩
abbrev main_cst_2 : Ref sig .tc := ⟨.hbm, 78, rfl⟩
abbrev main_v21 : Ref sig .tc := ⟨.hbm, 79, rfl⟩
abbrev main_v22 : Ref sig .tc := ⟨.hbm, 80, rfl⟩
abbrev main_cst_3 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_4 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩

abbrev nD : Nat := 1
abbrev τ : Topo := Topo.v7x

variable {F : FTy → Type} [FloatOps F]
-- ==== Kernel10.lean ====
abbrev S512x1024 : Shape := ⟨2, ![512, 1024]⟩
abbrev S2x256x1024 : Shape := ⟨3, ![2, 256, 1024]⟩
abbrev S256x1024 : Shape := ⟨2, ![256, 1024]⟩

abbrev nBuf : Space → Nat
  | .hbm => 12
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S512x1024 : Shape := ⟨2, ![512, 1024]⟩
abbrev S2x256x1024 : Shape := ⟨3, ![2, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S512x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S_, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel11.lean ====
abbrev S912x1024 : Shape := ⟨2, ![912, 1024]⟩
abbrev S2x1024x456 : Shape := ⟨3, ![2, 1024, 456]⟩
abbrev S2x456x1024 : Shape := ⟨3, ![2, 456, 1024]⟩
abbrev S456x1024 : Shape := ⟨2, ![456, 1024]⟩

abbrev nBuf : Space → Nat
  | .hbm => 15
  | .vmem => 18
  | .smem => 0
  | _ => 0

abbrev bufTy : (tb : Table) → Fin (tcTables nBuf tb) → BufTy
  | .hbm, ⟨0, _⟩ => ⟨S912x1024, .f32⟩
  | .hbm, ⟨1, _⟩ => ⟨S912x1024, .f32⟩
  | .hbm, ⟨2, _⟩ => ⟨S2x1024x456, .f32⟩
  | .hbm, ⟨3, _⟩ => ⟨S2x1024x456, .f32⟩
  | .hbm, ⟨4, _⟩ => ⟨S2x1024x456, .f32⟩
  | .hbm, ⟨5, _⟩ => ⟨S2x456x1024, .f32⟩
  | .hbm, ⟨6, _⟩ => ⟨S912x1024, .f32⟩
  | .hbm, ⟨7, _⟩ => ⟨S2x456x1024, .f32⟩
  | .hbm, ⟨8, _⟩ => ⟨S912x1024, .f32⟩
  | .hbm, ⟨9, _⟩ => ⟨S2x456x1024, .f32⟩
  | .hbm, ⟨10, _⟩ => ⟨S912x1024, .f32⟩
  | .hbm, ⟨11, _⟩ => ⟨S912x1024, .f32⟩
  | .hbm, ⟨12, _⟩ => ⟨S912x1024, .f32⟩
  | .hbm, ⟨13, _⟩ => ⟨S912x1024, .f32⟩
  | .hbm, ⟨14, _⟩ => ⟨S912x1024, .f32⟩
  | .local _ .vmem, ⟨0, _⟩ => ⟨S456x1024, .f32⟩
  | .local _ .vmem, ⟨1, _⟩ => ⟨S456x1024, .f32⟩
  | .local _ .vmem, ⟨2, _⟩ => ⟨S456x1024, .f32⟩
  | .local _ .vmem, ⟨3, _⟩ => ⟨S456x1024, .f32⟩
  | .local _ .vmem, ⟨4, _⟩ => ⟨S456x1024, .f32⟩
  | .local _ .vmem, ⟨5, _⟩ => ⟨S456x1024, .f32⟩
  | .local _ .vmem, ⟨6, _⟩ => ⟨S456x1024, .f32⟩
  | .local _ .vmem, ⟨7, _⟩ => ⟨S456x1024, .f32⟩
  | .local _ .vmem, ⟨8, _⟩ => ⟨S456x1024, .f32⟩
  | .local _ .vmem, ⟨9, _⟩ => ⟨S456x1024, .f32⟩
  | .local _ .vmem, ⟨10, _⟩ => ⟨S456x1024, .f32⟩
  | .local _ .vmem, ⟨11, _⟩ => ⟨S456x1024, .f32⟩
  | .local _ .vmem, ⟨12, _⟩ => ⟨S456x1024, .f32⟩
  | .local _ .vmem, ⟨13, _⟩ => ⟨S456x1024, .f32⟩
  | .local _ .vmem, ⟨14, _⟩ => ⟨S456x1024, .f32⟩
  | .local _ .vmem, ⟨15, _⟩ => ⟨S456x1024, .f32⟩
  | .local _ .vmem, ⟨16, _⟩ => ⟨S456x1024, .f32⟩
  | .local _ .vmem, ⟨17, _⟩ => ⟨S456x1024, .f32⟩
  | _, _ => ⟨S912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S456x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S456x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S456x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S456x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S456x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S456x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S456x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S456x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S456x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S912x1024 : Shape := ⟨2, ![912, 1024]⟩
abbrev S2x1024x456 : Shape := ⟨3, ![2, 1024, 456]⟩
abbrev S2x456x1024 : Shape := ⟨3, ![2, 456, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S912x1024, .f32⟩
  | .hbm, ⟨1, _⟩ => ⟨S912x1024, .f32⟩
  | .hbm, ⟨2, _⟩ => ⟨S2x1024x456, .f32⟩
  | .hbm, ⟨3, _⟩ => ⟨S2x1024x456, .f32⟩
  | .hbm, ⟨4, _⟩ => ⟨S2x1024x456, .f32⟩
  | .hbm, ⟨5, _⟩ => ⟨S912x1024, .f32⟩
  | .hbm, ⟨6, _⟩ => ⟨S2x456x1024, .f32⟩
  | .hbm, ⟨7, _⟩ => ⟨S2x1024x456, .f32⟩
  | .hbm, ⟨8, _⟩ => ⟨S_, .f32⟩
  | .hbm, ⟨9, _⟩ => ⟨S2x1024x456, .f32⟩
  | .hbm, ⟨10, _⟩ => ⟨S2x1024x456, .f32⟩
  | .hbm, ⟨11, _⟩ => ⟨S_, .f32⟩
  | .hbm, ⟨12, _⟩ => ⟨S2x1024x456, .f32⟩
  | .hbm, ⟨13, _⟩ => ⟨S2x1024x456, .f32⟩
  | .hbm, ⟨14, _⟩ => ⟨S2x1024x456, .f32⟩
  | .hbm, ⟨15, _⟩ => ⟨S_, .f32⟩
  | .hbm, ⟨16, _⟩ => ⟨S2x1024x456, .f32⟩
  | .hbm, ⟨17, _⟩ => ⟨S2x1024x456, .f32⟩
  | .hbm, ⟨18, _⟩ => ⟨S2x1024x456, .f32⟩
  | .hbm, ⟨19, _⟩ => ⟨S_, .f32⟩
  | .hbm, ⟨20, _⟩ => ⟨S2x1024x456, .f32⟩
  | .hbm, ⟨21, _⟩ => ⟨S2x1024x456, .f32⟩
  | .hbm, ⟨22, _⟩ => ⟨S2x1024x456, .f32⟩
  | .hbm, ⟨23, _⟩ => ⟨S_, .f32⟩
  | .hbm, ⟨24, _⟩ => ⟨S2x1024x456, .f32⟩
  | .hbm, ⟨25, _⟩ => ⟨S2x1024x456, .f32⟩
  | .hbm, ⟨26, _⟩ => ⟨S_, .f32⟩
  | .hbm, ⟨27, _⟩ => ⟨S2x1024x456, .f32⟩
  | .hbm, ⟨28, _⟩ => ⟨S2x1024x456, .f32⟩
  | .hbm, ⟨29, _⟩ => ⟨S2x1024x456, .f32⟩
  | .hbm, ⟨30, _⟩ => ⟨S_, .f32⟩
  | .hbm, ⟨31, _⟩ => ⟨S2x1024x456, .f32⟩
  | .hbm, ⟨32, _⟩ => ⟨S2x1024x456, .f32⟩
  | .hbm, ⟨33, _⟩ => ⟨S2x1024x456, .f32⟩
  | .hbm, ⟨34, _⟩ => ⟨S_, .f32⟩
  | .hbm, ⟨35, _⟩ => ⟨S2x1024x456, .f32⟩
  | .hbm, ⟨36, _⟩ => ⟨S2x1024x456, .f32⟩
  | .hbm, ⟨37, _⟩ => ⟨S2x1024x456, .f32⟩
  | .hbm, ⟨38, _⟩ => ⟨S_, .f32⟩
  | .hbm, ⟨39, _⟩ => ⟨S2x1024x456, .f32⟩
  | .hbm, ⟨40, _⟩ => ⟨S2x1024x456, .f32⟩
  | .hbm, ⟨41, _⟩ => ⟨S912x1024, .f32⟩
  | .hbm, ⟨42, _⟩ => ⟨S2x456x1024, .f32⟩
  | .hbm, ⟨43, _⟩ => ⟨S912x1024, .f32⟩
  | .hbm, ⟨44, _⟩ => ⟨S2x456x1024, .f32⟩
  | .hbm, ⟨45, _⟩ => ⟨S912x1024, .f32⟩
  | .hbm, ⟨46, _⟩ => ⟨S2x456x1024, .f32⟩
  | .hbm, ⟨47, _⟩ => ⟨S912x1024, .f32⟩
  | _, _ => ⟨S912x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel12.lean ====
abbrev S512x128 : Shape := ⟨2, ![512, 128]⟩
abbrev S2x256x128 : Shape := ⟨3, ![2, 256, 128]⟩
abbrev S256x128 : Shape := ⟨2, ![256, 128]⟩

abbrev nBuf : Space → Nat
  | .hbm => 12
  | .vmem => 18
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S512x128 : Shape := ⟨2, ![512, 128]⟩
abbrev S2x256x128 : Shape := ⟨3, ![2, 256, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S512x128, .f32⟩
  | .hbm, ⟨6, _⟩ => ⟨S2x256x128, .f32⟩
  | .hbm, ⟨7, _⟩ => ⟨S_, .f32⟩
  | .hbm, ⟨8, _⟩ => ⟨S2x256x128, .f32⟩
  | .hbm, ⟨9, _⟩ => ⟨S2x256x128, .f32⟩
  | .hbm, ⟨10, _⟩ => ⟨S_, .f32⟩
  | .hbm, ⟨11, _⟩ => ⟨S2x256x128, .f32⟩
  | .hbm, ⟨12, _⟩ => ⟨S2x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S2x256x128, .f32⟩
  | .hbm, ⟨18, _⟩ => ⟨S_, .f32⟩
  | .hbm, ⟨19, _⟩ => ⟨S2x256x128, .f32⟩
  | .hbm, ⟨20, _⟩ => ⟨S2x256x128, .f32⟩
  | .hbm, ⟨21, _⟩ => ⟨S2x256x128, .f32⟩
  | .hbm, ⟨22, _⟩ => ⟨S_, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S2x256x128, .f32⟩
  | .hbm, ⟨33, _⟩ => ⟨S_, .f32⟩
  | .hbm, ⟨34, _⟩ => ⟨S2x256x128, .f32⟩
  | .hbm, ⟨35, _⟩ => ⟨S2x256x128, .f32⟩
  | .hbm, ⟨36, _⟩ => ⟨S2x256x128, .f32⟩
  | .hbm, ⟨37, _⟩ => ⟨S_, .f32⟩
  | .hbm, ⟨38, _⟩ => ⟨S2x256x128, .f32⟩
  | .hbm, ⟨39, _⟩ => ⟨S2x256x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Norm.lean ====
/- The gradient of a layer normalisation over the real numbers: the form a kernel computes, with the centred and scaled row, is the form that
   differentiating mean, variance and inverse square root one after the other gives. -/
module

public import Idealize.ShloMosaic.PureOps.Ideal
public import Mathlib.Analysis.SpecialFunctions.Pow.Real

@[expose] public section

noncomputable section

namespace Cert.Norm

open Idealize.ShloMosaic

/-- The centred row sums to zero. -/
theorem sum_centred {n : ℕ} (hn : (n : ℝ) ≠ 0) (s : Fin n → ℝ) : ∑ k, (s k - (∑ j, s j) * (1 / n)) = 0 := by
  rw [Finset.sum_sub_distrib, Finset.sum_const, Finset.card_univ, Fintype.card_fin, nsmul_eq_mul]
  field_simp
  ring

/-- The two forms of the gradient of a normalised row, over the reals: `d` is the centred row, `r` the inverse of the square root of `w`. -/
theorem grad_real {n : ℕ} (hn : (n : ℝ) ≠ 0) (d c : Fin n → ℝ) (w r : ℝ) (hw : w ≠ 0) (hr : r * r * w = 1)
    (hd : ∑ k, d k = 0) (i : Fin n) :
    r * (c i - (∑ k, c k) * (1 / n) - d i * r * ((∑ k, c k * (d k * r)) * (1 / n)))
    = c i * r + (∑ k, d k * c k) * (-(1 / 2) * (r / w)) * (1 / n) * (2 * d i)
      + (∑ k, -(c k * r) + ∑ k, -((∑ j, d j * c j) * (-(1 / 2) * (r / w)) * (1 / n) * (2 * d k))) * (1 / n) := by
  have h1 : ∑ k, c k * (d k * r) = (∑ k, d k * c k) * r := by
    rw [Finset.sum_mul]; exact Finset.sum_congr rfl fun k _ => by ring
  have h2 : ∑ k, -(c k * r) = -((∑ k, c k) * r) := by rw [Finset.sum_neg_distrib, Finset.sum_mul]
  have h3 : ∑ k, -((∑ j, d j * c j) * (-(1 / 2) * (r / w)) * (1 / n) * (2 * d k)) = 0 := by
    rw [Finset.sum_neg_distrib, ← Finset.mul_sum, ← Finset.mul_sum, hd]; ring
  have h4 : r / w = r * r * r := by
    rw [div_eq_iff hw]; linear_combination (-r) * hr
  rw [h1, h2, h3, h4]
  ring

/-! ## The same over the extended reals -/

/-- A row less its mean. -/
def cen (s : Fin 1024 → EReal) (k : Fin 1024) : EReal := s k - Ideal.div (∑ j, s j) (Ideal.ofBits .f32 0x44800000#32)

/-- The variance of a row, and the small number added to it. -/
def vare (s : Fin 1024 → EReal) : EReal :=
  Ideal.div (∑ j, cen s j * cen s j) (Ideal.ofBits .f32 0x44800000#32) + Ideal.ofBits .f32 0x3727C5AC#32

/-- The inverse of the square root of that. -/
def rstd (s : Fin 1024 → EReal) : EReal := Ideal.rsqrt (vare s)

/-- The gradient of a normalised row, the kernel's form: `s` the row, `c` the gradient of the scaled row. -/
def gradK (s c : Fin 1024 → EReal) (k : Fin 1024) : EReal :=
  rstd s * (c k - Ideal.div (∑ j, c j) (Ideal.ofBits .f32 0x44800000#32)
    - cen s k * rstd s * Ideal.div (∑ j, c j * (cen s j * rstd s)) (Ideal.ofBits .f32 0x44800000#32))

/-- The gradient through the variance, over the number of elements. -/
def varR (s c : Fin 1024 → EReal) : EReal :=
  Ideal.div ((∑ j, cen s j * c j) * (Ideal.ofBits .f32 0xBF000000#32 * Ideal.div (rstd s) (vare s))) (Ideal.ofBits .f32 0x44800000#32)

/-- The gradient of a normalised row, in the form that differentiating mean, variance and inverse square root one after the other gives. -/
def gradR (s c : Fin 1024 → EReal) (k : Fin 1024) : EReal :=
  c k * rstd s + varR s c * (Ideal.ofBits .f32 0x40000000#32 * cen s k)
    + Ideal.div ((∑ j, -(c j * rstd s)) + ∑ j, -(varR s c * (Ideal.ofBits .f32 0x40000000#32 * cen s j))) (Ideal.ofBits .f32 0x44800000#32)

end Cert.Norm

end
-- ==== Proof.ActPay.lean ====
/- What the stores of the feed-forward gradient's body are worth, element by element, as extended reals. -/
module

public import proofs.«01_k».proof.Proof.Gen.KernelIdeal.Skeleton
public import proofs.«01_k».proof.Proof.Norm
public import Idealize.ShloMosaic.Lib.Pointwise
public import Idealize.ShloMosaic.Lib.Pipeline.Value

@[expose] public section

noncomputable section

namespace Cert.Act

open Cert.KernelIdeal Cert.KernelIdeal.Gen Cert.Norm Idealize.ShloMosaic

theorem pay5_apply (x : Vec Ideal S512x1024 .f32) (r : Fin 512) (k : Fin 1024) :
    k0_pay5 (F := Ideal) x (ix2 r k) = cen (fun j => x (ix2 r j)) k := by
  unfold k0_pay5 cen
  pointwise

theorem pay6_apply (x : Vec Ideal S512x1024 .f32) (r : Fin 512) :
    k0_pay6 (F := Ideal) x (ix2 r 0) = rstd (fun j => x (ix2 r j)) := by
  unfold k0_pay6 rstd vare
  pointwise [pay5_apply]

theorem pay7_apply (x : Vec Ideal S512x1024 .f32) (r : Fin 512) (k : Fin 1024) :
    k0_pay7 (F := Ideal) x (ix2 r k) = cen (fun j => x (ix2 r j)) k * rstd (fun j => x (ix2 r j)) := by
  unfold k0_pay7
  pointwise [pay5_apply, pay6_apply]

/-- The gradient of the sum before the normalisation, at a point of a block of 512 rows. -/
def dsB (dy s : Vec Ideal S512x1024 .f32) (g : Vec Ideal S1x1024 .f32) (r : Fin 512) (k : Fin 1024) : EReal :=
  gradK (fun j => s (ix2 r j)) (fun j => dy (ix2 r j) * g (ix2 0 j)) k

theorem pay10_apply (dy s : Vec Ideal S512x1024 .f32) (g : Vec Ideal S1x1024 .f32) (r : Fin 512) (k : Fin 1024) :
    k0_pay10 (F := Ideal) (k0_pay8 dy s g) (k0_pay9 s) (ix2 r k) = dsB dy s g r k := by
  unfold k0_pay10 k0_pay8 k0_pay9 dsB gradK
  pointwise [pay6_apply, pay7_apply]

theorem pay11_apply (dy s : Vec Ideal S512x1024 .f32) (g : Vec Ideal S1x1024 .f32) (r : Fin 512) (k : Fin 1024) :
    k0_pay11 (F := Ideal) (k0_pay8 dy s g) (k0_pay9 s) (ix2 r k) = dsB dy s g r k := by
  unfold k0_pay11
  pointwise [pay10_apply]

theorem pay12_apply (dy s : Vec Ideal S512x1024 .f32) (g : Vec Ideal S1x1024 .f32) (a : Vec Ideal S1x1024 .f32) (k : Fin 1024) :
    k0_pay12 (F := Ideal) dy (k0_pay7 s) a (ix2 0 k)
      = a (ix2 0 k) + ∑ r : Fin 512, dy (ix2 r k) * (cen (fun j => s (ix2 r j)) k * rstd (fun j => s (ix2 r j))) := by
  unfold k0_pay12
  pointwise [pay7_apply]

theorem pay13_apply (dy : Vec Ideal S512x1024 .f32) (a : Vec Ideal S1x1024 .f32) (k : Fin 1024) :
    k0_pay13 (F := Ideal) dy a (ix2 0 k) = a (ix2 0 k) + ∑ r : Fin 512, dy (ix2 r k) := by
  unfold k0_pay13
  pointwise

theorem pay14_apply (dy s : Vec Ideal S512x1024 .f32) (g : Vec Ideal S1x1024 .f32) (r : Fin 512) (k : Fin 1024) :
    k0_pay14 (F := Ideal) (k0_pay8 dy s g) (k0_pay9 s) (ix2 r k) = Ideal.ofBits .f32 0x3FB504F3#32 * dsB dy s g r k := by
  unfold k0_pay14
  pointwise [pay10_apply]

/-- The gradient of the hidden layer at a point of one shard: `d` the gradient of the sum before the normalisation, `w` the shard's rows of the
    second matrix, `a` the hidden layer before its activation. -/
def daB (d : Fin 512 → Fin 1024 → EReal) (w : Vec Ideal S1x1024x1024 .bf16) (a : Vec Ideal S512x1024 .bf16) (r : Fin 512) (q : Fin 1024) : EReal :=
  (∑ k : Fin 1024, d r k * w (ix3 0 q k)) * Ideal.ofBits .f32 0x40000000#32 * max (a (ix2 r q)) 0

theorem pay15_apply (dy s : Vec Ideal S512x1024 .f32) (g : Vec Ideal S1x1024 .f32) (w : Vec Ideal S1x1024x1024 .bf16) (a : Vec Ideal S512x1024 .bf16)
    (r : Fin 512) (q : Fin 1024) : k0_pay15 (F := Ideal) (k0_pay8 dy s g) (k0_pay9 s) w a (ix2 r q) = daB (dsB dy s g) w a r q := by
  unfold k0_pay15 daB
  pointwise [pay11_apply]

theorem pay16_apply (dy s : Vec Ideal S512x1024 .f32) (g : Vec Ideal S1x1024 .f32) (w : Vec Ideal S1x1024x1024 .bf16) (a : Vec Ideal S512x1024 .bf16)
    (r : Fin 512) (q : Fin 1024) : k0_pay16 (F := Ideal) (k0_pay11 (k0_pay8 dy s g) (k0_pay9 s)) w a (ix2 r q) = daB (dsB dy s g) w a r q := by
  unfold k0_pay16 daB
  pointwise [pay11_apply]

theorem pay18_apply (dy s : Vec Ideal S512x1024 .f32) (g : Vec Ideal S1x1024 .f32) (w : Vec Ideal S1x1024x1024 .bf16) (a : Vec Ideal S512x1024 .bf16)
    (r : Fin 512) (q : Fin 1024) : k0_pay18 (F := Ideal) (k0_pay11 (k0_pay8 dy s g) (k0_pay9 s)) w a (ix2 r q) = daB (dsB dy s g) w a r q := by
  unfold k0_pay18 daB
  pointwise [pay11_apply]

theorem pay1_apply (dy s : Vec Ideal S512x1024 .f32) (g : Vec Ideal S1x1024 .f32) (w : Vec Ideal S1x1024x1024 .bf16) (a : Vec Ideal S512x1024 .bf16)
    (r : Fin 512) (q : Fin 1024) : k0_pay1 (F := Ideal) (k0_pay11 (k0_pay8 dy s g) (k0_pay9 s)) w a (ix2 r q) = daB (dsB dy s g) w a r q := by
  unfold k0_pay1 daB
  pointwise [pay11_apply]

/-- The gradient of the block of rows, from the four shards in turn. -/
theorem pay2_apply (dy s : Vec Ideal S512x1024 .f32) (g : Vec Ideal S1x1024 .f32) (u0 u1 u2 u3 w0 w1 w2 w3 : Vec Ideal S1x1024x1024 .bf16)
    (a0 a1 a2 a3 : Vec Ideal S512x1024 .bf16) (r : Fin 512) (k : Fin 1024) :
    k0_pay2 (F := Ideal) (k0_pay11 (k0_pay8 dy s g) (k0_pay9 s))
      (k0_pay17 (k0_pay11 (k0_pay8 dy s g) (k0_pay9 s)) (k0_pay14 (k0_pay8 dy s g) (k0_pay9 s)) (k0_pay15 (k0_pay8 dy s g) (k0_pay9 s) w0 a0) u0 w1 a1 u1)
      (k0_pay18 (k0_pay11 (k0_pay8 dy s g) (k0_pay9 s)) w2 a2) u2 w3 a3 u3 (ix2 r k)
    = Ideal.ofBits .f32 0x3FB504F3#32 * dsB dy s g r k + (∑ q : Fin 1024, daB (dsB dy s g) w0 a0 r q * u0 (ix3 0 k q))
      + (∑ q : Fin 1024, daB (dsB dy s g) w1 a1 r q * u1 (ix3 0 k q)) + (∑ q : Fin 1024, daB (dsB dy s g) w2 a2 r q * u2 (ix3 0 k q))
      + ∑ q : Fin 1024, daB (dsB dy s g) w3 a3 r q * u3 (ix3 0 k q) := by
  unfold k0_pay2 k0_pay17
  pointwise [pay14_apply, pay15_apply, pay16_apply, pay18_apply, pay1_apply]

end Cert.Act

end
-- ==== Proof.Spec.lean ====
/- What the feed-forward layer's gradient is worth, over extended reals: a residual layer `relu(x W1)² W2` added to `α x`, normalised, and the
   gradient `dy` of the scaled normalisation carried back through it. -/
module

public import proofs.«01_k».proof.Proof.Norm

@[expose] public section

noncomputable section

namespace Cert.Spec

open Cert.Norm Idealize.ShloMosaic

variable (x : Fin 4096 → Fin 1024 → EReal) (w1 : Fin 1024 → Fin 4096 → EReal) (w2 : Fin 4096 → Fin 1024 → EReal) (g : Fin 1024 → EReal)
  (dy : Fin 4096 → Fin 1024 → EReal)

/-- The hidden layer before its activation. -/
def lin (n : Fin 4096) (f : Fin 4096) : EReal := ∑ k : Fin 1024, x n k * w1 k f

/-- The sum before the normalisation. -/
def pre (n : Fin 4096) (k : Fin 1024) : EReal :=
  Ideal.ofBits .f32 0x3FB504F3#32 * x n k + ∑ f : Fin 4096, max (lin x w1 n f) 0 * max (lin x w1 n f) 0 * w2 f k

/-- The gradient of that sum. -/
def ds (n : Fin 4096) (k : Fin 1024) : EReal := gradK (pre x w1 w2 n) (fun j => dy n j * g j) k

/-- The gradient of the hidden layer. -/
def da (n : Fin 4096) (f : Fin 4096) : EReal :=
  (∑ k : Fin 1024, ds x w1 w2 g dy n k * w2 f k) * Ideal.ofBits .f32 0x40000000#32 * max (lin x w1 n f) 0

/-- The gradient of the layer's input. -/
def dx (n : Fin 4096) (k : Fin 1024) : EReal :=
  Ideal.ofBits .f32 0x3FB504F3#32 * ds x w1 w2 g dy n k + ∑ f : Fin 4096, da x w1 w2 g dy n f * w1 k f

/-- The gradient of the normalisation's scale. -/
def dg (k : Fin 1024) : EReal := ∑ n : Fin 4096, dy n k * (cen (pre x w1 w2 n) k * rstd (pre x w1 w2 n))

/-- The gradient of the normalisation's shift. -/
def db (k : Fin 1024) : EReal := ∑ n : Fin 4096, dy n k

/-- A hidden coordinate by its shard and its place there. -/
def hid (j : Fin 4) (q : Fin 1024) : Fin 4096 := ⟨1024 * j.val + q.val, by omega⟩

/-- A row by its block of 512 and its place there. -/
def row (t : Fin 8) (r : Fin 512) : Fin 4096 := ⟨512 * t.val + r.val, by omega⟩

theorem hid_surj (f : Fin 4096) : ∃ j q, hid j q = f :=
  ⟨⟨f.val / 1024, by omega⟩, ⟨f.val % 1024, by omega⟩, Fin.ext (by simp only [hid]; omega)⟩

theorem row_surj (n : Fin 4096) : ∃ t r, row t r = n :=
  ⟨⟨n.val / 512, by omega⟩, ⟨n.val % 512, by omega⟩, Fin.ext (by simp only [row]; omega)⟩

/-- A sum over a product index, by blocks. -/
theorem sum_blocks {a b n : ℕ} (h : n = a * b) (e : Fin a → Fin b → Fin n) (he : ∀ i j, (e i j).val = b * i.val + j.val) (f : Fin n → EReal) :
    ∑ k, f k = ∑ i, ∑ j, f (e i j) := by
  subst h
  rw [← Equiv.sum_comp finProdFinEquiv, Fintype.sum_prod_type]
  refine Finset.sum_congr rfl fun i _ => Finset.sum_congr rfl fun j _ => congrArg f (Fin.ext ?_)
  rw [he]
  simp [finProdFinEquiv, Nat.add_comm]

theorem sum_hid (f : Fin 4096 → EReal) : ∑ k, f k = ∑ j, ∑ q, f (hid j q) := sum_blocks rfl hid (fun _ _ => rfl) f

theorem sum_row (f : Fin 4096 → EReal) : ∑ k, f k = ∑ t, ∑ r, f (row t r) := sum_blocks rfl row (fun _ _ => rfl) f

end Cert.Spec

end
-- ==== Proof.ActOut.lean ====
/- What a run of the feed-forward gradient's body leaves in each output block, element by element. -/
module

public import proofs.«01_k».proof.Proof.Gen.KernelIdeal.Frame
public import proofs.«01_k».proof.Proof.ActPay
public import proofs.«01_k».proof.Proof.Spec
public import Idealize.ShloMosaic.Lib.Pipeline.ValueKit.Tiles

@[expose] public section

noncomputable section

namespace Cert.Act

open Cert.KernelIdeal Cert.KernelIdeal.Gen Cert.Norm Cert.Spec Idealize.ShloMosaic Idealize.ShloMosaic.TcCoe

theorem hz : (![0, 0] : Fin 2 → Nat) = fun _ => 0 := funext fun a => by fin_cases a <;> rfl

theorem ldW (X : Vec Ideal S4x1024x1024 .bf16) (j : Fin 4) (inb) (p q : Fin 1024) :
    View.ld X (Rect.unit (s := S4x1024x1024) ![j.val, 0, 0] ![1, 1024, 1024] inb) (ix3 0 p q) = X (ix3 j p q) :=
  View.ld_unit_apply_of X _ _ inb _ _ fun a => match a with
    | ⟨0, _⟩ => rfl
    | ⟨1, _⟩ => (Nat.zero_add _).symm
    | ⟨2, _⟩ => (Nat.zero_add _).symm

theorem ldA (X : Vec Ideal S512x4096 .bf16) (j : Fin 4) (inb) (r : Fin 512) (q : Fin 1024) :
    View.ld X (Rect.unit (s := S512x4096) ![0, 1024 * j.val] ![512, 1024] inb) (ix2 r q) = X (ix2 r (hid j q)) :=
  View.ld_unit_apply_of X _ _ inb _ _ fun a => match a with
    | ⟨0, _⟩ => (Nat.zero_add _).symm
    | ⟨1, _⟩ => rfl

/-- The hidden layer's gradient in a block: `w` the second matrix in its four shards, `a` the hidden layer. -/
def daV (d : Fin 512 → Fin 1024 → EReal) (w : Vec Ideal S4x1024x1024 .bf16) (a : Vec Ideal S512x4096 .bf16) (r : Fin 512) (j : Fin 4)
    (q : Fin 1024) : EReal :=
  (∑ k : Fin 1024, d r k * w (ix3 j q k)) * Ideal.ofBits .f32 0x40000000#32 * max (a (ix2 r (hid j q))) 0

theorem daB_ld (d : Fin 512 → Fin 1024 → EReal) (w : Vec Ideal S4x1024x1024 .bf16) (a : Vec Ideal S512x4096 .bf16) (j : Fin 4) (inb) (inb')
    (r : Fin 512) (q : Fin 1024) :
    daB d (View.ld w (Rect.unit (s := S4x1024x1024) ![j.val, 0, 0] ![1, 1024, 1024] inb))
      (View.ld a (Rect.unit (s := S512x4096) ![0, 1024 * j.val] ![512, 1024] inb')) r q = daV d w a r j q := by
  unfold daB daV
  refine congrArg₂ (· * ·) (congrArg (· * _) (Finset.sum_congr rfl fun k _ => congrArg (d r k * ·) (ldW w j inb q k))) ?_
  exact congrArg (max · 0) (ldA a j inb' r q)

/-- The gradient of the block of rows: the scaled residual and the four shards' products. -/
def dxV (d : Fin 512 → Fin 1024 → EReal) (u w : Vec Ideal S4x1024x1024 .bf16) (a : Vec Ideal S512x4096 .bf16) (r : Fin 512) (k : Fin 1024) : EReal :=
  Ideal.ofBits .f32 0x3FB504F3#32 * d r k + (∑ q : Fin 1024, daV d w a r 0 q * u (ix3 0 k q)) + (∑ q : Fin 1024, daV d w a r 1 q * u (ix3 1 k q))
    + (∑ q : Fin 1024, daV d w a r 2 q * u (ix3 2 k q)) + ∑ q : Fin 1024, daV d w a r 3 q * u (ix3 3 k q)

theorem out6_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (r : Fin 512) (j : Fin 4) (q : Fin 1024) : out0_A_6 c i arg1 harg1 arg2 harg2 arg3 harg3 arg4 harg4 arg5 harg5 arg6 harg6 arg7 harg7 arg8 harg8 arg9 harg9 arg10 harg10 arg11 harg11 hc0 x0 x1 x2 x3 x4 x5 (ix2 r (hid j q)) = daV (dsB x0 x1 x5) x4 x2 r j q := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  refine View.canon_eq_of_allAt _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5 _) ?_
  unfold kernelRun0_A
  dsimp only
  sl_unfold_words
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  have key : ∀ (v : EReal) (i : Fin 4) (off : Fin 2 → Nat) (w : Vec Ideal S512x1024 .bf16), off = ![0, 1024 * i.val] →
      (∀ q', hid i q' = hid j q → w (ix2 r q') = v) → View.TileAt (S := S512x4096) (e := .bf16) (Val := Elt Ideal) (ix2 r (hid j q)) off ![512, 1024] w v := by
    intro v i off w ho h x hx
    subst ho
    have h0 : x 0 = r := Fin.ext ((hx 0).trans (Nat.zero_add _)).symm
    have h1 : hid i (x 1) = hid j q := Fin.ext (hx 1).symm
    have h2 : x = ix2 r (x 1) := funext fun a => match a with
      | ⟨0, _⟩ => h0
      | ⟨1, _⟩ => rfl
    rw [h2]
    exact h (x 1) h1
  have same : ∀ (i : Fin 4) (q' : Fin 1024), hid i q' = hid j q → i = j ∧ q' = q := by
    intro i q' h
    have := congrArg Fin.val h
    simp only [hid] at this
    exact ⟨Fin.ext (by omega), Fin.ext (by omega)⟩
  refine View.allAt_cons_unit _ _ _ _ _ (key _ 3 _ _ rfl fun q' hq => ?_) (View.allAt_cons_unit _ _ _ _ _ (key _ 2 _ _ rfl fun q' hq => ?_)
    (View.allAt_cons_unit _ _ _ _ _ (key _ 1 _ _ rfl fun q' hq => ?_) (View.allAt_cons_unit _ _ _ _ _ (key _ 0 _ _ rfl fun q' hq => ?_)
      (View.allAt_nil _ _))))
  · obtain ⟨rfl, rfl⟩ := same _ _ hq
    exact (pay1_apply _ _ _ _ _ _ _).trans (daB_ld (dsB x0 x1 x5) x4 x2 3 _ _ r _)
  · obtain ⟨rfl, rfl⟩ := same _ _ hq
    exact (pay18_apply _ _ _ _ _ _ _).trans (daB_ld (dsB x0 x1 x5) x4 x2 2 _ _ r _)
  · obtain ⟨rfl, rfl⟩ := same _ _ hq
    exact (pay16_apply _ _ _ _ _ _ _).trans (daB_ld (dsB x0 x1 x5) x4 x2 1 _ _ r _)
  · obtain ⟨rfl, rfl⟩ := same _ _ hq
    exact (pay15_apply _ _ _ _ _ _ _).trans (daB_ld (dsB x0 x1 x5) x4 x2 0 _ _ r _)

theorem out7_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (r : Fin 512) (k : Fin 1024) : out0_A_7 c i arg1 harg1 arg2 harg2 arg3 harg3 arg4 harg4 arg5 harg5 arg6 harg6 arg7 harg7 arg8 harg8 arg9 harg9 arg10 harg10 arg11 harg11 hc0 x0 x1 x2 x3 x4 x5 (ix2 r k) = dsB x0 x1 x5 r k := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  exact pay11_apply x0 x1 x5 r k

theorem out8_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (r : Fin 512) (k : Fin 1024) : out0_A_8 c i arg1 harg1 arg2 harg2 arg3 harg3 arg4 harg4 arg5 harg5 arg6 harg6 arg7 harg7 arg8 harg8 arg9 harg9 arg10 harg10 arg11 harg11 hc0 x0 x1 x2 x3 x4 x5 (ix2 r k) = dxV (dsB x0 x1 x5) x3 x4 x2 r k := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  rw [pay2_apply]
  unfold dxV
  refine congrArg₂ (· + ·) (congrArg₂ (· + ·) (congrArg₂ (· + ·) (congrArg₂ (· + ·) rfl ?_) ?_) ?_) ?_
  · exact Finset.sum_congr rfl fun q _ => congrArg₂ (· * ·) (daB_ld (dsB x0 x1 x5) x4 x2 0 _ _ r q) (ldW x3 0 _ k q)
  · exact Finset.sum_congr rfl fun q _ => congrArg₂ (· * ·) (daB_ld (dsB x0 x1 x5) x4 x2 1 _ _ r q) (ldW x3 1 _ k q)
  · exact Finset.sum_congr rfl fun q _ => congrArg₂ (· * ·) (daB_ld (dsB x0 x1 x5) x4 x2 2 _ _ r q) (ldW x3 2 _ k q)
  · exact Finset.sum_congr rfl fun q _ => congrArg₂ (· * ·) (daB_ld (dsB x0 x1 x5) x4 x2 3 _ _ r q) (ldW x3 3 _ k q)

theorem out9_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (k : Fin 1024) : out0_A_9 c i arg1 harg1 arg2 harg2 arg3 harg3 arg4 harg4 arg5 harg5 arg6 harg6 arg7 harg7 arg8 harg8 arg9 harg9 arg10 harg10 arg11 harg11 hc0 x0 x1 x2 x3 x4 x5 (ix2 0 k) = 0 + ∑ r : Fin 512, x0 (ix2 r k) * (cen (fun j => x1 (ix2 r j)) k * rstd (fun j => x1 (ix2 r j))) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  rw [pay12_apply x0 x1 x5]
  congr 1
  unfold k0_pay3
  pointwise

theorem out10_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (k : Fin 1024) : out0_A_10 c i arg1 harg1 arg2 harg2 arg3 harg3 arg4 harg4 arg5 harg5 arg6 harg6 arg7 harg7 arg8 harg8 arg9 harg9 arg10 harg10 arg11 harg11 hc0 x0 x1 x2 x3 x4 x5 (ix2 0 k) = 0 + ∑ r : Fin 512, x0 (ix2 r k) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  rw [pay13_apply x0]
  congr 1
  unfold k0_pay4
  pointwise

theorem out6_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (xo9 : Vec Ideal S1x1024 .f32) (xo10 : Vec Ideal S1x1024 .f32) (r : Fin 512) (j : Fin 4) (q : Fin 1024) : out0_B_6 c i arg1 harg1 arg2 harg2 arg3 harg3 arg4 harg4 arg5 harg5 arg6 harg6 arg7 harg7 arg8 harg8 arg9 harg9 arg10 harg10 arg11 harg11 hc0 x0 x1 x2 x3 x4 x5 xo9 xo10 (ix2 r (hid j q)) = daV (dsB x0 x1 x5) x4 x2 r j q := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xo9 xo10)]
  refine View.canon_eq_of_allAt _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xo9 xo10 _) ?_
  unfold kernelRun0_B
  dsimp only
  sl_unfold_words
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  have key : ∀ (v : EReal) (i : Fin 4) (off : Fin 2 → Nat) (w : Vec Ideal S512x1024 .bf16), off = ![0, 1024 * i.val] →
      (∀ q', hid i q' = hid j q → w (ix2 r q') = v) → View.TileAt (S := S512x4096) (e := .bf16) (Val := Elt Ideal) (ix2 r (hid j q)) off ![512, 1024] w v := by
    intro v i off w ho h x hx
    subst ho
    have h0 : x 0 = r := Fin.ext ((hx 0).trans (Nat.zero_add _)).symm
    have h1 : hid i (x 1) = hid j q := Fin.ext (hx 1).symm
    have h2 : x = ix2 r (x 1) := funext fun a => match a with
      | ⟨0, _⟩ => h0
      | ⟨1, _⟩ => rfl
    rw [h2]
    exact h (x 1) h1
  have same : ∀ (i : Fin 4) (q' : Fin 1024), hid i q' = hid j q → i = j ∧ q' = q := by
    intro i q' h
    have := congrArg Fin.val h
    simp only [hid] at this
    exact ⟨Fin.ext (by omega), Fin.ext (by omega)⟩
  refine View.allAt_cons_unit _ _ _ _ _ (key _ 3 _ _ rfl fun q' hq => ?_) (View.allAt_cons_unit _ _ _ _ _ (key _ 2 _ _ rfl fun q' hq => ?_)
    (View.allAt_cons_unit _ _ _ _ _ (key _ 1 _ _ rfl fun q' hq => ?_) (View.allAt_cons_unit _ _ _ _ _ (key _ 0 _ _ rfl fun q' hq => ?_)
      (View.allAt_nil _ _))))
  · obtain ⟨rfl, rfl⟩ := same _ _ hq
    exact (pay1_apply _ _ _ _ _ _ _).trans (daB_ld (dsB x0 x1 x5) x4 x2 3 _ _ r _)
  · obtain ⟨rfl, rfl⟩ := same _ _ hq
    exact (pay18_apply _ _ _ _ _ _ _).trans (daB_ld (dsB x0 x1 x5) x4 x2 2 _ _ r _)
  · obtain ⟨rfl, rfl⟩ := same _ _ hq
    exact (pay16_apply _ _ _ _ _ _ _).trans (daB_ld (dsB x0 x1 x5) x4 x2 1 _ _ r _)
  · obtain ⟨rfl, rfl⟩ := same _ _ hq
    exact (pay15_apply _ _ _ _ _ _ _).trans (daB_ld (dsB x0 x1 x5) x4 x2 0 _ _ r _)

theorem out7_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (xo9 : Vec Ideal S1x1024 .f32) (xo10 : Vec Ideal S1x1024 .f32) (r : Fin 512) (k : Fin 1024) : out0_B_7 c i arg1 harg1 arg2 harg2 arg3 harg3 arg4 harg4 arg5 harg5 arg6 harg6 arg7 harg7 arg8 harg8 arg9 harg9 arg10 harg10 arg11 harg11 hc0 x0 x1 x2 x3 x4 x5 xo9 xo10 (ix2 r k) = dsB x0 x1 x5 r k := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  exact pay11_apply x0 x1 x5 r k

theorem out8_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (xo9 : Vec Ideal S1x1024 .f32) (xo10 : Vec Ideal S1x1024 .f32) (r : Fin 512) (k : Fin 1024) : out0_B_8 c i arg1 harg1 arg2 harg2 arg3 harg3 arg4 harg4 arg5 harg5 arg6 harg6 arg7 harg7 arg8 harg8 arg9 harg9 arg10 harg10 arg11 harg11 hc0 x0 x1 x2 x3 x4 x5 xo9 xo10 (ix2 r k) = dxV (dsB x0 x1 x5) x3 x4 x2 r k := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  rw [pay2_apply]
  unfold dxV
  refine congrArg₂ (· + ·) (congrArg₂ (· + ·) (congrArg₂ (· + ·) (congrArg₂ (· + ·) rfl ?_) ?_) ?_) ?_
  · exact Finset.sum_congr rfl fun q _ => congrArg₂ (· * ·) (daB_ld (dsB x0 x1 x5) x4 x2 0 _ _ r q) (ldW x3 0 _ k q)
  · exact Finset.sum_congr rfl fun q _ => congrArg₂ (· * ·) (daB_ld (dsB x0 x1 x5) x4 x2 1 _ _ r q) (ldW x3 1 _ k q)
  · exact Finset.sum_congr rfl fun q _ => congrArg₂ (· * ·) (daB_ld (dsB x0 x1 x5) x4 x2 2 _ _ r q) (ldW x3 2 _ k q)
  · exact Finset.sum_congr rfl fun q _ => congrArg₂ (· * ·) (daB_ld (dsB x0 x1 x5) x4 x2 3 _ _ r q) (ldW x3 3 _ k q)

theorem out9_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (xo9 : Vec Ideal S1x1024 .f32) (xo10 : Vec Ideal S1x1024 .f32) (k : Fin 1024) : out0_B_9 c i arg1 harg1 arg2 harg2 arg3 harg3 arg4 harg4 arg5 harg5 arg6 harg6 arg7 harg7 arg8 harg8 arg9 harg9 arg10 harg10 arg11 harg11 hc0 x0 x1 x2 x3 x4 x5 xo9 xo10 (ix2 0 k) = xo9 (ix2 0 k) + ∑ r : Fin 512, x0 (ix2 r k) * (cen (fun j => x1 (ix2 r j)) k * rstd (fun j => x1 (ix2 r j))) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  rw [View.canon_unit_zero (S := S1x1024) hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  exact pay12_apply x0 x1 x5 xo9 k

theorem out10_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S4x1024x1024 .bf16) (harg4 : arg4.IsWhole) (arg5 : Memref sig .tc .vmem S4x1024x1024 .bf16) (harg5 : arg5.IsWhole) (arg6 : Memref sig .tc .vmem S1x1024 .f32) (harg6 : arg6.IsWhole) (arg7 : Memref sig .tc .vmem S512x4096 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec Ideal S512x1024 .f32) (x1 : Vec Ideal S512x1024 .f32) (x2 : Vec Ideal S512x4096 .bf16) (x3 : Vec Ideal S4x1024x1024 .bf16) (x4 : Vec Ideal S4x1024x1024 .bf16) (x5 : Vec Ideal S1x1024 .f32) (xo9 : Vec Ideal S1x1024 .f32) (xo10 : Vec Ideal S1x1024 .f32) (k : Fin 1024) : out0_B_10 c i arg1 harg1 arg2 harg2 arg3 harg3 arg4 harg4 arg5 harg5 arg6 harg6 arg7 harg7 arg8 harg8 arg9 harg9 arg10 harg10 arg11 harg11 hc0 x0 x1 x2 x3 x4 x5 xo9 xo10 (ix2 0 k) = xo10 (ix2 0 k) + ∑ r : Fin 512, x0 (ix2 r k) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  rw [View.canon_unit_zero (S := S1x1024) hz]
  simp only [View.readAt_eq_ld, harg1.read_unread, harg2.read_unread, harg3.read_unread, harg4.read_unread, harg5.read_unread, harg6.read_unread, harg10.read_unread, harg11.read_unread, View.ld_unit_zero (S := S512x1024) hz, View.ld_unit_zero (S := S1x1024) hz, shapeCast_self]
  exact pay13_apply x0 xo10 k

end Cert.Act

end
-- ==== Proof.ActBlk.lean ====
/- The blocks the feed-forward gradient's body reads, element by element, as functions of the arguments. -/
module

public import proofs.«01_k».proof.Proof.Gen.KernelIdeal.Value
public import proofs.«01_k».proof.Proof.ActOut
public import proofs.«01_k».proof.Proof.Spec
public import Idealize.ShloMosaic.Lib.StableHlo.ReadAt

@[expose] public section

noncomputable section

namespace Cert.Act

open Cert.KernelIdeal Cert.KernelIdeal.Gen Cert.Norm Cert.Spec Idealize.ShloMosaic Idealize.ShloMosaic.TcCoe

variable (m : (ℓ : Loc nD τ sig) → Buf (Elt Ideal) ℓ)

/-! ## The arguments -/

def aX (c : Dev nD) (n : Fin 4096) (k : Fin 1024) : EReal := (m (c, Proc.tc.devRef main_arg0) : S4096x1024.Idx → EReal) (ix2 n k)
def aW1 (c : Dev nD) (k : Fin 1024) (f : Fin 4096) : EReal := (m (c, Proc.tc.devRef main_arg1) : S1024x4096.Idx → EReal) (ix2 k f)
def aW2 (c : Dev nD) (f : Fin 4096) (k : Fin 1024) : EReal := (m (c, Proc.tc.devRef main_arg2) : S4096x1024.Idx → EReal) (ix2 f k)
def aG (c : Dev nD) (k : Fin 1024) : EReal := (m (c, Proc.tc.devRef main_arg3) : S1024.Idx → EReal) (ix1 k)
def aDy (c : Dev nD) (n : Fin 4096) (k : Fin 1024) : EReal := (m (c, Proc.tc.devRef main_arg4) : S4096x1024.Idx → EReal) (ix2 n k)

/-! ## The arrays the blocks are cut from -/

theorem V_dy (c : Dev nD) (n : Fin 4096) (k : Fin 1024) : (V m c main_arg4 : S4096x1024.Idx → EReal) (ix2 n k) = aDy m c n k := by
  rw [V_main_arg4]; rfl

theorem V_a (c : Dev nD) (n : Fin 4096) (f : Fin 4096) : (V m c main_v7 : S4096x4096.Idx → EReal) (ix2 n f) = lin (aX m c) (aW1 m c) n f := by
  unfold V hostOps0 hostOps0_1 hostOps0_2
  after_reads_at
  rfl

theorem V_s (c : Dev nD) (n : Fin 4096) (k : Fin 1024) :
    (V m c main_v6 : S4096x1024.Idx → EReal) (ix2 n k) = pre (aX m c) (aW1 m c) (aW2 m c) n k := by
  unfold V hostOps0 hostOps0_1 hostOps0_2
  after_reads_at
  rfl

theorem V_w1 (c : Dev nD) (j : Fin 4) (k q : Fin 1024) : (V m c main_v10 : S4x1024x1024.Idx → EReal) (ix3 j k q) = aW1 m c k (hid j q) := by
  have h : (V m c main_v10 : S4x1024x1024.Idx → EReal) (ix3 j k q) = aW1 m c k ⟨j.val * 1024 + q.val, by omega⟩ := by
    unfold V hostOps0 hostOps0_1 hostOps0_2
    after_reads_at
    rfl
  rw [h]
  exact congrArg (aW1 m c k) (Fin.ext (by simp only [hid]; omega))

theorem V_w2 (c : Dev nD) (j : Fin 4) (q k : Fin 1024) : (V m c main_v12 : S4x1024x1024.Idx → EReal) (ix3 j q k) = aW2 m c (hid j q) k := by
  have h : (V m c main_v12 : S4x1024x1024.Idx → EReal) (ix3 j q k) = aW2 m c ⟨j.val * 1024 + q.val, by omega⟩ k := by
    unfold V hostOps0 hostOps0_1 hostOps0_2
    after_reads_at
    rfl
  rw [h]
  exact congrArg (aW2 m c · k) (Fin.ext (by simp only [hid]; omega))

theorem V_g (c : Dev nD) (k : Fin 1024) : (V m c main_v13 : S1x1024.Idx → EReal) (ix2 0 k) = aG m c k := by
  unfold V hostOps0 hostOps0_1 hostOps0_2
  after_reads_at
  rfl

/-! ## The blocks -/

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 0] := (by decide +kernel : ∀ t : Fin grid0.N, _)
theorem i1 : ∀ t : Fin cfg0.N, cc0_transform_1 (grid0.coords t) = ![t.val, 0] := (by decide +kernel : ∀ t : Fin grid0.N, _)
theorem i2 : ∀ t : Fin cfg0.N, cc0_transform_2 (grid0.coords t) = ![t.val, 0] := (by decide +kernel : ∀ t : Fin grid0.N, _)
theorem i3 : ∀ t : Fin cfg0.N, cc0_transform_3 (grid0.coords t) = ![0, 0, 0] := (by decide +kernel : ∀ t : Fin grid0.N, _)
theorem i4 : ∀ t : Fin cfg0.N, cc0_transform_4 (grid0.coords t) = ![0, 0, 0] := (by decide +kernel : ∀ t : Fin grid0.N, _)
theorem i5 : ∀ t : Fin cfg0.N, cc0_transform_5 (grid0.coords t) = ![0, 0] := (by decide +kernel : ∀ t : Fin grid0.N, _)
theorem i6 : ∀ t : Fin cfg0.N, cc0_transform_6 (grid0.coords t) = ![t.val, 0] := (by decide +kernel : ∀ t : Fin grid0.N, _)
theorem i7 : ∀ t : Fin cfg0.N, cc0_transform_7 (grid0.coords t) = ![t.val, 0] := (by decide +kernel : ∀ t : Fin grid0.N, _)
theorem i8 : ∀ t : Fin cfg0.N, cc0_transform_8 (grid0.coords t) = ![t.val, 0] := (by decide +kernel : ∀ t : Fin grid0.N, _)
theorem i9 : ∀ t : Fin cfg0.N, cc0_transform_9 (grid0.coords t) = ![0, 0] := (by decide +kernel : ∀ t : Fin grid0.N, _)
theorem i10 : ∀ t : Fin cfg0.N, cc0_transform_10 (grid0.coords t) = ![0, 0] := (by decide +kernel : ∀ t : Fin grid0.N, _)

theorem blk_dy (c : Dev nD) (t : Fin cfg0.N) (r : Fin 512) (k : Fin 1024) : (iblk m c 0 t : S512x1024.Idx → EReal) (ix2 r k) = aDy m c (row (blkOf t) r) k := by
  rw [← V_dy]
  unfold iblk
  rw [View.read_apply]
  show V m c main_arg4 _ = V m c main_arg4 _
  congr 1
  funext a
  apply Fin.ext
  match a with
  | ⟨0, _⟩ =>
    show cc0_transform_0 (grid0.coords t) 0 * 512 + 1 * r.val = 512 * t.val + r.val
    rw [i0]
    show t.val * 512 + 1 * r.val = _
    omega
  | ⟨1, _⟩ =>
    show cc0_transform_0 (grid0.coords t) 1 * 1024 + 1 * k.val = k.val
    rw [i0]
    show 0 * 1024 + 1 * k.val = _
    omega

theorem blk_s (c : Dev nD) (t : Fin cfg0.N) (r : Fin 512) (k : Fin 1024) : (iblk m c 1 t : S512x1024.Idx → EReal) (ix2 r k) = pre (aX m c) (aW1 m c) (aW2 m c) (row (blkOf t) r) k := by
  rw [← V_s]
  unfold iblk
  rw [View.read_apply]
  show V m c main_v6 _ = V m c main_v6 _
  congr 1
  funext a
  apply Fin.ext
  match a with
  | ⟨0, _⟩ =>
    show cc0_transform_1 (grid0.coords t) 0 * 512 + 1 * r.val = 512 * t.val + r.val
    rw [i1]
    show t.val * 512 + 1 * r.val = _
    omega
  | ⟨1, _⟩ =>
    show cc0_transform_1 (grid0.coords t) 1 * 1024 + 1 * k.val = k.val
    rw [i1]
    show 0 * 1024 + 1 * k.val = _
    omega

theorem blk_a (c : Dev nD) (t : Fin cfg0.N) (r : Fin 512) (f : Fin 4096) : (iblk m c 2 t : S512x4096.Idx → EReal) (ix2 r f) = lin (aX m c) (aW1 m c) (row (blkOf t) r) f := by
  rw [← V_a]
  unfold iblk
  rw [View.read_apply]
  show V m c main_v7 _ = V m c main_v7 _
  congr 1
  funext a
  apply Fin.ext
  match a with
  | ⟨0, _⟩ =>
    show cc0_transform_2 (grid0.coords t) 0 * 512 + 1 * r.val = 512 * t.val + r.val
    rw [i2]
    show t.val * 512 + 1 * r.val = _
    omega
  | ⟨1, _⟩ =>
    show cc0_transform_2 (grid0.coords t) 1 * 4096 + 1 * f.val = f.val
    rw [i2]
    show 0 * 4096 + 1 * f.val = _
    omega

theorem blk_w1 (c : Dev nD) (t : Fin cfg0.N) (j : Fin 4) (k q : Fin 1024) : (iblk m c 3 t : S4x1024x1024.Idx → EReal) (ix3 j k q) = aW1 m c k (hid j q) := by
  rw [← V_w1]
  unfold iblk
  rw [View.read_apply]
  show V m c main_v10 _ = V m c main_v10 _
  congr 1
  funext a
  apply Fin.ext
  match a with
  | ⟨0, _⟩ =>
    show cc0_transform_3 (grid0.coords t) 0 * 4 + 1 * j.val = j.val
    rw [i3]
    show 0 * 4 + 1 * j.val = _
    omega
  | ⟨1, _⟩ =>
    show cc0_transform_3 (grid0.coords t) 1 * 1024 + 1 * k.val = k.val
    rw [i3]
    show 0 * 1024 + 1 * k.val = _
    omega
  | ⟨2, _⟩ =>
    show cc0_transform_3 (grid0.coords t) 2 * 1024 + 1 * q.val = q.val
    rw [i3]
    show 0 * 1024 + 1 * q.val = _
    omega

theorem blk_w2 (c : Dev nD) (t : Fin cfg0.N) (j : Fin 4) (q k : Fin 1024) : (iblk m c 4 t : S4x1024x1024.Idx → EReal) (ix3 j q k) = aW2 m c (hid j q) k := by
  rw [← V_w2]
  unfold iblk
  rw [View.read_apply]
  show V m c main_v12 _ = V m c main_v12 _
  congr 1
  funext a
  apply Fin.ext
  match a with
  | ⟨0, _⟩ =>
    show cc0_transform_4 (grid0.coords t) 0 * 4 + 1 * j.val = j.val
    rw [i4]
    show 0 * 4 + 1 * j.val = _
    omega
  | ⟨1, _⟩ =>
    show cc0_transform_4 (grid0.coords t) 1 * 1024 + 1 * q.val = q.val
    rw [i4]
    show 0 * 1024 + 1 * q.val = _
    omega
  | ⟨2, _⟩ =>
    show cc0_transform_4 (grid0.coords t) 2 * 1024 + 1 * k.val = k.val
    rw [i4]
    show 0 * 1024 + 1 * k.val = _
    omega

theorem blk_g (c : Dev nD) (t : Fin cfg0.N) (k : Fin 1024) : (iblk m c 5 t : S1x1024.Idx → EReal) (ix2 0 k) = aG m c k := by
  rw [← V_g]
  unfold iblk
  rw [View.read_apply]
  show V m c main_v13 _ = V m c main_v13 _
  congr 1
  funext a
  apply Fin.ext
  match a with
  | ⟨0, _⟩ =>
    show cc0_transform_5 (grid0.coords t) 0 * 1 + 1 * 0 = 0
    rw [i5]
    show 0 * 1 + 1 * 0 = _
    omega
  | ⟨1, _⟩ =>
    show cc0_transform_5 (grid0.coords t) 1 * 1024 + 1 * k.val = k.val
    rw [i5]
    show 0 * 1024 + 1 * k.val = _
    omega

end Cert.Act

end
-- ==== Proof.ActRun.lean ====
/- The feed-forward gradient's five arrays after a run, element by element, as functions of the arguments. -/
module

public import proofs.«01_k».proof.Proof.Gen.KernelIdeal.Value
public import proofs.«01_k».proof.Proof.ActOut
public import proofs.«01_k».proof.Proof.Spec
public import proofs.«01_k».proof.Proof.ActBlk

@[expose] public section

noncomputable section

namespace Cert.Act

open Cert.KernelIdeal Cert.KernelIdeal.Gen Cert.Norm Cert.Spec Idealize.ShloMosaic Idealize.ShloMosaic.TcCoe

variable (m : (ℓ : Loc nD τ sig) → Buf (Elt Ideal) ℓ)

/-! ## What each point leaves -/

theorem dsB_blk (c : Dev nD) (t : Fin cfg0.N) (r : Fin 512) (k : Fin 1024) :
    dsB (iblk m c 0 t) (iblk m c 1 t) (iblk m c 5 t) r k = ds (aX m c) (aW1 m c) (aW2 m c) (aG m c) (aDy m c) (row (blkOf t) r) k := by
  unfold dsB ds
  refine congrArg₂ (gradK · · k) (funext fun j => blk_s m c t r j) (funext fun j => ?_)
  exact congrArg₂ (· * ·) (blk_dy m c t r j) (blk_g m c t j)

theorem daV_blk (c : Dev nD) (t : Fin cfg0.N) (r : Fin 512) (j : Fin 4) (q : Fin 1024) :
    daV (dsB (iblk m c 0 t) (iblk m c 1 t) (iblk m c 5 t)) (iblk m c 4 t) (iblk m c 2 t) r j q
      = da (aX m c) (aW1 m c) (aW2 m c) (aG m c) (aDy m c) (row (blkOf t) r) (hid j q) := by
  unfold daV da
  refine congrArg₂ (· * ·) (congrArg (· * _) (Finset.sum_congr rfl fun k _ => congrArg₂ (· * ·) (dsB_blk m c t r k) (blk_w2 m c t j q k))) ?_
  exact congrArg (max · 0) (blk_a m c t r (hid j q))

theorem dxV_blk (c : Dev nD) (t : Fin cfg0.N) (r : Fin 512) (k : Fin 1024) :
    dxV (dsB (iblk m c 0 t) (iblk m c 1 t) (iblk m c 5 t)) (iblk m c 3 t) (iblk m c 4 t) (iblk m c 2 t) r k
      = dx (aX m c) (aW1 m c) (aW2 m c) (aG m c) (aDy m c) (row (blkOf t) r) k := by
  unfold dxV dx
  rw [sum_hid, Fin.sum_univ_four, ← add_assoc, ← add_assoc, ← add_assoc, dsB_blk]
  have h : ∀ j : Fin 4, (∑ q : Fin 1024, daV (dsB (iblk m c 0 t) (iblk m c 1 t) (iblk m c 5 t)) (iblk m c 4 t) (iblk m c 2 t) r j q
        * (iblk m c 3 t : S4x1024x1024.Idx → EReal) (ix3 j k q))
      = ∑ q : Fin 1024, da (aX m c) (aW1 m c) (aW2 m c) (aG m c) (aDy m c) (row (blkOf t) r) (hid j q) * aW1 m c k (hid j q) := fun j =>
    Finset.sum_congr rfl fun q _ => congrArg₂ (· * ·) (daV_blk m c t r j q) (blk_w1 m c t j k q)
  exact congrArg₂ (· + ·) (congrArg₂ (· + ·) (congrArg₂ (· + ·) (congrArg₂ (· + ·) rfl (h 0)) (h 1)) (h 2)) (h 3)

theorem outs6 (c : Dev nD) (t : Fin cfg0.N) (r : Fin 512) (j : Fin 4) (q : Fin 1024) :
    (outsAt0 m c t.val t.isLt).1 (ix2 r (hid j q)) = da (aX m c) (aW1 m c) (aW2 m c) (aG m c) (aDy m c) (row (blkOf t) r) (hid j q) := by
  rw [← daV_blk]
  by_cases h0 : t.val % 8 = 0
  · rw [outsAt0_A m c t h0]
    dsimp only
    rw [out6_A]
  · rw [outsAt0_B m c t h0]
    dsimp only
    rw [out6_B]

theorem outs7 (c : Dev nD) (t : Fin cfg0.N) (r : Fin 512) (k : Fin 1024) :
    (outsAt0 m c t.val t.isLt).2.1 (ix2 r k) = ds (aX m c) (aW1 m c) (aW2 m c) (aG m c) (aDy m c) (row (blkOf t) r) k := by
  rw [← dsB_blk]
  by_cases h0 : t.val % 8 = 0
  · rw [outsAt0_A m c t h0]
    dsimp only
    rw [out7_A]
  · rw [outsAt0_B m c t h0]
    dsimp only
    rw [out7_B]

theorem outs8 (c : Dev nD) (t : Fin cfg0.N) (r : Fin 512) (k : Fin 1024) :
    (outsAt0 m c t.val t.isLt).2.2.1 (ix2 r k) = dx (aX m c) (aW1 m c) (aW2 m c) (aG m c) (aDy m c) (row (blkOf t) r) k := by
  rw [← dxV_blk]
  by_cases h0 : t.val % 8 = 0
  · rw [outsAt0_A m c t h0]
    dsimp only
    rw [out8_A]
  · rw [outsAt0_B m c t h0]
    dsimp only
    rw [out8_B]

/-- One block's part of the scale's gradient. -/
def dgT (c : Dev nD) (t : Fin 8) (k : Fin 1024) : EReal :=
  ∑ r : Fin 512, aDy m c (row t r) k * (cen (pre (aX m c) (aW1 m c) (aW2 m c) (row t r)) k * rstd (pre (aX m c) (aW1 m c) (aW2 m c) (row t r)))

/-- One block's part of the shift's gradient. -/
def dbT (c : Dev nD) (t : Fin 8) (k : Fin 1024) : EReal := ∑ r : Fin 512, aDy m c (row t r) k

theorem dgT_blk (c : Dev nD) (t : Fin cfg0.N) (k : Fin 1024) :
    (∑ r : Fin 512, (show EReal from iblk m c 0 t (ix2 r k : S512x1024.Idx)) * (cen (fun j => iblk m c 1 t (ix2 r j : S512x1024.Idx)) k
      * rstd (fun j => iblk m c 1 t (ix2 r j : S512x1024.Idx)))) = dgT m c (blkOf t) k := by
  unfold dgT
  refine Finset.sum_congr rfl fun r _ => ?_
  have h : (fun j => iblk m c 1 t (ix2 r j : S512x1024.Idx)) = pre (aX m c) (aW1 m c) (aW2 m c) (row (blkOf t) r) :=
    funext fun j => blk_s m c t r j
  exact congrArg₂ (· * ·) (blk_dy m c t r k) (by rw [h])

theorem dbT_blk (c : Dev nD) (t : Fin cfg0.N) (k : Fin 1024) :
    (∑ r : Fin 512, (show EReal from iblk m c 0 t (ix2 r k : S512x1024.Idx))) = dbT m c (blkOf t) k :=
  Finset.sum_congr rfl fun r _ => blk_dy m c t r k

theorem outs9_10 (c : Dev nD) (k : Fin 1024) : ∀ (n : ℕ) (hn : n < cfg0.N) (h8 : n < 8),
    (outsAt0 m c n hn).2.2.2.1 (ix2 0 k) = ∑ u : Fin (n + 1), dgT m c ⟨u.val, by omega⟩ k
    ∧ (outsAt0 m c n hn).2.2.2.2 (ix2 0 k) = ∑ u : Fin (n + 1), dbT m c ⟨u.val, by omega⟩ k
  | 0, hn, h8 => by
    have e : outsAt0 m c 0 hn = _ := outsAt0_A m c ⟨0, hn⟩ rfl
    rw [e]
    dsimp only
    rw [out9_A, out10_A]
    exact ⟨(congrArg (0 + ·) (dgT_blk m c ⟨0, hn⟩ k)).trans (by rw [zero_add, Fin.sum_univ_one]; rfl),
      (congrArg (0 + ·) (dbT_blk m c ⟨0, hn⟩ k)).trans (by rw [zero_add, Fin.sum_univ_one]; rfl)⟩
  | n + 1, hn, h8 => by
    have e : outsAt0 m c (n + 1) hn = _ := outsAt0_B m c ⟨n + 1, hn⟩ (show ¬(n + 1) % 8 = 0 by omega)
    have ih := outs9_10 c k n (Nat.lt_of_succ_lt hn) (by omega)
    rw [e]
    dsimp only
    rw [out9_B, out10_B]
    exact ⟨(congrArg₂ (· + ·) ih.1 (dgT_blk m c ⟨n + 1, hn⟩ k)).trans (by rw [Fin.sum_univ_castSucc (n := n + 1)]; rfl),
      (congrArg₂ (· + ·) ih.2 (dbT_blk m c ⟨n + 1, hn⟩ k)).trans (by rw [Fin.sum_univ_castSucc (n := n + 1)]; rfl)⟩

/-! ## The arrays after the run -/

theorem arr6 (c : Dev nD) (n : Fin 4096) (f : Fin 4096) : ((Gen.dats m 0 c).arrAt 6 cfg0.N : S4096x4096.Idx → EReal) (ix2 n f) = da (aX m c) (aW1 m c) (aW2 m c) (aG m c) (aDy m c) n f := by
  obtain ⟨t, r, rfl⟩ := row_surj n
  obtain ⟨j, q, rfl⟩ := hid_surj f
  have hN : t.val < cfg0.N := lt_of_lt_of_eq t.isLt (by decide)
  have h := congrFun (Value.blocks6 m c ⟨t.val, hN⟩ (flush0_6 _)) (ix2 r (hid j q) : S512x4096.Idx)
  rw [View.read_apply, Value.flushed6] at h
  refine Eq.trans ?_ (h.trans (outs6 m c ⟨t.val, hN⟩ r j q))
  show (Gen.dats m 0 c).arrAt 6 cfg0.N _ = (Gen.dats m 0 c).arrAt 6 cfg0.N _
  congr 1
  funext a
  apply Fin.ext
  match a with
  | ⟨0, _⟩ =>
    show 512 * t.val + r.val = cc0_transform_6 (grid0.coords ⟨t.val, hN⟩) 0 * 512 + 1 * r.val
    rw [i6]
    show _ = t.val * 512 + 1 * r.val
    omega
  | ⟨1, _⟩ =>
    show (hid j q).val = cc0_transform_6 (grid0.coords ⟨t.val, hN⟩) 1 * 4096 + 1 * (hid j q).val
    rw [i6]
    show _ = 0 * 4096 + 1 * (hid j q).val
    omega

theorem arr7 (c : Dev nD) (n : Fin 4096) (k : Fin 1024) : ((Gen.dats m 0 c).arrAt 7 cfg0.N : S4096x1024.Idx → EReal) (ix2 n k) = ds (aX m c) (aW1 m c) (aW2 m c) (aG m c) (aDy m c) n k := by
  obtain ⟨t, r, rfl⟩ := row_surj n
  have hN : t.val < cfg0.N := lt_of_lt_of_eq t.isLt (by decide)
  have h := congrFun (Value.blocks7 m c ⟨t.val, hN⟩ (flush0_7 _)) (ix2 r (k) : S512x1024.Idx)
  rw [View.read_apply, Value.flushed7] at h
  refine Eq.trans ?_ (h.trans (outs7 m c ⟨t.val, hN⟩ r k))
  show (Gen.dats m 0 c).arrAt 7 cfg0.N _ = (Gen.dats m 0 c).arrAt 7 cfg0.N _
  congr 1
  funext a
  apply Fin.ext
  match a with
  | ⟨0, _⟩ =>
    show 512 * t.val + r.val = cc0_transform_7 (grid0.coords ⟨t.val, hN⟩) 0 * 512 + 1 * r.val
    rw [i7]
    show _ = t.val * 512 + 1 * r.val
    omega
  | ⟨1, _⟩ =>
    show (k).val = cc0_transform_7 (grid0.coords ⟨t.val, hN⟩) 1 * 1024 + 1 * (k).val
    rw [i7]
    show _ = 0 * 1024 + 1 * (k).val
    omega

theorem arr8 (c : Dev nD) (n : Fin 4096) (k : Fin 1024) : ((Gen.dats m 0 c).arrAt 8 cfg0.N : S4096x1024.Idx → EReal) (ix2 n k) = dx (aX m c) (aW1 m c) (aW2 m c) (aG m c) (aDy m c) n k := by
  obtain ⟨t, r, rfl⟩ := row_surj n
  have hN : t.val < cfg0.N := lt_of_lt_of_eq t.isLt (by decide)
  have h := congrFun (Value.blocks8 m c ⟨t.val, hN⟩ (flush0_8 _)) (ix2 r (k) : S512x1024.Idx)
  rw [View.read_apply, Value.flushed8] at h
  refine Eq.trans ?_ (h.trans (outs8 m c ⟨t.val, hN⟩ r k))
  show (Gen.dats m 0 c).arrAt 8 cfg0.N _ = (Gen.dats m 0 c).arrAt 8 cfg0.N _
  congr 1
  funext a
  apply Fin.ext
  match a with
  | ⟨0, _⟩ =>
    show 512 * t.val + r.val = cc0_transform_8 (grid0.coords ⟨t.val, hN⟩) 0 * 512 + 1 * r.val
    rw [i8]
    show _ = t.val * 512 + 1 * r.val
    omega
  | ⟨1, _⟩ =>
    show (k).val = cc0_transform_8 (grid0.coords ⟨t.val, hN⟩) 1 * 1024 + 1 * (k).val
    rw [i8]
    show _ = 0 * 1024 + 1 * (k).val
    omega

theorem last9 (c : Dev nD) (k : Fin 1024) (t : Fin cfg0.N) (ht : t.val = 7) :
    ((Gen.dats m 0 c).arrAt 9 cfg0.N : S1x1024.Idx → EReal) (ix2 0 k) = dg (aX m c) (aW1 m c) (aW2 m c) (aDy m c) k := by
  have hd : ∀ t t' : Fin cfg0.N, (cfg0.win 9).flush t = true → (cfg0.win 9).flush t' = true → t ≠ t' →
      Disjoint ((cfg0.win 9).blk t).view.set ((cfg0.win 9).blk t').view.set := fun t t' h h' hne => by
    have e := (flush0_9 t).mp h
    have e' := (flush0_9 t').mp h'
    have b : t.val < 8 := lt_of_lt_of_eq t.isLt (by decide)
    have b' : t'.val < 8 := lt_of_lt_of_eq t'.isLt (by decide)
    exact absurd (Fin.ext (by omega)) hne
  have h := congrFun ((Gen.dats m 0 c).read_blk_arrAt_eq_flushed 9 hd cfg0.N t t.isLt ((flush0_9 t).mpr (by omega))) (ix2 0 k : S1x1024.Idx)
  rw [View.read_apply, Value.flushed9] at h
  refine Eq.trans ?_ (h.trans (((outs9_10 m c k t.val t.isLt (by omega)).1 :).trans ?_))
  · show (Gen.dats m 0 c).arrAt 9 cfg0.N _ = (Gen.dats m 0 c).arrAt 9 cfg0.N _
    congr 1
    funext a
    apply Fin.ext
    match a with
    | ⟨0, _⟩ =>
      show 0 = cc0_transform_9 (grid0.coords t) 0 * 1 + 1 * 0
      rw [i9]
      rfl
    | ⟨1, _⟩ =>
      show k.val = cc0_transform_9 (grid0.coords t) 1 * 1024 + 1 * k.val
      rw [i9]
      show _ = 0 * 1024 + 1 * k.val
      omega
  · obtain ⟨n, hn⟩ := t
    obtain rfl : n = 7 := ht
    unfold dg
    rw [sum_row]
    rfl

theorem arr9 (c : Dev nD) (k : Fin 1024) : ((Gen.dats m 0 c).arrAt 9 cfg0.N : S1x1024.Idx → EReal) (ix2 0 k) = dg (aX m c) (aW1 m c) (aW2 m c) (aDy m c) k :=
  last9 m c k ⟨7, by decide⟩ rfl

theorem last10 (c : Dev nD) (k : Fin 1024) (t : Fin cfg0.N) (ht : t.val = 7) :
    ((Gen.dats m 0 c).arrAt 10 cfg0.N : S1x1024.Idx → EReal) (ix2 0 k) = db (aDy m c) k := by
  have hd : ∀ t t' : Fin cfg0.N, (cfg0.win 10).flush t = true → (cfg0.win 10).flush t' = true → t ≠ t' →
      Disjoint ((cfg0.win 10).blk t).view.set ((cfg0.win 10).blk t').view.set := fun t t' h h' hne => by
    have e := (flush0_10 t).mp h
    have e' := (flush0_10 t').mp h'
    have b : t.val < 8 := lt_of_lt_of_eq t.isLt (by decide)
    have b' : t'.val < 8 := lt_of_lt_of_eq t'.isLt (by decide)
    exact absurd (Fin.ext (by omega)) hne
  have h := congrFun ((Gen.dats m 0 c).read_blk_arrAt_eq_flushed 10 hd cfg0.N t t.isLt ((flush0_10 t).mpr (by omega))) (ix2 0 k : S1x1024.Idx)
  rw [View.read_apply, Value.flushed10] at h
  refine Eq.trans ?_ (h.trans (((outs9_10 m c k t.val t.isLt (by omega)).2 :).trans ?_))
  · show (Gen.dats m 0 c).arrAt 10 cfg0.N _ = (Gen.dats m 0 c).arrAt 10 cfg0.N _
    congr 1
    funext a
    apply Fin.ext
    match a with
    | ⟨0, _⟩ =>
      show 0 = cc0_transform_10 (grid0.coords t) 0 * 1 + 1 * 0
      rw [i10]
      rfl
    | ⟨1, _⟩ =>
      show k.val = cc0_transform_10 (grid0.coords t) 1 * 1024 + 1 * k.val
      rw [i10]
      show _ = 0 * 1024 + 1 * k.val
      omega
  · obtain ⟨n, hn⟩ := t
    obtain rfl : n = 7 := ht
    unfold db
    rw [sum_row]
    rfl

theorem arr10 (c : Dev nD) (k : Fin 1024) : ((Gen.dats m 0 c).arrAt 10 cfg0.N : S1x1024.Idx → EReal) (ix2 0 k) = db (aDy m c) k :=
  last10 m c k ⟨7, by decide⟩ rfl

end Cert.Act

end
-- ==== Proof.ActRef.lean ====
/- The reference's five results, element by element. -/
module

public import proofs.«01_k».proof.Proof.Gen.ReferenceIdeal.Read
public import proofs.«01_k».proof.Proof.Spec
public import Idealize.ShloMosaic.Lib.Pointwise

@[expose] public section

noncomputable section

namespace Cert.ActRef

open Cert.ReferenceIdeal Cert.ReferenceIdeal.Gen Cert.ReferenceIdeal.Read Cert.Norm Cert.Spec Idealize.ShloMosaic

variable (x : Vec Ideal S4096x1024 .f32) (w1 : Vec Ideal S1024x4096 .f32) (w2 : Vec Ideal S4096x1024 .f32) (g : Vec Ideal S1024 .f32)
  (dy : Vec Ideal S4096x1024 .f32)

abbrev fX (n : Fin 4096) (k : Fin 1024) : EReal := x (ix2 n k)
abbrev fW1 (k : Fin 1024) (f : Fin 4096) : EReal := w1 (ix2 k f)
abbrev fG (k : Fin 1024) : EReal := g (ix1 k)

theorem v0 (n : Fin 4096) (f : Fin 4096) : val_main_v0 (F := Ideal) x w1 (ix2 n f) = lin (fX x) (fW1 w1) n f := by
  unfold val_main_v0 lin
  pointwise

theorem v11 (n : Fin 4096) (k : Fin 1024) : val_main_v11 (F := Ideal) x w1 w2 (ix2 n k) = pre (fX x) (fW1 w1) (fX w2) n k := by
  unfold val_main_v11 val_main_v2 val_main_v1 val_main_cst val_main_v10 val_main_v7 val_main_v3 val_main_call0_v0 val_main_call0_cst pre
  pointwise [v0]

theorem v16 (n : Fin 4096) : val_main_v16 (F := Ideal) x w1 w2 (ix2 n 0)
    = Ideal.div (∑ j, pre (fX x) (fW1 w1) (fX w2) n j) (Ideal.ofBits .f32 0x44800000#32) := by
  unfold val_main_v16 val_main_v15 val_main_v14 val_main_v13 val_main_cst_4 val_main_cst_5
  pointwise [v11]

theorem v18 (n : Fin 4096) (k : Fin 1024) : val_main_v18 (F := Ideal) x w1 w2 (ix2 n k) = cen (pre (fX x) (fW1 w1) (fX w2) n) k := by
  unfold val_main_v18 val_main_v17 cen
  pointwise [v11, v16]

theorem v27 (n : Fin 4096) (k : Fin 1024) : val_main_v27 (F := Ideal) x w1 w2 (ix2 n k) = cen (pre (fX x) (fW1 w1) (fX w2) n) k := by
  unfold val_main_v27 val_main_v26 cen
  pointwise [v11, v16]

theorem v29 (n : Fin 4096) : val_main_v29 (F := Ideal) x w1 w2 (ix2 n 0) = vare (pre (fX x) (fW1 w1) (fX w2) n) := by
  unfold val_main_v29 val_main_v28 val_main_cst_9 val_main_v25 val_main_v24 val_main_cst_8 val_main_v23 val_main_v22 val_main_cst_7 val_main_v19 vare
  pointwise [v18]

theorem v30 (n : Fin 4096) : val_main_v30 (F := Ideal) x w1 w2 (ix2 n 0) = rstd (pre (fX x) (fW1 w1) (fX w2) n) := by
  unfold val_main_v30 rstd
  pointwise [v29]

theorem v50 (n : Fin 4096) (k : Fin 1024) : val_main_v50 (F := Ideal) g dy (ix2 n k) = fX dy n k * fG g k := by
  unfold val_main_v50 val_main_v49 val_main_v36 val_main_v42
  pointwise

theorem v56 (n : Fin 4096) (k : Fin 1024) : val_main_v56 (F := Ideal) x w1 w2 g dy (ix2 n k) = fX dy n k * fG g k * rstd (pre (fX x) (fW1 w1) (fX w2) n) := by
  unfold val_main_v56 val_main_v55
  pointwise [v50, v30]

theorem v62 (n : Fin 4096) : val_main_v62 (F := Ideal) x w1 w2 g dy (ix2 n 0) = varR (pre (fX x) (fW1 w1) (fX w2) n) (fun j => fX dy n j * fG g j) := by
  unfold val_main_v62 val_main_v61 val_main_cst_17 val_main_v57 val_main_v54 val_main_v53 val_main_v52 val_main_cst_15 val_main_v33 val_main_v32 val_main_cst_10 val_main_v31 varR
  pointwise [v50, v30, v29, v27]

theorem v65 (n : Fin 4096) (k : Fin 1024) : val_main_v65 (F := Ideal) x w1 w2 g dy (ix2 n k)
    = varR (pre (fX x) (fW1 w1) (fX w2) n) (fun j => fX dy n j * fG g j) * (Ideal.ofBits .f32 0x40000000#32 * cen (pre (fX x) (fW1 w1) (fX w2) n) k) := by
  unfold val_main_v65 val_main_v64 val_main_v63 val_main_cst_18 val_main_v21 val_main_v20 val_main_cst_6
  pointwise [v18]
  rw [Fin.sum_univ_one, v62]

theorem v72 (n : Fin 4096) : val_main_v72 (F := Ideal) x w1 w2 g dy (ix2 n 0)
    = Ideal.div ((∑ j, -(fX dy n j * fG g j * rstd (pre (fX x) (fW1 w1) (fX w2) n))) + ∑ j, -(varR (pre (fX x) (fW1 w1) (fX w2) n) (fun j => fX dy n j * fG g j) * (Ideal.ofBits .f32 0x40000000#32 * cen (pre (fX x) (fW1 w1) (fX w2) n) j))) (Ideal.ofBits .f32 0x44800000#32) := by
  unfold val_main_v72 val_main_v71 val_main_cst_20 val_main_v70 val_main_v68 val_main_v67 val_main_v66 val_main_cst_19 val_main_v60 val_main_v59 val_main_v58 val_main_cst_16
  pointwise [v56, v65]

theorem v75 (n : Fin 4096) (k : Fin 1024) : val_main_v75 (F := Ideal) x w1 w2 g dy (ix2 n k) = gradR (pre (fX x) (fW1 w1) (fX w2) n) (fun j => fX dy n j * fG g j) k := by
  unfold val_main_v75 val_main_v74 val_main_v73 val_main_cst_21 val_main_v69 gradR
  pointwise [v56, v65]
  rw [Fin.sum_univ_one, v72]

/-- The reference's form of the hidden layer's gradient, at one element: nothing is carried back where the activation is off. -/
theorem select_pos (a p q : EReal) : (if 0 < a then p * (q * max a 0) else 0) = p * q * max a 0 := by
  split
  · rw [mul_assoc]
  · next h => rw [max_eq_right (not_lt.1 h), mul_zero]

theorem v79 (n : Fin 4096) (f : Fin 4096) : val_main_v79 (F := Ideal) x w1 w2 g dy (ix2 n f)
    = (∑ k, gradR (pre (fX x) (fW1 w1) (fX w2) n) (fun j => fX dy n j * fG g j) k * fX w2 f k) * Ideal.ofBits .f32 0x40000000#32
      * max (lin (fX x) (fW1 w1) n f) 0 := by
  unfold val_main_v79 val_main_v78 val_main_cst_22 val_main_v77 val_main_v76 val_main_v9 val_main_v8 val_main_cst_2 val_main_v3 val_main_call0_v0 val_main_call0_cst val_main_v5 val_main_v4 val_main_cst_0
  pointwise [v75, v0]
  exact select_pos _ _ _

theorem v84 (n : Fin 4096) (f : Fin 4096) : val_main_v84 (F := Ideal) x w1 w2 g dy (ix2 n f)
    = (∑ k, gradR (pre (fX x) (fW1 w1) (fX w2) n) (fun j => fX dy n j * fG g j) k * fX w2 f k) * Ideal.ofBits .f32 0x40000000#32
      * max (lin (fX x) (fW1 w1) n f) 0 := by
  unfold val_main_v84
  pointwise [v79]

theorem v85 (n : Fin 4096) (k : Fin 1024) : val_main_v85 (F := Ideal) x w1 w2 g dy (ix2 n k) = gradR (pre (fX x) (fW1 w1) (fX w2) n) (fun j => fX dy n j * fG g j) k := by
  unfold val_main_v85
  pointwise [v75]

theorem v83 (n : Fin 4096) (k : Fin 1024) : val_main_v83 (F := Ideal) x w1 w2 g dy (ix2 n k)
    = Ideal.ofBits .f32 0x3FB504F3#32 * gradR (pre (fX x) (fW1 w1) (fX w2) n) (fun j => fX dy n j * fG g j) k
      + ∑ f, (∑ k, gradR (pre (fX x) (fW1 w1) (fX w2) n) (fun j => fX dy n j * fG g j) k * fX w2 f k) * Ideal.ofBits .f32 0x40000000#32
        * max (lin (fX x) (fW1 w1) n f) 0 * fW1 w1 k f := by
  unfold val_main_v83 val_main_v82 val_main_v81 val_main_v80 val_main_cst_23
  pointwise [v75, v79]

theorem v86 (k : Fin 1024) : val_main_v86 (F := Ideal) x w1 w2 dy (ix2 0 k) = dg (fX x) (fW1 w1) (fX w2) (fX dy) k := by
  unfold val_main_v86 val_main_v51 val_main_v48 val_main_v47 val_main_v46 val_main_cst_14 val_main_cst_13 val_main_v42 val_main_v35 val_main_v34 dg
  pointwise [v27, v30]
  rw [Fin.sum_univ_one]
  exact Finset.sum_congr rfl fun n _ => mul_comm _ _

theorem v87 (k : Fin 1024) : val_main_v87 (F := Ideal) dy (ix2 0 k) = db (fX dy) k := by
  unfold val_main_v87 val_main_v45 val_main_v44 val_main_v43 val_main_cst_11 val_main_cst_12 db
  pointwise
  rw [Fin.sum_univ_one]

end Cert.ActRef

end
-- ==== Proof.Finite.lean ====
/- The two forms of the gradient of a normalised row agree over the extended reals when the row and the gradient carried back are finite. -/
module

public import proofs.«01_k».proof.Proof.Norm

@[expose] public section

noncomputable section

namespace Cert.Norm

open Idealize.ShloMosaic

/-- A finite extended real. -/
def IsFin (a : EReal) : Prop := ∃ r : ℝ, a = r

theorem IsFin.of_lt {a : EReal} (h : max a (-a) < ⊤) : IsFin a := by
  induction a using EReal.rec with
  | bot => exact absurd h (by simp)
  | coe r => exact ⟨r, rfl⟩
  | top => exact absurd h (by simp)

theorem IsFin.add {a b : EReal} : IsFin a → IsFin b → IsFin (a + b) := by
  rintro ⟨r, rfl⟩ ⟨s, rfl⟩; exact ⟨r + s, (EReal.coe_add r s).symm⟩

theorem IsFin.mul {a b : EReal} : IsFin a → IsFin b → IsFin (a * b) := by
  rintro ⟨r, rfl⟩ ⟨s, rfl⟩; exact ⟨r * s, (EReal.coe_mul r s).symm⟩

theorem IsFin.max {a b : EReal} (ha : IsFin a) (hb : IsFin b) : IsFin (max a b) := by
  rcases max_choice a b with h | h <;> rw [h] <;> assumption

theorem IsFin.zero : IsFin 0 := ⟨0, rfl⟩

/-- A sum of reals, as an extended real. -/
theorem coe_sum {ι : Type*} (t : Finset ι) (f : ι → ℝ) : ∑ i ∈ t, (f i : EReal) = ((∑ i ∈ t, f i : ℝ) : EReal) := by
  classical
  induction t using Finset.induction_on with
  | empty => simp
  | insert a t h ih => rw [Finset.sum_insert h, Finset.sum_insert h, ih, EReal.coe_add]

theorem IsFin.sum {ι : Type*} [Fintype ι] {f : ι → EReal} (h : ∀ i, IsFin (f i)) : IsFin (∑ i, f i) := by
  choose r hr using h
  exact ⟨∑ i, r i, by rw [← coe_sum]; exact Finset.sum_congr rfl fun i _ => hr i⟩

/-! ## The constants -/

theorem bits_1024 : Ideal.ofBits .f32 0x44800000#32 = ((1024 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_neghalf : Ideal.ofBits .f32 0xBF000000#32 = ((-(1 / 2) : ℝ) : EReal) := by
  simp [Ideal.ofBits, Ideal.ieee, -EReal.coe_mul]; norm_num

theorem bits_eps : ∃ e : ℝ, 0 < e ∧ Ideal.ofBits .f32 0x3727C5AC#32 = (e : EReal) := by
  refine ⟨_, ?_, by simp [Ideal.ofBits, Ideal.ieee, -EReal.coe_mul]; rfl⟩
  norm_num

theorem bits_alpha : IsFin (Ideal.ofBits .f32 0x3FB504F3#32) :=
  ⟨_, by simp [Ideal.ofBits, Ideal.ieee, -EReal.coe_mul]; rfl⟩

/-! ## The gradients -/

theorem div_1024 (a : ℝ) : Ideal.div (a : EReal) (Ideal.ofBits .f32 0x44800000#32) = ((a * (1 / 1024) : ℝ) : EReal) := by
  rw [bits_1024, Ideal.div_coe (by norm_num : (1024 : ℝ) ≠ 0), EReal.coe_mul]

theorem gradR_eq_gradK {s c : Fin 1024 → EReal} (hs : ∀ k, IsFin (s k)) (hc : ∀ k, IsFin (c k)) (k : Fin 1024) :
    gradR s c k = gradK s c k := by
  choose u hu using hs
  choose v hv using hc
  obtain rfl : s = fun k => (u k : EReal) := funext hu
  obtain rfl : c = fun k => (v k : EReal) := funext hv
  obtain ⟨e, he, hee⟩ := bits_eps
  set d : Fin 1024 → ℝ := fun k => u k - (∑ j, u j) * (1 / 1024) with hd
  have hcen : cen (fun k => (u k : EReal)) = fun k => (d k : EReal) := by
    funext k; unfold cen; rw [coe_sum, div_1024, ← EReal.coe_sub]
  set w : ℝ := (∑ j, d j * d j) * (1 / 1024) + e with hw
  have hvar : vare (fun k => (u k : EReal)) = (w : EReal) := by
    unfold vare
    simp only [hcen, ← EReal.coe_mul]
    rw [coe_sum, div_1024, hee, ← EReal.coe_add]
  have hw0 : 0 < w := by
    have : 0 ≤ ∑ j, d j * d j := Finset.sum_nonneg fun j _ => mul_self_nonneg _
    positivity
  set r : ℝ := (Real.sqrt w)⁻¹ with hr
  have hrs : rstd (fun k => (u k : EReal)) = (r : EReal) := by
    unfold rstd
    rw [hvar, Ideal.rsqrt_coe, if_neg (not_lt.2 hw0.le), if_neg hw0.ne']
  have hrw : r * r * w = 1 := by
    have h2 := Real.mul_self_sqrt hw0.le
    have h3 : Real.sqrt w ≠ 0 := (Real.sqrt_pos.2 hw0).ne'
    rw [hr]; field_simp; rw [sq, h2]
  have hdw : Ideal.div (r : EReal) (w : EReal) = ((r / w : ℝ) : EReal) := by
    rw [Ideal.div_coe hw0.ne', ← EReal.coe_mul]; congr 1; ring
  have hvarR : varR (fun k => (u k : EReal)) (fun k => (v k : EReal)) = (((∑ j, d j * v j) * (-(1 / 2) * (r / w)) * (1 / 1024) : ℝ) : EReal) := by
    unfold varR
    simp only [hcen, hvar, hrs, hdw, bits_neghalf, ← EReal.coe_mul]
    rw [coe_sum, ← EReal.coe_mul, div_1024]
  have key := grad_real (n := 1024) (by norm_num) d v w r hw0.ne' hrw (by rw [hd]; exact_mod_cast sum_centred (n := 1024) (by norm_num) u) k
  unfold gradR gradK
  simp only [hvarR, hcen, hrs, bits_two, ← EReal.coe_mul, ← EReal.coe_neg, coe_sum, ← EReal.coe_add, div_1024, ← EReal.coe_sub]
  norm_num at key ⊢
  exact_mod_cast key.symm

end Cert.Norm

end
-- ==== Proof.Pre.lean ====
/- The precondition read element by element: an argument whose absolute values lie below infinity is finite. -/
module

public import proofs.«01_k».proof.Pre_finite
public import proofs.«01_k».proof.Proof.Finite

@[expose] public section

noncomputable section

namespace Cert.Pre_finite

open Idealize.ShloMosaic Cert.Norm

theorem facts : Facts := ⟨by decide, by decide, by decide⟩

theorem isFin_of {S : Shape} (hb : S_.BroadcastsInDim S (![] : Fin 0 → Fin S.rank)) {x : FVec Ideal S .f32}
    (h : cmpf .olt (Host.absf x) (broadcastInDim S ![] hb (constant S_ .f32 0x7F800000#32)) = fun _ => 1#1) (i : S.Idx) : IsFin (x i) := by
  have h := congrFun h i
  have hinf : Ideal.ofBits .f32 0x7F800000#32 = ⊤ := by simp [Ideal.ofBits, Ideal.ieee]
  refine IsFin.of_lt ?_
  simp [cmpf, Host.absf, broadcastInDim, constant, hinf] at h
  change Ideal.cmp .olt (max (x i) (-x i)) ⊤ = 1#1 at h
  by_contra hn
  change BitVec.ofBool (decide (max (x i) (-x i) < ⊤)) = 1#1 at h
  rw [decide_eq_false hn] at h
  exact absurd h (by decide)

end Cert.Pre_finite

end
-- ==== Proof.ActClaim.lean ====
/- The kernel of the feed-forward layer's activation gradient and its reference end with equal results, for finite arguments. -/
module

public import proofs.«01_k».proof.Defs
public import proofs.«01_k».proof.Proof.Gen.ReferenceIdeal.Run
public import proofs.«01_k».proof.Proof.ActRun
public import proofs.«01_k».proof.Proof.ActRef
public import proofs.«01_k».proof.Proof.Pre

@[expose] public section

noncomputable section

namespace Cert.ActClaim

open Cert.Norm Cert.Spec Idealize.ShloMosaic Idealize.SL.Sem

/-! ## The gradients, in the reference's form -/

section
variable {x : Fin 4096 → Fin 1024 → EReal} {w1 : Fin 1024 → Fin 4096 → EReal} {w2 : Fin 4096 → Fin 1024 → EReal} {g : Fin 1024 → EReal}
  {dy : Fin 4096 → Fin 1024 → EReal}

theorem ds_eq (hx : ∀ n k, IsFin (x n k)) (h1 : ∀ k f, IsFin (w1 k f)) (h2 : ∀ f k, IsFin (w2 f k)) (hg : ∀ k, IsFin (g k))
    (hy : ∀ n k, IsFin (dy n k)) (n : Fin 4096) (k : Fin 1024) :
    gradR (pre x w1 w2 n) (fun j => dy n j * g j) k = ds x w1 w2 g dy n k :=
  gradR_eq_gradK (fun k => (bits_alpha.mul (hx n k)).add (IsFin.sum fun f =>
    (((IsFin.sum fun k => (hx n k).mul (h1 k f)).max IsFin.zero).mul ((IsFin.sum fun k => (hx n k).mul (h1 k f)).max IsFin.zero)).mul (h2 f k)))
    (fun k => (hy n k).mul (hg k)) k

end

/-! ## The two programs' results -/

section
open Cert.Act Cert.ActRef

variable (m : (ℓ : Loc Cert.KernelIdeal.nD Cert.KernelIdeal.τ Cert.KernelIdeal.sig) → Buf (Elt Ideal) ℓ) (c : Dev Cert.KernelIdeal.nD)

abbrev bX : Vec Ideal Cert.ReferenceIdeal.S4096x1024 .f32 := m (c, Proc.tc.devRef Cert.KernelIdeal.main_arg0)
abbrev bW1 : Vec Ideal Cert.ReferenceIdeal.S1024x4096 .f32 := m (c, Proc.tc.devRef Cert.KernelIdeal.main_arg1)
abbrev bW2 : Vec Ideal Cert.ReferenceIdeal.S4096x1024 .f32 := m (c, Proc.tc.devRef Cert.KernelIdeal.main_arg2)
abbrev bG : Vec Ideal Cert.ReferenceIdeal.S1024 .f32 := m (c, Proc.tc.devRef Cert.KernelIdeal.main_arg3)
abbrev bDy : Vec Ideal Cert.ReferenceIdeal.S4096x1024 .f32 := m (c, Proc.tc.devRef Cert.KernelIdeal.main_arg4)

variable (hp : letI := Cert.Pre_finite.facts; Cert.Pre_KernelIdeal_finite m)
include hp

theorem grad_eq (n : Fin 4096) (k : Fin 1024) :
    gradR (pre (fX (bX m c)) (fW1 (bW1 m c)) (fX (bW2 m c)) n) (fun j => fX (bDy m c) n j * fG (bG m c) j) k
      = ds (aX m c) (aW1 m c) (aW2 m c) (aG m c) (aDy m c) n k := by
  letI := Cert.Pre_finite.facts
  obtain ⟨h0, h1, h2, h3, h4⟩ := hp c
  exact ds_eq (x := aX m c) (w1 := aW1 m c) (w2 := aW2 m c) (g := aG m c) (dy := aDy m c)
    (fun n k => Cert.Pre_finite.isFin_of Cert.Pre_finite.Facts.bcast_S_S4096x1024 h0 (ix2 n k))
    (fun n k => Cert.Pre_finite.isFin_of Cert.Pre_finite.Facts.bcast_S_S1024x4096 h1 (ix2 n k))
    (fun n k => Cert.Pre_finite.isFin_of Cert.Pre_finite.Facts.bcast_S_S4096x1024 h2 (ix2 n k))
    (fun k => Cert.Pre_finite.isFin_of Cert.Pre_finite.Facts.bcast_S_S1024 h3 (ix1 k))
    (fun n k => Cert.Pre_finite.isFin_of Cert.Pre_finite.Facts.bcast_S_S4096x1024 h4 (ix2 n k)) n k

theorem res84 : Cert.ReferenceIdeal.Read.val_main_v84 (F := Ideal) (bX m c) (bW1 m c) (bW2 m c) (bG m c) (bDy m c)
    = (Cert.KernelIdeal.Gen.dats m 0 c).arrAt 6 Cert.KernelIdeal.cfg0.N := by
  funext i
  obtain ⟨n, f, rfl⟩ : ∃ (n : Fin 4096) (f : Fin 4096), i = ix2 n f := ⟨i 0, i 1, (ix2_eta i).symm⟩
  rw [arr6, v84]
  simp only [grad_eq m c hp]
  rfl

theorem res85 : Cert.ReferenceIdeal.Read.val_main_v85 (F := Ideal) (bX m c) (bW1 m c) (bW2 m c) (bG m c) (bDy m c)
    = (Cert.KernelIdeal.Gen.dats m 0 c).arrAt 7 Cert.KernelIdeal.cfg0.N := by
  funext i
  obtain ⟨n, f, rfl⟩ : ∃ (n : Fin 4096) (f : Fin 1024), i = ix2 n f := ⟨i 0, i 1, (ix2_eta i).symm⟩
  rw [arr7, v85]
  simp only [grad_eq m c hp]

theorem res83 : Cert.ReferenceIdeal.Read.val_main_v83 (F := Ideal) (bX m c) (bW1 m c) (bW2 m c) (bG m c) (bDy m c)
    = (Cert.KernelIdeal.Gen.dats m 0 c).arrAt 8 Cert.KernelIdeal.cfg0.N := by
  funext i
  obtain ⟨n, f, rfl⟩ : ∃ (n : Fin 4096) (f : Fin 1024), i = ix2 n f := ⟨i 0, i 1, (ix2_eta i).symm⟩
  rw [arr8, v83]
  simp only [grad_eq m c hp]
  rfl

omit hp in
theorem res86 : Cert.ReferenceIdeal.Read.val_main_v86 (F := Ideal) (bX m c) (bW1 m c) (bW2 m c) (bDy m c)
    = (Cert.KernelIdeal.Gen.dats m 0 c).arrAt 9 Cert.KernelIdeal.cfg0.N := by
  funext i
  obtain ⟨n, f, rfl⟩ : ∃ (n : Fin 1) (f : Fin 1024), i = ix2 n f := ⟨i 0, i 1, (ix2_eta i).symm⟩
  obtain rfl : n = 0 := Subsingleton.elim _ _
  rw [arr9, v86]
  rfl

omit hp in
theorem res87 : Cert.ReferenceIdeal.Read.val_main_v87 (F := Ideal) (bDy m c)
    = (Cert.KernelIdeal.Gen.dats m 0 c).arrAt 10 Cert.KernelIdeal.cfg0.N := by
  funext i
  obtain ⟨n, f, rfl⟩ : ∃ (n : Fin 1) (f : Fin 1024), i = ix2 n f := ⟨i 0, i 1, (ix2_eta i).symm⟩
  obtain rfl : n = 0 := Subsingleton.elim _ _
  rw [arr10, v87]
  rfl

end

/-- The claim. -/
theorem algebraic : Cert.algebraic_KernelIdeal_ReferenceIdeal_pre_finite (hPre_finite := Cert.Pre_finite.facts) := by
  intro m ρ m' ρ' hp hagree
  refine ⟨_, _, _, _, _, Cert.KernelIdeal.Value.run_blocks m ρ, ?_⟩
  refine (θ_run _ _ _).mono (fun _ h c => ?_) (Cert.ReferenceIdeal.Value.run (F := Ideal) m' ρ')
  obtain ⟨h84, h85, h83, h86, h87, ha⟩ := h c
  obtain ⟨e0, e1, e2, e3, e4⟩ := hagree c
  refine ⟨h84.trans ?_, h85.trans ?_, h83.trans ?_, h86.trans ?_, h87.trans ?_, ha⟩
  · rw [Cert.ReferenceIdeal.Read.val_main_v84_eq, e0, e1, e2, e3, e4]; exact res84 m c hp
  · rw [Cert.ReferenceIdeal.Read.val_main_v85_eq, e0, e1, e2, e3, e4]; exact res85 m c hp
  · rw [Cert.ReferenceIdeal.Read.val_main_v83_eq, e0, e1, e2, e3, e4]; exact res83 m c hp
  · rw [Cert.ReferenceIdeal.Read.val_main_v86_eq, e0, e1, e2, e4]; exact res86 m c
  · rw [e4]; exact (Cert.ReferenceIdeal.Read.val_main_v87_eq _).symm.trans (res87 m c)

end Cert.ActClaim

end
-- ==== Proof.WPay.lean ====
/- What the stores of the weight gradients' body are worth, element by element, as extended reals. -/
module

public import proofs.«01_k».proof.Proof.Gen.Kernel2Ideal.Skeleton
public import Idealize.ShloMosaic.Lib.Pointwise
public import Idealize.ShloMosaic.Lib.Pipeline.Value

@[expose] public section

noncomputable section

namespace Cert.Wts

open Cert.Kernel2Ideal Cert.Kernel2Ideal.Gen Idealize.ShloMosaic

theorem pay1_apply (v : Vec Ideal S1x1024x1024 .f32) (p q : Fin 1024) : k0_pay1 (F := Ideal) v (ix3 0 p q) = v (ix3 0 p q) := by
  unfold k0_pay1
  pointwise

theorem pay2_apply (v : Vec Ideal S1x1024x1024 .f32) (p q : Fin 1024) : k0_pay2 (F := Ideal) v (ix3 0 p q) = v (ix3 0 p q) := by
  unfold k0_pay2
  pointwise

theorem pay3_apply (p q : Fin 1024) : k0_pay3 (F := Ideal) (ix3 0 p q) = 0 := by
  unfold k0_pay3
  pointwise

theorem pay4_apply (p q : Fin 1024) : k0_pay4 (F := Ideal) (ix3 0 p q) = 0 := by
  unfold k0_pay4
  pointwise

theorem pay5_apply (x : Vec Ideal S1024x1024 .f32) (a : Vec Ideal S1x1024x1024 .f32) (d : Vec Ideal S1024x1024 .bf16) (p q : Fin 1024) :
    k0_pay5 (F := Ideal) x a d (ix3 0 p q) = a (ix3 0 p q) + ∑ r : Fin 1024, x (ix2 r p) * d (ix2 r q) := by
  unfold k0_pay5
  pointwise

theorem pay6_apply (d : Vec Ideal S1024x1024 .bf16) (a : Vec Ideal S1x1024x1024 .f32) (h : Vec Ideal S1024x1024 .bf16) (p q : Fin 1024) :
    k0_pay6 (F := Ideal) d a h (ix3 0 p q) = a (ix3 0 p q) + ∑ r : Fin 1024, max (h (ix2 r p)) 0 * max (h (ix2 r p)) 0 * d (ix2 r q) := by
  unfold k0_pay6
  pointwise

end Cert.Wts

end
-- ==== Proof.WOut.lean ====
/- What a run of the weight gradients' body leaves in its two accumulators and its two outputs, element by element. -/
module

public import proofs.«01_k».proof.Proof.Gen.Kernel2Ideal.Frame
public import proofs.«01_k».proof.Proof.WPay
public import proofs.«01_k».proof.Proof.Spec
public import Idealize.ShloMosaic.Lib.Pipeline.ValueKit.Tiles

@[expose] public section

noncomputable section

namespace Cert.Wts

open Cert.Kernel2Ideal Cert.Kernel2Ideal.Gen Cert.Spec Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

theorem sout0_A_0_apply (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .f32) (harg8 : arg8.IsWhole) (arg9 : Memref sig .tc .vmem S1x1024x1024 .f32) (harg9 : arg9.IsWhole) (hc0 : cond0_0 i) (hc1 : ¬cond0_1 i)
    (x0 : Vec Ideal S1024x1024 .f32) (x1 : Vec Ideal S1024x1024 .bf16) (x2 : Vec Ideal S1024x1024 .bf16) (x3 : Vec Ideal S1024x1024 .bf16) (p q : Fin 1024) :
    sout0_A_0 (F := Ideal) c i arg2 harg2 arg3 harg3 arg4 harg4 arg5 harg5 arg6 harg6 arg7 harg7 arg8 harg8 arg9 harg9 hc0 hc1 x0 x1 x2 x3 (ix3 0 p q) = 0 + ∑ r, x0 (ix2 r p) * x1 (ix2 r q) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1024x1024) hz3, View.readCov_unit_zero (S := S1x1024x1024) _ hz3]
  simp only [View.readAt_eq_ld, harg2.read_unread, harg3.read_unread, harg4.read_unread, harg5.read_unread, harg6.read_unread, harg7.read_unread, harg8.read_unread, harg9.read_unread, View.ld_unit_zero (S := S1024x1024) hz2, View.ld_unit_zero (S := S1x1024x1024) hz3, shapeCast_self]
  rw [pay5_apply, pay3_apply]

theorem sout0_A_1_apply (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .f32) (harg8 : arg8.IsWhole) (arg9 : Memref sig .tc .vmem S1x1024x1024 .f32) (harg9 : arg9.IsWhole) (hc0 : cond0_0 i) (hc1 : ¬cond0_1 i)
    (x0 : Vec Ideal S1024x1024 .f32) (x1 : Vec Ideal S1024x1024 .bf16) (x2 : Vec Ideal S1024x1024 .bf16) (x3 : Vec Ideal S1024x1024 .bf16) (p q : Fin 1024) :
    sout0_A_1 (F := Ideal) c i arg2 harg2 arg3 harg3 arg4 harg4 arg5 harg5 arg6 harg6 arg7 harg7 arg8 harg8 arg9 harg9 hc0 hc1 x0 x1 x2 x3 (ix3 0 p q) = 0 + ∑ r, max (x2 (ix2 r p)) 0 * max (x2 (ix2 r p)) 0 * x3 (ix2 r q) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1024x1024) hz3, View.readCov_unit_zero (S := S1x1024x1024) _ hz3]
  simp only [View.readAt_eq_ld, harg2.read_unread, harg3.read_unread, harg4.read_unread, harg5.read_unread, harg6.read_unread, harg7.read_unread, harg8.read_unread, harg9.read_unread, View.ld_unit_zero (S := S1024x1024) hz2, View.ld_unit_zero (S := S1x1024x1024) hz3, shapeCast_self]
  rw [pay6_apply, pay4_apply]

theorem sout0_B_0_apply (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .f32) (harg8 : arg8.IsWhole) (arg9 : Memref sig .tc .vmem S1x1024x1024 .f32) (harg9 : arg9.IsWhole) (hc0 : ¬cond0_0 i) (hc1 : ¬cond0_1 i)
    (x0 : Vec Ideal S1024x1024 .f32) (x1 : Vec Ideal S1024x1024 .bf16) (x2 : Vec Ideal S1024x1024 .bf16) (x3 : Vec Ideal S1024x1024 .bf16) (xs0 : Vec Ideal S1x1024x1024 .f32) (xs1 : Vec Ideal S1x1024x1024 .f32) (p q : Fin 1024) :
    sout0_B_0 (F := Ideal) c i arg2 harg2 arg3 harg3 arg4 harg4 arg5 harg5 arg6 harg6 arg7 harg7 arg8 harg8 arg9 harg9 hc0 hc1 x0 x1 x2 x3 xs0 xs1 (ix3 0 p q) = xs0 (ix3 0 p q) + ∑ r, x0 (ix2 r p) * x1 (ix2 r q) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1x1024x1024) hz3]
  simp only [View.readAt_eq_ld, harg2.read_unread, harg3.read_unread, harg4.read_unread, harg5.read_unread, harg6.read_unread, harg7.read_unread, harg8.read_unread, harg9.read_unread, View.ld_unit_zero (S := S1024x1024) hz2, View.ld_unit_zero (S := S1x1024x1024) hz3, shapeCast_self]
  exact pay5_apply _ _ _ p q

theorem sout0_B_1_apply (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .f32) (harg8 : arg8.IsWhole) (arg9 : Memref sig .tc .vmem S1x1024x1024 .f32) (harg9 : arg9.IsWhole) (hc0 : ¬cond0_0 i) (hc1 : ¬cond0_1 i)
    (x0 : Vec Ideal S1024x1024 .f32) (x1 : Vec Ideal S1024x1024 .bf16) (x2 : Vec Ideal S1024x1024 .bf16) (x3 : Vec Ideal S1024x1024 .bf16) (xs0 : Vec Ideal S1x1024x1024 .f32) (xs1 : Vec Ideal S1x1024x1024 .f32) (p q : Fin 1024) :
    sout0_B_1 (F := Ideal) c i arg2 harg2 arg3 harg3 arg4 harg4 arg5 harg5 arg6 harg6 arg7 harg7 arg8 harg8 arg9 harg9 hc0 hc1 x0 x1 x2 x3 xs0 xs1 (ix3 0 p q) = xs1 (ix3 0 p q) + ∑ r, max (x2 (ix2 r p)) 0 * max (x2 (ix2 r p)) 0 * x3 (ix2 r q) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1x1024x1024) hz3]
  simp only [View.readAt_eq_ld, harg2.read_unread, harg3.read_unread, harg4.read_unread, harg5.read_unread, harg6.read_unread, harg7.read_unread, harg8.read_unread, harg9.read_unread, View.ld_unit_zero (S := S1024x1024) hz2, View.ld_unit_zero (S := S1x1024x1024) hz3, shapeCast_self]
  exact pay6_apply _ _ _ p q

theorem out0_C_4_apply (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .f32) (harg8 : arg8.IsWhole) (arg9 : Memref sig .tc .vmem S1x1024x1024 .f32) (harg9 : arg9.IsWhole) (hc0 : ¬cond0_0 i) (hc1 : cond0_1 i)
    (x0 : Vec Ideal S1024x1024 .f32) (x1 : Vec Ideal S1024x1024 .bf16) (x2 : Vec Ideal S1024x1024 .bf16) (x3 : Vec Ideal S1024x1024 .bf16) (xs0 : Vec Ideal S1x1024x1024 .f32) (xs1 : Vec Ideal S1x1024x1024 .f32) (p q : Fin 1024) :
    out0_C_4 (F := Ideal) c i arg2 harg2 arg3 harg3 arg4 harg4 arg5 harg5 arg6 harg6 arg7 harg7 arg8 harg8 arg9 harg9 hc0 hc1 x0 x1 x2 x3 xs0 xs1 (ix3 0 p q) = xs0 (ix3 0 p q) + ∑ r, x0 (ix2 r p) * x1 (ix2 r q) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x1024x1024) hz3, View.readCov_unit_zero (S := S1x1024x1024) _ hz3]
  simp only [View.readAt_eq_ld, harg2.read_unread, harg3.read_unread, harg4.read_unread, harg5.read_unread, harg6.read_unread, harg7.read_unread, harg8.read_unread, harg9.read_unread, View.ld_unit_zero (S := S1024x1024) hz2, View.ld_unit_zero (S := S1x1024x1024) hz3, shapeCast_self]
  rw [pay1_apply]
  exact pay5_apply _ _ _ p q

theorem out0_C_5_apply (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .f32) (harg8 : arg8.IsWhole) (arg9 : Memref sig .tc .vmem S1x1024x1024 .f32) (harg9 : arg9.IsWhole) (hc0 : ¬cond0_0 i) (hc1 : cond0_1 i)
    (x0 : Vec Ideal S1024x1024 .f32) (x1 : Vec Ideal S1024x1024 .bf16) (x2 : Vec Ideal S1024x1024 .bf16) (x3 : Vec Ideal S1024x1024 .bf16) (xs0 : Vec Ideal S1x1024x1024 .f32) (xs1 : Vec Ideal S1x1024x1024 .f32) (p q : Fin 1024) :
    out0_C_5 (F := Ideal) c i arg2 harg2 arg3 harg3 arg4 harg4 arg5 harg5 arg6 harg6 arg7 harg7 arg8 harg8 arg9 harg9 hc0 hc1 x0 x1 x2 x3 xs0 xs1 (ix3 0 p q) = xs1 (ix3 0 p q) + ∑ r, max (x2 (ix2 r p)) 0 * max (x2 (ix2 r p)) 0 * x3 (ix2 r q) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x1024x1024) hz3, View.readCov_unit_zero (S := S1x1024x1024) _ hz3]
  simp only [View.readAt_eq_ld, harg2.read_unread, harg3.read_unread, harg4.read_unread, harg5.read_unread, harg6.read_unread, harg7.read_unread, harg8.read_unread, harg9.read_unread, View.ld_unit_zero (S := S1024x1024) hz2, View.ld_unit_zero (S := S1x1024x1024) hz3, shapeCast_self]
  rw [pay2_apply]
  exact pay6_apply _ _ _ p q

end Cert.Wts

end
-- ==== Proof.WBlk.lean ====
/- The arrays the weight gradients' blocks are cut from are the reference's own gradients of the residual sum and of the hidden layer. -/
module

public import proofs.«01_k».proof.Proof.Gen.Kernel2Ideal.Value
public import proofs.«01_k».proof.Proof.Gen.Reference2Ideal.Read
public import proofs.«01_k».proof.Proof.WOut
public import Idealize.ShloMosaic.Lib.StableHlo.ReadAt

@[expose] public section

noncomputable section

namespace Cert.Wts

open Cert.Kernel2Ideal Cert.Kernel2Ideal.Gen Cert.Spec Idealize.ShloMosaic Idealize.ShloMosaic.TcCoe

variable (m : (ℓ : Loc nD τ sig) → Buf (Elt Ideal) ℓ)

abbrev bX (c : Dev nD) : Vec Ideal S4096x1024 .f32 := m (c, Proc.tc.devRef main_arg0)
abbrev bW1 (c : Dev nD) : Vec Ideal S1024x4096 .f32 := m (c, Proc.tc.devRef main_arg1)
abbrev bW2 (c : Dev nD) : Vec Ideal S4096x1024 .f32 := m (c, Proc.tc.devRef main_arg2)
abbrev bG (c : Dev nD) : Vec Ideal S1024 .f32 := m (c, Proc.tc.devRef main_arg3)
abbrev bDy (c : Dev nD) : Vec Ideal S4096x1024 .f32 := m (c, Proc.tc.devRef main_arg4)

theorem V_a (c : Dev nD) : (V m c main_v73 : S4096x4096.Idx → EReal) = Cert.Reference2Ideal.Read.val_main_v2 (F := Ideal) (bX m c) (bW1 m c) := by
  unfold V hostOps0 hostOps0_1 hostOps0_2
  after_results_simp
  rfl

theorem V_ds (c : Dev nD) : (V m c main_v74 : S4096x1024.Idx → EReal)
    = Cert.Reference2Ideal.Read.val_main_v67 (F := Ideal) (bX m c) (bW1 m c) (bW2 m c) (bG m c) (bDy m c) := by
  unfold V hostOps0 hostOps0_1 hostOps0_2
  after_results_simp
  rfl

theorem V_da (c : Dev nD) : (V m c main_v72 : S4096x4096.Idx → EReal)
    = Cert.Reference2Ideal.Read.val_main_v73 (F := Ideal) (bX m c) (bW1 m c) (bW2 m c) (bG m c) (bDy m c) := by
  unfold V hostOps0 hostOps0_1 hostOps0_2
  after_results_simp
  rfl

/-! ## The blocks -/

/-- The shard of a grid point. -/
def shOf (t : Fin cfg0.N) : Fin 4 := ⟨t.val / 4, by have : t.val < 16 := lt_of_lt_of_eq t.isLt (by decide); omega⟩

/-- The block of rows of a grid point. -/
def rwOf (t : Fin cfg0.N) : Fin 4 := ⟨t.val % 4, by omega⟩

theorem i0 : ∀ t : Fin cfg0.N, cc0_transform_0 (grid0.coords t) = ![t.val % 4, 0] := (by decide +kernel : ∀ t : Fin grid0.N, _)
theorem i1 : ∀ t : Fin cfg0.N, cc0_transform_1 (grid0.coords t) = ![t.val % 4, t.val / 4] := (by decide +kernel : ∀ t : Fin grid0.N, _)
theorem i2 : ∀ t : Fin cfg0.N, cc0_transform_2 (grid0.coords t) = ![t.val % 4, t.val / 4] := (by decide +kernel : ∀ t : Fin grid0.N, _)
theorem i3 : ∀ t : Fin cfg0.N, cc0_transform_3 (grid0.coords t) = ![t.val % 4, 0] := (by decide +kernel : ∀ t : Fin grid0.N, _)
theorem i4 : ∀ t : Fin cfg0.N, cc0_transform_4 (grid0.coords t) = ![t.val / 4, 0, 0] := (by decide +kernel : ∀ t : Fin grid0.N, _)
theorem i5 : ∀ t : Fin cfg0.N, cc0_transform_5 (grid0.coords t) = ![t.val / 4, 0, 0] := (by decide +kernel : ∀ t : Fin grid0.N, _)

theorem blk0 (c : Dev nD) (t : Fin cfg0.N) (r q : Fin 1024) :
    (iblk m c 0 t : S1024x1024.Idx → EReal) (ix2 r q) = (V m c main_arg0 : S4096x1024.Idx → EReal) (ix2 (hid (rwOf t) r) q) := by
  unfold iblk
  rw [View.read_apply]
  show V m c main_arg0 _ = V m c main_arg0 _
  congr 1
  funext a
  apply Fin.ext
  match a with
  | ⟨0, _⟩ =>
    show cc0_transform_0 (grid0.coords t) 0 * 1024 + 1 * r.val = 1024 * (t.val % 4) + r.val
    rw [i0]
    show t.val % 4 * 1024 + 1 * r.val = _
    omega
  | ⟨1, _⟩ =>
    show cc0_transform_0 (grid0.coords t) 1 * 1024 + 1 * q.val = q.val
    rw [i0]
    show 0 * 1024 + 1 * q.val = _
    omega

theorem blk1 (c : Dev nD) (t : Fin cfg0.N) (r q : Fin 1024) :
    (iblk m c 1 t : S1024x1024.Idx → EReal) (ix2 r q) = (V m c main_v72 : S4096x4096.Idx → EReal) (ix2 (hid (rwOf t) r) (hid (shOf t) q)) := by
  unfold iblk
  rw [View.read_apply]
  show V m c main_v72 _ = V m c main_v72 _
  congr 1
  funext a
  apply Fin.ext
  match a with
  | ⟨0, _⟩ =>
    show cc0_transform_1 (grid0.coords t) 0 * 1024 + 1 * r.val = 1024 * (t.val % 4) + r.val
    rw [i1]
    show t.val % 4 * 1024 + 1 * r.val = _
    omega
  | ⟨1, _⟩ =>
    show cc0_transform_1 (grid0.coords t) 1 * 1024 + 1 * q.val = 1024 * (t.val / 4) + q.val
    rw [i1]
    show t.val / 4 * 1024 + 1 * q.val = _
    omega

theorem blk2 (c : Dev nD) (t : Fin cfg0.N) (r q : Fin 1024) :
    (iblk m c 2 t : S1024x1024.Idx → EReal) (ix2 r q) = (V m c main_v73 : S4096x4096.Idx → EReal) (ix2 (hid (rwOf t) r) (hid (shOf t) q)) := by
  unfold iblk
  rw [View.read_apply]
  show V m c main_v73 _ = V m c main_v73 _
  congr 1
  funext a
  apply Fin.ext
  match a with
  | ⟨0, _⟩ =>
    show cc0_transform_2 (grid0.coords t) 0 * 1024 + 1 * r.val = 1024 * (t.val % 4) + r.val
    rw [i2]
    show t.val % 4 * 1024 + 1 * r.val = _
    omega
  | ⟨1, _⟩ =>
    show cc0_transform_2 (grid0.coords t) 1 * 1024 + 1 * q.val = 1024 * (t.val / 4) + q.val
    rw [i2]
    show t.val / 4 * 1024 + 1 * q.val = _
    omega

theorem blk3 (c : Dev nD) (t : Fin cfg0.N) (r q : Fin 1024) :
    (iblk m c 3 t : S1024x1024.Idx → EReal) (ix2 r q) = (V m c main_v74 : S4096x1024.Idx → EReal) (ix2 (hid (rwOf t) r) q) := by
  unfold iblk
  rw [View.read_apply]
  show V m c main_v74 _ = V m c main_v74 _
  congr 1
  funext a
  apply Fin.ext
  match a with
  | ⟨0, _⟩ =>
    show cc0_transform_3 (grid0.coords t) 0 * 1024 + 1 * r.val = 1024 * (t.val % 4) + r.val
    rw [i3]
    show t.val % 4 * 1024 + 1 * r.val = _
    omega
  | ⟨1, _⟩ =>
    show cc0_transform_3 (grid0.coords t) 1 * 1024 + 1 * q.val = q.val
    rw [i3]
    show 0 * 1024 + 1 * q.val = _
    omega

end Cert.Wts

end
-- ==== Proof.WRun.lean ====
/- The weight gradients after the run, element by element. -/
module

public import proofs.«01_k».proof.Proof.WBlk

@[expose] public section

noncomputable section

namespace Cert.Wts

open Cert.Kernel2Ideal Cert.Kernel2Ideal.Gen Cert.Spec Idealize.ShloMosaic Idealize.ShloMosaic.TcCoe

variable (m : (ℓ : Loc nD τ sig) → Buf (Elt Ideal) ℓ)

abbrev eX (c : Dev nD) (n : Fin 4096) (k : Fin 1024) : EReal := (V m c main_arg0 : S4096x1024.Idx → EReal) (ix2 n k)
abbrev eDa (c : Dev nD) (n f : Fin 4096) : EReal := (V m c main_v72 : S4096x4096.Idx → EReal) (ix2 n f)
abbrev eA (c : Dev nD) (n f : Fin 4096) : EReal := (V m c main_v73 : S4096x4096.Idx → EReal) (ix2 n f)
abbrev eDs (c : Dev nD) (n : Fin 4096) (k : Fin 1024) : EReal := (V m c main_v74 : S4096x1024.Idx → EReal) (ix2 n k)

/-- A block of rows' part of the first matrix's gradient. -/
def part1 (c : Dev nD) (j u : Fin 4) (p q : Fin 1024) : EReal := ∑ r : Fin 1024, eX m c (hid u r) p * eDa m c (hid u r) (hid j q)

/-- A block of rows' part of the second matrix's gradient. -/
def part2 (c : Dev nD) (j u : Fin 4) (p q : Fin 1024) : EReal :=
  ∑ r : Fin 1024, max (eA m c (hid u r) (hid j p)) 0 * max (eA m c (hid u r) (hid j p)) 0 * eDs m c (hid u r) q

theorem part1_blk (c : Dev nD) (t : Fin cfg0.N) (p q : Fin 1024) :
    (∑ r : Fin 1024, (show EReal from iblk m c 0 t (ix2 r p : S1024x1024.Idx)) * (show EReal from iblk m c 1 t (ix2 r q : S1024x1024.Idx)))
      = part1 m c (shOf t) (rwOf t) p q :=
  Finset.sum_congr rfl fun r _ => congrArg₂ (· * ·) (blk0 m c t r p) (blk1 m c t r q)

theorem part2_blk (c : Dev nD) (t : Fin cfg0.N) (p q : Fin 1024) :
    (∑ r : Fin 1024, max (show EReal from iblk m c 2 t (ix2 r p : S1024x1024.Idx)) 0 * max (show EReal from iblk m c 2 t (ix2 r p : S1024x1024.Idx)) 0
        * (show EReal from iblk m c 3 t (ix2 r q : S1024x1024.Idx)))
      = part2 m c (shOf t) (rwOf t) p q :=
  Finset.sum_congr rfl fun r _ => congrArg₂ (· * ·) (congrArg₂ (· * ·) (congrArg (max · 0) (blk2 m c t r p)) (congrArg (max · 0) (blk2 m c t r p)))
    (blk3 m c t r q)

theorem accA (c : Dev nD) (t : Fin cfg0.N) (h0 : t.val % 4 = 0) (p q : Fin 1024) :
    (outsAt0 m c t.val t.isLt).2.2.1 (ix3 0 p q) = part1 m c (shOf t) (rwOf t) p q
    ∧ (outsAt0 m c t.val t.isLt).2.2.2 (ix3 0 p q) = part2 m c (shOf t) (rwOf t) p q := by
  rw [outsAt0_A m c t h0 (by omega)]
  dsimp only
  rw [sout0_A_0_apply, sout0_A_1_apply]
  exact ⟨(congrArg (0 + ·) (part1_blk m c t p q)).trans (zero_add _), (congrArg (0 + ·) (part2_blk m c t p q)).trans (zero_add _)⟩

theorem accB (c : Dev nD) (t : Fin cfg0.N) (h0 : ¬t.val % 4 = 0) (h1 : ¬t.val % 4 = 3) (p q : Fin 1024) :
    (outsAt0 m c t.val t.isLt).2.2.1 (ix3 0 p q)
      = (outsAt0 m c (t.val - 1) (Nat.lt_of_le_of_lt (Nat.sub_le _ _) t.isLt)).2.2.1 (ix3 0 p q) + part1 m c (shOf t) (rwOf t) p q
    ∧ (outsAt0 m c t.val t.isLt).2.2.2 (ix3 0 p q)
      = (outsAt0 m c (t.val - 1) (Nat.lt_of_le_of_lt (Nat.sub_le _ _) t.isLt)).2.2.2 (ix3 0 p q) + part2 m c (shOf t) (rwOf t) p q := by
  rw [outsAt0_B m c t h0 h1]
  dsimp only
  rw [sout0_B_0_apply, sout0_B_1_apply]
  exact ⟨congrArg (_ + ·) (part1_blk m c t p q), congrArg (_ + ·) (part2_blk m c t p q)⟩

theorem outC (c : Dev nD) (t : Fin cfg0.N) (h1 : t.val % 4 = 3) (p q : Fin 1024) :
    (outsAt0 m c t.val t.isLt).1 (ix3 0 p q)
      = (outsAt0 m c (t.val - 1) (Nat.lt_of_le_of_lt (Nat.sub_le _ _) t.isLt)).2.2.1 (ix3 0 p q) + part1 m c (shOf t) (rwOf t) p q
    ∧ (outsAt0 m c t.val t.isLt).2.1 (ix3 0 p q)
      = (outsAt0 m c (t.val - 1) (Nat.lt_of_le_of_lt (Nat.sub_le _ _) t.isLt)).2.2.2 (ix3 0 p q) + part2 m c (shOf t) (rwOf t) p q := by
  rw [outsAt0_C m c t (by omega) h1]
  dsimp only
  rw [out0_C_4_apply, out0_C_5_apply]
  exact ⟨congrArg (_ + ·) (part1_blk m c t p q), congrArg (_ + ·) (part2_blk m c t p q)⟩

/-- The outputs at the last block of rows of a shard: the four blocks' parts together. -/
theorem outs (c : Dev nD) (j : Fin 4) (n : ℕ) (h : n = 4 * j.val) (hn : n + 3 < cfg0.N) (p q : Fin 1024) :
    (outsAt0 m c (n + 3) hn).1 (ix3 0 p q) = ∑ u, part1 m c j u p q
    ∧ (outsAt0 m c (n + 3) hn).2.1 (ix3 0 p q) = ∑ u, part2 m c j u p q := by
  have e0 := accA m c ⟨n, by omega⟩ (show n % 4 = 0 by omega) p q
  have e1 := accB m c ⟨n + 1, by omega⟩ (show ¬(n + 1) % 4 = 0 by omega) (show ¬(n + 1) % 4 = 3 by omega) p q
  have e2 := accB m c ⟨n + 2, by omega⟩ (show ¬(n + 2) % 4 = 0 by omega) (show ¬(n + 2) % 4 = 3 by omega) p q
  have e3 := outC m c ⟨n + 3, hn⟩ (show (n + 3) % 4 = 3 by omega) p q
  have s : ∀ (u : ℕ) (h3 : u < 4) (hu : n + u < cfg0.N), shOf ⟨n + u, hu⟩ = j ∧ rwOf ⟨n + u, hu⟩ = ⟨u, h3⟩ := fun u h3 hu =>
    ⟨Fin.ext (show (n + u) / 4 = j.val by omega), Fin.ext (show (n + u) % 4 = u by omega)⟩
  have s0 := s 0 (by omega) (by omega)
  have s1 := s 1 (by omega) (by omega)
  have s2 := s 2 (by omega) (by omega)
  have s3 := s 3 (by omega) hn
  simp only [Nat.add_zero] at s0
  rw [s0.1, s0.2] at e0
  rw [s1.1, s1.2] at e1
  rw [s2.1, s2.2] at e2
  rw [s3.1, s3.2] at e3
  rw [Fin.sum_univ_four, Fin.sum_univ_four]
  exact ⟨e3.1.trans (congrArg (· + _) (e2.1.trans (congrArg (· + _) (e1.1.trans (congrArg (· + _) e0.1))))),
    e3.2.trans (congrArg (· + _) (e2.2.trans (congrArg (· + _) (e1.2.trans (congrArg (· + _) e0.2)))))⟩

theorem outs_pt (c : Dev nD) (j : Fin 4) (t : Fin cfg0.N) (ht : t.val = 4 * j.val + 3) (p q : Fin 1024) :
    (outsAt0 m c t.val t.isLt).1 (ix3 0 p q) = ∑ u, part1 m c j u p q
    ∧ (outsAt0 m c t.val t.isLt).2.1 (ix3 0 p q) = ∑ u, part2 m c j u p q := by
  obtain ⟨n, hn⟩ := t
  obtain rfl : n = 4 * j.val + 3 := ht
  exact outs m c j _ rfl hn p q

theorem sum4 (c : Dev nD) (j : Fin 4) (p q : Fin 1024) : ∑ n, eX m c n p * eDa m c n (hid j q) = ∑ u, part1 m c j u p q := sum_hid _

theorem disjoint4 (t t' : Fin cfg0.N) (h : (cfg0.win 4).flush t = true) (h' : (cfg0.win 4).flush t' = true) (hne : t ≠ t') :
    Disjoint ((cfg0.win 4).blk t).view.set ((cfg0.win 4).blk t').view.set :=
  (cfg0.win 4).disjoint_blk fun e => hne (by
    have e0 : cc0_transform_4 (grid0.coords t) = cc0_transform_4 (grid0.coords t') := e
    rw [i4, i4] at e0
    have e1 : t.val / 4 = t'.val / 4 := congrFun e0 0
    have f := (flush0_4 t).mp h
    have f' := (flush0_4 t').mp h'
    exact Fin.ext (by omega))

theorem arrAt4 (c : Dev nD) (j : Fin 4) (p q : Fin 1024) (t : Fin cfg0.N) (ht : t.val = 4 * j.val + 3) : ((Gen.dats m 0 c).arrAt 4 cfg0.N : S4x1024x1024.Idx → EReal) (ix3 j p q)
    = ∑ n, eX m c n p * eDa m c n (hid j q) := by
  have h := congrFun ((Gen.dats m 0 c).read_blk_arrAt_eq_flushed 4 disjoint4 cfg0.N t t.isLt
    ((flush0_4 _).mpr (by omega))) (ix3 0 p q : S1x1024x1024.Idx)
  rw [View.read_apply, Value.flushed4] at h
  refine Eq.trans ?_ (h.trans ((outs_pt m c j t ht p q).1.trans (sum4 m c j p q).symm))
  show (Gen.dats m 0 c).arrAt 4 cfg0.N _ = (Gen.dats m 0 c).arrAt 4 cfg0.N _
  congr 1
  funext a
  apply Fin.ext
  match a with
  | ⟨0, _⟩ =>
    show j.val = cc0_transform_4 (grid0.coords t) 0 * 1 + 1 * 0
    rw [i4]
    show _ = t.val / 4 * 1 + 1 * 0
    omega
  | ⟨1, _⟩ =>
    show p.val = cc0_transform_4 (grid0.coords t) 1 * 1024 + 1 * p.val
    rw [i4]
    show _ = 0 * 1024 + 1 * p.val
    omega
  | ⟨2, _⟩ =>
    show q.val = cc0_transform_4 (grid0.coords t) 2 * 1024 + 1 * q.val
    rw [i4]
    show _ = 0 * 1024 + 1 * q.val
    omega

theorem arr4 (c : Dev nD) (j : Fin 4) (p q : Fin 1024) : ((Gen.dats m 0 c).arrAt 4 cfg0.N : S4x1024x1024.Idx → EReal) (ix3 j p q)
    = ∑ n, eX m c n p * eDa m c n (hid j q) :=
  arrAt4 m c j p q ⟨4 * j.val + 3, lt_of_lt_of_eq (show 4 * j.val + 3 < 16 by omega) (by decide)⟩ rfl

theorem sum5 (c : Dev nD) (j : Fin 4) (p q : Fin 1024) : ∑ n, max (eA m c n (hid j p)) 0 * max (eA m c n (hid j p)) 0 * eDs m c n q = ∑ u, part2 m c j u p q := sum_hid _

theorem disjoint5 (t t' : Fin cfg0.N) (h : (cfg0.win 5).flush t = true) (h' : (cfg0.win 5).flush t' = true) (hne : t ≠ t') :
    Disjoint ((cfg0.win 5).blk t).view.set ((cfg0.win 5).blk t').view.set :=
  (cfg0.win 5).disjoint_blk fun e => hne (by
    have e0 : cc0_transform_5 (grid0.coords t) = cc0_transform_5 (grid0.coords t') := e
    rw [i5, i5] at e0
    have e1 : t.val / 4 = t'.val / 4 := congrFun e0 0
    have f := (flush0_5 t).mp h
    have f' := (flush0_5 t').mp h'
    exact Fin.ext (by omega))

theorem arrAt5 (c : Dev nD) (j : Fin 4) (p q : Fin 1024) (t : Fin cfg0.N) (ht : t.val = 4 * j.val + 3) : ((Gen.dats m 0 c).arrAt 5 cfg0.N : S4x1024x1024.Idx → EReal) (ix3 j p q)
    = ∑ n, max (eA m c n (hid j p)) 0 * max (eA m c n (hid j p)) 0 * eDs m c n q := by
  have h := congrFun ((Gen.dats m 0 c).read_blk_arrAt_eq_flushed 5 disjoint5 cfg0.N t t.isLt
    ((flush0_5 _).mpr (by omega))) (ix3 0 p q : S1x1024x1024.Idx)
  rw [View.read_apply, Value.flushed5] at h
  refine Eq.trans ?_ (h.trans ((outs_pt m c j t ht p q).2.trans (sum5 m c j p q).symm))
  show (Gen.dats m 0 c).arrAt 5 cfg0.N _ = (Gen.dats m 0 c).arrAt 5 cfg0.N _
  congr 1
  funext a
  apply Fin.ext
  match a with
  | ⟨0, _⟩ =>
    show j.val = cc0_transform_5 (grid0.coords t) 0 * 1 + 1 * 0
    rw [i5]
    show _ = t.val / 4 * 1 + 1 * 0
    omega
  | ⟨1, _⟩ =>
    show p.val = cc0_transform_5 (grid0.coords t) 1 * 1024 + 1 * p.val
    rw [i5]
    show _ = 0 * 1024 + 1 * p.val
    omega
  | ⟨2, _⟩ =>
    show q.val = cc0_transform_5 (grid0.coords t) 2 * 1024 + 1 * q.val
    rw [i5]
    show _ = 0 * 1024 + 1 * q.val
    omega

theorem arr5 (c : Dev nD) (j : Fin 4) (p q : Fin 1024) : ((Gen.dats m 0 c).arrAt 5 cfg0.N : S4x1024x1024.Idx → EReal) (ix3 j p q)
    = ∑ n, max (eA m c n (hid j p)) 0 * max (eA m c n (hid j p)) 0 * eDs m c n q :=
  arrAt5 m c j p q ⟨4 * j.val + 3, lt_of_lt_of_eq (show 4 * j.val + 3 < 16 by omega) (by decide)⟩ rfl

end Cert.Wts

end
-- ==== Proof.WClaim.lean ====
/- The kernel of the feed-forward layer's weight gradients and its reference end with equal results. -/
module

public import proofs.«01_k».proof.Defs
public import proofs.«01_k».proof.Proof.Gen.Reference2Ideal.Run
public import proofs.«01_k».proof.Proof.WRun
public import Idealize.ShloMosaic.Lib.Pointwise

@[expose] public section

noncomputable section

namespace Cert.Wts

open Cert.Spec Idealize.ShloMosaic Idealize.SL.Sem

section
open Cert.Reference2Ideal Cert.Reference2Ideal.Gen Cert.Reference2Ideal.Read

variable (x : Vec Ideal S4096x1024 .f32) (w1 : Vec Ideal S1024x4096 .f32) (w2 : Vec Ideal S4096x1024 .f32) (g : Vec Ideal S1024 .f32)
  (dy : Vec Ideal S4096x1024 .f32)

theorem v78 (j : Fin 4) (p q : Fin 1024) : val_main_v78 (F := Ideal) x w1 w2 g dy (ix3 j p q)
    = ∑ n : Fin 4096, x (ix2 n p) * val_main_v73 (F := Ideal) x w1 w2 g dy (ix2 n (hid j q)) := by
  have h : val_main_v78 (F := Ideal) x w1 w2 g dy (ix3 j p q)
      = ∑ n : Fin 4096, val_main_v73 (F := Ideal) x w1 w2 g dy (ix2 n ⟨j.val * 1024 + q.val, by omega⟩) * x (ix2 n p) := by
    unfold val_main_v78 val_main_v77 val_main_v76 val_main_v75 val_main_v74
    pointwise
  rw [h, show (⟨j.val * 1024 + q.val, by omega⟩ : Fin 4096) = hid j q from Fin.ext (by simp only [hid]; omega)]
  exact Finset.sum_congr rfl fun n _ => mul_comm _ _

theorem v80 (j : Fin 4) (p q : Fin 1024) : val_main_v80 (F := Ideal) x w1 w2 g dy (ix3 j p q)
    = ∑ n : Fin 4096, max (val_main_v2 (F := Ideal) x w1 (ix2 n (hid j p))) 0 * max (val_main_v2 (F := Ideal) x w1 (ix2 n (hid j p))) 0
        * val_main_v67 (F := Ideal) x w1 w2 g dy (ix2 n q) := by
  have h : val_main_v80 (F := Ideal) x w1 w2 g dy (ix3 j p q)
      = ∑ n : Fin 4096, val_main_v67 (F := Ideal) x w1 w2 g dy (ix2 n q) * (max (val_main_v2 (F := Ideal) x w1 (ix2 n ⟨j.val * 1024 + p.val, by omega⟩)) 0 * max (val_main_v2 (F := Ideal) x w1 (ix2 n ⟨j.val * 1024 + p.val, by omega⟩)) 0) := by
    unfold val_main_v80 val_main_v79 val_main_v69 val_main_v68 val_main_v7 val_main_v3 val_main_call0_v0 val_main_call0_cst
    pointwise
  rw [h, show (⟨j.val * 1024 + p.val, by omega⟩ : Fin 4096) = hid j p from Fin.ext (by simp only [hid]; omega)]
  exact Finset.sum_congr rfl fun n _ => mul_comm _ _

end

section
open Cert.Kernel2Ideal Cert.Kernel2Ideal.Gen

variable (m : (ℓ : Loc nD τ sig) → Buf (Elt Ideal) ℓ) (c : Dev nD)

theorem res78 : Cert.Reference2Ideal.Read.val_main_v78 (F := Ideal) (bX m c) (bW1 m c) (bW2 m c) (bG m c) (bDy m c)
    = (Gen.dats m 0 c).arrAt 4 cfg0.N := by
  funext i
  obtain ⟨j, p, q, rfl⟩ : ∃ (j : Fin 4) (p q : Fin 1024), i = ix3 j p q := ⟨i 0, i 1, i 2, (ix3_eta i).symm⟩
  rw [arr4, v78]
  unfold eX eDa
  rw [V_da, V_main_arg0]

theorem res80 : Cert.Reference2Ideal.Read.val_main_v80 (F := Ideal) (bX m c) (bW1 m c) (bW2 m c) (bG m c) (bDy m c)
    = (Gen.dats m 0 c).arrAt 5 cfg0.N := by
  funext i
  obtain ⟨j, p, q, rfl⟩ : ∃ (j : Fin 4) (p q : Fin 1024), i = ix3 j p q := ⟨i 0, i 1, i 2, (ix3_eta i).symm⟩
  rw [arr5, v80]
  unfold eA eDs
  rw [V_a, V_ds]

end

/-- The claim. -/
theorem algebraic : Cert.algebraic_Kernel2Ideal_Reference2Ideal := by
  intro m ρ m' ρ' _ hagree
  refine ⟨_, _, Cert.Kernel2Ideal.Value.run_blocks m ρ, ?_⟩
  refine (θ_run _ _ _).mono (fun _ h c => ?_) (Cert.Reference2Ideal.Value.run (F := Ideal) m' ρ')
  obtain ⟨h78, h80, ha⟩ := h c
  obtain ⟨e0, e1, e2, e3, e4⟩ := hagree c
  refine ⟨h78.trans ?_, h80.trans ?_, ha⟩
  · rw [Cert.Reference2Ideal.Read.val_main_v78_eq, e0, e1, e2, e3, e4]; exact res78 m c
  · rw [Cert.Reference2Ideal.Read.val_main_v80_eq, e0, e1, e2, e3, e4]; exact res80 m c

end Cert.Wts

end
-- ==== Proof.Mix.lean ====
/- What the layer from the mixed rows to the layer's end is worth, over extended reals: a product added to `α x`, normalised; its feed-forward
   part, added to `α` times that, normalised again; and the loss against a target. -/
module

public import proofs.«01_k».proof.Proof.Spec

@[expose] public section

noncomputable section

namespace Cert.Mix

open Cert.Norm Cert.Spec Idealize.ShloMosaic

/-- A row normalised, scaled and shifted. -/
def scaled (s g b : Fin 1024 → EReal) (k : Fin 1024) : EReal := cen s k * rstd s * g k + b k

variable (y x : Fin 4096 → Fin 1024 → EReal) (wo : Fin 1024 → Fin 1024 → EReal) (g1 b1 : Fin 1024 → EReal) (w1 : Fin 1024 → Fin 4096 → EReal)
  (w2 : Fin 4096 → Fin 1024 → EReal) (g2 b2 : Fin 1024 → EReal) (t : Fin 4096 → Fin 1024 → EReal)

/-- The sum before the first normalisation. -/
def s1 (n : Fin 4096) (k : Fin 1024) : EReal := Ideal.ofBits .f32 0x3FB504F3#32 * x n k + ∑ p : Fin 1024, y n p * wo p k

/-- The first normalisation. -/
def x1 (n : Fin 4096) (k : Fin 1024) : EReal := scaled (s1 y x wo n) g1 b1 k

/-- The hidden layer before its activation. -/
def hid1 (n : Fin 4096) (f : Fin 4096) : EReal := lin (x1 y x wo g1 b1) w1 n f

/-- The sum before the second normalisation. -/
def s2 (n : Fin 4096) (k : Fin 1024) : EReal := pre (x1 y x wo g1 b1) w1 w2 n k

/-- The second normalisation. -/
def x2 (n : Fin 4096) (k : Fin 1024) : EReal := scaled (s2 y x wo g1 b1 w1 w2 n) g2 b2 k

/-- A coordinate of the mixed rows by its group. -/
def pa (p : Fin 256) : Fin 1024 := ⟨p.val, by omega⟩
def pb (p : Fin 256) : Fin 1024 := ⟨256 + p.val, by omega⟩
def pc (p : Fin 512) : Fin 1024 := ⟨512 + p.val, by omega⟩

/-- A sum over the mixed coordinates, by groups. -/
theorem sum_groups (f : Fin 1024 → EReal) : ∑ p, f p = (∑ p, f (pa p)) + (∑ p, f (pb p)) + ∑ p, f (pc p) := by
  rw [Fin.sum_univ_add (a := 512) (b := 512) f, Fin.sum_univ_add (a := 256) (b := 256) (fun i => f (Fin.castAdd 512 i))]
  rfl

end Cert.Mix

end
-- ==== Proof.Mix3Pay.lean ====
/- What the stores of the body of the mixed rows' layer are worth, element by element, as extended reals (call 3). -/
module

public import proofs.«01_k».proof.Proof.Gen.Kernel3Ideal.Skeleton
public import proofs.«01_k».proof.Proof.Mix
public import Idealize.ShloMosaic.Lib.Pointwise
public import Idealize.ShloMosaic.Lib.Pipeline.Value

@[expose] public section

noncomputable section

namespace Cert.Mix3

open Cert.Kernel3Ideal Cert.Kernel3Ideal.Gen Cert.Norm Cert.Mix Idealize.ShloMosaic

/-- The sum before the first normalisation, from the rows and the pieces of the matrix. -/
def sumP (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (r : Fin 512) (k : Fin 1024) : EReal :=
  Ideal.ofBits .f32 0x3FB504F3#32 * v17 (ix2 r k) + ((∑ p : Fin 256, v0 (ix2 r p) * v2 (ix2 p k)) + (∑ p : Fin 256, v5 (ix2 r p) * v7 (ix2 p k))
    + ∑ p : Fin 512, v11 (ix2 r p) * v13 (ix2 p k))

theorem mix_apply (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (r : Fin 512) (k : Fin 1024) :
    k0_pay3 (F := Ideal) v0 v2 v5 v7 v11 v13 v17 (ix2 r k) = sumP v0 v2 v5 v7 v11 v13 v17 r k := by
  unfold k0_pay3 sumP
  pointwise

theorem cen_apply (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (r : Fin 512) (k : Fin 1024) :
    k0_pay6 (F := Ideal) v0 v2 v5 v7 v11 v13 v17 (ix2 r k) = cen (sumP v0 v2 v5 v7 v11 v13 v17 r) k := by
  unfold k0_pay6 cen
  pointwise [mix_apply]

theorem g_apply (v : Vec Ideal S1x1024 .f32) (k : Fin 1024) : k0_pay4 (F := Ideal) v (ix2 0 k) = v (ix2 0 k) := by
  unfold k0_pay4
  pointwise

theorem b_apply (v : Vec Ideal S1x1024 .f32) (k : Fin 1024) : k0_pay5 (F := Ideal) v (ix2 0 k) = v (ix2 0 k) := by
  unfold k0_pay5
  pointwise

/-- The first normalisation's rows. -/
theorem x1_apply (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (g b : Vec Ideal S1x1024 .f32)
    (r : Fin 512) (k : Fin 1024) :
    k0_pay7 (F := Ideal) (k0_pay4 g) (k0_pay5 b) (k0_pay6 v0 v2 v5 v7 v11 v13 v17) (ix2 r k)
      = scaled (sumP v0 v2 v5 v7 v11 v13 v17 r) (fun j => g (ix2 0 j)) (fun j => b (ix2 0 j)) k := by
  unfold k0_pay7 scaled rstd vare
  pointwise [cen_apply, g_apply, b_apply]

section
variable (g b : Vec Ideal S1x1024 .f32) (d : Vec Ideal S512x1024 .f32)

/-- One shard of the hidden layer before its activation. -/
def linP (w : Vec Ideal S1x1024x1024 .bf16) (r : Fin 512) (q : Fin 1024) : EReal :=
  ∑ k : Fin 1024, k0_pay7 (F := Ideal) g b d (ix2 r k) * w (ix3 0 k q)

theorem xb_apply (r : Fin 512) (k : Fin 1024) : k0_pay8 (F := Ideal) g b d (ix2 r k) = k0_pay7 (F := Ideal) g b d (ix2 r k) := by
  unfold k0_pay8
  pointwise

theorem a0_apply (w : Vec Ideal S1x1024x1024 .bf16) (r : Fin 512) (q : Fin 1024) : k0_pay9 (F := Ideal) g b d w (ix2 r q) = linP g b d w r q := by
  unfold k0_pay9 linP
  pointwise [xb_apply]

theorem a0b_apply (w : Vec Ideal S1x1024x1024 .bf16) (r : Fin 512) (q : Fin 1024) : k0_pay10 (F := Ideal) g b d w (ix2 r q) = linP g b d w r q := by
  unfold k0_pay10
  pointwise [a0_apply]

theorem a1_apply (w : Vec Ideal S1x1024x1024 .bf16) (r : Fin 512) (q : Fin 1024) : k0_pay12 (F := Ideal) g b d w (ix2 r q) = linP g b d w r q := by
  unfold k0_pay12 linP
  pointwise [xb_apply]

theorem a1b_apply (w : Vec Ideal S1x1024x1024 .bf16) (r : Fin 512) (q : Fin 1024) : k0_pay13 (F := Ideal) g b d w (ix2 r q) = linP g b d w r q := by
  unfold k0_pay13
  pointwise [a1_apply]

theorem a2_apply (w : Vec Ideal S1x1024x1024 .bf16) (r : Fin 512) (q : Fin 1024) : k0_pay14 (F := Ideal) (k0_pay8 g b d) w (ix2 r q) = linP g b d w r q := by
  unfold k0_pay14 linP
  pointwise [xb_apply]

theorem a2b_apply (w : Vec Ideal S1x1024x1024 .bf16) (r : Fin 512) (q : Fin 1024) : k0_pay15 (F := Ideal) (k0_pay8 g b d) w (ix2 r q) = linP g b d w r q := by
  unfold k0_pay15
  pointwise [a2_apply]

theorem a3_apply (w : Vec Ideal S1x1024x1024 .bf16) (r : Fin 512) (q : Fin 1024) : k0_pay17 (F := Ideal) (k0_pay8 g b d) w (ix2 r q) = linP g b d w r q := by
  unfold k0_pay17 linP
  pointwise [xb_apply]

theorem a3b_apply (w : Vec Ideal S1x1024x1024 .bf16) (r : Fin 512) (q : Fin 1024) : k0_pay18 (F := Ideal) (k0_pay8 g b d) w (ix2 r q) = linP g b d w r q := by
  unfold k0_pay18
  pointwise [a3_apply]

/-- One shard's part of the second product. -/
def partP (w u : Vec Ideal S1x1024x1024 .bf16) (r : Fin 512) (k : Fin 1024) : EReal :=
  ∑ q : Fin 1024, max (linP g b d w r q) 0 * max (linP g b d w r q) 0 * u (ix3 0 q k)

theorem acc0_apply (w0 u0 : Vec Ideal S1x1024x1024 .bf16) (r : Fin 512) (k : Fin 1024) : k0_pay11 (F := Ideal) g b d w0 u0 (ix2 r k)
    = Ideal.ofBits .f32 0x3FB504F3#32 * k0_pay7 (F := Ideal) g b d (ix2 r k) + partP g b d w0 u0 r k := by
  unfold k0_pay11 partP
  pointwise [a0_apply]

theorem acc2_apply (w0 w1 w2 u0 u1 u2 : Vec Ideal S1x1024x1024 .bf16) (r : Fin 512) (k : Fin 1024) :
    k0_pay16 (F := Ideal) (k0_pay8 g b d) (k0_pay11 g b d w0 u0) (k0_pay12 g b d w1) u1 w2 u2 (ix2 r k)
    = Ideal.ofBits .f32 0x3FB504F3#32 * k0_pay7 (F := Ideal) g b d (ix2 r k) + partP g b d w0 u0 r k + partP g b d w1 u1 r k + partP g b d w2 u2 r k := by
  unfold k0_pay16
  pointwise [acc0_apply, a1_apply, a2_apply]
  rfl

theorem h3_apply (w : Vec Ideal S1x1024x1024 .bf16) (r : Fin 512) (q : Fin 1024) : k0_pay19 (F := Ideal) (k0_pay8 g b d) w (ix2 r q)
    = max (linP g b d w r q) 0 * max (linP g b d w r q) 0 := by
  unfold k0_pay19
  pointwise [a3_apply]

theorem s2_apply (w0 w1 w2 w3 u0 u1 u2 u3 : Vec Ideal S1x1024x1024 .bf16) (r : Fin 512) (k : Fin 1024) :
    k0_pay1 (F := Ideal) (k0_pay16 (k0_pay8 g b d) (k0_pay11 g b d w0 u0) (k0_pay12 g b d w1) u1 w2 u2) (k0_pay19 (k0_pay8 g b d) w3) u3 (ix2 r k)
    = Ideal.ofBits .f32 0x3FB504F3#32 * k0_pay7 (F := Ideal) g b d (ix2 r k) + partP g b d w0 u0 r k + partP g b d w1 u1 r k + partP g b d w2 u2 r k
      + partP g b d w3 u3 r k := by
  unfold k0_pay1
  pointwise [acc2_apply, h3_apply]
  rfl

end

theorem fin_apply (v88 v96 : Vec Ideal S512x1024 .f32) (u g b : _) (r : Fin 512) (k : Fin 1024) :
    k0_pay2 (F := Ideal) v88 v96 u g b (ix2 r k)
      = scaled (fun j => k0_pay1 (F := Ideal) v88 v96 u (ix2 r j)) (fun j => g (ix2 0 j)) (fun j => b (ix2 0 j)) k := by
  unfold k0_pay2 scaled rstd vare cen
  pointwise

end Cert.Mix3

end
-- ==== Proof.Mix3Out.lean ====
/- What a run of the body of the mixed rows' layer leaves in each output block, element by element (call 3). -/
module

public import proofs.«01_k».proof.Proof.Gen.Kernel3Ideal.Frame
public import proofs.«01_k».proof.Proof.Mix3Pay
public import Idealize.ShloMosaic.Lib.Pipeline.ValueKit.Tiles

@[expose] public section

noncomputable section

namespace Cert.Mix3

open Cert.Kernel3Ideal Cert.Kernel3Ideal.Gen Cert.Norm Cert.Spec Cert.Mix Idealize.ShloMosaic Idealize.ShloMosaic.TcCoe

theorem hz : (![0, 0] : Fin 2 → Nat) = fun _ => 0 := funext fun a => by fin_cases a <;> rfl

theorem ldW (X : Vec Ideal S4x1024x1024 .bf16) (j : Fin 4) (inb) (p q : Fin 1024) :
    View.ld X (Rect.unit (s := S4x1024x1024) ![j.val, 0, 0] ![1, 1024, 1024] inb) (ix3 0 p q) = X (ix3 j p q) :=
  View.ld_unit_apply_of X _ _ inb _ _ fun a => match a with
    | ⟨0, _⟩ => rfl
    | ⟨1, _⟩ => (Nat.zero_add _).symm
    | ⟨2, _⟩ => (Nat.zero_add _).symm

theorem ldPa (X : Vec Ideal S1024x1024 .bf16) (inb) (p : Fin 256) (k : Fin 1024) :
    View.ld X (Rect.unit (s := S1024x1024) ![0, 0] ![256, 1024] inb) (ix2 p k) = X (ix2 (pa p) k) :=
  View.ld_unit_apply_of X _ _ inb _ _ fun a => match a with
    | ⟨0, _⟩ => (Nat.zero_add _).symm
    | ⟨1, _⟩ => (Nat.zero_add _).symm

theorem ldPb (X : Vec Ideal S1024x1024 .bf16) (inb) (p : Fin 256) (k : Fin 1024) :
    View.ld X (Rect.unit (s := S1024x1024) ![256, 0] ![256, 1024] inb) (ix2 p k) = X (ix2 (pb p) k) :=
  View.ld_unit_apply_of X _ _ inb _ _ fun a => match a with
    | ⟨0, _⟩ => rfl
    | ⟨1, _⟩ => (Nat.zero_add _).symm

theorem ldPc (X : Vec Ideal S1024x1024 .bf16) (inb) (p : Fin 512) (k : Fin 1024) :
    View.ld X (Rect.unit (s := S1024x1024) ![512, 0] ![512, 1024] inb) (ix2 p k) = X (ix2 (pc p) k) :=
  View.ld_unit_apply_of X _ _ inb _ _ fun a => match a with
    | ⟨0, _⟩ => rfl
    | ⟨1, _⟩ => (Nat.zero_add _).symm

section
variable (x0 : Vec Ideal S512x256 .bf16) (x1 : Vec Ideal S512x256 .bf16) (x2 : Vec Ideal S512x512 .bf16) (x3 : Vec Ideal S512x1024 .f32)
  (x4 : Vec Ideal S1024x1024 .bf16) (x5 x6 : Vec Ideal S1x1024 .f32) (x7 x8 : Vec Ideal S4x1024x1024 .bf16) (x9 x10 : Vec Ideal S1x1024 .f32)

/-- The sum before the first normalisation, in a block. -/
def s1V (r : Fin 512) (k : Fin 1024) : EReal :=
  Ideal.ofBits .f32 0x3FB504F3#32 * x3 (ix2 r k) + ((∑ p : Fin 256, x0 (ix2 r p) * x4 (ix2 (pa p) k)) + (∑ p : Fin 256, x1 (ix2 r p) * x4 (ix2 (pb p) k))
    + ∑ p : Fin 512, x2 (ix2 r p) * x4 (ix2 (pc p) k))

/-- The first normalisation, in a block. -/
def x1V (r : Fin 512) (k : Fin 1024) : EReal := scaled (s1V x0 x1 x2 x3 x4 r) (fun j => x5 (ix2 0 j)) (fun j => x6 (ix2 0 j)) k

/-- The hidden layer before its activation, in a block. -/
def aV (r : Fin 512) (j : Fin 4) (q : Fin 1024) : EReal := ∑ k : Fin 1024, x1V x0 x1 x2 x3 x4 x5 x6 r k * x7 (ix3 j k q)

/-- One shard's part of the second product, in a block. -/
def hV (j : Fin 4) (r : Fin 512) (k : Fin 1024) : EReal :=
  ∑ q : Fin 1024, max (aV x0 x1 x2 x3 x4 x5 x6 x7 r j q) 0 * max (aV x0 x1 x2 x3 x4 x5 x6 x7 r j q) 0 * x8 (ix3 j q k)

/-- The sum before the second normalisation, in a block. -/
def s2V (r : Fin 512) (k : Fin 1024) : EReal :=
  Ideal.ofBits .f32 0x3FB504F3#32 * x1V x0 x1 x2 x3 x4 x5 x6 r k + hV x0 x1 x2 x3 x4 x5 x6 x7 x8 0 r k + hV x0 x1 x2 x3 x4 x5 x6 x7 x8 1 r k
    + hV x0 x1 x2 x3 x4 x5 x6 x7 x8 2 r k + hV x0 x1 x2 x3 x4 x5 x6 x7 x8 3 r k

/-- The second normalisation, in a block. -/
def x2V (r : Fin 512) (k : Fin 1024) : EReal :=
  scaled (s2V x0 x1 x2 x3 x4 x5 x6 x7 x8 r) (fun j => x9 (ix2 0 j)) (fun j => x10 (ix2 0 j)) k

theorem sumP_ld (i1) (i2) (i3) (r : Fin 512) (k : Fin 1024) :
    sumP x0 (View.ld x4 (Rect.unit (s := S1024x1024) ![0, 0] ![256, 1024] i1)) x1 (View.ld x4 (Rect.unit (s := S1024x1024) ![256, 0] ![256, 1024] i2))
      x2 (View.ld x4 (Rect.unit (s := S1024x1024) ![512, 0] ![512, 1024] i3)) x3 r k = s1V x0 x1 x2 x3 x4 r k := by
  unfold sumP s1V
  refine congrArg₂ (· + ·) rfl (congrArg₂ (· + ·) (congrArg₂ (· + ·) ?_ ?_) ?_)
  · exact Finset.sum_congr rfl fun p _ => congrArg (x0 (ix2 r p) * ·) (ldPa x4 i1 p k)
  · exact Finset.sum_congr rfl fun p _ => congrArg (x1 (ix2 r p) * ·) (ldPb x4 i2 p k)
  · exact Finset.sum_congr rfl fun p _ => congrArg (x2 (ix2 r p) * ·) (ldPc x4 i3 p k)

theorem x1_ld (i1) (i2) (i3) (r : Fin 512) (k : Fin 1024) :
    k0_pay7 (F := Ideal) (k0_pay4 x5) (k0_pay5 x6) (k0_pay6 x0 (View.ld x4 (Rect.unit (s := S1024x1024) ![0, 0] ![256, 1024] i1)) x1
      (View.ld x4 (Rect.unit (s := S1024x1024) ![256, 0] ![256, 1024] i2)) x2 (View.ld x4 (Rect.unit (s := S1024x1024) ![512, 0] ![512, 1024] i3)) x3)
      (ix2 r k) = x1V x0 x1 x2 x3 x4 x5 x6 r k := by
  rw [x1_apply]
  unfold x1V
  exact congrArg (scaled · _ _ k) (funext fun j => sumP_ld x0 x1 x2 x3 x4 i1 i2 i3 r j)

variable (g b : Vec Ideal S1x1024 .f32) (d : Vec Ideal S512x1024 .f32)
  (h : ∀ r k, k0_pay7 (F := Ideal) g b d (ix2 r k) = x1V x0 x1 x2 x3 x4 x5 x6 r k)
include h

theorem lin_ld (j : Fin 4) (i7) (r : Fin 512) (q : Fin 1024) :
    linP g b d (View.ld x7 (Rect.unit (s := S4x1024x1024) ![j.val, 0, 0] ![1, 1024, 1024] i7)) r q = aV x0 x1 x2 x3 x4 x5 x6 x7 r j q := by
  unfold linP aV
  exact Finset.sum_congr rfl fun k _ => congrArg₂ (· * ·) (h r k) (ldW x7 j i7 k q)

theorem part_ld (j : Fin 4) (i7) (i8) (r : Fin 512) (k : Fin 1024) :
    partP g b d (View.ld x7 (Rect.unit (s := S4x1024x1024) ![j.val, 0, 0] ![1, 1024, 1024] i7))
      (View.ld x8 (Rect.unit (s := S4x1024x1024) ![j.val, 0, 0] ![1, 1024, 1024] i8)) r k = hV x0 x1 x2 x3 x4 x5 x6 x7 x8 j r k := by
  unfold partP hV
  refine Finset.sum_congr rfl fun q _ => congrArg₂ (· * ·) ?_ (ldW x8 j i8 q k)
  rw [lin_ld x0 x1 x2 x3 x4 x5 x6 x7 g b d h j i7 r q]

theorem s2_ld (i7 j7 k7 l7) (i8 j8 k8 l8) (r : Fin 512) (k : Fin 1024) :
    k0_pay1 (F := Ideal) (k0_pay16 (k0_pay8 g b d) (k0_pay11 g b d (View.ld x7 (Rect.unit (s := S4x1024x1024) ![0, 0, 0] ![1, 1024, 1024] i7))
        (View.ld x8 (Rect.unit (s := S4x1024x1024) ![0, 0, 0] ![1, 1024, 1024] i8)))
        (k0_pay12 g b d (View.ld x7 (Rect.unit (s := S4x1024x1024) ![1, 0, 0] ![1, 1024, 1024] j7)))
        (View.ld x8 (Rect.unit (s := S4x1024x1024) ![1, 0, 0] ![1, 1024, 1024] j8))
        (View.ld x7 (Rect.unit (s := S4x1024x1024) ![2, 0, 0] ![1, 1024, 1024] k7))
        (View.ld x8 (Rect.unit (s := S4x1024x1024) ![2, 0, 0] ![1, 1024, 1024] k8)))
      (k0_pay19 (k0_pay8 g b d) (View.ld x7 (Rect.unit (s := S4x1024x1024) ![3, 0, 0] ![1, 1024, 1024] l7)))
      (View.ld x8 (Rect.unit (s := S4x1024x1024) ![3, 0, 0] ![1, 1024, 1024] l8)) (ix2 r k) = s2V x0 x1 x2 x3 x4 x5 x6 x7 x8 r k := by
  rw [s2_apply]
  unfold s2V
  refine congrArg₂ (· + ·) (congrArg₂ (· + ·) (congrArg₂ (· + ·) (congrArg₂ (· + ·) (congrArg (_ * ·) (h r k)) ?_) ?_) ?_) ?_
  · exact part_ld x0 x1 x2 x3 x4 x5 x6 x7 x8 g b d h 0 _ _ r k
  · exact part_ld x0 x1 x2 x3 x4 x5 x6 x7 x8 g b d h 1 _ _ r k
  · exact part_ld x0 x1 x2 x3 x4 x5 x6 x7 x8 g b d h 2 _ _ r k
  · exact part_ld x0 x1 x2 x3 x4 x5 x6 x7 x8 g b d h 3 _ _ r k

end

theorem key (r : Fin 512) (j : Fin 4) (q : Fin 1024) (v : EReal) (i : Fin 4) (off : Fin 2 → Nat) (w : Vec Ideal S512x1024 .bf16)
    (ho : off = ![0, 1024 * i.val]) (h : ∀ q', hid i q' = hid j q → w (ix2 r q') = v) :
    View.TileAt (S := S512x4096) (e := .bf16) (Val := Elt Ideal) (ix2 r (hid j q)) off ![512, 1024] w v := by
  intro x hx
  subst ho
  have h0 : x 0 = r := Fin.ext ((hx 0).trans (Nat.zero_add _)).symm
  have h1 : hid i (x 1) = hid j q := Fin.ext (hx 1).symm
  have h2 : x = ix2 r (x 1) := funext fun a => match a with
    | ⟨0, _⟩ => h0
    | ⟨1, _⟩ => rfl
  rw [h2]
  exact h (x 1) h1

theorem same {i j : Fin 4} {q' q : Fin 1024} (h : hid i q' = hid j q) : i = j ∧ q' = q := by
  have := congrArg Fin.val h
  simp only [hid] at this
  exact ⟨Fin.ext (by omega), Fin.ext (by omega)⟩

theorem out11_apply (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (r : Fin 512) (k : Fin 1024) :
    out0_11 x0 x1 x2 x3 x4 x5 x6 x7 x8 x9 x10 (ix2 r k) = s1V x0 x1 x2 x3 x4 r k := by
  unfold_out out0_11
  rw [View.canon_unit_zero (S := S512x1024) hz]
  simp only [View.ld_unit_zero (S := S512x256) hz, View.ld_unit_zero (S := S512x512) hz, View.ld_unit_zero (S := S512x1024) hz, View.ld_unit_zero (S := S1x1024) hz, shapeCast_self]
  exact (mix_apply _ _ _ _ _ _ _ r k).trans (sumP_ld x0 x1 x2 x3 x4 _ _ _ r k)

theorem out12_apply (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (r : Fin 512) (k : Fin 1024) :
    out0_12 x0 x1 x2 x3 x4 x5 x6 x7 x8 x9 x10 (ix2 r k) = x1V x0 x1 x2 x3 x4 x5 x6 r k := by
  unfold_out out0_12
  rw [View.canon_unit_zero (S := S512x1024) hz]
  simp only [View.ld_unit_zero (S := S512x256) hz, View.ld_unit_zero (S := S512x512) hz, View.ld_unit_zero (S := S512x1024) hz, View.ld_unit_zero (S := S1x1024) hz, shapeCast_self]
  exact x1_ld x0 x1 x2 x3 x4 x5 x6 _ _ _ r k

theorem out13_apply (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (r : Fin 512) (j : Fin 4) (q : Fin 1024) :
    out0_13 x0 x1 x2 x3 x4 x5 x6 x7 x8 x9 x10 (ix2 r (hid j q)) = aV x0 x1 x2 x3 x4 x5 x6 x7 r j q := by
  unfold_out out0_13
  refine View.canon_eq_of_allAt _ _ _ (cover0_13 _ _ _ _ _) ?_
  simp only [View.ld_unit_zero (S := S512x256) hz, View.ld_unit_zero (S := S512x512) hz, View.ld_unit_zero (S := S512x1024) hz, View.ld_unit_zero (S := S1x1024) hz, shapeCast_self]
  refine View.allAt_cons_unit _ _ _ _ _ (key r j q _ 3 _ _ rfl fun q' hq => ?_) (View.allAt_cons_unit _ _ _ _ _ (key r j q _ 2 _ _ rfl fun q' hq => ?_)
    (View.allAt_cons_unit _ _ _ _ _ (key r j q _ 1 _ _ rfl fun q' hq => ?_) (View.allAt_cons_unit _ _ _ _ _ (key r j q _ 0 _ _ rfl fun q' hq => ?_)
      (View.allAt_nil _ _))))
  · obtain ⟨rfl, rfl⟩ := same hq
    exact (a3b_apply _ _ _ _ _ _).trans (lin_ld x0 x1 x2 x3 x4 x5 x6 x7 _ _ _ (x1_ld x0 x1 x2 x3 x4 x5 x6 _ _ _) 3 _ _ _)
  · obtain ⟨rfl, rfl⟩ := same hq
    exact (a2b_apply _ _ _ _ _ _).trans (lin_ld x0 x1 x2 x3 x4 x5 x6 x7 _ _ _ (x1_ld x0 x1 x2 x3 x4 x5 x6 _ _ _) 2 _ _ _)
  · obtain ⟨rfl, rfl⟩ := same hq
    exact (a1b_apply _ _ _ _ _ _).trans (lin_ld x0 x1 x2 x3 x4 x5 x6 x7 _ _ _ (x1_ld x0 x1 x2 x3 x4 x5 x6 _ _ _) 1 _ _ _)
  · obtain ⟨rfl, rfl⟩ := same hq
    exact (a0b_apply _ _ _ _ _ _).trans (lin_ld x0 x1 x2 x3 x4 x5 x6 x7 _ _ _ (x1_ld x0 x1 x2 x3 x4 x5 x6 _ _ _) 0 _ _ _)

theorem out14_apply (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (r : Fin 512) (k : Fin 1024) :
    out0_14 x0 x1 x2 x3 x4 x5 x6 x7 x8 x9 x10 (ix2 r k) = s2V x0 x1 x2 x3 x4 x5 x6 x7 x8 r k := by
  unfold_out out0_14
  rw [View.canon_unit_zero (S := S512x1024) hz]
  simp only [View.ld_unit_zero (S := S512x256) hz, View.ld_unit_zero (S := S512x512) hz, View.ld_unit_zero (S := S512x1024) hz, View.ld_unit_zero (S := S1x1024) hz, shapeCast_self]
  exact s2_ld x0 x1 x2 x3 x4 x5 x6 x7 x8 _ _ _ (x1_ld x0 x1 x2 x3 x4 x5 x6 _ _ _) _ _ _ _ _ _ _ _ r k

theorem out15_apply (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (r : Fin 512) (k : Fin 1024) :
    out0_15 x0 x1 x2 x3 x4 x5 x6 x7 x8 x9 x10 (ix2 r k) = x2V x0 x1 x2 x3 x4 x5 x6 x7 x8 x9 x10 r k := by
  unfold_out out0_15
  rw [View.canon_unit_zero (S := S512x1024) hz]
  simp only [View.ld_unit_zero (S := S512x256) hz, View.ld_unit_zero (S := S512x512) hz, View.ld_unit_zero (S := S512x1024) hz, View.ld_unit_zero (S := S1x1024) hz, shapeCast_self]
  refine (fin_apply _ _ _ _ _ r k).trans ?_
  unfold x2V
  exact congrArg (scaled · _ _ k) (funext fun l => s2_ld x0 x1 x2 x3 x4 x5 x6 x7 x8 _ _ _ (x1_ld x0 x1 x2 x3 x4 x5 x6 _ _ _) _ _ _ _ _ _ _ _ r l)

end Cert.Mix3

end
-- ==== Proof.Mix3Blk.lean ====
/- The blocks the body of the mixed rows' layer reads, element by element, as functions of the arguments (call 3). -/
module

public import proofs.«01_k».proof.Proof.Mix3Out
public import Idealize.ShloMosaic.Lib.StableHlo.ReadAt

@[expose] public section

noncomputable section

namespace Cert.Mix3

open Cert.Kernel3Ideal Cert.Kernel3Ideal.Gen Cert.Norm Cert.Spec Cert.Mix Idealize.ShloMosaic Idealize.ShloMosaic.TcCoe

variable (m : (ℓ : Loc nD τ sig) → Buf (Elt Ideal) ℓ)

/-! ## The arguments -/

def aY (c : Dev nD) (n : Fin 4096) (k : Fin 1024) : EReal := (m (c, Proc.tc.devRef main_arg0) : S4096x1024.Idx → EReal) (ix2 n k)
def aX (c : Dev nD) (n : Fin 4096) (k : Fin 1024) : EReal := (m (c, Proc.tc.devRef main_arg1) : S4096x1024.Idx → EReal) (ix2 n k)
def aWo (c : Dev nD) (p k : Fin 1024) : EReal := (m (c, Proc.tc.devRef main_arg2) : S1024x1024.Idx → EReal) (ix2 p k)
def aG1 (c : Dev nD) (k : Fin 1024) : EReal := (m (c, Proc.tc.devRef main_arg3) : S1024.Idx → EReal) (ix1 k)
def aB1 (c : Dev nD) (k : Fin 1024) : EReal := (m (c, Proc.tc.devRef main_arg4) : S1024.Idx → EReal) (ix1 k)
def aW1 (c : Dev nD) (k : Fin 1024) (f : Fin 4096) : EReal := (m (c, Proc.tc.devRef main_arg5) : S1024x4096.Idx → EReal) (ix2 k f)
def aW2 (c : Dev nD) (f : Fin 4096) (k : Fin 1024) : EReal := (m (c, Proc.tc.devRef main_arg6) : S4096x1024.Idx → EReal) (ix2 f k)
def aG2 (c : Dev nD) (k : Fin 1024) : EReal := (m (c, Proc.tc.devRef main_arg7) : S1024.Idx → EReal) (ix1 k)
def aB2 (c : Dev nD) (k : Fin 1024) : EReal := (m (c, Proc.tc.devRef main_arg8) : S1024.Idx → EReal) (ix1 k)

/-! ## The arrays the blocks are cut from -/

theorem V_ya (c : Dev nD) (n : Fin 4096) (p : Fin 256) : (V m c main_v1 : S4096x256.Idx → EReal) (ix2 n p) = aY m c n (pa p) := by
  unfold V hostOps0
  after_reads_at
  show (m (c, Proc.tc.devRef main_arg0) : S4096x1024.Idx → EReal) _ = (m (c, Proc.tc.devRef main_arg0) : S4096x1024.Idx → EReal) _
  congr 1

theorem V_yb (c : Dev nD) (n : Fin 4096) (p : Fin 256) : (V m c main_v3 : S4096x256.Idx → EReal) (ix2 n p) = aY m c n (pb p) := by
  unfold V hostOps0
  after_reads_at
  show (m (c, Proc.tc.devRef main_arg0) : S4096x1024.Idx → EReal) _ = (m (c, Proc.tc.devRef main_arg0) : S4096x1024.Idx → EReal) _
  congr 1

theorem V_yc (c : Dev nD) (n : Fin 4096) (p : Fin 512) : (V m c main_v5 : S4096x512.Idx → EReal) (ix2 n p) = aY m c n (pc p) := by
  unfold V hostOps0
  after_reads_at
  show (m (c, Proc.tc.devRef main_arg0) : S4096x1024.Idx → EReal) _ = (m (c, Proc.tc.devRef main_arg0) : S4096x1024.Idx → EReal) _
  congr 1

theorem V_x (c : Dev nD) (n : Fin 4096) (k : Fin 1024) : (V m c main_arg1 : S4096x1024.Idx → EReal) (ix2 n k) = aX m c n k := by
  rw [V_main_arg1]; rfl

theorem V_wo (c : Dev nD) (p k : Fin 1024) : (V m c main_v6 : S1024x1024.Idx → EReal) (ix2 p k) = aWo m c p k := by
  unfold V hostOps0
  after_reads_at
  rfl

theorem V_g1 (c : Dev nD) (k : Fin 1024) : (V m c main_v7 : S1x1024.Idx → EReal) (ix2 0 k) = aG1 m c k := by
  unfold V hostOps0
  after_reads_at
  rfl

theorem V_b1 (c : Dev nD) (k : Fin 1024) : (V m c main_v8 : S1x1024.Idx → EReal) (ix2 0 k) = aB1 m c k := by
  unfold V hostOps0
  after_reads_at
  rfl

theorem V_g2 (c : Dev nD) (k : Fin 1024) : (V m c main_v14 : S1x1024.Idx → EReal) (ix2 0 k) = aG2 m c k := by
  unfold V hostOps0
  after_reads_at
  rfl

theorem V_b2 (c : Dev nD) (k : Fin 1024) : (V m c main_v15 : S1x1024.Idx → EReal) (ix2 0 k) = aB2 m c k := by
  unfold V hostOps0
  after_reads_at
  rfl

theorem V_w1 (c : Dev nD) (j : Fin 4) (k q : Fin 1024) : (V m c main_v11 : S4x1024x1024.Idx → EReal) (ix3 j k q) = aW1 m c k (hid j q) := by
  have h : (V m c main_v11 : S4x1024x1024.Idx → EReal) (ix3 j k q) = aW1 m c k ⟨j.val * 1024 + q.val, by omega⟩ := by
    unfold V hostOps0
    after_reads_at
    rfl
  rw [h]
  exact congrArg (aW1 m c k) (Fin.ext (by simp only [hid]; omega))

theorem V_w2 (c : Dev nD) (j : Fin 4) (q k : Fin 1024) : (V m c main_v13 : S4x1024x1024.Idx → EReal) (ix3 j q k) = aW2 m c (hid j q) k := by
  have h : (V m c main_v13 : S4x1024x1024.Idx → EReal) (ix3 j q k) = aW2 m c ⟨j.val * 1024 + q.val, by omega⟩ k := by
    unfold V hostOps0
    after_reads_at
    rfl
  rw [h]
  exact congrArg (aW2 m c · k) (Fin.ext (by simp only [hid]; omega))

/-! ## The blocks -/

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 0] := (by decide +kernel : ∀ t : Fin grid0.N, _)
theorem i1 : ∀ t : Fin cfg0.N, cc0_transform_1 (grid0.coords t) = ![t.val, 0] := (by decide +kernel : ∀ t : Fin grid0.N, _)
theorem i2 : ∀ t : Fin cfg0.N, cc0_transform_2 (grid0.coords t) = ![t.val, 0] := (by decide +kernel : ∀ t : Fin grid0.N, _)
theorem i3 : ∀ t : Fin cfg0.N, cc0_transform_3 (grid0.coords t) = ![t.val, 0] := (by decide +kernel : ∀ t : Fin grid0.N, _)
theorem i4 : ∀ t : Fin cfg0.N, cc0_transform_4 (grid0.coords t) = ![0, 0] := (by decide +kernel : ∀ t : Fin grid0.N, _)
theorem i5 : ∀ t : Fin cfg0.N, cc0_transform_5 (grid0.coords t) = ![0, 0] := (by decide +kernel : ∀ t : Fin grid0.N, _)
theorem i6 : ∀ t : Fin cfg0.N, cc0_transform_6 (grid0.coords t) = ![0, 0] := (by decide +kernel : ∀ t : Fin grid0.N, _)
theorem i7 : ∀ t : Fin cfg0.N, cc0_transform_7 (grid0.coords t) = ![0, 0, 0] := (by decide +kernel : ∀ t : Fin grid0.N, _)
theorem i8 : ∀ t : Fin cfg0.N, cc0_transform_8 (grid0.coords t) = ![0, 0, 0] := (by decide +kernel : ∀ t : Fin grid0.N, _)
theorem i9 : ∀ t : Fin cfg0.N, cc0_transform_9 (grid0.coords t) = ![0, 0] := (by decide +kernel : ∀ t : Fin grid0.N, _)
theorem i10 : ∀ t : Fin cfg0.N, cc0_transform_10 (grid0.coords t) = ![0, 0] := (by decide +kernel : ∀ t : Fin grid0.N, _)
theorem i11 : ∀ t : Fin cfg0.N, cc0_transform_11 (grid0.coords t) = ![t.val, 0] := (by decide +kernel : ∀ t : Fin grid0.N, _)
theorem i12 : ∀ t : Fin cfg0.N, cc0_transform_12 (grid0.coords t) = ![t.val, 0] := (by decide +kernel : ∀ t : Fin grid0.N, _)
theorem i13 : ∀ t : Fin cfg0.N, cc0_transform_13 (grid0.coords t) = ![t.val, 0] := (by decide +kernel : ∀ t : Fin grid0.N, _)
theorem i14 : ∀ t : Fin cfg0.N, cc0_transform_14 (grid0.coords t) = ![t.val, 0] := (by decide +kernel : ∀ t : Fin grid0.N, _)
theorem i15 : ∀ t : Fin cfg0.N, cc0_transform_15 (grid0.coords t) = ![t.val, 0] := (by decide +kernel : ∀ t : Fin grid0.N, _)

theorem blk_ya (c : Dev nD) (t : Fin cfg0.N) (r : Fin 512) (k : Fin 256) : (iblk m c 0 t : S512x256.Idx → EReal) (ix2 r k) = aY m c (row (blkOf t) r) (pa k) := by
  rw [← V_ya]
  unfold iblk
  rw [View.read_apply]
  show V m c main_v1 _ = V m c main_v1 _
  congr 1
  funext a
  apply Fin.ext
  match a with
  | ⟨0, _⟩ =>
    show cc0_transform_0 (grid0.coords t) 0 * 512 + 1 * r.val = 512 * t.val + r.val
    rw [i0]
    show t.val * 512 + 1 * r.val = _
    omega
  | ⟨1, _⟩ =>
    show cc0_transform_0 (grid0.coords t) 1 * 256 + 1 * k.val = k.val
    rw [i0]
    show 0 * 256 + 1 * k.val = _
    omega

theorem blk_yb (c : Dev nD) (t : Fin cfg0.N) (r : Fin 512) (k : Fin 256) : (iblk m c 1 t : S512x256.Idx → EReal) (ix2 r k) = aY m c (row (blkOf t) r) (pb k) := by
  rw [← V_yb]
  unfold iblk
  rw [View.read_apply]
  show V m c main_v3 _ = V m c main_v3 _
  congr 1
  funext a
  apply Fin.ext
  match a with
  | ⟨0, _⟩ =>
    show cc0_transform_1 (grid0.coords t) 0 * 512 + 1 * r.val = 512 * t.val + r.val
    rw [i1]
    show t.val * 512 + 1 * r.val = _
    omega
  | ⟨1, _⟩ =>
    show cc0_transform_1 (grid0.coords t) 1 * 256 + 1 * k.val = k.val
    rw [i1]
    show 0 * 256 + 1 * k.val = _
    omega

theorem blk_yc (c : Dev nD) (t : Fin cfg0.N) (r : Fin 512) (k : Fin 512) : (iblk m c 2 t : S512x512.Idx → EReal) (ix2 r k) = aY m c (row (blkOf t) r) (pc k) := by
  rw [← V_yc]
  unfold iblk
  rw [View.read_apply]
  show V m c main_v5 _ = V m c main_v5 _
  congr 1
  funext a
  apply Fin.ext
  match a with
  | ⟨0, _⟩ =>
    show cc0_transform_2 (grid0.coords t) 0 * 512 + 1 * r.val = 512 * t.val + r.val
    rw [i2]
    show t.val * 512 + 1 * r.val = _
    omega
  | ⟨1, _⟩ =>
    show cc0_transform_2 (grid0.coords t) 1 * 512 + 1 * k.val = k.val
    rw [i2]
    show 0 * 512 + 1 * k.val = _
    omega

theorem blk_x (c : Dev nD) (t : Fin cfg0.N) (r : Fin 512) (k : Fin 1024) : (iblk m c 3 t : S512x1024.Idx → EReal) (ix2 r k) = aX m c (row (blkOf t) r) k := by
  rw [← V_x]
  unfold iblk
  rw [View.read_apply]
  show V m c main_arg1 _ = V m c main_arg1 _
  congr 1
  funext a
  apply Fin.ext
  match a with
  | ⟨0, _⟩ =>
    show cc0_transform_3 (grid0.coords t) 0 * 512 + 1 * r.val = 512 * t.val + r.val
    rw [i3]
    show t.val * 512 + 1 * r.val = _
    omega
  | ⟨1, _⟩ =>
    show cc0_transform_3 (grid0.coords t) 1 * 1024 + 1 * k.val = k.val
    rw [i3]
    show 0 * 1024 + 1 * k.val = _
    omega

theorem blk_wo (c : Dev nD) (t : Fin cfg0.N) (r k : Fin 1024) : (iblk m c 4 t : S1024x1024.Idx → EReal) (ix2 r k) = aWo m c r k := by
  rw [← V_wo]
  unfold iblk
  rw [View.read_apply]
  show V m c main_v6 _ = V m c main_v6 _
  congr 1
  funext a
  apply Fin.ext
  match a with
  | ⟨0, _⟩ =>
    show cc0_transform_4 (grid0.coords t) 0 * 1024 + 1 * r.val = r.val
    rw [i4]
    show 0 * 1024 + 1 * r.val = _
    omega
  | ⟨1, _⟩ =>
    show cc0_transform_4 (grid0.coords t) 1 * 1024 + 1 * k.val = k.val
    rw [i4]
    show 0 * 1024 + 1 * k.val = _
    omega

theorem blk_g1 (c : Dev nD) (t : Fin cfg0.N) (k : Fin 1024) : (iblk m c 5 t : S1x1024.Idx → EReal) (ix2 0 k) = aG1 m c k := by
  rw [← V_g1]
  unfold iblk
  rw [View.read_apply]
  show V m c main_v7 _ = V m c main_v7 _
  congr 1
  funext a
  apply Fin.ext
  match a with
  | ⟨0, _⟩ =>
    show cc0_transform_5 (grid0.coords t) 0 * 1 + 1 * 0 = 0
    rw [i5]
    show 0 * 1 + 1 * 0 = _
    omega
  | ⟨1, _⟩ =>
    show cc0_transform_5 (grid0.coords t) 1 * 1024 + 1 * k.val = k.val
    rw [i5]
    show 0 * 1024 + 1 * k.val = _
    omega

theorem blk_b1 (c : Dev nD) (t : Fin cfg0.N) (k : Fin 1024) : (iblk m c 6 t : S1x1024.Idx → EReal) (ix2 0 k) = aB1 m c k := by
  rw [← V_b1]
  unfold iblk
  rw [View.read_apply]
  show V m c main_v8 _ = V m c main_v8 _
  congr 1
  funext a
  apply Fin.ext
  match a with
  | ⟨0, _⟩ =>
    show cc0_transform_6 (grid0.coords t) 0 * 1 + 1 * 0 = 0
    rw [i6]
    show 0 * 1 + 1 * 0 = _
    omega
  | ⟨1, _⟩ =>
    show cc0_transform_6 (grid0.coords t) 1 * 1024 + 1 * k.val = k.val
    rw [i6]
    show 0 * 1024 + 1 * k.val = _
    omega

theorem blk_w1 (c : Dev nD) (t : Fin cfg0.N) (j : Fin 4) (r k : Fin 1024) : (iblk m c 7 t : S4x1024x1024.Idx → EReal) (ix3 j r k) = aW1 m c r (hid j k) := by
  rw [← V_w1]
  unfold iblk
  rw [View.read_apply]
  show V m c main_v11 _ = V m c main_v11 _
  congr 1
  funext a
  apply Fin.ext
  match a with
  | ⟨0, _⟩ =>
    show cc0_transform_7 (grid0.coords t) 0 * 4 + 1 * j.val = j.val
    rw [i7]
    show 0 * 4 + 1 * j.val = _
    omega
  | ⟨1, _⟩ =>
    show cc0_transform_7 (grid0.coords t) 1 * 1024 + 1 * r.val = r.val
    rw [i7]
    show 0 * 1024 + 1 * r.val = _
    omega
  | ⟨2, _⟩ =>
    show cc0_transform_7 (grid0.coords t) 2 * 1024 + 1 * k.val = k.val
    rw [i7]
    show 0 * 1024 + 1 * k.val = _
    omega

theorem blk_w2 (c : Dev nD) (t : Fin cfg0.N) (j : Fin 4) (r k : Fin 1024) : (iblk m c 8 t : S4x1024x1024.Idx → EReal) (ix3 j r k) = aW2 m c (hid j r) k := by
  rw [← V_w2]
  unfold iblk
  rw [View.read_apply]
  show V m c main_v13 _ = V m c main_v13 _
  congr 1
  funext a
  apply Fin.ext
  match a with
  | ⟨0, _⟩ =>
    show cc0_transform_8 (grid0.coords t) 0 * 4 + 1 * j.val = j.val
    rw [i8]
    show 0 * 4 + 1 * j.val = _
    omega
  | ⟨1, _⟩ =>
    show cc0_transform_8 (grid0.coords t) 1 * 1024 + 1 * r.val = r.val
    rw [i8]
    show 0 * 1024 + 1 * r.val = _
    omega
  | ⟨2, _⟩ =>
    show cc0_transform_8 (grid0.coords t) 2 * 1024 + 1 * k.val = k.val
    rw [i8]
    show 0 * 1024 + 1 * k.val = _
    omega

theorem blk_g2 (c : Dev nD) (t : Fin cfg0.N) (k : Fin 1024) : (iblk m c 9 t : S1x1024.Idx → EReal) (ix2 0 k) = aG2 m c k := by
  rw [← V_g2]
  unfold iblk
  rw [View.read_apply]
  show V m c main_v14 _ = V m c main_v14 _
  congr 1
  funext a
  apply Fin.ext
  match a with
  | ⟨0, _⟩ =>
    show cc0_transform_9 (grid0.coords t) 0 * 1 + 1 * 0 = 0
    rw [i9]
    show 0 * 1 + 1 * 0 = _
    omega
  | ⟨1, _⟩ =>
    show cc0_transform_9 (grid0.coords t) 1 * 1024 + 1 * k.val = k.val
    rw [i9]
    show 0 * 1024 + 1 * k.val = _
    omega

theorem blk_b2 (c : Dev nD) (t : Fin cfg0.N) (k : Fin 1024) : (iblk m c 10 t : S1x1024.Idx → EReal) (ix2 0 k) = aB2 m c k := by
  rw [← V_b2]
  unfold iblk
  rw [View.read_apply]
  show V m c main_v15 _ = V m c main_v15 _
  congr 1
  funext a
  apply Fin.ext
  match a with
  | ⟨0, _⟩ =>
    show cc0_transform_10 (grid0.coords t) 0 * 1 + 1 * 0 = 0
    rw [i10]
    show 0 * 1 + 1 * 0 = _
    omega
  | ⟨1, _⟩ =>
    show cc0_transform_10 (grid0.coords t) 1 * 1024 + 1 * k.val = k.val
    rw [i10]
    show 0 * 1024 + 1 * k.val = _
    omega

/-! ## What a block's values are -/

theorem s1_blk (c : Dev nD) (t : Fin cfg0.N) (r : Fin 512) (k : Fin 1024) :
    s1V (iblk m c 0 t) (iblk m c 1 t) (iblk m c 2 t) (iblk m c 3 t) (iblk m c 4 t) r k = s1 (aY m c) (aX m c) (aWo m c) (row (blkOf t) r) k := by
  unfold s1V s1
  rw [sum_groups]
  refine congrArg₂ (· + ·) (congrArg (_ * ·) (blk_x m c t r k)) (congrArg₂ (· + ·) (congrArg₂ (· + ·) ?_ ?_) ?_)
  · exact Finset.sum_congr rfl fun p _ => congrArg₂ (· * ·) (blk_ya m c t r p) (blk_wo m c t (pa p) k)
  · exact Finset.sum_congr rfl fun p _ => congrArg₂ (· * ·) (blk_yb m c t r p) (blk_wo m c t (pb p) k)
  · exact Finset.sum_congr rfl fun p _ => congrArg₂ (· * ·) (blk_yc m c t r p) (blk_wo m c t (pc p) k)

theorem scaled_congr {s s' g g' b b' : Fin 1024 → EReal} (hs : ∀ j, s j = s' j) (hg : ∀ j, g j = g' j) (hb : ∀ j, b j = b' j) (k : Fin 1024) :
    scaled s g b k = scaled s' g' b' k := by
  rw [funext hs, funext hg, funext hb]

theorem x1_blk (c : Dev nD) (t : Fin cfg0.N) (r : Fin 512) (k : Fin 1024) :
    x1V (iblk m c 0 t) (iblk m c 1 t) (iblk m c 2 t) (iblk m c 3 t) (iblk m c 4 t) (iblk m c 5 t) (iblk m c 6 t) r k = x1 (aY m c) (aX m c) (aWo m c) (aG1 m c) (aB1 m c) (row (blkOf t) r) k :=
  scaled_congr (fun j => s1_blk m c t r j) (fun j => blk_g1 m c t j) (fun j => blk_b1 m c t j) k

theorem a_blk (c : Dev nD) (t : Fin cfg0.N) (r : Fin 512) (j : Fin 4) (q : Fin 1024) :
    aV (iblk m c 0 t) (iblk m c 1 t) (iblk m c 2 t) (iblk m c 3 t) (iblk m c 4 t) (iblk m c 5 t) (iblk m c 6 t) (iblk m c 7 t) r j q = hid1 (aY m c) (aX m c) (aWo m c) (aG1 m c) (aB1 m c) (aW1 m c) (row (blkOf t) r) (hid j q) := by
  unfold aV hid1 lin
  exact Finset.sum_congr rfl fun k _ => congrArg₂ (· * ·) (x1_blk m c t r k) (blk_w1 m c t j k q)

theorem h_blk (c : Dev nD) (t : Fin cfg0.N) (j : Fin 4) (r : Fin 512) (k : Fin 1024) :
    hV (iblk m c 0 t) (iblk m c 1 t) (iblk m c 2 t) (iblk m c 3 t) (iblk m c 4 t) (iblk m c 5 t) (iblk m c 6 t) (iblk m c 7 t) (iblk m c 8 t) j r k = ∑ q : Fin 1024, max (hid1 (aY m c) (aX m c) (aWo m c) (aG1 m c) (aB1 m c) (aW1 m c) (row (blkOf t) r) (hid j q)) 0
      * max (hid1 (aY m c) (aX m c) (aWo m c) (aG1 m c) (aB1 m c) (aW1 m c) (row (blkOf t) r) (hid j q)) 0 * aW2 m c (hid j q) k := by
  unfold hV
  refine Finset.sum_congr rfl fun q _ => congrArg₂ (· * ·) ?_ (blk_w2 m c t j q k)
  rw [a_blk]

theorem s2_blk (c : Dev nD) (t : Fin cfg0.N) (r : Fin 512) (k : Fin 1024) :
    s2V (iblk m c 0 t) (iblk m c 1 t) (iblk m c 2 t) (iblk m c 3 t) (iblk m c 4 t) (iblk m c 5 t) (iblk m c 6 t) (iblk m c 7 t) (iblk m c 8 t) r k = s2 (aY m c) (aX m c) (aWo m c) (aG1 m c) (aB1 m c) (aW1 m c) (aW2 m c) (row (blkOf t) r) k := by
  unfold s2V s2 pre
  rw [sum_hid, Fin.sum_univ_four, ← add_assoc, ← add_assoc, ← add_assoc, x1_blk, h_blk, h_blk, h_blk, h_blk]
  rfl

theorem x2_blk (c : Dev nD) (t : Fin cfg0.N) (r : Fin 512) (k : Fin 1024) :
    x2V (iblk m c 0 t) (iblk m c 1 t) (iblk m c 2 t) (iblk m c 3 t) (iblk m c 4 t) (iblk m c 5 t) (iblk m c 6 t) (iblk m c 7 t) (iblk m c 8 t) (iblk m c 9 t) (iblk m c 10 t) r k = x2 (aY m c) (aX m c) (aWo m c) (aG1 m c) (aB1 m c) (aW1 m c) (aW2 m c) (aG2 m c) (aB2 m c) (row (blkOf t) r) k :=
  scaled_congr (fun j => s2_blk m c t r j) (fun j => blk_g2 m c t j) (fun j => blk_b2 m c t j) k

end Cert.Mix3

end
-- ==== Proof.Mix3Run.lean ====
/- The arrays of the mixed rows' layer after a run, element by element, as functions of the arguments (call 3). -/
module

public import proofs.«01_k».proof.Proof.Mix3Blk
@[expose] public section

noncomputable section

namespace Cert.Mix3

open Cert.Kernel3Ideal Cert.Kernel3Ideal.Gen Cert.Norm Cert.Spec Cert.Mix Idealize.ShloMosaic Idealize.ShloMosaic.TcCoe Idealize.SL.Sem

variable (m : (ℓ : Loc nD τ sig) → Buf (Elt Ideal) ℓ)

theorem pt11 (c : Dev nD) (t : Fin cfg0.N) (r : Fin 512) (k : Fin 1024) : (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) : S512x1024.Idx → EReal) (ix2 r k) = s1 (aY m c) (aX m c) (aWo m c) (row (blkOf t) r) k :=
  (out11_apply _ _ _ _ _ _ _ _ _ _ _ r k).trans (s1_blk m c t r k)

theorem hd11 : ∀ t t' : Fin cfg0.N, (cfg0.win 11).flush t = true → (cfg0.win 11).flush t' = true → t ≠ t' →
    Disjoint ((cfg0.win 11).blk t).view.set ((cfg0.win 11).blk t').view.set := fun t t' _ _ hne =>
  (cfg0.win 11).disjoint_blk fun h => hne (Fin.ext (by
    have e : cc0_transform_11 (grid0.coords t) = cc0_transform_11 (grid0.coords t') := h
    rw [i11, i11] at e
    exact congrFun e 0))

theorem arr11 (c : Dev nD) (n : Fin 4096) (k : Fin 1024) : ((Gen.dats m 0 c).arrAt 11 cfg0.N : S4096x1024.Idx → EReal) (ix2 n k) = s1 (aY m c) (aX m c) (aWo m c) n k := by
  obtain ⟨t, r, rfl⟩ := row_surj n
  have hN : t.val < cfg0.N := lt_of_lt_of_eq t.isLt (by decide)
  have h := congrFun ((Gen.dats m 0 c).read_blk_arrAt_eq_flushed 11 hd11 cfg0.N ⟨t.val, hN⟩ hN (flush0_11 _)) (ix2 r k : S512x1024.Idx)
  have e : (Gen.dats m 0 c).flushed 11 ⟨t.val, hN⟩ = (cfg0.win 11).cut (grid0.coords ⟨t.val, hN⟩) (out0_11 (iblk m c 0 ⟨t.val, hN⟩) (iblk m c 1 ⟨t.val, hN⟩) (iblk m c 2 ⟨t.val, hN⟩) (iblk m c 3 ⟨t.val, hN⟩) (iblk m c 4 ⟨t.val, hN⟩) (iblk m c 5 ⟨t.val, hN⟩) (iblk m c 6 ⟨t.val, hN⟩) (iblk m c 7 ⟨t.val, hN⟩) (iblk m c 8 ⟨t.val, hN⟩) (iblk m c 9 ⟨t.val, hN⟩) (iblk m c 10 ⟨t.val, hN⟩)) := by
    show (cfg0.win 11).cut (grid0.coords ⟨t.val, hN⟩) ((Gen.dats m 0 c).after 11 ⟨t.val, hN⟩) = _
    rw [after0_11]
  rw [View.read_apply, e] at h
  refine Eq.trans ?_ (h.trans (pt11 m c ⟨t.val, hN⟩ r k))
  show (Gen.dats m 0 c).arrAt 11 cfg0.N _ = (Gen.dats m 0 c).arrAt 11 cfg0.N _
  congr 1
  funext a
  apply Fin.ext
  match a with
  | ⟨0, _⟩ =>
    show 512 * t.val + r.val = cc0_transform_11 (grid0.coords ⟨t.val, hN⟩) 0 * 512 + 1 * r.val
    rw [i11]
    show _ = t.val * 512 + 1 * r.val
    omega
  | ⟨1, _⟩ =>
    show k.val = cc0_transform_11 (grid0.coords ⟨t.val, hN⟩) 1 * 1024 + 1 * k.val
    rw [i11]
    show _ = 0 * 1024 + 1 * k.val
    omega

theorem pt12 (c : Dev nD) (t : Fin cfg0.N) (r : Fin 512) (k : Fin 1024) : (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) : S512x1024.Idx → EReal) (ix2 r k) = x1 (aY m c) (aX m c) (aWo m c) (aG1 m c) (aB1 m c) (row (blkOf t) r) k :=
  (out12_apply _ _ _ _ _ _ _ _ _ _ _ r k).trans (x1_blk m c t r k)

theorem hd12 : ∀ t t' : Fin cfg0.N, (cfg0.win 12).flush t = true → (cfg0.win 12).flush t' = true → t ≠ t' →
    Disjoint ((cfg0.win 12).blk t).view.set ((cfg0.win 12).blk t').view.set := fun t t' _ _ hne =>
  (cfg0.win 12).disjoint_blk fun h => hne (Fin.ext (by
    have e : cc0_transform_12 (grid0.coords t) = cc0_transform_12 (grid0.coords t') := h
    rw [i12, i12] at e
    exact congrFun e 0))

theorem arr12 (c : Dev nD) (n : Fin 4096) (k : Fin 1024) : ((Gen.dats m 0 c).arrAt 12 cfg0.N : S4096x1024.Idx → EReal) (ix2 n k) = x1 (aY m c) (aX m c) (aWo m c) (aG1 m c) (aB1 m c) n k := by
  obtain ⟨t, r, rfl⟩ := row_surj n
  have hN : t.val < cfg0.N := lt_of_lt_of_eq t.isLt (by decide)
  have h := congrFun ((Gen.dats m 0 c).read_blk_arrAt_eq_flushed 12 hd12 cfg0.N ⟨t.val, hN⟩ hN (flush0_12 _)) (ix2 r k : S512x1024.Idx)
  have e : (Gen.dats m 0 c).flushed 12 ⟨t.val, hN⟩ = (cfg0.win 12).cut (grid0.coords ⟨t.val, hN⟩) (out0_12 (iblk m c 0 ⟨t.val, hN⟩) (iblk m c 1 ⟨t.val, hN⟩) (iblk m c 2 ⟨t.val, hN⟩) (iblk m c 3 ⟨t.val, hN⟩) (iblk m c 4 ⟨t.val, hN⟩) (iblk m c 5 ⟨t.val, hN⟩) (iblk m c 6 ⟨t.val, hN⟩) (iblk m c 7 ⟨t.val, hN⟩) (iblk m c 8 ⟨t.val, hN⟩) (iblk m c 9 ⟨t.val, hN⟩) (iblk m c 10 ⟨t.val, hN⟩)) := by
    show (cfg0.win 12).cut (grid0.coords ⟨t.val, hN⟩) ((Gen.dats m 0 c).after 12 ⟨t.val, hN⟩) = _
    rw [after0_12]
  rw [View.read_apply, e] at h
  refine Eq.trans ?_ (h.trans (pt12 m c ⟨t.val, hN⟩ r k))
  show (Gen.dats m 0 c).arrAt 12 cfg0.N _ = (Gen.dats m 0 c).arrAt 12 cfg0.N _
  congr 1
  funext a
  apply Fin.ext
  match a with
  | ⟨0, _⟩ =>
    show 512 * t.val + r.val = cc0_transform_12 (grid0.coords ⟨t.val, hN⟩) 0 * 512 + 1 * r.val
    rw [i12]
    show _ = t.val * 512 + 1 * r.val
    omega
  | ⟨1, _⟩ =>
    show k.val = cc0_transform_12 (grid0.coords ⟨t.val, hN⟩) 1 * 1024 + 1 * k.val
    rw [i12]
    show _ = 0 * 1024 + 1 * k.val
    omega

theorem pt13 (c : Dev nD) (t : Fin cfg0.N) (r : Fin 512) (j : Fin 4) (q : Fin 1024) : (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) : S512x4096.Idx → EReal) (ix2 r (hid j q)) = hid1 (aY m c) (aX m c) (aWo m c) (aG1 m c) (aB1 m c) (aW1 m c) (row (blkOf t) r) (hid j q) :=
  (out13_apply _ _ _ _ _ _ _ _ _ _ _ r j q).trans (a_blk m c t r j q)

theorem hd13 : ∀ t t' : Fin cfg0.N, (cfg0.win 13).flush t = true → (cfg0.win 13).flush t' = true → t ≠ t' →
    Disjoint ((cfg0.win 13).blk t).view.set ((cfg0.win 13).blk t').view.set := fun t t' _ _ hne =>
  (cfg0.win 13).disjoint_blk fun h => hne (Fin.ext (by
    have e : cc0_transform_13 (grid0.coords t) = cc0_transform_13 (grid0.coords t') := h
    rw [i13, i13] at e
    exact congrFun e 0))

theorem arr13 (c : Dev nD) (n : Fin 4096) (f : Fin 4096) : ((Gen.dats m 0 c).arrAt 13 cfg0.N : S4096x4096.Idx → EReal) (ix2 n f) = hid1 (aY m c) (aX m c) (aWo m c) (aG1 m c) (aB1 m c) (aW1 m c) n f := by
  obtain ⟨t, r, rfl⟩ := row_surj n
  obtain ⟨j, q, rfl⟩ := hid_surj f
  have hN : t.val < cfg0.N := lt_of_lt_of_eq t.isLt (by decide)
  have h := congrFun ((Gen.dats m 0 c).read_blk_arrAt_eq_flushed 13 hd13 cfg0.N ⟨t.val, hN⟩ hN (flush0_13 _)) (ix2 r (hid j q) : S512x4096.Idx)
  have e : (Gen.dats m 0 c).flushed 13 ⟨t.val, hN⟩ = (cfg0.win 13).cut (grid0.coords ⟨t.val, hN⟩) (out0_13 (iblk m c 0 ⟨t.val, hN⟩) (iblk m c 1 ⟨t.val, hN⟩) (iblk m c 2 ⟨t.val, hN⟩) (iblk m c 3 ⟨t.val, hN⟩) (iblk m c 4 ⟨t.val, hN⟩) (iblk m c 5 ⟨t.val, hN⟩) (iblk m c 6 ⟨t.val, hN⟩) (iblk m c 7 ⟨t.val, hN⟩) (iblk m c 8 ⟨t.val, hN⟩) (iblk m c 9 ⟨t.val, hN⟩) (iblk m c 10 ⟨t.val, hN⟩)) := by
    show (cfg0.win 13).cut (grid0.coords ⟨t.val, hN⟩) ((Gen.dats m 0 c).after 13 ⟨t.val, hN⟩) = _
    rw [after0_13]
  rw [View.read_apply, e] at h
  refine Eq.trans ?_ (h.trans (pt13 m c ⟨t.val, hN⟩ r j q))
  show (Gen.dats m 0 c).arrAt 13 cfg0.N _ = (Gen.dats m 0 c).arrAt 13 cfg0.N _
  congr 1
  funext a
  apply Fin.ext
  match a with
  | ⟨0, _⟩ =>
    show 512 * t.val + r.val = cc0_transform_13 (grid0.coords ⟨t.val, hN⟩) 0 * 512 + 1 * r.val
    rw [i13]
    show _ = t.val * 512 + 1 * r.val
    omega
  | ⟨1, _⟩ =>
    show (hid j q).val = cc0_transform_13 (grid0.coords ⟨t.val, hN⟩) 1 * 4096 + 1 * (hid j q).val
    rw [i13]
    show _ = 0 * 4096 + 1 * (hid j q).val
    omega

theorem pt14 (c : Dev nD) (t : Fin cfg0.N) (r : Fin 512) (k : Fin 1024) : (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) : S512x1024.Idx → EReal) (ix2 r k) = s2 (aY m c) (aX m c) (aWo m c) (aG1 m c) (aB1 m c) (aW1 m c) (aW2 m c) (row (blkOf t) r) k :=
  (out14_apply _ _ _ _ _ _ _ _ _ _ _ r k).trans (s2_blk m c t r k)

theorem hd14 : ∀ t t' : Fin cfg0.N, (cfg0.win 14).flush t = true → (cfg0.win 14).flush t' = true → t ≠ t' →
    Disjoint ((cfg0.win 14).blk t).view.set ((cfg0.win 14).blk t').view.set := fun t t' _ _ hne =>
  (cfg0.win 14).disjoint_blk fun h => hne (Fin.ext (by
    have e : cc0_transform_14 (grid0.coords t) = cc0_transform_14 (grid0.coords t') := h
    rw [i14, i14] at e
    exact congrFun e 0))

theorem arr14 (c : Dev nD) (n : Fin 4096) (k : Fin 1024) : ((Gen.dats m 0 c).arrAt 14 cfg0.N : S4096x1024.Idx → EReal) (ix2 n k) = s2 (aY m c) (aX m c) (aWo m c) (aG1 m c) (aB1 m c) (aW1 m c) (aW2 m c) n k := by
  obtain ⟨t, r, rfl⟩ := row_surj n
  have hN : t.val < cfg0.N := lt_of_lt_of_eq t.isLt (by decide)
  have h := congrFun ((Gen.dats m 0 c).read_blk_arrAt_eq_flushed 14 hd14 cfg0.N ⟨t.val, hN⟩ hN (flush0_14 _)) (ix2 r k : S512x1024.Idx)
  have e : (Gen.dats m 0 c).flushed 14 ⟨t.val, hN⟩ = (cfg0.win 14).cut (grid0.coords ⟨t.val, hN⟩) (out0_14 (iblk m c 0 ⟨t.val, hN⟩) (iblk m c 1 ⟨t.val, hN⟩) (iblk m c 2 ⟨t.val, hN⟩) (iblk m c 3 ⟨t.val, hN⟩) (iblk m c 4 ⟨t.val, hN⟩) (iblk m c 5 ⟨t.val, hN⟩) (iblk m c 6 ⟨t.val, hN⟩) (iblk m c 7 ⟨t.val, hN⟩) (iblk m c 8 ⟨t.val, hN⟩) (iblk m c 9 ⟨t.val, hN⟩) (iblk m c 10 ⟨t.val, hN⟩)) := by
    show (cfg0.win 14).cut (grid0.coords ⟨t.val, hN⟩) ((Gen.dats m 0 c).after 14 ⟨t.val, hN⟩) = _
    rw [after0_14]
  rw [View.read_apply, e] at h
  refine Eq.trans ?_ (h.trans (pt14 m c ⟨t.val, hN⟩ r k))
  show (Gen.dats m 0 c).arrAt 14 cfg0.N _ = (Gen.dats m 0 c).arrAt 14 cfg0.N _
  congr 1
  funext a
  apply Fin.ext
  match a with
  | ⟨0, _⟩ =>
    show 512 * t.val + r.val = cc0_transform_14 (grid0.coords ⟨t.val, hN⟩) 0 * 512 + 1 * r.val
    rw [i14]
    show _ = t.val * 512 + 1 * r.val
    omega
  | ⟨1, _⟩ =>
    show k.val = cc0_transform_14 (grid0.coords ⟨t.val, hN⟩) 1 * 1024 + 1 * k.val
    rw [i14]
    show _ = 0 * 1024 + 1 * k.val
    omega

theorem pt15 (c : Dev nD) (t : Fin cfg0.N) (r : Fin 512) (k : Fin 1024) : (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) : S512x1024.Idx → EReal) (ix2 r k) = x2 (aY m c) (aX m c) (aWo m c) (aG1 m c) (aB1 m c) (aW1 m c) (aW2 m c) (aG2 m c) (aB2 m c) (row (blkOf t) r) k :=
  (out15_apply _ _ _ _ _ _ _ _ _ _ _ r k).trans (x2_blk m c t r k)

theorem hd15 : ∀ t t' : Fin cfg0.N, (cfg0.win 15).flush t = true → (cfg0.win 15).flush t' = true → t ≠ t' →
    Disjoint ((cfg0.win 15).blk t).view.set ((cfg0.win 15).blk t').view.set := fun t t' _ _ hne =>
  (cfg0.win 15).disjoint_blk fun h => hne (Fin.ext (by
    have e : cc0_transform_15 (grid0.coords t) = cc0_transform_15 (grid0.coords t') := h
    rw [i15, i15] at e
    exact congrFun e 0))

theorem arr15 (c : Dev nD) (n : Fin 4096) (k : Fin 1024) : ((Gen.dats m 0 c).arrAt 15 cfg0.N : S4096x1024.Idx → EReal) (ix2 n k) = x2 (aY m c) (aX m c) (aWo m c) (aG1 m c) (aB1 m c) (aW1 m c) (aW2 m c) (aG2 m c) (aB2 m c) n k := by
  obtain ⟨t, r, rfl⟩ := row_surj n
  have hN : t.val < cfg0.N := lt_of_lt_of_eq t.isLt (by decide)
  have h := congrFun ((Gen.dats m 0 c).read_blk_arrAt_eq_flushed 15 hd15 cfg0.N ⟨t.val, hN⟩ hN (flush0_15 _)) (ix2 r k : S512x1024.Idx)
  have e : (Gen.dats m 0 c).flushed 15 ⟨t.val, hN⟩ = (cfg0.win 15).cut (grid0.coords ⟨t.val, hN⟩) (out0_15 (iblk m c 0 ⟨t.val, hN⟩) (iblk m c 1 ⟨t.val, hN⟩) (iblk m c 2 ⟨t.val, hN⟩) (iblk m c 3 ⟨t.val, hN⟩) (iblk m c 4 ⟨t.val, hN⟩) (iblk m c 5 ⟨t.val, hN⟩) (iblk m c 6 ⟨t.val, hN⟩) (iblk m c 7 ⟨t.val, hN⟩) (iblk m c 8 ⟨t.val, hN⟩) (iblk m c 9 ⟨t.val, hN⟩) (iblk m c 10 ⟨t.val, hN⟩)) := by
    show (cfg0.win 15).cut (grid0.coords ⟨t.val, hN⟩) ((Gen.dats m 0 c).after 15 ⟨t.val, hN⟩) = _
    rw [after0_15]
  rw [View.read_apply, e] at h
  refine Eq.trans ?_ (h.trans (pt15 m c ⟨t.val, hN⟩ r k))
  show (Gen.dats m 0 c).arrAt 15 cfg0.N _ = (Gen.dats m 0 c).arrAt 15 cfg0.N _
  congr 1
  funext a
  apply Fin.ext
  match a with
  | ⟨0, _⟩ =>
    show 512 * t.val + r.val = cc0_transform_15 (grid0.coords ⟨t.val, hN⟩) 0 * 512 + 1 * r.val
    rw [i15]
    show _ = t.val * 512 + 1 * r.val
    omega
  | ⟨1, _⟩ =>
    show k.val = cc0_transform_15 (grid0.coords ⟨t.val, hN⟩) 1 * 1024 + 1 * k.val
    rw [i15]
    show _ = 0 * 1024 + 1 * k.val
    omega

/-- After a run each output array is the one named above, and the arguments are as launched. -/
theorem run (ρ : Dev nD → PrngReg) : θ_run defs (onTc (τ := τ) (main (F := Ideal))) ⟨m, fun _ => 0, ρ⟩ fun r => ∀ c : Dev nD,
      r.2.mem ((c : Thread nD τ).loc main_v16_0) = (Gen.dats m 0 c).arrAt 11 cfg0.N
      ∧ r.2.mem ((c : Thread nD τ).loc main_v16_1) = (Gen.dats m 0 c).arrAt 12 cfg0.N
      ∧ r.2.mem ((c : Thread nD τ).loc main_v16_2) = (Gen.dats m 0 c).arrAt 13 cfg0.N
      ∧ r.2.mem ((c : Thread nD τ).loc main_v16_3) = (Gen.dats m 0 c).arrAt 14 cfg0.N
      ∧ r.2.mem ((c : Thread nD τ).loc main_v16_4) = (Gen.dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 11, (h c).1 12, (h c).1 13, (h c).1 14, (h c).1 15,
    ((h c).2 main_arg0 (Pipeline.mem_restRefs_of main_arg0 (by decide) (by decide))).trans (V_main_arg0 m c),
    ((h c).1 3).trans (((Gen.dats m 0 c).arrAt_in 3 rfl _).trans ((A_eq m c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩)
    (run_main m ρ)

end Cert.Mix3

end
-- ==== Proof.Mix3Ref.lean ====
/- The reference's results of the mixed rows' layer, element by element (call 3). -/
module

public import proofs.«01_k».proof.Proof.Gen.Reference3Ideal.Read
public import proofs.«01_k».proof.Proof.Mix
public import proofs.«01_k».proof.Proof.Finite
public import Idealize.ShloMosaic.Lib.Pointwise

@[expose] public section

noncomputable section

namespace Cert.MixRef3

open Cert.Reference3Ideal Cert.Reference3Ideal.Gen Cert.Reference3Ideal.Read Cert.Norm Cert.Spec Cert.Mix Idealize.ShloMosaic

variable (y x : Vec Ideal S4096x1024 .f32) (wo : Vec Ideal S1024x1024 .f32) (g1 b1 : Vec Ideal S1024 .f32) (w1 : Vec Ideal S1024x4096 .f32)
  (w2 : Vec Ideal S4096x1024 .f32) (g2 b2 : Vec Ideal S1024 .f32) (t : Vec Ideal S4096x1024 .f32)

abbrev fX (n : Fin 4096) (k : Fin 1024) : EReal := x (ix2 n k)
abbrev fWo (p k : Fin 1024) : EReal := wo (ix2 p k)
abbrev fW1 (k : Fin 1024) (f : Fin 4096) : EReal := w1 (ix2 k f)
abbrev fG (k : Fin 1024) : EReal := g1 (ix1 k)

abbrev fS1 : Fin 4096 → Fin 1024 → EReal := s1 (fX y) (fX x) (fWo wo)
abbrev fS2 : Fin 4096 → Fin 1024 → EReal := s2 (fX y) (fX x) (fWo wo) (fG g1) (fG b1) (fW1 w1) (fX w2)

theorem v3 (n : Fin 4096) (k : Fin 1024) : val_main_v3 (F := Ideal) y x wo (ix2 n k) = fS1 y x wo n k := by
  unfold val_main_v3 val_main_v2 val_main_v1 val_main_v0 val_main_cst fS1 s1
  pointwise

theorem v7 (n : Fin 4096) : val_main_v7 (F := Ideal) y x wo (ix2 n 0) = Ideal.div (∑ j, fS1 y x wo n j) (Ideal.ofBits .f32 0x44800000#32) := by
  unfold val_main_v7 val_main_v6 val_main_v5 val_main_v4 val_main_cst_0 val_main_cst_1
  pointwise [v3]

theorem v9 (n : Fin 4096) (k : Fin 1024) : val_main_v9 (F := Ideal) y x wo (ix2 n k) = cen (fS1 y x wo n) k := by
  unfold val_main_v9 val_main_v8 cen
  pointwise [v3, v7]

theorem v16 (n : Fin 4096) (k : Fin 1024) : val_main_v16 (F := Ideal) y x wo (ix2 n k) = cen (fS1 y x wo n) k := by
  unfold val_main_v16 val_main_v15 cen
  pointwise [v3, v7]

theorem v19 (n : Fin 4096) : val_main_v19 (F := Ideal) y x wo (ix2 n 0) = rstd (fS1 y x wo n) := by
  unfold val_main_v19 val_main_v18 val_main_v17 val_main_cst_4 val_main_v14 val_main_v13 val_main_cst_3 val_main_v12 val_main_v11 val_main_cst_2 val_main_v10 rstd vare
  pointwise [v9]

theorem v27 (n : Fin 4096) (k : Fin 1024) : val_main_v27 (F := Ideal) y x wo g1 b1 (ix2 n k) = x1 (fX y) (fX x) (fWo wo) (fG g1) (fG b1) n k := by
  unfold val_main_v27 val_main_v26 val_main_v25 val_main_v24 val_main_v23 val_main_v22 val_main_v21 val_main_v20 x1 scaled
  pointwise [v16, v19]

theorem v28 (n : Fin 4096) (f : Fin 4096) : val_main_v28 (F := Ideal) y x wo g1 b1 w1 (ix2 n f)
    = hid1 (fX y) (fX x) (fWo wo) (fG g1) (fG b1) (fW1 w1) n f := by
  unfold val_main_v28 hid1 lin
  pointwise [v27]

theorem v34 (n : Fin 4096) (k : Fin 1024) : val_main_v34 (F := Ideal) y x wo g1 b1 w1 w2 (ix2 n k) = fS2 y x wo g1 b1 w1 w2 n k := by
  unfold val_main_v34 val_main_v33 val_main_v32 val_main_v31 val_main_call0_v0 val_main_call0_cst val_main_v30 val_main_v29 val_main_cst_5 fS2 s2 pre
  pointwise [v27, v28]
  rfl

theorem v35 (n : Fin 4096) (f : Fin 4096) : val_main_v35 (F := Ideal) y x wo g1 b1 w1 (ix2 n f)
    = hid1 (fX y) (fX x) (fWo wo) (fG g1) (fG b1) (fW1 w1) n f := by
  unfold val_main_v35
  pointwise [v28]

theorem v39 (n : Fin 4096) : val_main_v39 (F := Ideal) y x wo g1 b1 w1 w2 (ix2 n 0)
    = Ideal.div (∑ j, fS2 y x wo g1 b1 w1 w2 n j) (Ideal.ofBits .f32 0x44800000#32) := by
  unfold val_main_v39 val_main_v38 val_main_v37 val_main_v36 val_main_cst_6 val_main_cst_7
  pointwise [v34]

theorem v41 (n : Fin 4096) (k : Fin 1024) : val_main_v41 (F := Ideal) y x wo g1 b1 w1 w2 (ix2 n k) = cen (fS2 y x wo g1 b1 w1 w2 n) k := by
  unfold val_main_v41 val_main_v40 cen
  pointwise [v34, v39]

theorem v48 (n : Fin 4096) (k : Fin 1024) : val_main_v48 (F := Ideal) y x wo g1 b1 w1 w2 (ix2 n k) = cen (fS2 y x wo g1 b1 w1 w2 n) k := by
  unfold val_main_v48 val_main_v47 cen
  pointwise [v34, v39]

theorem v51 (n : Fin 4096) : val_main_v51 (F := Ideal) y x wo g1 b1 w1 w2 (ix2 n 0) = rstd (fS2 y x wo g1 b1 w1 w2 n) := by
  unfold val_main_v51 val_main_v50 val_main_v49 val_main_cst_10 val_main_v46 val_main_v45 val_main_cst_9 val_main_v44 val_main_v43 val_main_cst_8 val_main_v42 rstd vare
  pointwise [v41]

theorem v59 (n : Fin 4096) (k : Fin 1024) : val_main_v59 (F := Ideal) y x wo g1 b1 w1 w2 g2 b2 (ix2 n k)
    = x2 (fX y) (fX x) (fWo wo) (fG g1) (fG b1) (fW1 w1) (fX w2) (fG g2) (fG b2) n k := by
  unfold val_main_v59 val_main_v58 val_main_v57 val_main_v56 val_main_v55 val_main_v54 val_main_v53 val_main_v52 x2 scaled
  pointwise [v48, v51]

end Cert.MixRef3

end
-- ==== Proof.Mix3Claim.lean ====
/- The kernel of the mixed rows' layer and its reference end with equal results (call 3). -/
module

public import proofs.«01_k».proof.Defs
public import proofs.«01_k».proof.Proof.Gen.Reference3Ideal.Run
public import proofs.«01_k».proof.Proof.Mix3Run
public import proofs.«01_k».proof.Proof.Mix3Ref

@[expose] public section

noncomputable section

namespace Cert.Mix3

open Cert.Spec Cert.Mix Idealize.ShloMosaic Idealize.SL.Sem

section
open Cert.Kernel3Ideal Cert.Kernel3Ideal.Gen

variable (m : (ℓ : Loc nD τ sig) → Buf (Elt Ideal) ℓ) (c : Dev nD)

abbrev q0 : S4096x1024.Idx → EReal := m (c, Proc.tc.devRef main_arg0)
abbrev q1 : S4096x1024.Idx → EReal := m (c, Proc.tc.devRef main_arg1)
abbrev q2 : S1024x1024.Idx → EReal := m (c, Proc.tc.devRef main_arg2)
abbrev q3 : S1024.Idx → EReal := m (c, Proc.tc.devRef main_arg3)
abbrev q4 : S1024.Idx → EReal := m (c, Proc.tc.devRef main_arg4)
abbrev q5 : S1024x4096.Idx → EReal := m (c, Proc.tc.devRef main_arg5)
abbrev q6 : S4096x1024.Idx → EReal := m (c, Proc.tc.devRef main_arg6)
abbrev q7 : S1024.Idx → EReal := m (c, Proc.tc.devRef main_arg7)
abbrev q8 : S1024.Idx → EReal := m (c, Proc.tc.devRef main_arg8)

theorem res_v3 : Cert.Reference3Ideal.Read.val_main_v3 (F := Ideal) (q0 m c) (q1 m c) (q2 m c)
    = (Gen.dats m 0 c).arrAt 11 cfg0.N := by
  funext i
  obtain ⟨p, q, rfl⟩ : ∃ (p : Fin 4096) (q : Fin 1024), i = ix2 p q := ⟨i 0, i 1, (ix2_eta i).symm⟩
  rw [arr11]
  exact Cert.MixRef3.v3 _ _ _ p q

theorem res_v27 : Cert.Reference3Ideal.Read.val_main_v27 (F := Ideal) (q0 m c) (q1 m c) (q2 m c) (q3 m c) (q4 m c)
    = (Gen.dats m 0 c).arrAt 12 cfg0.N := by
  funext i
  obtain ⟨p, q, rfl⟩ : ∃ (p : Fin 4096) (q : Fin 1024), i = ix2 p q := ⟨i 0, i 1, (ix2_eta i).symm⟩
  rw [arr12]
  exact Cert.MixRef3.v27 _ _ _ _ _ p q

theorem res_v35 : Cert.Reference3Ideal.Read.val_main_v35 (F := Ideal) (q0 m c) (q1 m c) (q2 m c) (q3 m c) (q4 m c) (q5 m c)
    = (Gen.dats m 0 c).arrAt 13 cfg0.N := by
  funext i
  obtain ⟨p, q, rfl⟩ : ∃ (p : Fin 4096) (q : Fin 4096), i = ix2 p q := ⟨i 0, i 1, (ix2_eta i).symm⟩
  rw [arr13]
  exact Cert.MixRef3.v35 _ _ _ _ _ _ p q

theorem res_v34 : Cert.Reference3Ideal.Read.val_main_v34 (F := Ideal) (q0 m c) (q1 m c) (q2 m c) (q3 m c) (q4 m c) (q5 m c) (q6 m c)
    = (Gen.dats m 0 c).arrAt 14 cfg0.N := by
  funext i
  obtain ⟨p, q, rfl⟩ : ∃ (p : Fin 4096) (q : Fin 1024), i = ix2 p q := ⟨i 0, i 1, (ix2_eta i).symm⟩
  rw [arr14]
  exact Cert.MixRef3.v34 _ _ _ _ _ _ _ p q

theorem res_v59 : Cert.Reference3Ideal.Read.val_main_v59 (F := Ideal) (q0 m c) (q1 m c) (q2 m c) (q3 m c) (q4 m c) (q5 m c) (q6 m c) (q7 m c) (q8 m c)
    = (Gen.dats m 0 c).arrAt 15 cfg0.N := by
  funext i
  obtain ⟨p, q, rfl⟩ : ∃ (p : Fin 4096) (q : Fin 1024), i = ix2 p q := ⟨i 0, i 1, (ix2_eta i).symm⟩
  rw [arr15]
  exact Cert.MixRef3.v59 _ _ _ _ _ _ _ _ _ p q

end

/-- The claim. -/
theorem algebraic : Cert.algebraic_Kernel3Ideal_Reference3Ideal := by
  intro m ρ m' ρ' _ hagree
  refine ⟨_, _, _, _, _, run m ρ, ?_⟩
  refine (θ_run _ _ _).mono (fun _ h c => ?_) (Cert.Reference3Ideal.Value.run (F := Ideal) m' ρ')
  obtain ⟨hv3, hv27, hv35, hv34, hv59, ha⟩ := h c
  obtain ⟨e0, e1, e2, e3, e4, e5, e6, e7, e8⟩ := hagree c
  refine ⟨hv3.trans ?_, hv27.trans ?_, hv35.trans ?_, hv34.trans ?_, hv59.trans ?_, ha⟩
  · rw [Cert.Reference3Ideal.Read.val_main_v3_eq]; try dsimp only [StableHlo.launchContents]
    rw [e0, e1, e2]; exact res_v3 m c
  · rw [Cert.Reference3Ideal.Read.val_main_v27_eq]; try dsimp only [StableHlo.launchContents]
    rw [e0, e1, e2, e3, e4]; exact res_v27 m c
  · rw [Cert.Reference3Ideal.Read.val_main_v35_eq]; try dsimp only [StableHlo.launchContents]
    rw [e0, e1, e2, e3, e4, e5]; exact res_v35 m c
  · rw [Cert.Reference3Ideal.Read.val_main_v34_eq]; try dsimp only [StableHlo.launchContents]
    rw [e0, e1, e2, e3, e4, e5, e6]; exact res_v34 m c
  · rw [Cert.Reference3Ideal.Read.val_main_v59_eq]; try dsimp only [StableHlo.launchContents]
    rw [e0, e1, e2, e3, e4, e5, e6, e7, e8]; exact res_v59 m c

end Cert.Mix3

end
-- ==== Proof.Mix4Pay.lean ====
/- What the stores of the body of the mixed rows' layer are worth, element by element, as extended reals (call 4). -/
module

public import proofs.«01_k».proof.Proof.Gen.Kernel4Ideal.Skeleton
public import proofs.«01_k».proof.Proof.Mix
public import Idealize.ShloMosaic.Lib.Pointwise
public import Idealize.ShloMosaic.Lib.Pipeline.Value

@[expose] public section

noncomputable section

namespace Cert.Mix4

open Cert.Kernel4Ideal Cert.Kernel4Ideal.Gen Cert.Norm Cert.Mix Idealize.ShloMosaic

/-- The sum before the first normalisation, from the rows and the pieces of the matrix. -/
def sumP (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (r : Fin 512) (k : Fin 1024) : EReal :=
  Ideal.ofBits .f32 0x3FB504F3#32 * v17 (ix2 r k) + ((∑ p : Fin 256, v0 (ix2 r p) * v2 (ix2 p k)) + (∑ p : Fin 256, v5 (ix2 r p) * v7 (ix2 p k))
    + ∑ p : Fin 512, v11 (ix2 r p) * v13 (ix2 p k))

theorem mix_apply (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (r : Fin 512) (k : Fin 1024) :
    k0_pay2 (F := Ideal) v0 v2 v5 v7 v11 v13 v17 (ix2 r k) = sumP v0 v2 v5 v7 v11 v13 v17 r k := by
  unfold k0_pay2 sumP
  pointwise

theorem cen_apply (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (r : Fin 512) (k : Fin 1024) :
    k0_pay5 (F := Ideal) v0 v2 v5 v7 v11 v13 v17 (ix2 r k) = cen (sumP v0 v2 v5 v7 v11 v13 v17 r) k := by
  unfold k0_pay5 cen
  pointwise [mix_apply]

theorem g_apply (v : Vec Ideal S1x1024 .f32) (k : Fin 1024) : k0_pay3 (F := Ideal) v (ix2 0 k) = v (ix2 0 k) := by
  unfold k0_pay3
  pointwise

theorem b_apply (v : Vec Ideal S1x1024 .f32) (k : Fin 1024) : k0_pay4 (F := Ideal) v (ix2 0 k) = v (ix2 0 k) := by
  unfold k0_pay4
  pointwise

/-- The first normalisation's rows. -/
theorem x1_apply (v0 : Vec Ideal S512x256 .bf16) (v2 : Vec Ideal S256x1024 .bf16) (v5 : Vec Ideal S512x256 .bf16) (v7 : Vec Ideal S256x1024 .bf16)
    (v11 : Vec Ideal S512x512 .bf16) (v13 : Vec Ideal S512x1024 .bf16) (v17 : Vec Ideal S512x1024 .f32) (g b : Vec Ideal S1x1024 .f32)
    (r : Fin 512) (k : Fin 1024) :
    k0_pay6 (F := Ideal) (k0_pay3 g) (k0_pay4 b) (k0_pay5 v0 v2 v5 v7 v11 v13 v17) (ix2 r k)
      = scaled (sumP v0 v2 v5 v7 v11 v13 v17 r) (fun j => g (ix2 0 j)) (fun j => b (ix2 0 j)) k := by
  unfold k0_pay6 scaled rstd vare
  pointwise [cen_apply, g_apply, b_apply]

section
variable (g b : Vec Ideal S1x1024 .f32) (d : Vec Ideal S512x1024 .f32)

/-- One shard of the hidden layer before its activation. -/
def linP (w : Vec Ideal S1x1024x1024 .bf16) (r : Fin 512) (q : Fin 1024) : EReal :=
  ∑ k : Fin 1024, k0_pay6 (F := Ideal) g b d (ix2 r k) * w (ix3 0 k q)

theorem xb_apply (r : Fin 512) (k : Fin 1024) : k0_pay7 (F := Ideal) g b d (ix2 r k) = k0_pay6 (F := Ideal) g b d (ix2 r k) := by
  unfold k0_pay7
  pointwise

theorem a0_apply (w : Vec Ideal S1x1024x1024 .bf16) (r : Fin 512) (q : Fin 1024) : k0_pay8 (F := Ideal) g b d w (ix2 r q) = linP g b d w r q := by
  unfold k0_pay8 linP
  pointwise [xb_apply]

theorem a0b_apply (w : Vec Ideal S1x1024x1024 .bf16) (r : Fin 512) (q : Fin 1024) : k0_pay9 (F := Ideal) g b d w (ix2 r q) = linP g b d w r q := by
  unfold k0_pay9
  pointwise [a0_apply]

theorem a1_apply (w : Vec Ideal S1x1024x1024 .bf16) (r : Fin 512) (q : Fin 1024) : k0_pay11 (F := Ideal) g b d w (ix2 r q) = linP g b d w r q := by
  unfold k0_pay11 linP
  pointwise [xb_apply]

theorem a1b_apply (w : Vec Ideal S1x1024x1024 .bf16) (r : Fin 512) (q : Fin 1024) : k0_pay12 (F := Ideal) g b d w (ix2 r q) = linP g b d w r q := by
  unfold k0_pay12
  pointwise [a1_apply]

theorem a2_apply (w : Vec Ideal S1x1024x1024 .bf16) (r : Fin 512) (q : Fin 1024) : k0_pay13 (F := Ideal) (k0_pay7 g b d) w (ix2 r q) = linP g b d w r q := by
  unfold k0_pay13 linP
  pointwise [xb_apply]

theorem a2b_apply (w : Vec Ideal S1x1024x1024 .bf16) (r : Fin 512) (q : Fin 1024) : k0_pay14 (F := Ideal) (k0_pay7 g b d) w (ix2 r q) = linP g b d w r q := by
  unfold k0_pay14
  pointwise [a2_apply]

theorem a3_apply (w : Vec Ideal S1x1024x1024 .bf16) (r : Fin 512) (q : Fin 1024) : k0_pay16 (F := Ideal) (k0_pay7 g b d) w (ix2 r q) = linP g b d w r q := by
  unfold k0_pay16 linP
  pointwise [xb_apply]

theorem a3b_apply (w : Vec Ideal S1x1024x1024 .bf16) (r : Fin 512) (q : Fin 1024) : k0_pay17 (F := Ideal) (k0_pay7 g b d) w (ix2 r q) = linP g b d w r q := by
  unfold k0_pay17
  pointwise [a3_apply]

/-- One shard's part of the second product. -/
def partP (w u : Vec Ideal S1x1024x1024 .bf16) (r : Fin 512) (k : Fin 1024) : EReal :=
  ∑ q : Fin 1024, max (linP g b d w r q) 0 * max (linP g b d w r q) 0 * u (ix3 0 q k)

theorem acc0_apply (w0 u0 : Vec Ideal S1x1024x1024 .bf16) (r : Fin 512) (k : Fin 1024) : k0_pay10 (F := Ideal) g b d w0 u0 (ix2 r k)
    = Ideal.ofBits .f32 0x3FB504F3#32 * k0_pay6 (F := Ideal) g b d (ix2 r k) + partP g b d w0 u0 r k := by
  unfold k0_pay10 partP
  pointwise [a0_apply]

theorem acc2_apply (w0 w1 w2 u0 u1 u2 : Vec Ideal S1x1024x1024 .bf16) (r : Fin 512) (k : Fin 1024) :
    k0_pay15 (F := Ideal) (k0_pay7 g b d) (k0_pay10 g b d w0 u0) (k0_pay11 g b d w1) u1 w2 u2 (ix2 r k)
    = Ideal.ofBits .f32 0x3FB504F3#32 * k0_pay6 (F := Ideal) g b d (ix2 r k) + partP g b d w0 u0 r k + partP g b d w1 u1 r k + partP g b d w2 u2 r k := by
  unfold k0_pay15
  pointwise [acc0_apply, a1_apply, a2_apply]
  rfl

theorem h3_apply (w : Vec Ideal S1x1024x1024 .bf16) (r : Fin 512) (q : Fin 1024) : k0_pay18 (F := Ideal) (k0_pay7 g b d) w (ix2 r q)
    = max (linP g b d w r q) 0 * max (linP g b d w r q) 0 := by
  unfold k0_pay18
  pointwise [a3_apply]

theorem s2_apply (w0 w1 w2 w3 u0 u1 u2 u3 : Vec Ideal S1x1024x1024 .bf16) (r : Fin 512) (k : Fin 1024) :
    k0_pay19 (F := Ideal) (k0_pay15 (k0_pay7 g b d) (k0_pay10 g b d w0 u0) (k0_pay11 g b d w1) u1 w2 u2) (k0_pay18 (k0_pay7 g b d) w3) u3 (ix2 r k)
    = Ideal.ofBits .f32 0x3FB504F3#32 * k0_pay6 (F := Ideal) g b d (ix2 r k) + partP g b d w0 u0 r k + partP g b d w1 u1 r k + partP g b d w2 u2 r k
      + partP g b d w3 u3 r k := by
  unfold k0_pay19
  pointwise [acc2_apply, h3_apply]
  rfl

end

theorem fin_apply (v88 v96 : Vec Ideal S512x1024 .f32) (u g b t : _) (r : Fin 512) (k : Fin 1024) :
    k0_pay21 (F := Ideal) v88 v96 u g b t (ix2 r k)
      = scaled (fun j => k0_pay19 (F := Ideal) v88 v96 u (ix2 r j)) (fun j => g (ix2 0 j)) (fun j => b (ix2 0 j)) k - t (ix2 r k) := by
  unfold k0_pay21 scaled rstd vare cen
  pointwise

theorem dy_apply (v88 v96 : Vec Ideal S512x1024 .f32) (u g b t : _) (r : Fin 512) (k : Fin 1024) :
    k0_pay22 (F := Ideal) v88 v96 u g b t (ix2 r k)
      = (scaled (fun j => k0_pay19 (F := Ideal) v88 v96 u (ix2 r j)) (fun j => g (ix2 0 j)) (fun j => b (ix2 0 j)) k - t (ix2 r k))
        * Ideal.ofBits .f32 0x3A800000#32 := by
  unfold k0_pay22
  pointwise [fin_apply]

theorem loss_apply (e : Vec Ideal S512x1024 .f32) (l : Vec Ideal S8x128 .f32) (i : Fin 8) (j : Fin 128) :
    k0_pay1 (F := Ideal) e l (ix2 i j)
      = l (ix2 i j) + (∑ r : Fin 512, ∑ k : Fin 1024, e (ix2 r k) * e (ix2 r k)) * Ideal.ofBits .f32 0x3A000000#32 := by
  unfold k0_pay1
  pointwise

theorem zero_apply (i : Fin 8) (j : Fin 128) : k0_pay20 (F := Ideal) (ix2 i j) = 0 := by
  unfold k0_pay20
  pointwise

end Cert.Mix4

end
-- ==== Proof.Mix4Out.lean ====
/- What a run of the body of the mixed rows' layer leaves in each output block, element by element (call 4). -/
module

public import proofs.«01_k».proof.Proof.Gen.Kernel4Ideal.Frame
public import proofs.«01_k».proof.Proof.Mix4Pay
public import Idealize.ShloMosaic.Lib.Pipeline.ValueKit.Tiles

@[expose] public section

noncomputable section

namespace Cert.Mix4

open Cert.Kernel4Ideal Cert.Kernel4Ideal.Gen Cert.Norm Cert.Spec Cert.Mix Idealize.ShloMosaic Idealize.ShloMosaic.TcCoe

theorem hz : (![0, 0] : Fin 2 → Nat) = fun _ => 0 := funext fun a => by fin_cases a <;> rfl

theorem ldW (X : Vec Ideal S4x1024x1024 .bf16) (j : Fin 4) (inb) (p q : Fin 1024) :
    View.ld X (Rect.unit (s := S4x1024x1024) ![j.val, 0, 0] ![1, 1024, 1024] inb) (ix3 0 p q) = X (ix3 j p q) :=
  View.ld_unit_apply_of X _ _ inb _ _ fun a => match a with
    | ⟨0, _⟩ => rfl
    | ⟨1, _⟩ => (Nat.zero_add _).symm
    | ⟨2, _⟩ => (Nat.zero_add _).symm

theorem ldPa (X : Vec Ideal S1024x1024 .bf16) (inb) (p : Fin 256) (k : Fin 1024) :
    View.ld X (Rect.unit (s := S1024x1024) ![0, 0] ![256, 1024] inb) (ix2 p k) = X (ix2 (pa p) k) :=
  View.ld_unit_apply_of X _ _ inb _ _ fun a => match a with
    | ⟨0, _⟩ => (Nat.zero_add _).symm
    | ⟨1, _⟩ => (Nat.zero_add _).symm

theorem ldPb (X : Vec Ideal S1024x1024 .bf16) (inb) (p : Fin 256) (k : Fin 1024) :
    View.ld X (Rect.unit (s := S1024x1024) ![256, 0] ![256, 1024] inb) (ix2 p k) = X (ix2 (pb p) k) :=
  View.ld_unit_apply_of X _ _ inb _ _ fun a => match a with
    | ⟨0, _⟩ => rfl
    | ⟨1, _⟩ => (Nat.zero_add _).symm

theorem ldPc (X : Vec Ideal S1024x1024 .bf16) (inb) (p : Fin 512) (k : Fin 1024) :
    View.ld X (Rect.unit (s := S1024x1024) ![512, 0] ![512, 1024] inb) (ix2 p k) = X (ix2 (pc p) k) :=
  View.ld_unit_apply_of X _ _ inb _ _ fun a => match a with
    | ⟨0, _⟩ => rfl
    | ⟨1, _⟩ => (Nat.zero_add _).symm

section
variable (x0 : Vec Ideal S512x256 .bf16) (x1 : Vec Ideal S512x256 .bf16) (x2 : Vec Ideal S512x512 .bf16) (x3 : Vec Ideal S512x1024 .f32)
  (x4 : Vec Ideal S1024x1024 .bf16) (x5 x6 : Vec Ideal S1x1024 .f32) (x7 x8 : Vec Ideal S4x1024x1024 .bf16) (x9 x10 : Vec Ideal S1x1024 .f32)

/-- The sum before the first normalisation, in a block. -/
def s1V (r : Fin 512) (k : Fin 1024) : EReal :=
  Ideal.ofBits .f32 0x3FB504F3#32 * x3 (ix2 r k) + ((∑ p : Fin 256, x0 (ix2 r p) * x4 (ix2 (pa p) k)) + (∑ p : Fin 256, x1 (ix2 r p) * x4 (ix2 (pb p) k))
    + ∑ p : Fin 512, x2 (ix2 r p) * x4 (ix2 (pc p) k))

/-- The first normalisation, in a block. -/
def x1V (r : Fin 512) (k : Fin 1024) : EReal := scaled (s1V x0 x1 x2 x3 x4 r) (fun j => x5 (ix2 0 j)) (fun j => x6 (ix2 0 j)) k

/-- The hidden layer before its activation, in a block. -/
def aV (r : Fin 512) (j : Fin 4) (q : Fin 1024) : EReal := ∑ k : Fin 1024, x1V x0 x1 x2 x3 x4 x5 x6 r k * x7 (ix3 j k q)

/-- One shard's part of the second product, in a block. -/
def hV (j : Fin 4) (r : Fin 512) (k : Fin 1024) : EReal :=
  ∑ q : Fin 1024, max (aV x0 x1 x2 x3 x4 x5 x6 x7 r j q) 0 * max (aV x0 x1 x2 x3 x4 x5 x6 x7 r j q) 0 * x8 (ix3 j q k)

/-- The sum before the second normalisation, in a block. -/
def s2V (r : Fin 512) (k : Fin 1024) : EReal :=
  Ideal.ofBits .f32 0x3FB504F3#32 * x1V x0 x1 x2 x3 x4 x5 x6 r k + hV x0 x1 x2 x3 x4 x5 x6 x7 x8 0 r k + hV x0 x1 x2 x3 x4 x5 x6 x7 x8 1 r k
    + hV x0 x1 x2 x3 x4 x5 x6 x7 x8 2 r k + hV x0 x1 x2 x3 x4 x5 x6 x7 x8 3 r k

/-- The second normalisation, in a block. -/
def x2V (r : Fin 512) (k : Fin 1024) : EReal :=
  scaled (s2V x0 x1 x2 x3 x4 x5 x6 x7 x8 r) (fun j => x9 (ix2 0 j)) (fun j => x10 (ix2 0 j)) k

theorem sumP_ld (i1) (i2) (i3) (r : Fin 512) (k : Fin 1024) :
    sumP x0 (View.ld x4 (Rect.unit (s := S1024x1024) ![0, 0] ![256, 1024] i1)) x1 (View.ld x4 (Rect.unit (s := S1024x1024) ![256, 0] ![256, 1024] i2))
      x2 (View.ld x4 (Rect.unit (s := S1024x1024) ![512, 0] ![512, 1024] i3)) x3 r k = s1V x0 x1 x2 x3 x4 r k := by
  unfold sumP s1V
  refine congrArg₂ (· + ·) rfl (congrArg₂ (· + ·) (congrArg₂ (· + ·) ?_ ?_) ?_)
  · exact Finset.sum_congr rfl fun p _ => congrArg (x0 (ix2 r p) * ·) (ldPa x4 i1 p k)
  · exact Finset.sum_congr rfl fun p _ => congrArg (x1 (ix2 r p) * ·) (ldPb x4 i2 p k)
  · exact Finset.sum_congr rfl fun p _ => congrArg (x2 (ix2 r p) * ·) (ldPc x4 i3 p k)

theorem x1_ld (i1) (i2) (i3) (r : Fin 512) (k : Fin 1024) :
    k0_pay6 (F := Ideal) (k0_pay3 x5) (k0_pay4 x6) (k0_pay5 x0 (View.ld x4 (Rect.unit (s := S1024x1024) ![0, 0] ![256, 1024] i1)) x1
      (View.ld x4 (Rect.unit (s := S1024x1024) ![256, 0] ![256, 1024] i2)) x2 (View.ld x4 (Rect.unit (s := S1024x1024) ![512, 0] ![512, 1024] i3)) x3)
      (ix2 r k) = x1V x0 x1 x2 x3 x4 x5 x6 r k := by
  rw [x1_apply]
  unfold x1V
  exact congrArg (scaled · _ _ k) (funext fun j => sumP_ld x0 x1 x2 x3 x4 i1 i2 i3 r j)

variable (g b : Vec Ideal S1x1024 .f32) (d : Vec Ideal S512x1024 .f32)
  (h : ∀ r k, k0_pay6 (F := Ideal) g b d (ix2 r k) = x1V x0 x1 x2 x3 x4 x5 x6 r k)
include h

theorem lin_ld (j : Fin 4) (i7) (r : Fin 512) (q : Fin 1024) :
    linP g b d (View.ld x7 (Rect.unit (s := S4x1024x1024) ![j.val, 0, 0] ![1, 1024, 1024] i7)) r q = aV x0 x1 x2 x3 x4 x5 x6 x7 r j q := by
  unfold linP aV
  exact Finset.sum_congr rfl fun k _ => congrArg₂ (· * ·) (h r k) (ldW x7 j i7 k q)

theorem part_ld (j : Fin 4) (i7) (i8) (r : Fin 512) (k : Fin 1024) :
    partP g b d (View.ld x7 (Rect.unit (s := S4x1024x1024) ![j.val, 0, 0] ![1, 1024, 1024] i7))
      (View.ld x8 (Rect.unit (s := S4x1024x1024) ![j.val, 0, 0] ![1, 1024, 1024] i8)) r k = hV x0 x1 x2 x3 x4 x5 x6 x7 x8 j r k := by
  unfold partP hV
  refine Finset.sum_congr rfl fun q _ => congrArg₂ (· * ·) ?_ (ldW x8 j i8 q k)
  rw [lin_ld x0 x1 x2 x3 x4 x5 x6 x7 g b d h j i7 r q]

theorem s2_ld (i7 j7 k7 l7) (i8 j8 k8 l8) (r : Fin 512) (k : Fin 1024) :
    k0_pay19 (F := Ideal) (k0_pay15 (k0_pay7 g b d) (k0_pay10 g b d (View.ld x7 (Rect.unit (s := S4x1024x1024) ![0, 0, 0] ![1, 1024, 1024] i7))
        (View.ld x8 (Rect.unit (s := S4x1024x1024) ![0, 0, 0] ![1, 1024, 1024] i8)))
        (k0_pay11 g b d (View.ld x7 (Rect.unit (s := S4x1024x1024) ![1, 0, 0] ![1, 1024, 1024] j7)))
        (View.ld x8 (Rect.unit (s := S4x1024x1024) ![1, 0, 0] ![1, 1024, 1024] j8))
        (View.ld x7 (Rect.unit (s := S4x1024x1024) ![2, 0, 0] ![1, 1024, 1024] k7))
        (View.ld x8 (Rect.unit (s := S4x1024x1024) ![2, 0, 0] ![1, 1024, 1024] k8)))
      (k0_pay18 (k0_pay7 g b d) (View.ld x7 (Rect.unit (s := S4x1024x1024) ![3, 0, 0] ![1, 1024, 1024] l7)))
      (View.ld x8 (Rect.unit (s := S4x1024x1024) ![3, 0, 0] ![1, 1024, 1024] l8)) (ix2 r k) = s2V x0 x1 x2 x3 x4 x5 x6 x7 x8 r k := by
  rw [s2_apply]
  unfold s2V
  refine congrArg₂ (· + ·) (congrArg₂ (· + ·) (congrArg₂ (· + ·) (congrArg₂ (· + ·) (congrArg (_ * ·) (h r k)) ?_) ?_) ?_) ?_
  · exact part_ld x0 x1 x2 x3 x4 x5 x6 x7 x8 g b d h 0 _ _ r k
  · exact part_ld x0 x1 x2 x3 x4 x5 x6 x7 x8 g b d h 1 _ _ r k
  · exact part_ld x0 x1 x2 x3 x4 x5 x6 x7 x8 g b d h 2 _ _ r k
  · exact part_ld x0 x1 x2 x3 x4 x5 x6 x7 x8 g b d h 3 _ _ r k

end

theorem key (r : Fin 512) (j : Fin 4) (q : Fin 1024) (v : EReal) (i : Fin 4) (off : Fin 2 → Nat) (w : Vec Ideal S512x1024 .bf16)
    (ho : off = ![0, 1024 * i.val]) (h : ∀ q', hid i q' = hid j q → w (ix2 r q') = v) :
    View.TileAt (S := S512x4096) (e := .bf16) (Val := Elt Ideal) (ix2 r (hid j q)) off ![512, 1024] w v := by
  intro x hx
  subst ho
  have h0 : x 0 = r := Fin.ext ((hx 0).trans (Nat.zero_add _)).symm
  have h1 : hid i (x 1) = hid j q := Fin.ext (hx 1).symm
  have h2 : x = ix2 r (x 1) := funext fun a => match a with
    | ⟨0, _⟩ => h0
    | ⟨1, _⟩ => rfl
  rw [h2]
  exact h (x 1) h1

theorem same {i j : Fin 4} {q' q : Fin 1024} (h : hid i q' = hid j q) : i = j ∧ q' = q := by
  have := congrArg Fin.val h
  simp only [hid] at this
  exact ⟨Fin.ext (by omega), Fin.ext (by omega)⟩

/-- What a block adds to the loss. -/
def eV (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) : EReal :=
  (∑ r : Fin 512, ∑ k : Fin 1024, (x2V x0 x1 x2 x3 x4 x5 x6 x7 x8 x9 x10 r k - x11 (ix2 r k)) * (x2V x0 x1 x2 x3 x4 x5 x6 x7 x8 x9 x10 r k - x11 (ix2 r k)))
    * Ideal.ofBits .f32 0x3A000000#32

theorem out12_A (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (r : Fin 512) (k : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 r k) = s1V x0 x1 x2 x3 x4 r k := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  exact (mix_apply _ _ _ _ _ _ _ r k).trans (sumP_ld x0 x1 x2 x3 x4 _ _ _ r k)

theorem out13_A (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (r : Fin 512) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 r k) = x1V x0 x1 x2 x3 x4 x5 x6 r k := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  exact x1_ld x0 x1 x2 x3 x4 x5 x6 _ _ _ r k

theorem out14_A (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (r : Fin 512) (j : Fin 4) (q : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 r (hid j q)) = aV x0 x1 x2 x3 x4 x5 x6 x7 r j q := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  refine View.canon_eq_of_allAt _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 _) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  refine View.allAt_cons_unit _ _ _ _ _ (key r j q _ 3 _ _ rfl fun q' hq => ?_) (View.allAt_cons_unit _ _ _ _ _ (key r j q _ 2 _ _ rfl fun q' hq => ?_)
    (View.allAt_cons_unit _ _ _ _ _ (key r j q _ 1 _ _ rfl fun q' hq => ?_) (View.allAt_cons_unit _ _ _ _ _ (key r j q _ 0 _ _ rfl fun q' hq => ?_)
      (View.allAt_nil _ _))))
  · obtain ⟨rfl, rfl⟩ := same hq
    exact (a3b_apply _ _ _ _ _ _).trans (lin_ld x0 x1 x2 x3 x4 x5 x6 x7 _ _ _ (x1_ld x0 x1 x2 x3 x4 x5 x6 _ _ _) 3 _ _ _)
  · obtain ⟨rfl, rfl⟩ := same hq
    exact (a2b_apply _ _ _ _ _ _).trans (lin_ld x0 x1 x2 x3 x4 x5 x6 x7 _ _ _ (x1_ld x0 x1 x2 x3 x4 x5 x6 _ _ _) 2 _ _ _)
  · obtain ⟨rfl, rfl⟩ := same hq
    exact (a1b_apply _ _ _ _ _ _).trans (lin_ld x0 x1 x2 x3 x4 x5 x6 x7 _ _ _ (x1_ld x0 x1 x2 x3 x4 x5 x6 _ _ _) 1 _ _ _)
  · obtain ⟨rfl, rfl⟩ := same hq
    exact (a0b_apply _ _ _ _ _ _).trans (lin_ld x0 x1 x2 x3 x4 x5 x6 x7 _ _ _ (x1_ld x0 x1 x2 x3 x4 x5 x6 _ _ _) 0 _ _ _)

theorem out15_A (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (r : Fin 512) (k : Fin 1024) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 r k) = s2V x0 x1 x2 x3 x4 x5 x6 x7 x8 r k := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  exact s2_ld x0 x1 x2 x3 x4 x5 x6 x7 x8 _ _ _ (x1_ld x0 x1 x2 x3 x4 x5 x6 _ _ _) _ _ _ _ _ _ _ _ r k

theorem out16_A (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (r : Fin 512) (k : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 r k) = (x2V x0 x1 x2 x3 x4 x5 x6 x7 x8 x9 x10 r k - x11 (ix2 r k)) * Ideal.ofBits .f32 0x3A800000#32 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  refine (dy_apply _ _ _ _ _ _ r k).trans ?_
  unfold x2V
  exact congrArg (fun s => (scaled s _ _ k - _) * _) (funext fun l => s2_ld x0 x1 x2 x3 x4 x5 x6 x7 x8 _ _ _ (x1_ld x0 x1 x2 x3 x4 x5 x6 _ _ _) _ _ _ _ _ _ _ _ r l)

theorem out17_A (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (i' : Fin 8) (j : Fin 128) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 i' j) = 0 + eV x0 x1 x2 x3 x4 x5 x6 x7 x8 x9 x10 x11 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_cons_unit_zero (S := S8x128) hz, View.readCov_unit_zero (S := S8x128) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self, View.ld_unit_zero (S := S8x128) hz]
  refine (loss_apply _ _ i' j).trans (congrArg₂ (· + ·) (zero_apply _ _) ?_)
  unfold eV
  refine congrArg (· * _) (Finset.sum_congr rfl fun r _ => Finset.sum_congr rfl fun k _ => ?_)
  rw [fin_apply]
  unfold x2V
  exact congrArg (fun s => (scaled s _ _ k - _) * (scaled s _ _ k - _)) (funext fun l => s2_ld x0 x1 x2 x3 x4 x5 x6 x7 x8 _ _ _ (x1_ld x0 x1 x2 x3 x4 x5 x6 _ _ _) _ _ _ _ _ _ _ _ r l)

theorem out12_B (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : ¬cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (xo17 : Vec Ideal S8x128 .f32) (r : Fin 512) (k : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17 (ix2 r k) = s1V x0 x1 x2 x3 x4 r k := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  exact (mix_apply _ _ _ _ _ _ _ r k).trans (sumP_ld x0 x1 x2 x3 x4 _ _ _ r k)

theorem out13_B (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : ¬cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (xo17 : Vec Ideal S8x128 .f32) (r : Fin 512) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17 (ix2 r k) = x1V x0 x1 x2 x3 x4 x5 x6 r k := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  exact x1_ld x0 x1 x2 x3 x4 x5 x6 _ _ _ r k

theorem out14_B (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : ¬cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (xo17 : Vec Ideal S8x128 .f32) (r : Fin 512) (j : Fin 4) (q : Fin 1024) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17 (ix2 r (hid j q)) = aV x0 x1 x2 x3 x4 x5 x6 x7 r j q := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17)]
  refine View.canon_eq_of_allAt _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17 _) ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  refine View.allAt_cons_unit _ _ _ _ _ (key r j q _ 3 _ _ rfl fun q' hq => ?_) (View.allAt_cons_unit _ _ _ _ _ (key r j q _ 2 _ _ rfl fun q' hq => ?_)
    (View.allAt_cons_unit _ _ _ _ _ (key r j q _ 1 _ _ rfl fun q' hq => ?_) (View.allAt_cons_unit _ _ _ _ _ (key r j q _ 0 _ _ rfl fun q' hq => ?_)
      (View.allAt_nil _ _))))
  · obtain ⟨rfl, rfl⟩ := same hq
    exact (a3b_apply _ _ _ _ _ _).trans (lin_ld x0 x1 x2 x3 x4 x5 x6 x7 _ _ _ (x1_ld x0 x1 x2 x3 x4 x5 x6 _ _ _) 3 _ _ _)
  · obtain ⟨rfl, rfl⟩ := same hq
    exact (a2b_apply _ _ _ _ _ _).trans (lin_ld x0 x1 x2 x3 x4 x5 x6 x7 _ _ _ (x1_ld x0 x1 x2 x3 x4 x5 x6 _ _ _) 2 _ _ _)
  · obtain ⟨rfl, rfl⟩ := same hq
    exact (a1b_apply _ _ _ _ _ _).trans (lin_ld x0 x1 x2 x3 x4 x5 x6 x7 _ _ _ (x1_ld x0 x1 x2 x3 x4 x5 x6 _ _ _) 1 _ _ _)
  · obtain ⟨rfl, rfl⟩ := same hq
    exact (a0b_apply _ _ _ _ _ _).trans (lin_ld x0 x1 x2 x3 x4 x5 x6 x7 _ _ _ (x1_ld x0 x1 x2 x3 x4 x5 x6 _ _ _) 0 _ _ _)

theorem out15_B (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : ¬cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (xo17 : Vec Ideal S8x128 .f32) (r : Fin 512) (k : Fin 1024) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17 (ix2 r k) = s2V x0 x1 x2 x3 x4 x5 x6 x7 x8 r k := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  exact s2_ld x0 x1 x2 x3 x4 x5 x6 x7 x8 _ _ _ (x1_ld x0 x1 x2 x3 x4 x5 x6 _ _ _) _ _ _ _ _ _ _ _ r k

theorem out16_B (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : ¬cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (xo17 : Vec Ideal S8x128 .f32) (r : Fin 512) (k : Fin 1024) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17 (ix2 r k) = (x2V x0 x1 x2 x3 x4 x5 x6 x7 x8 x9 x10 r k - x11 (ix2 r k)) * Ideal.ofBits .f32 0x3A800000#32 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self]
  refine (dy_apply _ _ _ _ _ _ r k).trans ?_
  unfold x2V
  exact congrArg (fun s => (scaled s _ _ k - _) * _) (funext fun l => s2_ld x0 x1 x2 x3 x4 x5 x6 x7 x8 _ _ _ (x1_ld x0 x1 x2 x3 x4 x5 x6 _ _ _) _ _ _ _ _ _ _ _ r l)

theorem out17_B (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4x1024x1024 .bf16) (harg8 : arg8.IsWhole) (arg9 : Memref sig .tc .vmem S4x1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x4096 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S8x128 .f32) (harg18 : arg18.IsWhole) (hc0 : ¬cond0_0 i)
    (x0 : Vec Ideal S512x256 .bf16) (x1 : Vec Ideal S512x256 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S4x1024x1024 .bf16) (x8 : Vec Ideal S4x1024x1024 .bf16) (x9 : Vec Ideal S1x1024 .f32) (x10 : Vec Ideal S1x1024 .f32) (x11 : Vec Ideal S512x1024 .f32) (xo17 : Vec Ideal S8x128 .f32) (i' : Fin 8) (j : Fin 128) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17 (ix2 i' j) = xo17 (ix2 i' j) + eV x0 x1 x2 x3 x4 x5 x6 x7 x8 x9 x10 x11 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo17)]
  unfold kernelRun0_B
  dsimp only
  sl_unfold_words
  rw [View.canon_unit_zero (S := S8x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg18.read_unread, View.ld_unit_zero (S := S512x256) hz, View.ld_unit_zero (S := S512x512) hz, View.ld_unit_zero (S := S512x1024) hz, View.ld_unit_zero (S := S1x1024) hz, shapeCast_self, View.ld_unit_zero (S := S8x128) hz]
  refine (loss_apply _ _ i' j).trans (congrArg₂ (· + ·) rfl ?_)
  unfold eV
  refine congrArg (· * _) (Finset.sum_congr rfl fun r _ => Finset.sum_congr rfl fun k _ => ?_)
  rw [fin_apply]
  unfold x2V
  exact congrArg (fun s => (scaled s _ _ k - _) * (scaled s _ _ k - _)) (funext fun l => s2_ld x0 x1 x2 x3 x4 x5 x6 x7 x8 _ _ _ (x1_ld x0 x1 x2 x3 x4 x5 x6 _ _ _) _ _ _ _ _ _ _ _ r l)

end Cert.Mix4

end
-- ==== Proof.Mix4Blk.lean ====
/- The blocks the body of the mixed rows' layer reads, element by element, as functions of the arguments (call 4). -/
module

public import proofs.«01_k».proof.Proof.Mix4Out
public import Idealize.ShloMosaic.Lib.StableHlo.ReadAt

@[expose] public section

noncomputable section

namespace Cert.Mix4

open Cert.Kernel4Ideal Cert.Kernel4Ideal.Gen Cert.Norm Cert.Spec Cert.Mix Idealize.ShloMosaic Idealize.ShloMosaic.TcCoe

variable (m : (ℓ : Loc nD τ sig) → Buf (Elt Ideal) ℓ)

/-! ## The arguments -/

def aY (c : Dev nD) (n : Fin 4096) (k : Fin 1024) : EReal := (m (c, Proc.tc.devRef main_arg0) : S4096x1024.Idx → EReal) (ix2 n k)
def aX (c : Dev nD) (n : Fin 4096) (k : Fin 1024) : EReal := (m (c, Proc.tc.devRef main_arg1) : S4096x1024.Idx → EReal) (ix2 n k)
def aWo (c : Dev nD) (p k : Fin 1024) : EReal := (m (c, Proc.tc.devRef main_arg2) : S1024x1024.Idx → EReal) (ix2 p k)
def aG1 (c : Dev nD) (k : Fin 1024) : EReal := (m (c, Proc.tc.devRef main_arg3) : S1024.Idx → EReal) (ix1 k)
def aB1 (c : Dev nD) (k : Fin 1024) : EReal := (m (c, Proc.tc.devRef main_arg4) : S1024.Idx → EReal) (ix1 k)
def aW1 (c : Dev nD) (k : Fin 1024) (f : Fin 4096) : EReal := (m (c, Proc.tc.devRef main_arg5) : S1024x4096.Idx → EReal) (ix2 k f)
def aW2 (c : Dev nD) (f : Fin 4096) (k : Fin 1024) : EReal := (m (c, Proc.tc.devRef main_arg6) : S4096x1024.Idx → EReal) (ix2 f k)
def aG2 (c : Dev nD) (k : Fin 1024) : EReal := (m (c, Proc.tc.devRef main_arg7) : S1024.Idx → EReal) (ix1 k)
def aB2 (c : Dev nD) (k : Fin 1024) : EReal := (m (c, Proc.tc.devRef main_arg8) : S1024.Idx → EReal) (ix1 k)
def aT (c : Dev nD) (n : Fin 4096) (k : Fin 1024) : EReal := (m (c, Proc.tc.devRef main_arg9) : S4096x1024.Idx → EReal) (ix2 n k)

/-! ## The arrays the blocks are cut from -/

theorem V_ya (c : Dev nD) (n : Fin 4096) (p : Fin 256) : (V m c main_v1 : S4096x256.Idx → EReal) (ix2 n p) = aY m c n (pa p) := by
  unfold V hostOps0
  after_reads_at
  show (m (c, Proc.tc.devRef main_arg0) : S4096x1024.Idx → EReal) _ = (m (c, Proc.tc.devRef main_arg0) : S4096x1024.Idx → EReal) _
  congr 1

theorem V_yb (c : Dev nD) (n : Fin 4096) (p : Fin 256) : (V m c main_v3 : S4096x256.Idx → EReal) (ix2 n p) = aY m c n (pb p) := by
  unfold V hostOps0
  after_reads_at
  show (m (c, Proc.tc.devRef main_arg0) : S4096x1024.Idx → EReal) _ = (m (c, Proc.tc.devRef main_arg0) : S4096x1024.Idx → EReal) _
  congr 1

theorem V_yc (c : Dev nD) (n : Fin 4096) (p : Fin 512) : (V m c main_v5 : S4096x512.Idx → EReal) (ix2 n p) = aY m c n (pc p) := by
  unfold V hostOps0
  after_reads_at
  show (m (c, Proc.tc.devRef main_arg0) : S4096x1024.Idx → EReal) _ = (m (c, Proc.tc.devRef main_arg0) : S4096x1024.Idx → EReal) _
  congr 1

theorem V_x (c : Dev nD) (n : Fin 4096) (k : Fin 1024) : (V m c main_arg1 : S4096x1024.Idx → EReal) (ix2 n k) = aX m c n k := by
  rw [V_main_arg1]; rfl

theorem V_t (c : Dev nD) (n : Fin 4096) (k : Fin 1024) : (V m c main_arg9 : S4096x1024.Idx → EReal) (ix2 n k) = aT m c n k := by
  rw [V_main_arg9]; rfl

theorem V_wo (c : Dev nD) (p k : Fin 1024) : (V m c main_v6 : S1024x1024.Idx → EReal) (ix2 p k) = aWo m c p k := by
  unfold V hostOps0
  after_reads_at
  rfl

theorem V_g1 (c : Dev nD) (k : Fin 1024) : (V m c main_v7 : S1x1024.Idx → EReal) (ix2 0 k) = aG1 m c k := by
  unfold V hostOps0
  after_reads_at
  rfl

theorem V_b1 (c : Dev nD) (k : Fin 1024) : (V m c main_v8 : S1x1024.Idx → EReal) (ix2 0 k) = aB1 m c k := by
  unfold V hostOps0
  after_reads_at
  rfl

theorem V_g2 (c : Dev nD) (k : Fin 1024) : (V m c main_v14 : S1x1024.Idx → EReal) (ix2 0 k) = aG2 m c k := by
  unfold V hostOps0
  after_reads_at
  rfl

theorem V_b2 (c : Dev nD) (k : Fin 1024) : (V m c main_v15 : S1x1024.Idx → EReal) (ix2 0 k) = aB2 m c k := by
  unfold V hostOps0
  after_reads_at
  rfl

theorem V_w1 (c : Dev nD) (j : Fin 4) (k q : Fin 1024) : (V m c main_v11 : S4x1024x1024.Idx → EReal) (ix3 j k q) = aW1 m c k (hid j q) := by
  have h : (V m c main_v11 : S4x1024x1024.Idx → EReal) (ix3 j k q) = aW1 m c k ⟨j.val * 1024 + q.val, by omega⟩ := by
    unfold V hostOps0
    after_reads_at
    rfl
  rw [h]
  exact congrArg (aW1 m c k) (Fin.ext (by simp only [hid]; omega))

theorem V_w2 (c : Dev nD) (j : Fin 4) (q k : Fin 1024) : (V m c main_v13 : S4x1024x1024.Idx → EReal) (ix3 j q k) = aW2 m c (hid j q) k := by
  have h : (V m c main_v13 : S4x1024x1024.Idx → EReal) (ix3 j q k) = aW2 m c ⟨j.val * 1024 + q.val, by omega⟩ k := by
    unfold V hostOps0
    after_reads_at
    rfl
  rw [h]
  exact congrArg (aW2 m c · k) (Fin.ext (by simp only [hid]; omega))

/-! ## The blocks -/

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 0] := (by decide +kernel : ∀ t : Fin grid0.N, _)
theorem i1 : ∀ t : Fin cfg0.N, cc0_transform_1 (grid0.coords t) = ![t.val, 0] := (by decide +kernel : ∀ t : Fin grid0.N, _)
theorem i2 : ∀ t : Fin cfg0.N, cc0_transform_2 (grid0.coords t) = ![t.val, 0] := (by decide +kernel : ∀ t : Fin grid0.N, _)
theorem i3 : ∀ t : Fin cfg0.N, cc0_transform_3 (grid0.coords t) = ![t.val, 0] := (by decide +kernel : ∀ t : Fin grid0.N, _)
theorem i4 : ∀ t : Fin cfg0.N, cc0_transform_4 (grid0.coords t) = ![0, 0] := (by decide +kernel : ∀ t : Fin grid0.N, _)
theorem i5 : ∀ t : Fin cfg0.N, cc0_transform_5 (grid0.coords t) = ![0, 0] := (by decide +kernel : ∀ t : Fin grid0.N, _)
theorem i6 : ∀ t : Fin cfg0.N, cc0_transform_6 (grid0.coords t) = ![0, 0] := (by decide +kernel : ∀ t : Fin grid0.N, _)
theorem i7 : ∀ t : Fin cfg0.N, cc0_transform_7 (grid0.coords t) = ![0, 0, 0] := (by decide +kernel : ∀ t : Fin grid0.N, _)
theorem i8 : ∀ t : Fin cfg0.N, cc0_transform_8 (grid0.coords t) = ![0, 0, 0] := (by decide +kernel : ∀ t : Fin grid0.N, _)
theorem i9 : ∀ t : Fin cfg0.N, cc0_transform_9 (grid0.coords t) = ![0, 0] := (by decide +kernel : ∀ t : Fin grid0.N, _)
theorem i10 : ∀ t : Fin cfg0.N, cc0_transform_10 (grid0.coords t) = ![0, 0] := (by decide +kernel : ∀ t : Fin grid0.N, _)
theorem i11 : ∀ t : Fin cfg0.N, cc0_transform_11 (grid0.coords t) = ![t.val, 0] := (by decide +kernel : ∀ t : Fin grid0.N, _)
theorem i12 : ∀ t : Fin cfg0.N, cc0_transform_12 (grid0.coords t) = ![t.val, 0] := (by decide +kernel : ∀ t : Fin grid0.N, _)
theorem i13 : ∀ t : Fin cfg0.N, cc0_transform_13 (grid0.coords t) = ![t.val, 0] := (by decide +kernel : ∀ t : Fin grid0.N, _)
theorem i14 : ∀ t : Fin cfg0.N, cc0_transform_14 (grid0.coords t) = ![t.val, 0] := (by decide +kernel : ∀ t : Fin grid0.N, _)
theorem i15 : ∀ t : Fin cfg0.N, cc0_transform_15 (grid0.coords t) = ![t.val, 0] := (by decide +kernel : ∀ t : Fin grid0.N, _)
theorem i16 : ∀ t : Fin cfg0.N, cc0_transform_16 (grid0.coords t) = ![t.val, 0] := (by decide +kernel : ∀ t : Fin grid0.N, _)
theorem i17 : ∀ t : Fin cfg0.N, cc0_transform_17 (grid0.coords t) = ![0, 0] := (by decide +kernel : ∀ t : Fin grid0.N, _)

theorem blk_ya (c : Dev nD) (t : Fin cfg0.N) (r : Fin 512) (k : Fin 256) : (iblk m c 0 t : S512x256.Idx → EReal) (ix2 r k) = aY m c (row (blkOf t) r) (pa k) := by
  rw [← V_ya]
  unfold iblk
  rw [View.read_apply]
  show V m c main_v1 _ = V m c main_v1 _
  congr 1
  funext a
  apply Fin.ext
  match a with
  | ⟨0, _⟩ =>
    show cc0_transform_0 (grid0.coords t) 0 * 512 + 1 * r.val = 512 * t.val + r.val
    rw [i0]
    show t.val * 512 + 1 * r.val = _
    omega
  | ⟨1, _⟩ =>
    show cc0_transform_0 (grid0.coords t) 1 * 256 + 1 * k.val = k.val
    rw [i0]
    show 0 * 256 + 1 * k.val = _
    omega

theorem blk_yb (c : Dev nD) (t : Fin cfg0.N) (r : Fin 512) (k : Fin 256) : (iblk m c 1 t : S512x256.Idx → EReal) (ix2 r k) = aY m c (row (blkOf t) r) (pb k) := by
  rw [← V_yb]
  unfold iblk
  rw [View.read_apply]
  show V m c main_v3 _ = V m c main_v3 _
  congr 1
  funext a
  apply Fin.ext
  match a with
  | ⟨0, _⟩ =>
    show cc0_transform_1 (grid0.coords t) 0 * 512 + 1 * r.val = 512 * t.val + r.val
    rw [i1]
    show t.val * 512 + 1 * r.val = _
    omega
  | ⟨1, _⟩ =>
    show cc0_transform_1 (grid0.coords t) 1 * 256 + 1 * k.val = k.val
    rw [i1]
    show 0 * 256 + 1 * k.val = _
    omega

theorem blk_yc (c : Dev nD) (t : Fin cfg0.N) (r : Fin 512) (k : Fin 512) : (iblk m c 2 t : S512x512.Idx → EReal) (ix2 r k) = aY m c (row (blkOf t) r) (pc k) := by
  rw [← V_yc]
  unfold iblk
  rw [View.read_apply]
  show V m c main_v5 _ = V m c main_v5 _
  congr 1
  funext a
  apply Fin.ext
  match a with
  | ⟨0, _⟩ =>
    show cc0_transform_2 (grid0.coords t) 0 * 512 + 1 * r.val = 512 * t.val + r.val
    rw [i2]
    show t.val * 512 + 1 * r.val = _
    omega
  | ⟨1, _⟩ =>
    show cc0_transform_2 (grid0.coords t) 1 * 512 + 1 * k.val = k.val
    rw [i2]
    show 0 * 512 + 1 * k.val = _
    omega

theorem blk_x (c : Dev nD) (t : Fin cfg0.N) (r : Fin 512) (k : Fin 1024) : (iblk m c 3 t : S512x1024.Idx → EReal) (ix2 r k) = aX m c (row (blkOf t) r) k := by
  rw [← V_x]
  unfold iblk
  rw [View.read_apply]
  show V m c main_arg1 _ = V m c main_arg1 _
  congr 1
  funext a
  apply Fin.ext
  match a with
  | ⟨0, _⟩ =>
    show cc0_transform_3 (grid0.coords t) 0 * 512 + 1 * r.val = 512 * t.val + r.val
    rw [i3]
    show t.val * 512 + 1 * r.val = _
    omega
  | ⟨1, _⟩ =>
    show cc0_transform_3 (grid0.coords t) 1 * 1024 + 1 * k.val = k.val
    rw [i3]
    show 0 * 1024 + 1 * k.val = _
    omega

theorem blk_wo (c : Dev nD) (t : Fin cfg0.N) (r k : Fin 1024) : (iblk m c 4 t : S1024x1024.Idx → EReal) (ix2 r k) = aWo m c r k := by
  rw [← V_wo]
  unfold iblk
  rw [View.read_apply]
  show V m c main_v6 _ = V m c main_v6 _
  congr 1
  funext a
  apply Fin.ext
  match a with
  | ⟨0, _⟩ =>
    show cc0_transform_4 (grid0.coords t) 0 * 1024 + 1 * r.val = r.val
    rw [i4]
    show 0 * 1024 + 1 * r.val = _
    omega
  | ⟨1, _⟩ =>
    show cc0_transform_4 (grid0.coords t) 1 * 1024 + 1 * k.val = k.val
    rw [i4]
    show 0 * 1024 + 1 * k.val = _
    omega

theorem blk_g1 (c : Dev nD) (t : Fin cfg0.N) (k : Fin 1024) : (iblk m c 5 t : S1x1024.Idx → EReal) (ix2 0 k) = aG1 m c k := by
  rw [← V_g1]
  unfold iblk
  rw [View.read_apply]
  show V m c main_v7 _ = V m c main_v7 _
  congr 1
  funext a
  apply Fin.ext
  match a with
  | ⟨0, _⟩ =>
    show cc0_transform_5 (grid0.coords t) 0 * 1 + 1 * 0 = 0
    rw [i5]
    show 0 * 1 + 1 * 0 = _
    omega
  | ⟨1, _⟩ =>
    show cc0_transform_5 (grid0.coords t) 1 * 1024 + 1 * k.val = k.val
    rw [i5]
    show 0 * 1024 + 1 * k.val = _
    omega

theorem blk_b1 (c : Dev nD) (t : Fin cfg0.N) (k : Fin 1024) : (iblk m c 6 t : S1x1024.Idx → EReal) (ix2 0 k) = aB1 m c k := by
  rw [← V_b1]
  unfold iblk
  rw [View.read_apply]
  show V m c main_v8 _ = V m c main_v8 _
  congr 1
  funext a
  apply Fin.ext
  match a with
  | ⟨0, _⟩ =>
    show cc0_transform_6 (grid0.coords t) 0 * 1 + 1 * 0 = 0
    rw [i6]
    show 0 * 1 + 1 * 0 = _
    omega
  | ⟨1, _⟩ =>
    show cc0_transform_6 (grid0.coords t) 1 * 1024 + 1 * k.val = k.val
    rw [i6]
    show 0 * 1024 + 1 * k.val = _
    omega

theorem blk_w1 (c : Dev nD) (t : Fin cfg0.N) (j : Fin 4) (r k : Fin 1024) : (iblk m c 7 t : S4x1024x1024.Idx → EReal) (ix3 j r k) = aW1 m c r (hid j k) := by
  rw [← V_w1]
  unfold iblk
  rw [View.read_apply]
  show V m c main_v11 _ = V m c main_v11 _
  congr 1
  funext a
  apply Fin.ext
  match a with
  | ⟨0, _⟩ =>
    show cc0_transform_7 (grid0.coords t) 0 * 4 + 1 * j.val = j.val
    rw [i7]
    show 0 * 4 + 1 * j.val = _
    omega
  | ⟨1, _⟩ =>
    show cc0_transform_7 (grid0.coords t) 1 * 1024 + 1 * r.val = r.val
    rw [i7]
    show 0 * 1024 + 1 * r.val = _
    omega
  | ⟨2, _⟩ =>
    show cc0_transform_7 (grid0.coords t) 2 * 1024 + 1 * k.val = k.val
    rw [i7]
    show 0 * 1024 + 1 * k.val = _
    omega

theorem blk_w2 (c : Dev nD) (t : Fin cfg0.N) (j : Fin 4) (r k : Fin 1024) : (iblk m c 8 t : S4x1024x1024.Idx → EReal) (ix3 j r k) = aW2 m c (hid j r) k := by
  rw [← V_w2]
  unfold iblk
  rw [View.read_apply]
  show V m c main_v13 _ = V m c main_v13 _
  congr 1
  funext a
  apply Fin.ext
  match a with
  | ⟨0, _⟩ =>
    show cc0_transform_8 (grid0.coords t) 0 * 4 + 1 * j.val = j.val
    rw [i8]
    show 0 * 4 + 1 * j.val = _
    omega
  | ⟨1, _⟩ =>
    show cc0_transform_8 (grid0.coords t) 1 * 1024 + 1 * r.val = r.val
    rw [i8]
    show 0 * 1024 + 1 * r.val = _
    omega
  | ⟨2, _⟩ =>
    show cc0_transform_8 (grid0.coords t) 2 * 1024 + 1 * k.val = k.val
    rw [i8]
    show 0 * 1024 + 1 * k.val = _
    omega

theorem blk_g2 (c : Dev nD) (t : Fin cfg0.N) (k : Fin 1024) : (iblk m c 9 t : S1x1024.Idx → EReal) (ix2 0 k) = aG2 m c k := by
  rw [← V_g2]
  unfold iblk
  rw [View.read_apply]
  show V m c main_v14 _ = V m c main_v14 _
  congr 1
  funext a
  apply Fin.ext
  match a with
  | ⟨0, _⟩ =>
    show cc0_transform_9 (grid0.coords t) 0 * 1 + 1 * 0 = 0
    rw [i9]
    show 0 * 1 + 1 * 0 = _
    omega
  | ⟨1, _⟩ =>
    show cc0_transform_9 (grid0.coords t) 1 * 1024 + 1 * k.val = k.val
    rw [i9]
    show 0 * 1024 + 1 * k.val = _
    omega

theorem blk_b2 (c : Dev nD) (t : Fin cfg0.N) (k : Fin 1024) : (iblk m c 10 t : S1x1024.Idx → EReal) (ix2 0 k) = aB2 m c k := by
  rw [← V_b2]
  unfold iblk
  rw [View.read_apply]
  show V m c main_v15 _ = V m c main_v15 _
  congr 1
  funext a
  apply Fin.ext
  match a with
  | ⟨0, _⟩ =>
    show cc0_transform_10 (grid0.coords t) 0 * 1 + 1 * 0 = 0
    rw [i10]
    show 0 * 1 + 1 * 0 = _
    omega
  | ⟨1, _⟩ =>
    show cc0_transform_10 (grid0.coords t) 1 * 1024 + 1 * k.val = k.val
    rw [i10]
    show 0 * 1024 + 1 * k.val = _
    omega

theorem blk_t (c : Dev nD) (t : Fin cfg0.N) (r : Fin 512) (k : Fin 1024) : (iblk m c 11 t : S512x1024.Idx → EReal) (ix2 r k) = aT m c (row (blkOf t) r) k := by
  rw [← V_t]
  unfold iblk
  rw [View.read_apply]
  show V m c main_arg9 _ = V m c main_arg9 _
  congr 1
  funext a
  apply Fin.ext
  match a with
  | ⟨0, _⟩ =>
    show cc0_transform_11 (grid0.coords t) 0 * 512 + 1 * r.val = 512 * t.val + r.val
    rw [i11]
    show t.val * 512 + 1 * r.val = _
    omega
  | ⟨1, _⟩ =>
    show cc0_transform_11 (grid0.coords t) 1 * 1024 + 1 * k.val = k.val
    rw [i11]
    show 0 * 1024 + 1 * k.val = _
    omega

/-! ## What a block's values are -/

theorem s1_blk (c : Dev nD) (t : Fin cfg0.N) (r : Fin 512) (k : Fin 1024) :
    s1V (iblk m c 0 t) (iblk m c 1 t) (iblk m c 2 t) (iblk m c 3 t) (iblk m c 4 t) r k = s1 (aY m c) (aX m c) (aWo m c) (row (blkOf t) r) k := by
  unfold s1V s1
  rw [sum_groups]
  refine congrArg₂ (· + ·) (congrArg (_ * ·) (blk_x m c t r k)) (congrArg₂ (· + ·) (congrArg₂ (· + ·) ?_ ?_) ?_)
  · exact Finset.sum_congr rfl fun p _ => congrArg₂ (· * ·) (blk_ya m c t r p) (blk_wo m c t (pa p) k)
  · exact Finset.sum_congr rfl fun p _ => congrArg₂ (· * ·) (blk_yb m c t r p) (blk_wo m c t (pb p) k)
  · exact Finset.sum_congr rfl fun p _ => congrArg₂ (· * ·) (blk_yc m c t r p) (blk_wo m c t (pc p) k)

theorem scaled_congr {s s' g g' b b' : Fin 1024 → EReal} (hs : ∀ j, s j = s' j) (hg : ∀ j, g j = g' j) (hb : ∀ j, b j = b' j) (k : Fin 1024) :
    scaled s g b k = scaled s' g' b' k := by
  rw [funext hs, funext hg, funext hb]

theorem x1_blk (c : Dev nD) (t : Fin cfg0.N) (r : Fin 512) (k : Fin 1024) :
    x1V (iblk m c 0 t) (iblk m c 1 t) (iblk m c 2 t) (iblk m c 3 t) (iblk m c 4 t) (iblk m c 5 t) (iblk m c 6 t) r k = x1 (aY m c) (aX m c) (aWo m c) (aG1 m c) (aB1 m c) (row (blkOf t) r) k :=
  scaled_congr (fun j => s1_blk m c t r j) (fun j => blk_g1 m c t j) (fun j => blk_b1 m c t j) k

theorem a_blk (c : Dev nD) (t : Fin cfg0.N) (r : Fin 512) (j : Fin 4) (q : Fin 1024) :
    aV (iblk m c 0 t) (iblk m c 1 t) (iblk m c 2 t) (iblk m c 3 t) (iblk m c 4 t) (iblk m c 5 t) (iblk m c 6 t) (iblk m c 7 t) r j q = hid1 (aY m c) (aX m c) (aWo m c) (aG1 m c) (aB1 m c) (aW1 m c) (row (blkOf t) r) (hid j q) := by
  unfold aV hid1 lin
  exact Finset.sum_congr rfl fun k _ => congrArg₂ (· * ·) (x1_blk m c t r k) (blk_w1 m c t j k q)

theorem h_blk (c : Dev nD) (t : Fin cfg0.N) (j : Fin 4) (r : Fin 512) (k : Fin 1024) :
    hV (iblk m c 0 t) (iblk m c 1 t) (iblk m c 2 t) (iblk m c 3 t) (iblk m c 4 t) (iblk m c 5 t) (iblk m c 6 t) (iblk m c 7 t) (iblk m c 8 t) j r k = ∑ q : Fin 1024, max (hid1 (aY m c) (aX m c) (aWo m c) (aG1 m c) (aB1 m c) (aW1 m c) (row (blkOf t) r) (hid j q)) 0
      * max (hid1 (aY m c) (aX m c) (aWo m c) (aG1 m c) (aB1 m c) (aW1 m c) (row (blkOf t) r) (hid j q)) 0 * aW2 m c (hid j q) k := by
  unfold hV
  refine Finset.sum_congr rfl fun q _ => congrArg₂ (· * ·) ?_ (blk_w2 m c t j q k)
  rw [a_blk]

theorem s2_blk (c : Dev nD) (t : Fin cfg0.N) (r : Fin 512) (k : Fin 1024) :
    s2V (iblk m c 0 t) (iblk m c 1 t) (iblk m c 2 t) (iblk m c 3 t) (iblk m c 4 t) (iblk m c 5 t) (iblk m c 6 t) (iblk m c 7 t) (iblk m c 8 t) r k = s2 (aY m c) (aX m c) (aWo m c) (aG1 m c) (aB1 m c) (aW1 m c) (aW2 m c) (row (blkOf t) r) k := by
  unfold s2V s2 pre
  rw [sum_hid, Fin.sum_univ_four, ← add_assoc, ← add_assoc, ← add_assoc, x1_blk, h_blk, h_blk, h_blk, h_blk]
  rfl

theorem x2_blk (c : Dev nD) (t : Fin cfg0.N) (r : Fin 512) (k : Fin 1024) :
    x2V (iblk m c 0 t) (iblk m c 1 t) (iblk m c 2 t) (iblk m c 3 t) (iblk m c 4 t) (iblk m c 5 t) (iblk m c 6 t) (iblk m c 7 t) (iblk m c 8 t) (iblk m c 9 t) (iblk m c 10 t) r k = x2 (aY m c) (aX m c) (aWo m c) (aG1 m c) (aB1 m c) (aW1 m c) (aW2 m c) (aG2 m c) (aB2 m c) (row (blkOf t) r) k :=
  scaled_congr (fun j => s2_blk m c t r j) (fun j => blk_g2 m c t j) (fun j => blk_b2 m c t j) k

/-- One block's part of the loss. -/
def lossT (c : Dev nD) (t : Fin 8) : EReal :=
  (∑ r : Fin 512, ∑ k : Fin 1024, (x2 (aY m c) (aX m c) (aWo m c) (aG1 m c) (aB1 m c) (aW1 m c) (aW2 m c) (aG2 m c) (aB2 m c) (row t r) k - aT m c (row t r) k) * (x2 (aY m c) (aX m c) (aWo m c) (aG1 m c) (aB1 m c) (aW1 m c) (aW2 m c) (aG2 m c) (aB2 m c) (row t r) k - aT m c (row t r) k))
    * Ideal.ofBits .f32 0x3A000000#32

theorem e_blk (c : Dev nD) (t : Fin cfg0.N) : eV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = lossT m c (blkOf t) := by
  unfold eV lossT
  refine congrArg (· * _) (Finset.sum_congr rfl fun r _ => Finset.sum_congr rfl fun k _ => ?_)
  have h : (iblk m c 11 t : S512x1024.Idx → EReal) (ix2 r k) = aT m c (row (blkOf t) r) k := blk_t m c t r k
  exact congrArg₂ (· * ·) (congrArg₂ (· - ·) (x2_blk m c t r k) h) (congrArg₂ (· - ·) (x2_blk m c t r k) h)

end Cert.Mix4

end
-- ==== Proof.Mix4Run.lean ====
/- The arrays of the mixed rows' layer after a run, element by element, as functions of the arguments (call 4). -/
module

public import proofs.«01_k».proof.Proof.Mix4Blk
public import proofs.«01_k».proof.Proof.Gen.Kernel4Ideal.Value
@[expose] public section

noncomputable section

namespace Cert.Mix4

open Cert.Kernel4Ideal Cert.Kernel4Ideal.Gen Cert.Norm Cert.Spec Cert.Mix Idealize.ShloMosaic Idealize.ShloMosaic.TcCoe Idealize.SL.Sem

variable (m : (ℓ : Loc nD τ sig) → Buf (Elt Ideal) ℓ)

theorem pt12 (c : Dev nD) (t : Fin cfg0.N) (r : Fin 512) (k : Fin 1024) : ((outsAt0 m c t.val t.isLt).1 : S512x1024.Idx → EReal) (ix2 r k) = s1 (aY m c) (aX m c) (aWo m c) (row (blkOf t) r) k := by
  rw [← s1_blk]
  by_cases h0 : t.val % 8 = 0
  · rw [outsAt0_A m c t h0]
    dsimp only
    rw [out12_A]
  · rw [outsAt0_B m c t h0]
    dsimp only
    rw [out12_B]

theorem arr12 (c : Dev nD) (n : Fin 4096) (k : Fin 1024) : ((Gen.dats m 0 c).arrAt 12 cfg0.N : S4096x1024.Idx → EReal) (ix2 n k) = s1 (aY m c) (aX m c) (aWo m c) n k := by
  obtain ⟨t, r, rfl⟩ := row_surj n
  have hN : t.val < cfg0.N := lt_of_lt_of_eq t.isLt (by decide)
  have h := congrFun (Value.blocks12 m c ⟨t.val, hN⟩ (flush0_12 _)) (ix2 r k : S512x1024.Idx)
  rw [View.read_apply, Value.flushed12] at h
  refine Eq.trans ?_ (h.trans (pt12 m c ⟨t.val, hN⟩ r k))
  show (Gen.dats m 0 c).arrAt 12 cfg0.N _ = (Gen.dats m 0 c).arrAt 12 cfg0.N _
  congr 1
  funext a
  apply Fin.ext
  match a with
  | ⟨0, _⟩ =>
    show 512 * t.val + r.val = cc0_transform_12 (grid0.coords ⟨t.val, hN⟩) 0 * 512 + 1 * r.val
    rw [i12]
    show _ = t.val * 512 + 1 * r.val
    omega
  | ⟨1, _⟩ =>
    show k.val = cc0_transform_12 (grid0.coords ⟨t.val, hN⟩) 1 * 1024 + 1 * k.val
    rw [i12]
    show _ = 0 * 1024 + 1 * k.val
    omega

theorem pt13 (c : Dev nD) (t : Fin cfg0.N) (r : Fin 512) (k : Fin 1024) : ((outsAt0 m c t.val t.isLt).2.1 : S512x1024.Idx → EReal) (ix2 r k) = x1 (aY m c) (aX m c) (aWo m c) (aG1 m c) (aB1 m c) (row (blkOf t) r) k := by
  rw [← x1_blk]
  by_cases h0 : t.val % 8 = 0
  · rw [outsAt0_A m c t h0]
    dsimp only
    rw [out13_A]
  · rw [outsAt0_B m c t h0]
    dsimp only
    rw [out13_B]

theorem arr13 (c : Dev nD) (n : Fin 4096) (k : Fin 1024) : ((Gen.dats m 0 c).arrAt 13 cfg0.N : S4096x1024.Idx → EReal) (ix2 n k) = x1 (aY m c) (aX m c) (aWo m c) (aG1 m c) (aB1 m c) n k := by
  obtain ⟨t, r, rfl⟩ := row_surj n
  have hN : t.val < cfg0.N := lt_of_lt_of_eq t.isLt (by decide)
  have h := congrFun (Value.blocks13 m c ⟨t.val, hN⟩ (flush0_13 _)) (ix2 r k : S512x1024.Idx)
  rw [View.read_apply, Value.flushed13] at h
  refine Eq.trans ?_ (h.trans (pt13 m c ⟨t.val, hN⟩ r k))
  show (Gen.dats m 0 c).arrAt 13 cfg0.N _ = (Gen.dats m 0 c).arrAt 13 cfg0.N _
  congr 1
  funext a
  apply Fin.ext
  match a with
  | ⟨0, _⟩ =>
    show 512 * t.val + r.val = cc0_transform_13 (grid0.coords ⟨t.val, hN⟩) 0 * 512 + 1 * r.val
    rw [i13]
    show _ = t.val * 512 + 1 * r.val
    omega
  | ⟨1, _⟩ =>
    show k.val = cc0_transform_13 (grid0.coords ⟨t.val, hN⟩) 1 * 1024 + 1 * k.val
    rw [i13]
    show _ = 0 * 1024 + 1 * k.val
    omega

theorem pt14 (c : Dev nD) (t : Fin cfg0.N) (r : Fin 512) (j : Fin 4) (q : Fin 1024) : ((outsAt0 m c t.val t.isLt).2.2.1 : S512x4096.Idx → EReal) (ix2 r (hid j q)) = hid1 (aY m c) (aX m c) (aWo m c) (aG1 m c) (aB1 m c) (aW1 m c) (row (blkOf t) r) (hid j q) := by
  rw [← a_blk]
  by_cases h0 : t.val % 8 = 0
  · rw [outsAt0_A m c t h0]
    dsimp only
    rw [out14_A]
  · rw [outsAt0_B m c t h0]
    dsimp only
    rw [out14_B]

theorem arr14 (c : Dev nD) (n : Fin 4096) (f : Fin 4096) : ((Gen.dats m 0 c).arrAt 14 cfg0.N : S4096x4096.Idx → EReal) (ix2 n f) = hid1 (aY m c) (aX m c) (aWo m c) (aG1 m c) (aB1 m c) (aW1 m c) n f := by
  obtain ⟨t, r, rfl⟩ := row_surj n
  obtain ⟨j, q, rfl⟩ := hid_surj f
  have hN : t.val < cfg0.N := lt_of_lt_of_eq t.isLt (by decide)
  have h := congrFun (Value.blocks14 m c ⟨t.val, hN⟩ (flush0_14 _)) (ix2 r (hid j q) : S512x4096.Idx)
  rw [View.read_apply, Value.flushed14] at h
  refine Eq.trans ?_ (h.trans (pt14 m c ⟨t.val, hN⟩ r j q))
  show (Gen.dats m 0 c).arrAt 14 cfg0.N _ = (Gen.dats m 0 c).arrAt 14 cfg0.N _
  congr 1
  funext a
  apply Fin.ext
  match a with
  | ⟨0, _⟩ =>
    show 512 * t.val + r.val = cc0_transform_14 (grid0.coords ⟨t.val, hN⟩) 0 * 512 + 1 * r.val
    rw [i14]
    show _ = t.val * 512 + 1 * r.val
    omega
  | ⟨1, _⟩ =>
    show (hid j q).val = cc0_transform_14 (grid0.coords ⟨t.val, hN⟩) 1 * 4096 + 1 * (hid j q).val
    rw [i14]
    show _ = 0 * 4096 + 1 * (hid j q).val
    omega

theorem pt15 (c : Dev nD) (t : Fin cfg0.N) (r : Fin 512) (k : Fin 1024) : ((outsAt0 m c t.val t.isLt).2.2.2.1 : S512x1024.Idx → EReal) (ix2 r k) = s2 (aY m c) (aX m c) (aWo m c) (aG1 m c) (aB1 m c) (aW1 m c) (aW2 m c) (row (blkOf t) r) k := by
  rw [← s2_blk]
  by_cases h0 : t.val % 8 = 0
  · rw [outsAt0_A m c t h0]
    dsimp only
    rw [out15_A]
  · rw [outsAt0_B m c t h0]
    dsimp only
    rw [out15_B]

theorem arr15 (c : Dev nD) (n : Fin 4096) (k : Fin 1024) : ((Gen.dats m 0 c).arrAt 15 cfg0.N : S4096x1024.Idx → EReal) (ix2 n k) = s2 (aY m c) (aX m c) (aWo m c) (aG1 m c) (aB1 m c) (aW1 m c) (aW2 m c) n k := by
  obtain ⟨t, r, rfl⟩ := row_surj n
  have hN : t.val < cfg0.N := lt_of_lt_of_eq t.isLt (by decide)
  have h := congrFun (Value.blocks15 m c ⟨t.val, hN⟩ (flush0_15 _)) (ix2 r k : S512x1024.Idx)
  rw [View.read_apply, Value.flushed15] at h
  refine Eq.trans ?_ (h.trans (pt15 m c ⟨t.val, hN⟩ r k))
  show (Gen.dats m 0 c).arrAt 15 cfg0.N _ = (Gen.dats m 0 c).arrAt 15 cfg0.N _
  congr 1
  funext a
  apply Fin.ext
  match a with
  | ⟨0, _⟩ =>
    show 512 * t.val + r.val = cc0_transform_15 (grid0.coords ⟨t.val, hN⟩) 0 * 512 + 1 * r.val
    rw [i15]
    show _ = t.val * 512 + 1 * r.val
    omega
  | ⟨1, _⟩ =>
    show k.val = cc0_transform_15 (grid0.coords ⟨t.val, hN⟩) 1 * 1024 + 1 * k.val
    rw [i15]
    show _ = 0 * 1024 + 1 * k.val
    omega

theorem pt16 (c : Dev nD) (t : Fin cfg0.N) (r : Fin 512) (k : Fin 1024) : ((outsAt0 m c t.val t.isLt).2.2.2.2.1 : S512x1024.Idx → EReal) (ix2 r k) = (x2 (aY m c) (aX m c) (aWo m c) (aG1 m c) (aB1 m c) (aW1 m c) (aW2 m c) (aG2 m c) (aB2 m c) (row (blkOf t) r) k - aT m c (row (blkOf t) r) k) * Ideal.ofBits .f32 0x3A800000#32 := by
  rw [← x2_blk]
  have ht := blk_t m c t r k
  rw [← ht]
  by_cases h0 : t.val % 8 = 0
  · rw [outsAt0_A m c t h0]
    dsimp only
    rw [out16_A]
  · rw [outsAt0_B m c t h0]
    dsimp only
    rw [out16_B]

theorem arr16 (c : Dev nD) (n : Fin 4096) (k : Fin 1024) : ((Gen.dats m 0 c).arrAt 16 cfg0.N : S4096x1024.Idx → EReal) (ix2 n k) = (x2 (aY m c) (aX m c) (aWo m c) (aG1 m c) (aB1 m c) (aW1 m c) (aW2 m c) (aG2 m c) (aB2 m c) n k - aT m c n k) * Ideal.ofBits .f32 0x3A800000#32 := by
  obtain ⟨t, r, rfl⟩ := row_surj n
  have hN : t.val < cfg0.N := lt_of_lt_of_eq t.isLt (by decide)
  have h := congrFun (Value.blocks16 m c ⟨t.val, hN⟩ (flush0_16 _)) (ix2 r k : S512x1024.Idx)
  rw [View.read_apply, Value.flushed16] at h
  refine Eq.trans ?_ (h.trans (pt16 m c ⟨t.val, hN⟩ r k))
  show (Gen.dats m 0 c).arrAt 16 cfg0.N _ = (Gen.dats m 0 c).arrAt 16 cfg0.N _
  congr 1
  funext a
  apply Fin.ext
  match a with
  | ⟨0, _⟩ =>
    show 512 * t.val + r.val = cc0_transform_16 (grid0.coords ⟨t.val, hN⟩) 0 * 512 + 1 * r.val
    rw [i16]
    show _ = t.val * 512 + 1 * r.val
    omega
  | ⟨1, _⟩ =>
    show k.val = cc0_transform_16 (grid0.coords ⟨t.val, hN⟩) 1 * 1024 + 1 * k.val
    rw [i16]
    show _ = 0 * 1024 + 1 * k.val
    omega

theorem outs17 (c : Dev nD) (i : Fin 8) (j : Fin 128) : ∀ (n : ℕ) (hn : n < cfg0.N) (h8 : n < 8),
    ((outsAt0 m c n hn).2.2.2.2.2 : S8x128.Idx → EReal) (ix2 i j) = ∑ u : Fin (n + 1), lossT m c ⟨u.val, by omega⟩
  | 0, hn, h8 => by
    have e : outsAt0 m c 0 hn = _ := outsAt0_A m c ⟨0, hn⟩ rfl
    rw [e]
    dsimp only
    rw [out17_A]
    exact (congrArg (0 + ·) (e_blk m c ⟨0, hn⟩)).trans (by rw [zero_add, Fin.sum_univ_one]; rfl)
  | n + 1, hn, h8 => by
    have e : outsAt0 m c (n + 1) hn = _ := outsAt0_B m c ⟨n + 1, hn⟩ (show ¬(n + 1) % 8 = 0 by omega)
    have ih := outs17 c i j n (Nat.lt_of_succ_lt hn) (by omega)
    rw [e]
    dsimp only
    rw [out17_B]
    exact (congrArg₂ (· + ·) ih (e_blk m c ⟨n + 1, hn⟩)).trans (by rw [Fin.sum_univ_castSucc (n := n + 1)]; rfl)

theorem last17 (c : Dev nD) (i : Fin 8) (j : Fin 128) (t : Fin cfg0.N) (ht : t.val = 7) :
    ((Gen.dats m 0 c).arrAt 17 cfg0.N : S8x128.Idx → EReal) (ix2 i j) = ∑ u : Fin 8, lossT m c u := by
  have hd : ∀ t t' : Fin cfg0.N, (cfg0.win 17).flush t = true → (cfg0.win 17).flush t' = true → t ≠ t' →
      Disjoint ((cfg0.win 17).blk t).view.set ((cfg0.win 17).blk t').view.set := fun t t' h h' hne => by
    have e := (flush0_17 t).mp h
    have e' := (flush0_17 t').mp h'
    have b : t.val < 8 := lt_of_lt_of_eq t.isLt (by decide)
    have b' : t'.val < 8 := lt_of_lt_of_eq t'.isLt (by decide)
    exact absurd (Fin.ext (by omega)) hne
  have h := congrFun ((Gen.dats m 0 c).read_blk_arrAt_eq_flushed 17 hd cfg0.N t t.isLt ((flush0_17 t).mpr (by omega))) (ix2 i j : S8x128.Idx)
  rw [View.read_apply, Value.flushed17] at h
  refine Eq.trans ?_ (h.trans ((outs17 m c i j t.val t.isLt (by omega) :).trans ?_))
  · show (Gen.dats m 0 c).arrAt 17 cfg0.N _ = (Gen.dats m 0 c).arrAt 17 cfg0.N _
    congr 1
    funext a
    apply Fin.ext
    match a with
    | ⟨0, _⟩ =>
      show i.val = cc0_transform_17 (grid0.coords t) 0 * 8 + 1 * i.val
      rw [i17]
      show _ = 0 * 8 + 1 * i.val
      omega
    | ⟨1, _⟩ =>
      show j.val = cc0_transform_17 (grid0.coords t) 1 * 128 + 1 * j.val
      rw [i17]
      show _ = 0 * 128 + 1 * j.val
      omega
  · obtain ⟨n, hn⟩ := t
    obtain rfl : n = 7 := ht
    rfl

theorem arr17 (c : Dev nD) (i : Fin 8) (j : Fin 128) : ((Gen.dats m 0 c).arrAt 17 cfg0.N : S8x128.Idx → EReal) (ix2 i j) = ∑ u : Fin 8, lossT m c u :=
  last17 m c i j ⟨7, by decide⟩ rfl

end Cert.Mix4

end
-- ==== Proof.Mix4Ref.lean ====
/- The reference's results of the mixed rows' layer, element by element (call 4). -/
module

public import proofs.«01_k».proof.Proof.Gen.Reference4Ideal.Read
public import proofs.«01_k».proof.Proof.Mix
public import proofs.«01_k».proof.Proof.Finite
public import Idealize.ShloMosaic.Lib.Pointwise

@[expose] public section

noncomputable section

namespace Cert.MixRef4

open Cert.Reference4Ideal Cert.Reference4Ideal.Gen Cert.Reference4Ideal.Read Cert.Norm Cert.Spec Cert.Mix Idealize.ShloMosaic

variable (y x : Vec Ideal S4096x1024 .f32) (wo : Vec Ideal S1024x1024 .f32) (g1 b1 : Vec Ideal S1024 .f32) (w1 : Vec Ideal S1024x4096 .f32)
  (w2 : Vec Ideal S4096x1024 .f32) (g2 b2 : Vec Ideal S1024 .f32) (t : Vec Ideal S4096x1024 .f32)

abbrev fX (n : Fin 4096) (k : Fin 1024) : EReal := x (ix2 n k)
abbrev fWo (p k : Fin 1024) : EReal := wo (ix2 p k)
abbrev fW1 (k : Fin 1024) (f : Fin 4096) : EReal := w1 (ix2 k f)
abbrev fG (k : Fin 1024) : EReal := g1 (ix1 k)

abbrev fS1 : Fin 4096 → Fin 1024 → EReal := s1 (fX y) (fX x) (fWo wo)
abbrev fS2 : Fin 4096 → Fin 1024 → EReal := s2 (fX y) (fX x) (fWo wo) (fG g1) (fG b1) (fW1 w1) (fX w2)

theorem v3 (n : Fin 4096) (k : Fin 1024) : val_main_v3 (F := Ideal) y x wo (ix2 n k) = fS1 y x wo n k := by
  unfold val_main_v3 val_main_v2 val_main_v1 val_main_v0 val_main_cst fS1 s1
  pointwise

theorem v7 (n : Fin 4096) : val_main_v7 (F := Ideal) y x wo (ix2 n 0) = Ideal.div (∑ j, fS1 y x wo n j) (Ideal.ofBits .f32 0x44800000#32) := by
  unfold val_main_v7 val_main_v6 val_main_v5 val_main_v4 val_main_cst_0 val_main_cst_1
  pointwise [v3]

theorem v9 (n : Fin 4096) (k : Fin 1024) : val_main_v9 (F := Ideal) y x wo (ix2 n k) = cen (fS1 y x wo n) k := by
  unfold val_main_v9 val_main_v8 cen
  pointwise [v3, v7]

theorem v16 (n : Fin 4096) (k : Fin 1024) : val_main_v16 (F := Ideal) y x wo (ix2 n k) = cen (fS1 y x wo n) k := by
  unfold val_main_v16 val_main_v15 cen
  pointwise [v3, v7]

theorem v19 (n : Fin 4096) : val_main_v19 (F := Ideal) y x wo (ix2 n 0) = rstd (fS1 y x wo n) := by
  unfold val_main_v19 val_main_v18 val_main_v17 val_main_cst_4 val_main_v14 val_main_v13 val_main_cst_3 val_main_v12 val_main_v11 val_main_cst_2 val_main_v10 rstd vare
  pointwise [v9]

theorem v27 (n : Fin 4096) (k : Fin 1024) : val_main_v27 (F := Ideal) y x wo g1 b1 (ix2 n k) = x1 (fX y) (fX x) (fWo wo) (fG g1) (fG b1) n k := by
  unfold val_main_v27 val_main_v26 val_main_v25 val_main_v24 val_main_v23 val_main_v22 val_main_v21 val_main_v20 x1 scaled
  pointwise [v16, v19]

theorem v28 (n : Fin 4096) (f : Fin 4096) : val_main_v28 (F := Ideal) y x wo g1 b1 w1 (ix2 n f)
    = hid1 (fX y) (fX x) (fWo wo) (fG g1) (fG b1) (fW1 w1) n f := by
  unfold val_main_v28 hid1 lin
  pointwise [v27]

theorem v34 (n : Fin 4096) (k : Fin 1024) : val_main_v34 (F := Ideal) y x wo g1 b1 w1 w2 (ix2 n k) = fS2 y x wo g1 b1 w1 w2 n k := by
  unfold val_main_v34 val_main_v33 val_main_v32 val_main_v31 val_main_call0_v0 val_main_call0_cst val_main_v30 val_main_v29 val_main_cst_5 fS2 s2 pre
  pointwise [v27, v28]
  rfl

theorem v35 (n : Fin 4096) (f : Fin 4096) : val_main_v35 (F := Ideal) y x wo g1 b1 w1 (ix2 n f)
    = hid1 (fX y) (fX x) (fWo wo) (fG g1) (fG b1) (fW1 w1) n f := by
  unfold val_main_v35
  pointwise [v28]

theorem v39 (n : Fin 4096) : val_main_v39 (F := Ideal) y x wo g1 b1 w1 w2 (ix2 n 0)
    = Ideal.div (∑ j, fS2 y x wo g1 b1 w1 w2 n j) (Ideal.ofBits .f32 0x44800000#32) := by
  unfold val_main_v39 val_main_v38 val_main_v37 val_main_v36 val_main_cst_6 val_main_cst_7
  pointwise [v34]

theorem v41 (n : Fin 4096) (k : Fin 1024) : val_main_v41 (F := Ideal) y x wo g1 b1 w1 w2 (ix2 n k) = cen (fS2 y x wo g1 b1 w1 w2 n) k := by
  unfold val_main_v41 val_main_v40 cen
  pointwise [v34, v39]

theorem v48 (n : Fin 4096) (k : Fin 1024) : val_main_v48 (F := Ideal) y x wo g1 b1 w1 w2 (ix2 n k) = cen (fS2 y x wo g1 b1 w1 w2 n) k := by
  unfold val_main_v48 val_main_v47 cen
  pointwise [v34, v39]

theorem v51 (n : Fin 4096) : val_main_v51 (F := Ideal) y x wo g1 b1 w1 w2 (ix2 n 0) = rstd (fS2 y x wo g1 b1 w1 w2 n) := by
  unfold val_main_v51 val_main_v50 val_main_v49 val_main_cst_10 val_main_v46 val_main_v45 val_main_cst_9 val_main_v44 val_main_v43 val_main_cst_8 val_main_v42 rstd vare
  pointwise [v41]

theorem v59 (n : Fin 4096) (k : Fin 1024) : val_main_v59 (F := Ideal) y x wo g1 b1 w1 w2 g2 b2 (ix2 n k)
    = x2 (fX y) (fX x) (fWo wo) (fG g1) (fG b1) (fW1 w1) (fX w2) (fG g2) (fG b2) n k := by
  unfold val_main_v59 val_main_v58 val_main_v57 val_main_v56 val_main_v55 val_main_v54 val_main_v53 val_main_v52 x2 scaled
  pointwise [v48, v51]

abbrev fE (n : Fin 4096) (k : Fin 1024) : EReal :=
  x2 (fX y) (fX x) (fWo wo) (fG g1) (fG b1) (fW1 w1) (fX w2) (fG g2) (fG b2) n k - fX t n k

theorem v60 (n : Fin 4096) (k : Fin 1024) : val_main_v60 (F := Ideal) y x wo g1 b1 w1 w2 g2 b2 t (ix2 n k) = fE y x wo g1 b1 w1 w2 g2 b2 t n k := by
  unfold val_main_v60
  pointwise [v59]

/-- Half of two 1024th parts is one 1024th part. -/
theorem half_of_two (e : EReal) : Ideal.div (Ideal.ofBits .f32 0x3F000000#32) (Ideal.ofBits .f32 0x44800000#32)
    * (Ideal.ofBits .f32 0x40000000#32 * e) = e * Ideal.ofBits .f32 0x3A800000#32 := by
  have h2 : Ideal.ofBits .f32 0x3A800000#32 = ((1 / 1024 : ℝ) : EReal) := by
    simp [Ideal.ofBits, Ideal.ieee, -EReal.coe_mul]
    norm_num
  have h3 : Ideal.ofBits .f32 0x3F000000#32 = ((1 / 2 : ℝ) : EReal) := by
    simp [Ideal.ofBits, Ideal.ieee, -EReal.coe_mul]
    norm_num
  rw [h3, div_1024, bits_two, ← mul_assoc, ← EReal.coe_mul, h2, mul_comm e]
  congr 2
  norm_num

theorem v74 (n : Fin 4096) (k : Fin 1024) : val_main_v74 (F := Ideal) y x wo g1 b1 w1 w2 g2 b2 t (ix2 n k)
    = fE y x wo g1 b1 w1 w2 g2 b2 t n k * Ideal.ofBits .f32 0x3A800000#32 := by
  unfold val_main_v74 val_main_v73 val_main_v72 val_main_v71 val_main_cst_18 val_main_v70 val_main_v69 val_main_cst_16 val_main_cst_17 val_main_v63 val_main_v62 val_main_cst_11
  pointwise [v60]
  exact half_of_two _

theorem v75 (i : Fin 8) (j : Fin 128) : val_main_v75 (F := Ideal) y x wo g1 b1 w1 w2 g2 b2 t (ix2 i j)
    = Ideal.ofBits .f32 0x3F000000#32 * ∑ n : Fin 4096, Ideal.div (∑ k, fE y x wo g1 b1 w1 w2 g2 b2 t n k * fE y x wo g1 b1 w1 w2 g2 b2 t n k) (Ideal.ofBits .f32 0x44800000#32) := by
  unfold val_main_v75 val_main_v68 val_main_cst_15 val_main_v67 val_main_cst_14 val_main_v66 val_main_v65 val_main_cst_13 val_main_v64 val_main_cst_12 val_main_v61
  pointwise [v60]

/-- A finite factor that is not negative goes through a sum. -/
theorem mul_sum_real {n : ℕ} (r : ℝ) (hr : 0 ≤ r) (f : Fin n → EReal) : (r : EReal) * ∑ i, f i = ∑ i, (r : EReal) * f i := by
  induction n with
  | zero => simp
  | succ n ih =>
    rw [Fin.sum_univ_castSucc, Fin.sum_univ_castSucc, EReal.left_distrib_of_nonneg_of_ne_top (EReal.coe_nonneg.2 hr) (EReal.coe_ne_top r), ih]

/-- The loss, by blocks. -/
theorem loss_blocks (q : Fin 4096 → EReal) :
    Ideal.ofBits .f32 0x3F000000#32 * ∑ n, Ideal.div (q n) (Ideal.ofBits .f32 0x44800000#32)
      = ∑ u : Fin 8, (∑ r : Fin 512, q (row u r)) * Ideal.ofBits .f32 0x3A000000#32 := by
  have h2 : Ideal.ofBits .f32 0x3A000000#32 = ((1 / 2 * (1 / 1024) : ℝ) : EReal) := by
    simp [Ideal.ofBits, Ideal.ieee, -EReal.coe_mul]
    norm_num
  have h3 : Ideal.ofBits .f32 0x3F000000#32 = ((1 / 2 : ℝ) : EReal) := by
    simp [Ideal.ofBits, Ideal.ieee, -EReal.coe_mul]
    norm_num
  have hd : ∀ n, Ideal.div (q n) (Ideal.ofBits .f32 0x44800000#32) = ((1 / 1024 : ℝ) : EReal) * q n := fun n => by
    rw [bits_1024, Ideal.div_coe (by norm_num : (1024 : ℝ) ≠ 0), mul_comm]
  rw [h3, h2, Finset.sum_congr rfl fun n _ => hd n, ← mul_sum_real _ (by norm_num), ← mul_assoc, ← EReal.coe_mul, sum_row,
    mul_sum_real _ (by norm_num)]
  exact Finset.sum_congr rfl fun u _ => mul_comm _ _

end Cert.MixRef4

end
-- ==== Proof.Mix4Claim.lean ====
/- The kernel of the mixed rows' layer and its reference end with equal results (call 4). -/
module

public import proofs.«01_k».proof.Defs
public import proofs.«01_k».proof.Proof.Gen.Reference4Ideal.Run
public import proofs.«01_k».proof.Proof.Mix4Run
public import proofs.«01_k».proof.Proof.Mix4Ref

@[expose] public section

noncomputable section

namespace Cert.Mix4

open Cert.Spec Cert.Mix Idealize.ShloMosaic Idealize.SL.Sem

section
open Cert.Kernel4Ideal Cert.Kernel4Ideal.Gen

variable (m : (ℓ : Loc nD τ sig) → Buf (Elt Ideal) ℓ) (c : Dev nD)

abbrev q0 : S4096x1024.Idx → EReal := m (c, Proc.tc.devRef main_arg0)
abbrev q1 : S4096x1024.Idx → EReal := m (c, Proc.tc.devRef main_arg1)
abbrev q2 : S1024x1024.Idx → EReal := m (c, Proc.tc.devRef main_arg2)
abbrev q3 : S1024.Idx → EReal := m (c, Proc.tc.devRef main_arg3)
abbrev q4 : S1024.Idx → EReal := m (c, Proc.tc.devRef main_arg4)
abbrev q5 : S1024x4096.Idx → EReal := m (c, Proc.tc.devRef main_arg5)
abbrev q6 : S4096x1024.Idx → EReal := m (c, Proc.tc.devRef main_arg6)
abbrev q7 : S1024.Idx → EReal := m (c, Proc.tc.devRef main_arg7)
abbrev q8 : S1024.Idx → EReal := m (c, Proc.tc.devRef main_arg8)
abbrev q9 : S4096x1024.Idx → EReal := m (c, Proc.tc.devRef main_arg9)

theorem res_v3 : Cert.Reference4Ideal.Read.val_main_v3 (F := Ideal) (q0 m c) (q1 m c) (q2 m c)
    = (Gen.dats m 0 c).arrAt 12 cfg0.N := by
  funext i
  obtain ⟨p, q, rfl⟩ : ∃ (p : Fin 4096) (q : Fin 1024), i = ix2 p q := ⟨i 0, i 1, (ix2_eta i).symm⟩
  rw [arr12]
  exact Cert.MixRef4.v3 _ _ _ p q

theorem res_v27 : Cert.Reference4Ideal.Read.val_main_v27 (F := Ideal) (q0 m c) (q1 m c) (q2 m c) (q3 m c) (q4 m c)
    = (Gen.dats m 0 c).arrAt 13 cfg0.N := by
  funext i
  obtain ⟨p, q, rfl⟩ : ∃ (p : Fin 4096) (q : Fin 1024), i = ix2 p q := ⟨i 0, i 1, (ix2_eta i).symm⟩
  rw [arr13]
  exact Cert.MixRef4.v27 _ _ _ _ _ p q

theorem res_v35 : Cert.Reference4Ideal.Read.val_main_v35 (F := Ideal) (q0 m c) (q1 m c) (q2 m c) (q3 m c) (q4 m c) (q5 m c)
    = (Gen.dats m 0 c).arrAt 14 cfg0.N := by
  funext i
  obtain ⟨p, q, rfl⟩ : ∃ (p : Fin 4096) (q : Fin 4096), i = ix2 p q := ⟨i 0, i 1, (ix2_eta i).symm⟩
  rw [arr14]
  exact Cert.MixRef4.v35 _ _ _ _ _ _ p q

theorem res_v34 : Cert.Reference4Ideal.Read.val_main_v34 (F := Ideal) (q0 m c) (q1 m c) (q2 m c) (q3 m c) (q4 m c) (q5 m c) (q6 m c)
    = (Gen.dats m 0 c).arrAt 15 cfg0.N := by
  funext i
  obtain ⟨p, q, rfl⟩ : ∃ (p : Fin 4096) (q : Fin 1024), i = ix2 p q := ⟨i 0, i 1, (ix2_eta i).symm⟩
  rw [arr15]
  exact Cert.MixRef4.v34 _ _ _ _ _ _ _ p q

theorem res_v74 : Cert.Reference4Ideal.Read.val_main_v74 (F := Ideal) (q0 m c) (q1 m c) (q2 m c) (q3 m c) (q4 m c) (q5 m c) (q6 m c) (q7 m c) (q8 m c) (q9 m c)
    = (Gen.dats m 0 c).arrAt 16 cfg0.N := by
  funext i
  obtain ⟨p, q, rfl⟩ : ∃ (p : Fin 4096) (q : Fin 1024), i = ix2 p q := ⟨i 0, i 1, (ix2_eta i).symm⟩
  rw [arr16]
  exact Cert.MixRef4.v74 _ _ _ _ _ _ _ _ _ _ p q

theorem res_v75 : Cert.Reference4Ideal.Read.val_main_v75 (F := Ideal) (q0 m c) (q1 m c) (q2 m c) (q3 m c) (q4 m c) (q5 m c) (q6 m c) (q7 m c) (q8 m c) (q9 m c)
    = (Gen.dats m 0 c).arrAt 17 cfg0.N := by
  funext i
  obtain ⟨p, q, rfl⟩ : ∃ (p : Fin 8) (q : Fin 128), i = ix2 p q := ⟨i 0, i 1, (ix2_eta i).symm⟩
  rw [arr17]
  refine (Cert.MixRef4.v75 _ _ _ _ _ _ _ _ _ _ p q).trans ?_
  exact Cert.MixRef4.loss_blocks _

end

set_option maxHeartbeats 4000000 in
/-- The claim. -/
theorem algebraic : Cert.algebraic_Kernel4Ideal_Reference4Ideal := by
  intro m ρ m' ρ' _ hagree
  refine ⟨_, _, _, _, _, _, Cert.Kernel4Ideal.Value.run_blocks m ρ, ?_⟩
  refine (θ_run _ _ _).mono (fun _ h c => ?_) (Cert.Reference4Ideal.Value.run (F := Ideal) m' ρ')
  obtain ⟨hv3, hv27, hv35, hv34, hv74, hv75, ha⟩ := h c
  obtain ⟨e0, e1, e2, e3, e4, e5, e6, e7, e8, e9⟩ := hagree c
  refine ⟨hv3.trans ?_, hv27.trans ?_, hv35.trans ?_, hv34.trans ?_, hv74.trans ?_, hv75.trans ?_, ha⟩
  · rw [Cert.Reference4Ideal.Read.val_main_v3_eq]; try dsimp only [StableHlo.launchContents]
    rw [e0, e1, e2]; exact res_v3 m c
  · rw [Cert.Reference4Ideal.Read.val_main_v27_eq]; try dsimp only [StableHlo.launchContents]
    rw [e0, e1, e2, e3, e4]; exact res_v27 m c
  · rw [Cert.Reference4Ideal.Read.val_main_v35_eq]; try dsimp only [StableHlo.launchContents]
    rw [e0, e1, e2, e3, e4, e5]; exact res_v35 m c
  · rw [Cert.Reference4Ideal.Read.val_main_v34_eq]; try dsimp only [StableHlo.launchContents]
    rw [e0, e1, e2, e3, e4, e5, e6]; exact res_v34 m c
  · rw [Cert.Reference4Ideal.Read.val_main_v74_eq]; try dsimp only [StableHlo.launchContents]
    rw [e0, e1, e2, e3, e4, e5, e6, e7, e8, e9]; exact res_v74 m c
  · rw [Cert.Reference4Ideal.Read.val_main_v75_eq]; try dsimp only [StableHlo.launchContents]
    rw [e0, e1, e2, e3, e4, e5, e6, e7, e8, e9]; exact res_v75 m c

end Cert.Mix4

end
-- ==== Proof.Proj.lean ====
/- What the combined projection and its gates are worth, over extended reals: the columns in the kernels' order, and the
   logarithm of the logistic function of the low-rank gates, over sixteen. -/
module

public import Idealize.ShloMosaic.Lib.Pointwise
public import Idealize.ShloMosaic.Lib.Pipeline.Value

@[expose] public section

noncomputable section

namespace Cert.Proj

open Idealize.ShloMosaic

/-- The columns of the combined projection in the kernels' order: the low-rank gates last, then zeros. -/
def padC (f : Fin 1824 → EReal) (j : Fin 1920) : EReal :=
  if h : j.val < 1024 then f ⟨j.val, by omega⟩
  else if h : j.val - 1024 < 768 then f ⟨1056 + (j.val - 1024), by omega⟩
  else if h : j.val - 1024 - 768 < 32 then f ⟨1024 + (j.val - 1024 - 768), by omega⟩
  else 0

/-- A product with the columns put in order is the product's columns put in order. -/
theorem sum_padC (x : Fin 1024 → EReal) (w : Fin 1024 → Fin 1824 → EReal) (j : Fin 1920) :
    ∑ p, x p * padC (w p) j = padC (fun i => ∑ p, x p * w p i) j := by
  unfold padC
  split_ifs
  · rfl
  · rfl
  · rfl
  · exact (Finset.sum_congr rfl fun p _ => mul_zero (x p)).trans Finset.sum_const_zero

/-- A low-rank gate's column among the padded ones. -/
theorem padC_low (f : Fin 1824 → EReal) (i : Fin 128) (h : i.val < 32) (hj : 1792 + i.val < 1920) :
    padC f ⟨1792 + i.val, hj⟩ = f ⟨1024 + i.val, by omega⟩ := by
  unfold padC
  rw [dif_neg (show ¬ (1792 + i.val < 1024) by omega), dif_neg (show ¬ (1792 + i.val - 1024 < 768) by omega),
    dif_pos (show 1792 + i.val - 1024 - 768 < 32 by omega)]
  exact congrArg f (Fin.ext (show 1024 + (1792 + i.val - 1024 - 768) = 1024 + i.val by omega))

/-- The two gates' matrices as the two blocks of one. -/
def two (a b : Fin 16 → Fin 128 → EReal) (i : Fin 128) (c : Fin 256) : EReal :=
  if hi : i.val < 16 then (if hc : c.val < 128 then a ⟨i.val, hi⟩ ⟨c.val, hc⟩ else 0)
  else if hi : i.val - 16 < 16 then (if hc : c.val < 128 then 0 else b ⟨i.val - 16, hi⟩ ⟨c.val - 128, by omega⟩)
  else 0

theorem sum_parts (g : Fin 128 → EReal) :
    ∑ i, g i = (∑ i : Fin 16, g ⟨i.val, by omega⟩) + ((∑ i : Fin 16, g ⟨16 + i.val, by omega⟩) + ∑ i : Fin 96, g ⟨32 + i.val, by omega⟩) := by
  rw [Fin.sum_univ_add (a := 16) (b := 112) g, Fin.sum_univ_add (a := 16) (b := 96) (fun i => g (Fin.natAdd 16 i))]
  congr 2

theorem two_low (a b : Fin 16 → Fin 128 → EReal) (i : Fin 96) (c : Fin 256) : two a b ⟨32 + i.val, by omega⟩ c = 0 := by
  unfold two
  rw [dif_neg (show ¬ (32 + i.val < 16) by omega), dif_neg (show ¬ (32 + i.val - 16 < 16) by omega)]

theorem two_first (a b : Fin 16 → Fin 128 → EReal) (i : Fin 16) (c : Fin 256) :
    two a b ⟨i.val, by omega⟩ c = if hc : c.val < 128 then a i ⟨c.val, hc⟩ else 0 := by
  unfold two
  rw [dif_pos (show i.val < 16 from i.isLt)]

theorem two_second (a b : Fin 16 → Fin 128 → EReal) (i : Fin 16) (c : Fin 256) :
    two a b ⟨16 + i.val, by omega⟩ c = if hc : c.val < 128 then 0 else b i ⟨c.val - 128, by omega⟩ := by
  unfold two
  rw [dif_neg (show ¬ (16 + i.val < 16) by omega), dif_pos (show 16 + i.val - 16 < 16 by omega)]
  split_ifs
  · rfl
  · exact congrArg (b · _) (Fin.ext (show 16 + i.val - 16 = i.val by omega))

/-- A product with the two blocks is a product with the one the column is in. -/
theorem sum_two (l : Fin 128 → EReal) (a b : Fin 16 → Fin 128 → EReal) (c : Fin 256) :
    ∑ i, l i * two a b i c
      = if hc : c.val < 128 then ∑ i : Fin 16, l ⟨i.val, by omega⟩ * a i ⟨c.val, hc⟩
        else ∑ i : Fin 16, l ⟨16 + i.val, by omega⟩ * b i ⟨c.val - 128, by omega⟩ := by
  rw [sum_parts]
  simp only [two_low, two_first, two_second, mul_zero, Finset.sum_const_zero, add_zero]
  split_ifs
  · simp only [mul_zero, Finset.sum_const_zero, add_zero]
  · simp only [mul_zero, Finset.sum_const_zero, zero_add]

/-- One gate before its activation: the low-rank coordinates `o, o + 1, …` of the projection, times the gate's matrix, and its bias. -/
def gate (x : Fin 4096 → Fin 1024 → EReal) (w : Fin 1024 → Fin 1824 → EReal) (o : ℕ) (ho : o + 16 ≤ 1824) (a : Fin 16 → Fin 128 → EReal)
    (b : Fin 128 → EReal) (n : Fin 4096) (k : Fin 128) : EReal :=
  (∑ i : Fin 16, (∑ p, x n p * w p ⟨o + i.val, by omega⟩) * a i k) + b k

/-- The logarithm of the logistic function, over sixteen. -/
def act (p : EReal) : EReal := (min p 0 - Ideal.log (1 + Ideal.exp (0 - max p (-p)))) * Ideal.ofBits .f32 1031798784#32

theorem sixteenth : Ideal.ofBits .f32 1031798784#32 = ((1 / 16 : ℝ) : EReal) := by
  simp [Ideal.ofBits, Ideal.ieee, -EReal.coe_mul]
  norm_num

theorem sixteen : Ideal.ofBits .f32 1098907648#32 = ((16 : ℝ) : EReal) := by
  simp [Ideal.ofBits, Ideal.ieee, -EReal.coe_mul]
  norm_num

theorem log_pos (r : ℝ) (h : 0 < r) : Ideal.log (r : EReal) = ((Real.log r : ℝ) : EReal) := by
  show (if r ≤ 0 then (⊥ : EReal) else (Real.log r : EReal)) = _
  rw [if_neg (not_le.mpr h)]

theorem exp_real (r : ℝ) : Ideal.exp (r : EReal) = ((Real.exp r : ℝ) : EReal) := rfl

theorem zero_of_abs_top : Ideal.log (1 + Ideal.exp ⊥) = 0 := by
  show Ideal.log (1 + 0) = 0
  rw [add_zero]
  have h := log_pos 1 one_pos
  rw [Real.log_one] at h
  exact h

/-- The same by way of the negated argument, divided by sixteen. -/
theorem act_eq (p : EReal) :
    Ideal.div (-(max (-p) 0 + Ideal.log1p (Ideal.exp (-max (-p) (- -p))))) (Ideal.ofBits .f32 1098907648#32) = act p := by
  have e : max (-p) (- -p) = max p (-p) := by rw [neg_neg, max_comm]
  rw [e, sixteen, Ideal.div_coe (by norm_num : (16 : ℝ) ≠ 0)]
  unfold act Ideal.log1p
  rw [sixteenth, zero_sub]
  congr 1
  · have hm : max (-p) 0 = - min p 0 := by
      rcases le_total p 0 with h | h
      · rw [min_eq_left h, max_eq_left (EReal.le_neg_of_le_neg (by simpa using h))]
      · rw [min_eq_right h, max_eq_right (EReal.neg_le_of_neg_le (by simpa using h)), neg_zero]
    rw [hm]
    induction p with
    | bot =>
      have : max (⊥ : EReal) (-⊥) = ⊤ := by simp
      rw [this, EReal.neg_top, zero_of_abs_top]
      simp
    | top =>
      have : max (⊤ : EReal) (-⊤) = ⊤ := by simp
      rw [this, EReal.neg_top, zero_of_abs_top]
      simp
    | coe r =>
      have e1 : max (r : EReal) (-(r : EReal)) = ((max r (-r) : ℝ) : EReal) := by
        rw [← EReal.coe_neg]; exact (EReal.coe_strictMono.monotone.map_max).symm
      have e2 : min (r : EReal) 0 = ((min r 0 : ℝ) : EReal) := by
        rw [← EReal.coe_zero]; exact (EReal.coe_strictMono.monotone.map_min).symm
      rw [e1, e2, ← EReal.coe_neg, ← EReal.coe_neg, exp_real, ← EReal.coe_one, ← EReal.coe_add, log_pos _ (by positivity), ← EReal.coe_add,
        ← EReal.coe_neg, ← EReal.coe_sub]
      congr 1
      ring

/-- The projection in the kernels' order. -/
def proj (x : Fin 4096 → Fin 1024 → EReal) (w : Fin 1024 → Fin 1824 → EReal) (n : Fin 4096) (j : Fin 1920) : EReal :=
  padC (fun i => ∑ p, x n p * w p i) j

/-- Both gates before their activation. -/
def gates (x : Fin 4096 → Fin 1024 → EReal) (w : Fin 1024 → Fin 1824 → EReal) (a : Fin 2 → Fin 16 → Fin 128 → EReal) (b : Fin 2 → Fin 128 → EReal)
    (n : Fin 4096) (c : Fin 256) : EReal :=
  if hc : c.val < 128 then gate x w 1024 (by omega) (a 0) (b 0) n ⟨c.val, hc⟩
  else gate x w 1040 (by omega) (a 1) (b 1) n ⟨c.val - 128, by omega⟩

/-- The two blocks' product with the low-rank columns is the two gates. -/
theorem gates_eq (x : Fin 4096 → Fin 1024 → EReal) (w : Fin 1024 → Fin 1824 → EReal) (a : Fin 2 → Fin 16 → Fin 128 → EReal) (b : Fin 2 → Fin 128 → EReal)
    (n : Fin 4096) (c : Fin 256) :
    (∑ i : Fin 128, proj x w n ⟨1792 + i.val, by omega⟩ * two (a 0) (a 1) i c) + b ⟨c.val / 128, by omega⟩ ⟨c.val % 128, by omega⟩
      = gates x w a b n c := by
  rw [sum_two]
  unfold gates proj gate
  split_ifs with hc
  · refine congrArg₂ (· + ·) ?_ ?_
    · refine Finset.sum_congr rfl fun i _ => congrArg (· * _) ?_
      exact padC_low _ ⟨i.val, by omega⟩ (show i.val < 32 by omega) _
    · exact congrArg₂ b (Fin.ext (show c.val / 128 = 0 by omega)) (Fin.ext (show c.val % 128 = c.val by omega))
  · refine congrArg₂ (· + ·) ?_ ?_
    · refine Finset.sum_congr rfl fun i _ => congrArg (· * _) ?_
      refine (padC_low _ ⟨16 + i.val, by omega⟩ (show 16 + i.val < 32 by omega) _).trans ?_
      refine Finset.sum_congr rfl fun p _ => congrArg (fun j => x n p * w p j) (Fin.ext ?_)
      show 1024 + (16 + i.val) = 1040 + i.val
      omega
    · exact congrArg₂ b (Fin.ext (show c.val / 128 = 1 by omega)) (Fin.ext (show c.val % 128 = c.val - 128 by omega))

end Cert.Proj

end
-- ==== Proof.InBlk.lean ====
/- The blocks the projection's body reads, element by element, as functions of the arguments. -/
module

public import proofs.«01_k».proof.Proof.Gen.Kernel5Ideal.Frame
public import proofs.«01_k».proof.Proof.Proj
public import Idealize.ShloMosaic.Lib.StableHlo.ReadAt

@[expose] public section

noncomputable section

namespace Cert.In

open Cert.Kernel5Ideal Cert.Kernel5Ideal.Gen Cert.Proj Idealize.ShloMosaic Idealize.ShloMosaic.TcCoe

variable (m : (ℓ : Loc nD τ sig) → Buf (Elt Ideal) ℓ)

/-! ## The arguments -/

def aX (c : Dev nD) (n : Fin 4096) (k : Fin 1024) : EReal := (m (c, Proc.tc.devRef main_arg0) : S4096x1024.Idx → EReal) (ix2 n k)
def aW (c : Dev nD) (k : Fin 1024) (j : Fin 1824) : EReal := (m (c, Proc.tc.devRef main_arg1) : S1024x1824.Idx → EReal) (ix2 k j)
def aA (c : Dev nD) (s : Fin 2) (i : Fin 16) (k : Fin 128) : EReal := (m (c, Proc.tc.devRef main_arg2) : S2x16x128.Idx → EReal) (ix3 s i k)
def aB (c : Dev nD) (s : Fin 2) (k : Fin 128) : EReal := (m (c, Proc.tc.devRef main_arg3) : S2x128.Idx → EReal) (ix2 s k)

/-! ## The arrays the blocks are cut from -/

theorem V_x (c : Dev nD) (n : Fin 4096) (k : Fin 1024) : (V m c main_arg0 : S4096x1024.Idx → EReal) (ix2 n k) = aX m c n k := by
  rw [V_main_arg0]; rfl

theorem V_w (c : Dev nD) (j : Fin 1920) (k : Fin 1024) : (V m c main_v6 : S1920x1024.Idx → EReal) (ix2 j k) = padC (aW m c k) j := by
  unfold V hostOps0
  after_reads_at
  repeat after_reads_at
  rfl

theorem V_a (c : Dev nD) (i : Fin 128) (k : Fin 256) : (V m c main_v16 : S128x256.Idx → EReal) (ix2 i k) = two (aA m c 0) (aA m c 1) i k := by
  unfold V hostOps0
  after_reads_at
  repeat after_reads_at
  rfl

theorem V_b (c : Dev nD) (k : Fin 256) : (V m c main_v17 : S1x256.Idx → EReal) (ix2 0 k) = aB m c ⟨k.val / 128, by omega⟩ ⟨k.val % 128, by omega⟩ := by
  unfold V hostOps0
  after_reads_at
  rfl
/-! ## The blocks -/

/-- A row of the whole by its block of 512. -/
def row (t : Fin 8) (r : Fin 512) : Fin 4096 := ⟨512 * t.val + r.val, by omega⟩

theorem row_surj (n : Fin 4096) : ∃ t r, n = row t r :=
  ⟨⟨n.val / 512, by omega⟩, ⟨n.val % 512, by omega⟩, Fin.ext (by simp only [row]; omega)⟩

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 0] := (by decide +kernel : ∀ t : Fin grid0.N, _)
theorem i1 : ∀ t : Fin cfg0.N, cc0_transform_1 (grid0.coords t) = ![0, 0] := (by decide +kernel : ∀ t : Fin grid0.N, _)
theorem i2 : ∀ t : Fin cfg0.N, cc0_transform_2 (grid0.coords t) = ![0, 0] := (by decide +kernel : ∀ t : Fin grid0.N, _)
theorem i3 : ∀ t : Fin cfg0.N, cc0_transform_3 (grid0.coords t) = ![0, 0] := (by decide +kernel : ∀ t : Fin grid0.N, _)
theorem i4 : ∀ t : Fin cfg0.N, cc0_transform_4 (grid0.coords t) = ![t.val, 0] := (by decide +kernel : ∀ t : Fin grid0.N, _)
theorem i5 : ∀ t : Fin cfg0.N, cc0_transform_5 (grid0.coords t) = ![t.val, 0] := (by decide +kernel : ∀ t : Fin grid0.N, _)

theorem blk_x (c : Dev nD) (t : Fin cfg0.N) (r : Fin 512) (k : Fin 1024) : (iblk m c 0 t : S512x1024.Idx → EReal) (ix2 r k) = aX m c (row (blkOf t) r) k := by
  rw [← V_x]
  unfold iblk
  rw [View.read_apply]
  show V m c main_arg0 _ = V m c main_arg0 _
  congr 1
  funext a
  apply Fin.ext
  match a with
  | ⟨0, _⟩ =>
    show cc0_transform_0 (grid0.coords t) 0 * 512 + 1 * r.val = 512 * t.val + r.val
    rw [i0]
    show t.val * 512 + 1 * r.val = _
    omega
  | ⟨1, _⟩ =>
    show cc0_transform_0 (grid0.coords t) 1 * 1024 + 1 * k.val = k.val
    rw [i0]
    show 0 * 1024 + 1 * k.val = _
    omega

theorem blk_w (c : Dev nD) (t : Fin cfg0.N) (a : Fin 1920) (b : Fin 1024) : (iblk m c 1 t : S1920x1024.Idx → EReal) (ix2 a b) = (V m c main_v6 : S1920x1024.Idx → EReal) (ix2 a b) := by
  unfold iblk
  rw [View.read_apply]
  show V m c main_v6 _ = V m c main_v6 _
  congr 1
  funext e
  apply Fin.ext
  match e with
  | ⟨0, _⟩ =>
    show cc0_transform_1 (grid0.coords t) 0 * 1920 + 1 * a.val = a.val
    rw [i1]
    show 0 * 1920 + 1 * a.val = _
    omega
  | ⟨1, _⟩ =>
    show cc0_transform_1 (grid0.coords t) 1 * 1024 + 1 * b.val = b.val
    rw [i1]
    show 0 * 1024 + 1 * b.val = _
    omega

theorem blk_a (c : Dev nD) (t : Fin cfg0.N) (a : Fin 128) (b : Fin 256) : (iblk m c 2 t : S128x256.Idx → EReal) (ix2 a b) = (V m c main_v16 : S128x256.Idx → EReal) (ix2 a b) := by
  unfold iblk
  rw [View.read_apply]
  show V m c main_v16 _ = V m c main_v16 _
  congr 1
  funext e
  apply Fin.ext
  match e with
  | ⟨0, _⟩ =>
    show cc0_transform_2 (grid0.coords t) 0 * 128 + 1 * a.val = a.val
    rw [i2]
    show 0 * 128 + 1 * a.val = _
    omega
  | ⟨1, _⟩ =>
    show cc0_transform_2 (grid0.coords t) 1 * 256 + 1 * b.val = b.val
    rw [i2]
    show 0 * 256 + 1 * b.val = _
    omega

theorem blk_b (c : Dev nD) (t : Fin cfg0.N) (a : Fin 1) (b : Fin 256) : (iblk m c 3 t : S1x256.Idx → EReal) (ix2 a b) = (V m c main_v17 : S1x256.Idx → EReal) (ix2 a b) := by
  unfold iblk
  rw [View.read_apply]
  show V m c main_v17 _ = V m c main_v17 _
  congr 1
  funext e
  apply Fin.ext
  match e with
  | ⟨0, _⟩ =>
    show cc0_transform_3 (grid0.coords t) 0 * 1 + 1 * a.val = a.val
    rw [i3]
    show 0 * 1 + 1 * a.val = _
    omega
  | ⟨1, _⟩ =>
    show cc0_transform_3 (grid0.coords t) 1 * 256 + 1 * b.val = b.val
    rw [i3]
    show 0 * 256 + 1 * b.val = _
    omega

end Cert.In

end
-- ==== Proof.InRun.lean ====
/- The arrays of the projection after a run, element by element, as functions of the arguments. -/
module

public import proofs.«01_k».proof.Proof.InBlk
public import proofs.«01_k».proof.Proof.Gen.Kernel5Ideal.Value

@[expose] public section

noncomputable section

namespace Cert.In

open Cert.Kernel5Ideal Cert.Kernel5Ideal.Gen Cert.Proj Idealize.ShloMosaic Idealize.ShloMosaic.TcCoe Idealize.SL.Sem

theorem hz : (![0, 0] : Fin 2 → Nat) = fun _ => 0 := funext fun a => by fin_cases a <;> rfl

/-! ## What the body computes -/

variable (x0 : Vec Ideal S512x1024 .f32) (x1 : Vec Ideal S1920x1024 .bf16) (x2 : Vec Ideal S128x256 .bf16) (x3 : Vec Ideal S1x256 .f32)

theorem pay1_apply (r : Fin 512) (j : Fin 1920) :
    k0_pay1 (F := Ideal) x0 x1 (ix2 r j) = ∑ p : Fin 1024, x0 (ix2 r p) * x1 (ix2 j p) := by
  unfold k0_pay1
  pointwise

theorem pay2_apply (r : Fin 512) (c : Fin 256) :
    k0_pay2 (F := Ideal) x0 x1 x2 x3 (ix2 r c)
      = act ((∑ i : Fin 128, (∑ p : Fin 1024, x0 (ix2 r p) * x1 (ix2 ⟨1792 + i.val, by omega⟩ p)) * x2 (ix2 i c)) + x3 (ix2 0 c)) := by
  unfold k0_pay2 k0_pay1
  pointwise
  rfl

theorem out4_apply (r : Fin 512) (j : Fin 1920) :
    out0_4 x0 x1 x2 x3 (ix2 r j) = ∑ p : Fin 1024, x0 (ix2 r p) * x1 (ix2 j p) := by
  unfold out0_4
  rw [View.canon_unit_zero (S := S512x1920) hz]
  simp only [View.ld_unit_zero (S := S512x1024) hz, View.ld_unit_zero (S := S1920x1024) hz, shapeCast_self]
  exact pay1_apply x0 x1 r j

theorem out5_apply (r : Fin 512) (c : Fin 256) :
    out0_5 x0 x1 x2 x3 (ix2 r c)
      = act ((∑ i : Fin 128, (∑ p : Fin 1024, x0 (ix2 r p) * x1 (ix2 ⟨1792 + i.val, by omega⟩ p)) * x2 (ix2 i c)) + x3 (ix2 0 c)) := by
  unfold out0_5
  rw [View.canon_unit_zero (S := S512x256) hz]
  simp only [View.ld_unit_zero (S := S512x1024) hz, View.ld_unit_zero (S := S1920x1024) hz, View.ld_unit_zero (S := S128x256) hz,
    View.ld_unit_zero (S := S1x256) hz, shapeCast_self]
  exact pay2_apply x0 x1 x2 x3 r c

/-! ## The blocks written -/

variable (m : (ℓ : Loc nD τ sig) → Buf (Elt Ideal) ℓ)

theorem proj_of (c : Dev nD) (n : Fin 4096) (f : S512x1024.Idx → EReal) (g : S1920x1024.Idx → EReal) (r : Fin 512) (j : Fin 1920)
    (hf : ∀ p, f (ix2 r p) = aX m c n p) (hg : ∀ p, g (ix2 j p) = padC (aW m c p) j) :
    ∑ p : Fin 1024, f (ix2 r p) * g (ix2 j p) = proj (aX m c) (aW m c) n j := by
  refine Eq.trans (Finset.sum_congr rfl fun p _ => ?_) (sum_padC (aX m c n) (aW m c) j)
  rw [hf, hg]

theorem pt4 (c : Dev nD) (t : Fin cfg0.N) (r : Fin 512) (j : Fin 1920) :
    (out0_4 (iblk m c 0 t) (iblk m c 1 t) (iblk m c 2 t) (iblk m c 3 t) : S512x1920.Idx → EReal) (ix2 r j) = proj (aX m c) (aW m c) (row (blkOf t) r) j :=
  (out4_apply _ _ _ _ r j).trans (proj_of m c _ (iblk m c 0 t) (iblk m c 1 t) r j (blk_x m c t r) fun p => (blk_w m c t j p).trans (V_w m c j p))

theorem pt5 (c : Dev nD) (t : Fin cfg0.N) (r : Fin 512) (k : Fin 256) :
    (out0_5 (iblk m c 0 t) (iblk m c 1 t) (iblk m c 2 t) (iblk m c 3 t) : S512x256.Idx → EReal) (ix2 r k)
      = act (gates (aX m c) (aW m c) (aA m c) (aB m c) (row (blkOf t) r) k) := by
  refine (out5_apply _ _ _ _ r k).trans ?_
  rw [← gates_eq]
  refine congrArg act (congrArg₂ (· + ·) (Finset.sum_congr rfl fun i _ => congrArg₂ (· * ·) ?_ ?_) ?_)
  · exact proj_of m c _ (iblk m c 0 t) (iblk m c 1 t) r _ (blk_x m c t r) fun p => (blk_w m c t _ p).trans (V_w m c _ p)
  · exact (blk_a m c t i k).trans (V_a m c i k)
  · exact (blk_b m c t 0 k).trans (V_b m c k)

theorem arr4 (c : Dev nD) (n : Fin 4096) (k : Fin 1920) : ((Gen.dats m 0 c).arrAt 4 cfg0.N : S4096x1920.Idx → EReal) (ix2 n k) = proj (aX m c) (aW m c) n k := by
  obtain ⟨t, r, rfl⟩ := row_surj n
  have hN : t.val < cfg0.N := lt_of_lt_of_eq t.isLt (by decide)
  have h := congrFun (Value.blocks4 m c ⟨t.val, hN⟩ (flush0_4 _)) (ix2 r k : S512x1920.Idx)
  rw [View.read_apply, Value.flushed4] at h
  refine Eq.trans ?_ (h.trans (pt4 m c ⟨t.val, hN⟩ r k))
  show (Gen.dats m 0 c).arrAt 4 cfg0.N _ = (Gen.dats m 0 c).arrAt 4 cfg0.N _
  congr 1
  funext a
  apply Fin.ext
  match a with
  | ⟨0, _⟩ =>
    show 512 * t.val + r.val = cc0_transform_4 (grid0.coords ⟨t.val, hN⟩) 0 * 512 + 1 * r.val
    rw [i4]
    show _ = t.val * 512 + 1 * r.val
    omega
  | ⟨1, _⟩ =>
    show k.val = cc0_transform_4 (grid0.coords ⟨t.val, hN⟩) 1 * 1920 + 1 * k.val
    rw [i4]
    show _ = 0 * 1920 + 1 * k.val
    omega

theorem arr5 (c : Dev nD) (n : Fin 4096) (k : Fin 256) : ((Gen.dats m 0 c).arrAt 5 cfg0.N : S4096x256.Idx → EReal) (ix2 n k) = act (gates (aX m c) (aW m c) (aA m c) (aB m c) n k) := by
  obtain ⟨t, r, rfl⟩ := row_surj n
  have hN : t.val < cfg0.N := lt_of_lt_of_eq t.isLt (by decide)
  have h := congrFun (Value.blocks5 m c ⟨t.val, hN⟩ (flush0_5 _)) (ix2 r k : S512x256.Idx)
  rw [View.read_apply, Value.flushed5] at h
  refine Eq.trans ?_ (h.trans (pt5 m c ⟨t.val, hN⟩ r k))
  show (Gen.dats m 0 c).arrAt 5 cfg0.N _ = (Gen.dats m 0 c).arrAt 5 cfg0.N _
  congr 1
  funext a
  apply Fin.ext
  match a with
  | ⟨0, _⟩ =>
    show 512 * t.val + r.val = cc0_transform_5 (grid0.coords ⟨t.val, hN⟩) 0 * 512 + 1 * r.val
    rw [i5]
    show _ = t.val * 512 + 1 * r.val
    omega
  | ⟨1, _⟩ =>
    show k.val = cc0_transform_5 (grid0.coords ⟨t.val, hN⟩) 1 * 256 + 1 * k.val
    rw [i5]
    show _ = 0 * 256 + 1 * k.val
    omega

end Cert.In

end
-- ==== Proof.InRef.lean ====
/- The reference of the projection, element by element. -/
module

public import proofs.«01_k».proof.Proof.Gen.Reference5Ideal.Read
public import proofs.«01_k».proof.Proof.Proj

@[expose] public section

noncomputable section

namespace Cert.InRef

open Cert.Reference5Ideal Cert.Reference5Ideal.Gen Cert.Reference5Ideal.Read Cert.Proj Idealize.ShloMosaic

variable (x : Vec Ideal S4096x1024 .f32) (w : Vec Ideal S1024x1824 .f32) (wa : Vec Ideal S2x16x128 .f32) (ba : Vec Ideal S2x128 .f32)

theorem zero : Ideal.ofBits .f32 0#32 = 0 := by
  simp [Ideal.ofBits, Ideal.ieee]

theorem v29 (n : Fin 4096) (j : Fin 1920) :
    val_main_v29 (F := Ideal) x w (ix2 n j) = proj (fun n k => x (ix2 n k)) (fun k j => w (ix2 k j)) n j := by
  unfold val_main_v29 val_main_v28 val_main_v27 val_main_v26 val_main_v25 val_main_v0 val_main_cst_1
  pointwise
  unfold proj padC
  rfl

theorem v9 (n : Fin 4096) (k : Fin 128) :
    val_main_v9 (F := Ideal) x w wa ba (ix2 n k)
      = gate (fun n k => x (ix2 n k)) (fun k j => w (ix2 k j)) 1024 (by omega) (fun i k => wa (ix3 0 i k)) (fun k => ba (ix2 0 k)) n k := by
  unfold val_main_v9 val_main_v8 val_main_v7 val_main_v6 val_main_v5 val_main_v4 val_main_v3 val_main_v2 val_main_v1 val_main_v0
  pointwise
  rfl

theorem v21 (n : Fin 4096) (k : Fin 128) :
    val_main_v21 (F := Ideal) x w wa ba (ix2 n k)
      = gate (fun n k => x (ix2 n k)) (fun k j => w (ix2 k j)) 1040 (by omega) (fun i k => wa (ix3 1 i k)) (fun k => ba (ix2 1 k)) n k := by
  unfold val_main_v21 val_main_v20 val_main_v19 val_main_v18 val_main_v17 val_main_v16 val_main_v15 val_main_v14 val_main_v13 val_main_v0
  pointwise
  rfl

theorem v12 (n : Fin 4096) (k : Fin 128) :
    val_main_v12 (F := Ideal) x w wa ba (ix2 n k) = act (val_main_v9 (F := Ideal) x w wa ba (ix2 n k)) := by
  rw [← act_eq]
  unfold val_main_v12 val_main_v11 val_main_cst val_main_v10 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  pointwise
  simp only [ne_eq, not_true_eq_false, if_false]
  rfl

theorem v24 (n : Fin 4096) (k : Fin 128) :
    val_main_v24 (F := Ideal) x w wa ba (ix2 n k) = act (val_main_v21 (F := Ideal) x w wa ba (ix2 n k)) := by
  rw [← act_eq]
  unfold val_main_v24 val_main_v23 val_main_cst_0 val_main_v22 val_main_call1_v1 val_main_call1_call0_v11 val_main_call1_call0_v10 val_main_call1_call0_v9 val_main_call1_call0_v8 val_main_call1_call0_v7 val_main_call1_call0_v6 val_main_call1_call0_v5 val_main_call1_call0_v4 val_main_call1_call0_v3 val_main_call1_call0_v2 val_main_call1_call0_v1 val_main_call1_call0_v0 val_main_call1_call0_cst val_main_call1_v0
  pointwise
  simp only [ne_eq, not_true_eq_false, if_false]
  rfl

theorem v30 (n : Fin 4096) (c : Fin 256) :
    val_main_v30 (F := Ideal) x w wa ba (ix2 n c)
      = act (gates (fun n k => x (ix2 n k)) (fun k j => w (ix2 k j)) (fun s i k => wa (ix3 s i k)) (fun s k => ba (ix2 s k)) n c) := by
  unfold val_main_v30
  pointwise
  unfold gates
  split_ifs
  all_goals first | rw [v12, v9] | rw [v24, v21]

end Cert.InRef

end
-- ==== Proof.InClaim.lean ====
/- The kernel of the projection and its reference end with equal results. -/
module

public import proofs.«01_k».proof.Defs
public import proofs.«01_k».proof.Proof.Gen.Reference5Ideal.Run
public import proofs.«01_k».proof.Proof.InRun
public import proofs.«01_k».proof.Proof.InRef

@[expose] public section

noncomputable section

namespace Cert.In

open Cert.Proj Idealize.ShloMosaic Idealize.SL.Sem

section
open Cert.Kernel5Ideal Cert.Kernel5Ideal.Gen

variable (m : (ℓ : Loc nD τ sig) → Buf (Elt Ideal) ℓ) (c : Dev nD)

abbrev q0 : S4096x1024.Idx → EReal := m (c, Proc.tc.devRef main_arg0)
abbrev q1 : S1024x1824.Idx → EReal := m (c, Proc.tc.devRef main_arg1)
abbrev q2 : S2x16x128.Idx → EReal := m (c, Proc.tc.devRef main_arg2)
abbrev q3 : S2x128.Idx → EReal := m (c, Proc.tc.devRef main_arg3)

theorem res_v29 : Cert.Reference5Ideal.Read.val_main_v29 (F := Ideal) (q0 m c) (q1 m c) = (Gen.dats m 0 c).arrAt 4 cfg0.N := by
  funext i
  obtain ⟨p, q, rfl⟩ : ∃ (p : Fin 4096) (q : Fin 1920), i = ix2 p q := ⟨i 0, i 1, (ix2_eta i).symm⟩
  rw [arr4]
  exact Cert.InRef.v29 _ _ p q

theorem res_v30 : Cert.Reference5Ideal.Read.val_main_v30 (F := Ideal) (q0 m c) (q1 m c) (q2 m c) (q3 m c) = (Gen.dats m 0 c).arrAt 5 cfg0.N := by
  funext i
  obtain ⟨p, q, rfl⟩ : ∃ (p : Fin 4096) (q : Fin 256), i = ix2 p q := ⟨i 0, i 1, (ix2_eta i).symm⟩
  rw [arr5]
  exact Cert.InRef.v30 _ _ _ _ p q

end

/-- The claim. -/
theorem algebraic : Cert.algebraic_Kernel5Ideal_Reference5Ideal := by
  intro m ρ m' ρ' _ hagree
  refine ⟨_, _, Cert.Kernel5Ideal.Value.run_blocks m ρ, ?_⟩
  refine (θ_run _ _ _).mono (fun _ h c => ?_) (Cert.Reference5Ideal.Value.run (F := Ideal) m' ρ')
  obtain ⟨hv29, hv30, ha⟩ := h c
  obtain ⟨e0, e1, e2, e3⟩ := hagree c
  refine ⟨hv29.trans ?_, hv30.trans ?_, ha⟩
  · rw [Cert.Reference5Ideal.Read.val_main_v29_eq]; try dsimp only [StableHlo.launchContents]
    rw [e0, e1]; exact res_v29 m c
  · rw [Cert.Reference5Ideal.Read.val_main_v30_eq]; try dsimp only [StableHlo.launchContents]
    rw [e0, e1, e2, e3]; exact res_v30 m c

end Cert.In

end
-- ==== Proof.InBwd.lean ====
/- What the gradients of the combined projection are worth, over extended reals: the gradient at the projection's columns, in
   their own order and in the kernels' order, and its products with the rows and with the weights. -/
module

public import proofs.«01_k».proof.Proof.Proj

@[expose] public section

noncomputable section

namespace Cert.InBwd

open Cert.Proj Idealize.ShloMosaic

/-- A row of the gradient at the projection, its columns in the projection's own order. -/
def dcols (du : Fin 256 → EReal) (dq dk : Fin 128 → EReal) (dv dr : Fin 256 → EReal) (dlow : Fin 32 → EReal) (daq : Fin 512 → EReal)
    (dakv : Fin 256 → EReal) (i : Fin 1824) : EReal :=
  if h : i.val < 256 then du ⟨i.val, h⟩
  else if h : i.val < 384 then dq ⟨i.val - 256, by omega⟩
  else if h : i.val < 512 then dk ⟨i.val - 384, by omega⟩
  else if h : i.val < 768 then dv ⟨i.val - 512, by omega⟩
  else if h : i.val < 1024 then dr ⟨i.val - 768, by omega⟩
  else if h : i.val < 1056 then dlow ⟨i.val - 1024, by omega⟩
  else if h : i.val < 1568 then daq ⟨i.val - 1056, by omega⟩
  else dakv ⟨i.val - 1568, by omega⟩

/-- A sum over the columns in the kernels' order is the sum over them in their own. -/
theorem sum_cols (f g : Fin 1824 → EReal) : ∑ j : Fin 1920, padC f j * padC g j = ∑ i, f i * g i := by
  have e1 : ∀ h : Fin 1920 → EReal, ∑ j, h j
      = (∑ i : Fin 1024, h ⟨i.val, by omega⟩) + ((∑ i : Fin 768, h ⟨1024 + i.val, by omega⟩)
        + ((∑ i : Fin 32, h ⟨1792 + i.val, by omega⟩) + ∑ i : Fin 96, h ⟨1824 + i.val, by omega⟩)) := by
    intro h
    rw [Fin.sum_univ_add (a := 1024) (b := 896) h, Fin.sum_univ_add (a := 768) (b := 128) (fun i => h (Fin.natAdd 1024 i)),
      Fin.sum_univ_add (a := 32) (b := 96) (fun i => h (Fin.natAdd 1024 (Fin.natAdd 768 i)))]
    refine congrArg₂ (· + ·) (Finset.sum_congr rfl fun i _ => rfl) (congrArg₂ (· + ·) (Finset.sum_congr rfl fun i _ => rfl)
      (congrArg₂ (· + ·) (Finset.sum_congr rfl fun i _ => congrArg h (Fin.ext ?_)) (Finset.sum_congr rfl fun i _ => congrArg h (Fin.ext ?_))))
    · show 1024 + (768 + i.val) = 1792 + i.val; omega
    · show 1024 + (768 + (32 + i.val)) = 1824 + i.val; omega
  have e2 : ∀ h : Fin 1824 → EReal, ∑ j, h j
      = (∑ i : Fin 1024, h ⟨i.val, by omega⟩) + ((∑ i : Fin 32, h ⟨1024 + i.val, by omega⟩) + ∑ i : Fin 768, h ⟨1056 + i.val, by omega⟩) := by
    intro h
    rw [Fin.sum_univ_add (a := 1024) (b := 800) h, Fin.sum_univ_add (a := 32) (b := 768) (fun i => h (Fin.natAdd 1024 i))]
    refine congrArg₂ (· + ·) (Finset.sum_congr rfl fun i _ => rfl) (congrArg₂ (· + ·) (Finset.sum_congr rfl fun i _ => rfl)
      (Finset.sum_congr rfl fun i _ => congrArg h (Fin.ext ?_)))
    show 1024 + (32 + i.val) = 1056 + i.val; omega
  have p1 : ∀ (f : Fin 1824 → EReal) (i : Fin 1024), padC f ⟨i.val, by omega⟩ = f ⟨i.val, by omega⟩ := by
    intro f i
    unfold padC
    rw [dif_pos (show i.val < 1024 from i.isLt)]
  have p2 : ∀ (f : Fin 1824 → EReal) (i : Fin 768), padC f ⟨1024 + i.val, by omega⟩ = f ⟨1056 + i.val, by omega⟩ := by
    intro f i
    unfold padC
    rw [dif_neg (show ¬ (1024 + i.val < 1024) by omega), dif_pos (show 1024 + i.val - 1024 < 768 by omega)]
    exact congrArg f (Fin.ext (show 1056 + (1024 + i.val - 1024) = 1056 + i.val by omega))
  have p3 : ∀ (f : Fin 1824 → EReal) (i : Fin 32), padC f ⟨1792 + i.val, by omega⟩ = f ⟨1024 + i.val, by omega⟩ := fun f i =>
    padC_low f ⟨i.val, by omega⟩ i.isLt _
  have p4 : ∀ (f : Fin 1824 → EReal) (i : Fin 96), padC f ⟨1824 + i.val, by omega⟩ = 0 := by
    intro f i
    unfold padC
    rw [dif_neg (show ¬ (1824 + i.val < 1024) by omega), dif_neg (show ¬ (1824 + i.val - 1024 < 768) by omega),
      dif_neg (show ¬ (1824 + i.val - 1024 - 768 < 32) by omega)]
  rw [e1, e2]
  simp only [p1, p2, p3, p4, mul_zero, Finset.sum_const_zero, add_zero]
  rw [add_comm (∑ i : Fin 768, _)]

/-- Thirty-two columns, padded by zeros. -/
def pad32 (l : Fin 32 → EReal) (i : Fin 128) : EReal := if h : i.val < 32 then l ⟨i.val, h⟩ else 0

/-- The row of the gradient at the projection as the kernel lays it out: the low-rank gates last. -/
def dpad (du : Fin 256 → EReal) (dq dk : Fin 128 → EReal) (dv dr : Fin 256 → EReal) (daq : Fin 512 → EReal) (dakv : Fin 256 → EReal)
    (dl : Fin 128 → EReal) (j : Fin 1920) : EReal :=
  if h : j.val < 256 then du ⟨j.val, h⟩
  else if h : j.val - 256 < 128 then dq ⟨j.val - 256, h⟩
  else if h : j.val - 256 - 128 < 128 then dk ⟨j.val - 256 - 128, h⟩
  else if h : j.val - 256 - 128 - 128 < 256 then dv ⟨j.val - 256 - 128 - 128, h⟩
  else if h : j.val - 256 - 128 - 128 - 256 < 256 then dr ⟨j.val - 256 - 128 - 128 - 256, h⟩
  else if h : j.val - 256 - 128 - 128 - 256 - 256 < 512 then daq ⟨j.val - 256 - 128 - 128 - 256 - 256, h⟩
  else if h : j.val - 256 - 128 - 128 - 256 - 256 - 512 < 256 then dakv ⟨j.val - 256 - 128 - 128 - 256 - 256 - 512, h⟩
  else dl ⟨j.val - 256 - 128 - 128 - 256 - 256 - 512 - 256, by omega⟩

set_option maxHeartbeats 1000000 in
theorem dpad_eq (du : Fin 256 → EReal) (dq dk : Fin 128 → EReal) (dv dr : Fin 256 → EReal) (daq : Fin 512 → EReal) (dakv : Fin 256 → EReal)
    (l : Fin 32 → EReal) (j : Fin 1920) :
    dpad du dq dk dv dr daq dakv (pad32 l) j = padC (dcols du dq dk dv dr l daq dakv) j := by
  obtain ⟨j, hj⟩ := j
  have key : ∀ (d : ℕ) (hd : d < 128), d = j - 1792 → ¬ (j - 1024 < 768) → pad32 l ⟨d, hd⟩
      = if h : j - 1024 - 768 < 32 then dcols du dq dk dv dr l daq dakv ⟨1024 + (j - 1024 - 768), by omega⟩ else 0 := by
    intro d hd e e2
    unfold pad32
    by_cases h8 : j - 1024 - 768 < 32
    · have hd' : d < 32 := by omega
      rw [dif_pos h8, dif_pos hd']
      unfold dcols
      dsimp only
      rw [dif_neg (show ¬ 1024 + (j - 1024 - 768) < 256 by omega), dif_neg (show ¬ 1024 + (j - 1024 - 768) < 384 by omega), dif_neg (show ¬ 1024 + (j - 1024 - 768) < 512 by omega), dif_neg (show ¬ 1024 + (j - 1024 - 768) < 768 by omega), dif_neg (show ¬ 1024 + (j - 1024 - 768) < 1024 by omega), dif_pos (show 1024 + (j - 1024 - 768) < 1056 by omega)]
      refine congrArg l (Fin.ext ?_)
      dsimp only
      omega
    · have hd' : ¬ d < 32 := by omega
      rw [dif_neg h8, dif_neg hd']
  unfold dpad padC
  dsimp only
  unfold dcols at key ⊢
  dsimp only at key ⊢
  by_cases h0 : j < 256
  · rw [dif_pos (show j < 256 by omega), dif_pos (show j < 1024 by omega), dif_pos (show j < 256 by omega)]
  ·
    by_cases h1 : j < 384
    · rw [dif_neg (show ¬ j < 256 by omega), dif_pos (show j - 256 < 128 by omega), dif_pos (show j < 1024 by omega), dif_neg (show ¬ j < 256 by omega), dif_pos (show j < 384 by omega)]
      try exact congrArg dq (Fin.ext (by dsimp only; omega))
    ·
      by_cases h2 : j < 512
      · rw [dif_neg (show ¬ j < 256 by omega), dif_neg (show ¬ j - 256 < 128 by omega), dif_pos (show j - 256 - 128 < 128 by omega), dif_pos (show j < 1024 by omega), dif_neg (show ¬ j < 256 by omega), dif_neg (show ¬ j < 384 by omega), dif_pos (show j < 512 by omega)]
        try exact congrArg dk (Fin.ext (by dsimp only; omega))
      ·
        by_cases h3 : j < 768
        · rw [dif_neg (show ¬ j < 256 by omega), dif_neg (show ¬ j - 256 < 128 by omega), dif_neg (show ¬ j - 256 - 128 < 128 by omega), dif_pos (show j - 256 - 128 - 128 < 256 by omega), dif_pos (show j < 1024 by omega), dif_neg (show ¬ j < 256 by omega), dif_neg (show ¬ j < 384 by omega), dif_neg (show ¬ j < 512 by omega), dif_pos (show j < 768 by omega)]
          try exact congrArg dv (Fin.ext (by dsimp only; omega))
        ·
          by_cases h4 : j < 1024
          · rw [dif_neg (show ¬ j < 256 by omega), dif_neg (show ¬ j - 256 < 128 by omega), dif_neg (show ¬ j - 256 - 128 < 128 by omega), dif_neg (show ¬ j - 256 - 128 - 128 < 256 by omega), dif_pos (show j - 256 - 128 - 128 - 256 < 256 by omega), dif_pos (show j < 1024 by omega), dif_neg (show ¬ j < 256 by omega), dif_neg (show ¬ j < 384 by omega), dif_neg (show ¬ j < 512 by omega), dif_neg (show ¬ j < 768 by omega), dif_pos (show j < 1024 by omega)]
            try exact congrArg dr (Fin.ext (by dsimp only; omega))
          ·
            by_cases h5 : j < 1536
            · rw [dif_neg (show ¬ j < 256 by omega), dif_neg (show ¬ j - 256 < 128 by omega), dif_neg (show ¬ j - 256 - 128 < 128 by omega), dif_neg (show ¬ j - 256 - 128 - 128 < 256 by omega), dif_neg (show ¬ j - 256 - 128 - 128 - 256 < 256 by omega), dif_pos (show j - 256 - 128 - 128 - 256 - 256 < 512 by omega), dif_neg (show ¬ j < 1024 by omega), dif_pos (show j - 1024 < 768 by omega), dif_neg (show ¬ 1056 + (j - 1024) < 256 by omega), dif_neg (show ¬ 1056 + (j - 1024) < 384 by omega), dif_neg (show ¬ 1056 + (j - 1024) < 512 by omega), dif_neg (show ¬ 1056 + (j - 1024) < 768 by omega), dif_neg (show ¬ 1056 + (j - 1024) < 1024 by omega), dif_neg (show ¬ 1056 + (j - 1024) < 1056 by omega), dif_pos (show 1056 + (j - 1024) < 1568 by omega)]
              try exact congrArg daq (Fin.ext (by dsimp only; omega))
            ·
              by_cases h6 : j < 1792
              · rw [dif_neg (show ¬ j < 256 by omega), dif_neg (show ¬ j - 256 < 128 by omega), dif_neg (show ¬ j - 256 - 128 < 128 by omega), dif_neg (show ¬ j - 256 - 128 - 128 < 256 by omega), dif_neg (show ¬ j - 256 - 128 - 128 - 256 < 256 by omega), dif_neg (show ¬ j - 256 - 128 - 128 - 256 - 256 < 512 by omega), dif_pos (show j - 256 - 128 - 128 - 256 - 256 - 512 < 256 by omega), dif_neg (show ¬ j < 1024 by omega), dif_pos (show j - 1024 < 768 by omega), dif_neg (show ¬ 1056 + (j - 1024) < 256 by omega), dif_neg (show ¬ 1056 + (j - 1024) < 384 by omega), dif_neg (show ¬ 1056 + (j - 1024) < 512 by omega), dif_neg (show ¬ 1056 + (j - 1024) < 768 by omega), dif_neg (show ¬ 1056 + (j - 1024) < 1024 by omega), dif_neg (show ¬ 1056 + (j - 1024) < 1056 by omega), dif_neg (show ¬ 1056 + (j - 1024) < 1568 by omega)]
                try exact congrArg dakv (Fin.ext (by dsimp only; omega))
              ·
                rw [dif_neg (show ¬ j < 256 by omega), dif_neg (show ¬ j - 256 < 128 by omega), dif_neg (show ¬ j - 256 - 128 < 128 by omega), dif_neg (show ¬ j - 256 - 128 - 128 < 256 by omega), dif_neg (show ¬ j - 256 - 128 - 128 - 256 < 256 by omega), dif_neg (show ¬ j - 256 - 128 - 128 - 256 - 256 < 512 by omega), dif_neg (show ¬ j - 256 - 128 - 128 - 256 - 256 - 512 < 256 by omega), dif_neg (show ¬ j < 1024 by omega), dif_neg (show ¬ j - 1024 < 768 by omega)]
                exact key _ _ (by omega) (by omega)

/-! ## The gradients -/

/-- The rows, the weights, and what the layers after the projection pass back. -/
structure Given where
  X : Fin 4096 → Fin 1024 → EReal
  W : Fin 1024 → Fin 1824 → EReal
  P : Fin 4096 → Fin 1024 → EReal
  DU : Fin 4096 → Fin 256 → EReal
  DQ : Fin 4096 → Fin 128 → EReal
  DK : Fin 4096 → Fin 128 → EReal
  DV : Fin 4096 → Fin 256 → EReal
  DR : Fin 4096 → Fin 256 → EReal
  DA : Fin 4096 → Fin 512 → EReal
  DE : Fin 4096 → Fin 256 → EReal
  DL : Fin 4096 → Fin 32 → EReal

variable (z : Given)

/-- The gradient at the projection. -/
def dh (n : Fin 4096) : Fin 1824 → EReal :=
  dcols (z.DU n) (z.DQ n) (z.DK n) (z.DV n) (z.DR n) (z.DL n) (z.DA n) (z.DE n)

/-- The gradient at the rows, added to what is passed along. -/
def dx (n : Fin 4096) (k : Fin 1024) : EReal := z.P n k + ∑ i, dh z n i * z.W k i

/-- The gradient of the projection's weights. -/
def dw (i : Fin 1824) (k : Fin 1024) : EReal := ∑ n, dh z n i * z.X n k

end Cert.InBwd

end
-- ==== Proof.InBwdPay.lean ====
/- What the stores of the body of the projection's gradients are worth, element by element, as extended reals. -/
module

public import proofs.«01_k».proof.Proof.Gen.Kernel6Ideal.Skeleton
public import proofs.«01_k».proof.Proof.InBwd
public import Idealize.ShloMosaic.Lib.Pipeline.Value

@[expose] public section

noncomputable section

namespace Cert.InBwd

open Cert.Kernel6Ideal Cert.Kernel6Ideal.Gen Cert.Proj Idealize.ShloMosaic Idealize.ShloMosaic.TcCoe

section
variable (x3 : Vec Ideal S2x512x256 .f32) (x4 : Vec Ideal S512x256 .bf16) (x5 x6 x7 x8 : Vec Ideal S512x128 .bf16)
  (x9 x10 x11 : Vec Ideal S512x256 .bf16) (x12 : Vec Ideal S512x512 .bf16) (x13 : Vec Ideal S512x256 .bf16) (x14 : Vec Ideal S512x128 .bf16)

/-- The gradient at the projection, in a block. -/
def dhV (r : Fin 512) (j : Fin 1920) : EReal :=
  dpad (fun c => x3 (ix3 0 r c) + x3 (ix3 1 r c) + x4 (ix2 r c)) (fun k => x5 (ix2 r k) + x6 (ix2 r k)) (fun k => x7 (ix2 r k) + x8 (ix2 r k))
    (fun c => x9 (ix2 r c) + x10 (ix2 r c)) (fun c => x11 (ix2 r c)) (fun c => x12 (ix2 r c)) (fun c => x13 (ix2 r c))
    (fun i => x14 (ix2 r i)) j

theorem pay13_apply (u v : Vec Ideal S1x512x256 .f32) (r : Fin 512) (c : Fin 256) :
    k0_pay13 (F := Ideal) u v x4 (ix2 r c) = u (ix3 0 r c) + v (ix3 0 r c) + x4 (ix2 r c) := by
  unfold k0_pay13
  pointwise

theorem pay14_apply (r : Fin 512) (c : Fin 128) : k0_pay14 (F := Ideal) x5 x6 (ix2 r c) = x5 (ix2 r c) + x6 (ix2 r c) := by
  unfold k0_pay14
  pointwise

theorem pay15_apply (r : Fin 512) (c : Fin 128) : k0_pay15 (F := Ideal) x7 x8 (ix2 r c) = x7 (ix2 r c) + x8 (ix2 r c) := by
  unfold k0_pay15
  pointwise

theorem pay16_apply (r : Fin 512) (c : Fin 256) : k0_pay16 (F := Ideal) x9 x10 (ix2 r c) = x9 (ix2 r c) + x10 (ix2 r c) := by
  unfold k0_pay16
  pointwise

theorem pay17_apply (r : Fin 512) (c : Fin 256) : k0_pay17 (F := Ideal) x11 (ix2 r c) = x11 (ix2 r c) := by
  unfold k0_pay17
  pointwise

theorem pay18_apply (r : Fin 512) (c : Fin 512) : k0_pay18 (F := Ideal) x12 (ix2 r c) = x12 (ix2 r c) := by
  unfold k0_pay18
  pointwise

end

section
variable (v8 : FVec Ideal S512x256 .f32) (v15 v22 : FVec Ideal S512x128 .f32) (v29 v32 : FVec Ideal S512x256 .f32)
  (v34 : FVec Ideal S512x512 .bf16) (v36 : Vec Ideal S512x256 .bf16) (v39 : Vec Ideal S512x128 .bf16)

theorem pay1_apply (r : Fin 512) (j : Fin 1920) :
    k0_pay1 (F := Ideal) v8 v15 v22 v29 v32 v34 v36 v39 (ix2 r j)
      = dpad (fun c => v8 (ix2 r c)) (fun c => v15 (ix2 r c)) (fun c => v22 (ix2 r c)) (fun c => v29 (ix2 r c)) (fun c => v32 (ix2 r c))
        (fun c => v34 (ix2 r c)) (fun c => v36 (ix2 r c)) (fun c => v39 (ix2 r c)) j := by
  unfold k0_pay1
  pointwise
  rfl

theorem pay2_apply (x : Vec Ideal S512x1024 .f32) (w : Vec Ideal S1920x1024 .bf16) (r : Fin 512) (k : Fin 1024) :
    k0_pay2 (F := Ideal) v8 v15 v22 v29 v32 v34 v36 v39 x w (ix2 r k) = x (ix2 r k) + ∑ j : Fin 1920, k0_pay1 (F := Ideal) v8 v15 v22 v29 v32 v34 v36 v39 (ix2 r j) * w (ix2 j k) := by
  unfold k0_pay2
  pointwise

theorem pay3_apply (x : Vec Ideal S512x1024 .f32) (j : Fin 1920) (k : Fin 1024) :
    k0_pay3 (F := Ideal) v8 v15 v22 v29 v32 v34 v36 v39 x (ix2 j k) = ∑ r : Fin 512, k0_pay1 (F := Ideal) v8 v15 v22 v29 v32 v34 v36 v39 (ix2 r j) * x (ix2 r k) := by
  unfold k0_pay3
  pointwise

theorem pay4_apply (x : Vec Ideal S512x1024 .f32) (j : Fin 1920) (k : Fin 1024) :
    k0_pay4 (F := Ideal) v8 v15 v22 v29 v32 v34 v36 v39 x (ix2 j k) = ∑ r : Fin 512, k0_pay1 (F := Ideal) v8 v15 v22 v29 v32 v34 v36 v39 (ix2 r j) * x (ix2 r k) := by
  unfold k0_pay4 k0_pay3
  pointwise

theorem pay5_apply (x : Vec Ideal S512x1024 .f32) (a : Vec Ideal S1920x1024 .f32) (j : Fin 1920) (k : Fin 1024) :
    k0_pay5 (F := Ideal) v8 v15 v22 v29 v32 v34 v36 v39 x a (ix2 j k) = a (ix2 j k) + ∑ r : Fin 512, k0_pay1 (F := Ideal) v8 v15 v22 v29 v32 v34 v36 v39 (ix2 r j) * x (ix2 r k) := by
  unfold k0_pay5 k0_pay3
  pointwise

end

theorem pay7_apply (v : Vec Ideal S456x1024 .f32) (p : Fin 456) (k : Fin 1024) : k0_pay7 (F := Ideal) v (ix3 0 p k) = v (ix2 p k) := by
  unfold k0_pay7
  pointwise

theorem pay8_apply (v : Vec Ideal S456x1024 .f32) (p : Fin 456) (k : Fin 1024) : k0_pay8 (F := Ideal) v (ix3 0 p k) = v (ix2 p k) := by
  unfold k0_pay8
  pointwise

theorem pay9_apply (v : Vec Ideal S112x1024 .f32) (p : Fin 112) (k : Fin 1024) : k0_pay9 (F := Ideal) v (ix3 0 p k) = v (ix2 p k) := by
  unfold k0_pay9
  pointwise

theorem pay10_apply (v : Vec Ideal S32x1024 .f32) (p : Fin 32) (k : Fin 1024) : k0_pay10 (F := Ideal) v (ix3 0 p k) = v (ix2 p k) := by
  unfold k0_pay10
  pointwise

theorem pay11_apply (v : Vec Ideal S312x1024 .f32) (p : Fin 312) (k : Fin 1024) : k0_pay11 (F := Ideal) v (ix3 0 p k) = v (ix2 p k) := by
  unfold k0_pay11
  pointwise

theorem pay6_apply (v : Vec Ideal S456x1024 .f32) (p : Fin 456) (k : Fin 1024) :
    k0_pay6 (F := Ideal) (k0_pay12 (F := Ideal) v) (ix3 0 p k) = v (ix2 p k) := by
  unfold k0_pay6 k0_pay12
  pointwise

end Cert.InBwd

end
-- ==== Proof.InBwdOut.lean ====
/- What a run of the body of the projection's gradients leaves in its accumulator and its outputs, element by element. -/
module

public import proofs.«01_k».proof.Proof.Gen.Kernel6Ideal.Frame
public import proofs.«01_k».proof.Proof.InBwdPay
public import Idealize.ShloMosaic.Lib.Pipeline.ValueKit.Tiles
public import Idealize.ShloMosaic.Lib.Pipeline.ReadBack

@[expose] public section

noncomputable section

namespace Cert.InBwd

open Cert.Kernel6Ideal Cert.Kernel6Ideal.Gen Cert.Proj Idealize.ShloMosaic Idealize.ShloMosaic.TcCoe

theorem hz : (![0, 0] : Fin 2 → Nat) = fun _ => 0 := funext fun a => by fin_cases a <;> rfl

theorem ldD (X : Vec Ideal S2x512x256 .f32) (j : Fin 2) (inb) (p : Fin 512) (q : Fin 256) :
    View.ld X (Rect.unit (s := S2x512x256) ![j.val, 0, 0] ![1, 512, 256] inb) (ix3 0 p q) = X (ix3 j p q) :=
  View.ld_unit_apply_of X _ _ inb _ _ fun a => match a with
    | ⟨0, _⟩ => rfl
    | ⟨1, _⟩ => (Nat.zero_add _).symm
    | ⟨2, _⟩ => (Nat.zero_add _).symm

section
variable (x3 : Vec Ideal S2x512x256 .f32) (x4 : Vec Ideal S512x256 .bf16) (x5 x6 x7 x8 : Vec Ideal S512x128 .bf16)
  (x9 x10 x11 : Vec Ideal S512x256 .bf16) (x12 : Vec Ideal S512x512 .bf16) (x13 : Vec Ideal S512x256 .bf16) (x14 : Vec Ideal S512x128 .bf16)

theorem dh_ld (i1 i2) (r : Fin 512) (j : Fin 1920) :
    k0_pay1 (F := Ideal) (k0_pay13 (F := Ideal) (View.ld x3 (Rect.unit (s := S2x512x256) ![0, 0, 0] ![1, 512, 256] i1))
        (View.ld x3 (Rect.unit (s := S2x512x256) ![1, 0, 0] ![1, 512, 256] i2)) x4)
      (k0_pay14 (F := Ideal) x5 x6) (k0_pay15 (F := Ideal) x7 x8) (k0_pay16 (F := Ideal) x9 x10) (k0_pay17 (F := Ideal) x11)
      (k0_pay18 (F := Ideal) x12) x13 x14 (ix2 r j)
      = dhV x3 x4 x5 x6 x7 x8 x9 x10 x11 x12 x13 x14 r j := by
  have e : (fun c => k0_pay13 (F := Ideal) (View.ld x3 (Rect.unit (s := S2x512x256) ![0, 0, 0] ![1, 512, 256] i1))
        (View.ld x3 (Rect.unit (s := S2x512x256) ![1, 0, 0] ![1, 512, 256] i2)) x4 (ix2 r c))
      = fun c => x3 (ix3 0 r c) + x3 (ix3 1 r c) + x4 (ix2 r c) := by
    funext c
    rw [pay13_apply]
    exact congrArg (· + _) (congrArg₂ (· + ·) (ldD x3 0 i1 r c) (ldD x3 1 i2 r c))
  rw [pay1_apply, e]
  simp only [pay14_apply, pay15_apply, pay16_apply, pay17_apply, pay18_apply]
  rfl

end

theorem out0_A_15_apply (c : Dev nD) (g : grid0.Coords) (arg1 : Memref sig .tc .vmem S512x1024 .f32) (harg1 : arg1.IsWhole) (arg2 : Memref sig .tc .vmem S1920x1024 .bf16) (harg2 : arg2.IsWhole) (arg3 : Memref sig .tc .vmem S512x1024 .f32) (harg3 : arg3.IsWhole) (arg4 : Memref sig .tc .vmem S2x512x256 .f32) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x512 .bf16) (harg13 : arg13.IsWhole) (arg14 : Memref sig .tc .vmem S512x256 .bf16) (harg14 : arg14.IsWhole) (arg15 : Memref sig .tc .vmem S512x128 .bf16) (harg15 : arg15.IsWhole) (arg16 : Memref sig .tc .vmem S512x1024 .f32) (harg16 : arg16.IsWhole) (arg17 : Memref sig .tc .vmem S4x456x1024 .bf16) (harg17 : arg17.IsWhole) (arg18 : Memref sig .tc .vmem S1920x1024 .f32) (harg18 : arg18.IsWhole) (hc0 : cond0_0 g) (hc1 : ¬cond0_1 g) (hc2 : ¬cond0_2 g)
    (x0 : Vec Ideal S512x1024 .f32) (x1 : Vec Ideal S1920x1024 .bf16) (x2 : Vec Ideal S512x1024 .f32) (x3 : Vec Ideal S2x512x256 .f32) (x4 : Vec Ideal S512x256 .bf16) (x5 : Vec Ideal S512x128 .bf16) (x6 : Vec Ideal S512x128 .bf16) (x7 : Vec Ideal S512x128 .bf16) (x8 : Vec Ideal S512x128 .bf16) (x9 : Vec Ideal S512x256 .bf16) (x10 : Vec Ideal S512x256 .bf16) (x11 : Vec Ideal S512x256 .bf16) (x12 : Vec Ideal S512x512 .bf16) (x13 : Vec Ideal S512x256 .bf16) (x14 : Vec Ideal S512x128 .bf16) (r : Fin 512) (k : Fin 1024) :
    out0_A_15 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 (ix2 r k) = x2 (ix2 r k) + ∑ j : Fin 1920, dhV x3 x4 x5 x6 x7 x8 x9 x10 x11 x12 x13 x14 r j * x1 (ix2 j k) := by
  unfold out0_A_15
  rw [View.read_writes_eq_canon _ _ _ (cover0_A_15 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, View.ld_unit_zero (S := S512x1024) hz, View.ld_unit_zero (S := S1920x1024) hz, View.ld_unit_zero (S := S512x256) hz, View.ld_unit_zero (S := S512x128) hz, View.ld_unit_zero (S := S512x512) hz, shapeCast_self]
  rw [pay2_apply]
  exact congrArg (_ + ·) (Finset.sum_congr rfl fun j _ => congrArg (· * x1 (ix2 j k)) (dh_ld x3 x4 x5 x6 x7 x8 x9 x10 x11 x12 x13 x14 _ _ r j))

theorem sout0_A_0_apply (c : Dev nD) (g : grid0.Coords) (arg1 : Memref sig .tc .vmem S512x1024 .f32) (harg1 : arg1.IsWhole) (arg2 : Memref sig .tc .vmem S1920x1024 .bf16) (harg2 : arg2.IsWhole) (arg3 : Memref sig .tc .vmem S512x1024 .f32) (harg3 : arg3.IsWhole) (arg4 : Memref sig .tc .vmem S2x512x256 .f32) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x512 .bf16) (harg13 : arg13.IsWhole) (arg14 : Memref sig .tc .vmem S512x256 .bf16) (harg14 : arg14.IsWhole) (arg15 : Memref sig .tc .vmem S512x128 .bf16) (harg15 : arg15.IsWhole) (arg16 : Memref sig .tc .vmem S512x1024 .f32) (harg16 : arg16.IsWhole) (arg17 : Memref sig .tc .vmem S4x456x1024 .bf16) (harg17 : arg17.IsWhole) (arg18 : Memref sig .tc .vmem S1920x1024 .f32) (harg18 : arg18.IsWhole) (hc0 : cond0_0 g) (hc1 : ¬cond0_1 g) (hc2 : ¬cond0_2 g)
    (x0 : Vec Ideal S512x1024 .f32) (x1 : Vec Ideal S1920x1024 .bf16) (x2 : Vec Ideal S512x1024 .f32) (x3 : Vec Ideal S2x512x256 .f32) (x4 : Vec Ideal S512x256 .bf16) (x5 : Vec Ideal S512x128 .bf16) (x6 : Vec Ideal S512x128 .bf16) (x7 : Vec Ideal S512x128 .bf16) (x8 : Vec Ideal S512x128 .bf16) (x9 : Vec Ideal S512x256 .bf16) (x10 : Vec Ideal S512x256 .bf16) (x11 : Vec Ideal S512x256 .bf16) (x12 : Vec Ideal S512x512 .bf16) (x13 : Vec Ideal S512x256 .bf16) (x14 : Vec Ideal S512x128 .bf16) (j : Fin 1920) (k : Fin 1024) :
    sout0_A_0 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 (ix2 j k) = ∑ r : Fin 512, dhV x3 x4 x5 x6 x7 x8 x9 x10 x11 x12 x13 x14 r j * x0 (ix2 r k) := by
  unfold sout0_A_0
  rw [View.read_writes_eq_canon _ _ _ (scover0_A_0 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14)]
  unfold kernelRun0_A
  dsimp only
  sl_unfold_words
  rw [View.canon_unit_zero (S := S1920x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, View.ld_unit_zero (S := S512x1024) hz, View.ld_unit_zero (S := S1920x1024) hz, View.ld_unit_zero (S := S512x256) hz, View.ld_unit_zero (S := S512x128) hz, View.ld_unit_zero (S := S512x512) hz, shapeCast_self]
  rw [pay4_apply]
  exact Finset.sum_congr rfl fun r _ => congrArg (· * x0 (ix2 r k)) (dh_ld x3 x4 x5 x6 x7 x8 x9 x10 x11 x12 x13 x14 _ _ r j)

theorem out0_B_15_apply (c : Dev nD) (g : grid0.Coords) (arg1 : Memref sig .tc .vmem S512x1024 .f32) (harg1 : arg1.IsWhole) (arg2 : Memref sig .tc .vmem S1920x1024 .bf16) (harg2 : arg2.IsWhole) (arg3 : Memref sig .tc .vmem S512x1024 .f32) (harg3 : arg3.IsWhole) (arg4 : Memref sig .tc .vmem S2x512x256 .f32) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x512 .bf16) (harg13 : arg13.IsWhole) (arg14 : Memref sig .tc .vmem S512x256 .bf16) (harg14 : arg14.IsWhole) (arg15 : Memref sig .tc .vmem S512x128 .bf16) (harg15 : arg15.IsWhole) (arg16 : Memref sig .tc .vmem S512x1024 .f32) (harg16 : arg16.IsWhole) (arg17 : Memref sig .tc .vmem S4x456x1024 .bf16) (harg17 : arg17.IsWhole) (arg18 : Memref sig .tc .vmem S1920x1024 .f32) (harg18 : arg18.IsWhole) (hc0 : ¬cond0_0 g) (hc1 : cond0_1 g) (hc2 : ¬cond0_2 g)
    (x0 : Vec Ideal S512x1024 .f32) (x1 : Vec Ideal S1920x1024 .bf16) (x2 : Vec Ideal S512x1024 .f32) (x3 : Vec Ideal S2x512x256 .f32) (x4 : Vec Ideal S512x256 .bf16) (x5 : Vec Ideal S512x128 .bf16) (x6 : Vec Ideal S512x128 .bf16) (x7 : Vec Ideal S512x128 .bf16) (x8 : Vec Ideal S512x128 .bf16) (x9 : Vec Ideal S512x256 .bf16) (x10 : Vec Ideal S512x256 .bf16) (x11 : Vec Ideal S512x256 .bf16) (x12 : Vec Ideal S512x512 .bf16) (x13 : Vec Ideal S512x256 .bf16) (x14 : Vec Ideal S512x128 .bf16) (xs0 : Vec Ideal S1920x1024 .f32) (r : Fin 512) (k : Fin 1024) :
    out0_B_15 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 (ix2 r k) = x2 (ix2 r k) + ∑ j : Fin 1920, dhV x3 x4 x5 x6 x7 x8 x9 x10 x11 x12 x13 x14 r j * x1 (ix2 j k) := by
  unfold out0_B_15
  rw [View.read_writes_eq_canon _ _ _ (cover0_B_15 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, View.ld_unit_zero (S := S512x1024) hz, View.ld_unit_zero (S := S1920x1024) hz, View.ld_unit_zero (S := S512x256) hz, View.ld_unit_zero (S := S512x128) hz, View.ld_unit_zero (S := S512x512) hz, shapeCast_self]
  rw [pay2_apply]
  exact congrArg (_ + ·) (Finset.sum_congr rfl fun j _ => congrArg (· * x1 (ix2 j k)) (dh_ld x3 x4 x5 x6 x7 x8 x9 x10 x11 x12 x13 x14 _ _ r j))

theorem sout0_B_0_apply (c : Dev nD) (g : grid0.Coords) (arg1 : Memref sig .tc .vmem S512x1024 .f32) (harg1 : arg1.IsWhole) (arg2 : Memref sig .tc .vmem S1920x1024 .bf16) (harg2 : arg2.IsWhole) (arg3 : Memref sig .tc .vmem S512x1024 .f32) (harg3 : arg3.IsWhole) (arg4 : Memref sig .tc .vmem S2x512x256 .f32) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x512 .bf16) (harg13 : arg13.IsWhole) (arg14 : Memref sig .tc .vmem S512x256 .bf16) (harg14 : arg14.IsWhole) (arg15 : Memref sig .tc .vmem S512x128 .bf16) (harg15 : arg15.IsWhole) (arg16 : Memref sig .tc .vmem S512x1024 .f32) (harg16 : arg16.IsWhole) (arg17 : Memref sig .tc .vmem S4x456x1024 .bf16) (harg17 : arg17.IsWhole) (arg18 : Memref sig .tc .vmem S1920x1024 .f32) (harg18 : arg18.IsWhole) (hc0 : ¬cond0_0 g) (hc1 : cond0_1 g) (hc2 : ¬cond0_2 g)
    (x0 : Vec Ideal S512x1024 .f32) (x1 : Vec Ideal S1920x1024 .bf16) (x2 : Vec Ideal S512x1024 .f32) (x3 : Vec Ideal S2x512x256 .f32) (x4 : Vec Ideal S512x256 .bf16) (x5 : Vec Ideal S512x128 .bf16) (x6 : Vec Ideal S512x128 .bf16) (x7 : Vec Ideal S512x128 .bf16) (x8 : Vec Ideal S512x128 .bf16) (x9 : Vec Ideal S512x256 .bf16) (x10 : Vec Ideal S512x256 .bf16) (x11 : Vec Ideal S512x256 .bf16) (x12 : Vec Ideal S512x512 .bf16) (x13 : Vec Ideal S512x256 .bf16) (x14 : Vec Ideal S512x128 .bf16) (xs0 : Vec Ideal S1920x1024 .f32) (j : Fin 1920) (k : Fin 1024) :
    sout0_B_0 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 (ix2 j k) = xs0 (ix2 j k) + ∑ r : Fin 512, dhV x3 x4 x5 x6 x7 x8 x9 x10 x11 x12 x13 x14 r j * x0 (ix2 r k) := by
  unfold sout0_B_0
  rw [View.read_writes_eq_canon _ _ _ (scover0_B_0 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0)]
  unfold kernelRun0_B
  dsimp only
  sl_unfold_words
  rw [View.canon_unit_zero (S := S1920x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, View.ld_unit_zero (S := S512x1024) hz, View.ld_unit_zero (S := S1920x1024) hz, View.ld_unit_zero (S := S512x256) hz, View.ld_unit_zero (S := S512x128) hz, View.ld_unit_zero (S := S512x512) hz, shapeCast_self]
  rw [pay5_apply]
  exact congrArg (_ + ·) (Finset.sum_congr rfl fun r _ => congrArg (· * x0 (ix2 r k)) (dh_ld x3 x4 x5 x6 x7 x8 x9 x10 x11 x12 x13 x14 _ _ r j))

theorem out0_C_15_apply (c : Dev nD) (g : grid0.Coords) (arg1 : Memref sig .tc .vmem S512x1024 .f32) (harg1 : arg1.IsWhole) (arg2 : Memref sig .tc .vmem S1920x1024 .bf16) (harg2 : arg2.IsWhole) (arg3 : Memref sig .tc .vmem S512x1024 .f32) (harg3 : arg3.IsWhole) (arg4 : Memref sig .tc .vmem S2x512x256 .f32) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x512 .bf16) (harg13 : arg13.IsWhole) (arg14 : Memref sig .tc .vmem S512x256 .bf16) (harg14 : arg14.IsWhole) (arg15 : Memref sig .tc .vmem S512x128 .bf16) (harg15 : arg15.IsWhole) (arg16 : Memref sig .tc .vmem S512x1024 .f32) (harg16 : arg16.IsWhole) (arg17 : Memref sig .tc .vmem S4x456x1024 .bf16) (harg17 : arg17.IsWhole) (arg18 : Memref sig .tc .vmem S1920x1024 .f32) (harg18 : arg18.IsWhole) (hc0 : ¬cond0_0 g) (hc1 : cond0_1 g) (hc2 : cond0_2 g)
    (x0 : Vec Ideal S512x1024 .f32) (x1 : Vec Ideal S1920x1024 .bf16) (x2 : Vec Ideal S512x1024 .f32) (x3 : Vec Ideal S2x512x256 .f32) (x4 : Vec Ideal S512x256 .bf16) (x5 : Vec Ideal S512x128 .bf16) (x6 : Vec Ideal S512x128 .bf16) (x7 : Vec Ideal S512x128 .bf16) (x8 : Vec Ideal S512x128 .bf16) (x9 : Vec Ideal S512x256 .bf16) (x10 : Vec Ideal S512x256 .bf16) (x11 : Vec Ideal S512x256 .bf16) (x12 : Vec Ideal S512x512 .bf16) (x13 : Vec Ideal S512x256 .bf16) (x14 : Vec Ideal S512x128 .bf16) (xs0 : Vec Ideal S1920x1024 .f32) (r : Fin 512) (k : Fin 1024) :
    out0_C_15 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 (ix2 r k) = x2 (ix2 r k) + ∑ j : Fin 1920, dhV x3 x4 x5 x6 x7 x8 x9 x10 x11 x12 x13 x14 r j * x1 (ix2 j k) := by
  unfold out0_C_15
  rw [View.read_writes_eq_canon _ _ _ (cover0_C_15 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0)]
  unfold kernelRun0_C
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, View.ld_unit_zero (S := S512x1024) hz, View.ld_unit_zero (S := S1920x1024) hz, View.ld_unit_zero (S := S512x256) hz, View.ld_unit_zero (S := S512x128) hz, View.ld_unit_zero (S := S512x512) hz, shapeCast_self]
  rw [pay2_apply]
  exact congrArg (_ + ·) (Finset.sum_congr rfl fun j _ => congrArg (· * x1 (ix2 j k)) (dh_ld x3 x4 x5 x6 x7 x8 x9 x10 x11 x12 x13 x14 _ _ r j))

/-! ## The weights' gradient: the accumulator's rows, put back into the projection's own order -/

/-- Where the kernels' order keeps a column of the projection. -/
def src (i : Fin 1824) : Fin 1920 :=
  ⟨if i.val < 1024 then i.val else if i.val < 1056 then i.val + 768 else i.val - 32, by split_ifs <;> omega⟩

theorem padC_src (f : Fin 1824 → EReal) (i : Fin 1824) : padC f (src i) = f i := by
  unfold padC src
  dsimp only
  by_cases h1 : i.val < 1024
  · simp only [if_pos h1, dif_pos h1]
  · by_cases h2 : i.val < 1056
    · simp only [if_neg h1, if_pos h2]
      rw [dif_neg (by omega), dif_neg (by omega), dif_pos (by omega)]
      exact congrArg f (Fin.ext (by dsimp only; omega))
    · simp only [if_neg h1, if_neg h2]
      rw [dif_neg (by omega), dif_pos (by omega)]
      exact congrArg f (Fin.ext (by dsimp only; omega))

theorem rows {sig : RefSig} {κ : Kind} {sp : Space} (v : View sig κ sp S1920x1024 .f32) (W : Vec Ideal S1920x1024 .f32) (s n : Nat) (inb)
    (inb' : ∀ a, ![s, 0] a + ![n, 1024] a ≤ S1920x1024.size a) (m : Fin 1920) (p : Fin n) (k : Fin 1024) (hm : m.val = s + p.val) :
    v.readCov (Val := Elt Ideal) [⟨Rect.unit (s := S1920x1024) ![0, 0] ![1920, 1024] inb, W⟩] (Rect.unit (s := S1920x1024) ![s, 0] ![n, 1024] inb').toLoadRect (ix2 p k)
      = W (ix2 m k) := by
  have e := View.readCov_fill (Val := Elt Ideal) v (off := ![0, 0]) inb W [] (Rect.unit (s := S1920x1024) ![s, 0] ![n, 1024] inb')
    (fun a => by fin_cases a <;> rfl)
  refine (congrFun e (ix2 p k)).trans (View.ld_unit_apply_of W _ _ inb' _ _ fun a => ?_)
  match a with
  | ⟨0, _⟩ => exact hm
  | ⟨1, _⟩ => exact (Nat.zero_add _).symm

theorem tile (j : Fin 4) (r : Fin 456) (k : Fin 1024) (v : EReal) (j0 d0 n : Nat) (w : Vec Ideal ⟨3, ![1, n, 1024]⟩ .bf16)
    (h : ∀ p : Fin n, j.val = j0 → r.val = d0 + p.val → w (ix3 0 p k) = v) :
    View.TileAt (S := S4x456x1024) (e := .bf16) (Val := Elt Ideal) (ix3 j r k) ![j0, d0, 0] ![1, n, 1024] w v := by
  intro x hx
  have e0 : (x 0 : Nat) = 0 := Nat.lt_one_iff.mp (x 0).isLt
  have h0 : j.val = j0 := by have := hx 0; exact this.trans (by rw [e0]; rfl)
  have h1 : r.val = d0 + (x 1 : Nat) := hx 1
  have h2 : x 2 = k := Fin.ext ((hx 2).trans (Nat.zero_add _)).symm
  have h3 : x = ix3 0 (x 1) k := funext fun a => match a with
    | ⟨0, _⟩ => Fin.ext e0
    | ⟨1, _⟩ => rfl
    | ⟨2, _⟩ => h2
  rw [h3]
  exact h (x 1) h0 h1

theorem out0_C_16_apply (c : Dev nD) (g : grid0.Coords) (arg1 : Memref sig .tc .vmem S512x1024 .f32) (harg1 : arg1.IsWhole) (arg2 : Memref sig .tc .vmem S1920x1024 .bf16) (harg2 : arg2.IsWhole) (arg3 : Memref sig .tc .vmem S512x1024 .f32) (harg3 : arg3.IsWhole) (arg4 : Memref sig .tc .vmem S2x512x256 .f32) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x512 .bf16) (harg13 : arg13.IsWhole) (arg14 : Memref sig .tc .vmem S512x256 .bf16) (harg14 : arg14.IsWhole) (arg15 : Memref sig .tc .vmem S512x128 .bf16) (harg15 : arg15.IsWhole) (arg16 : Memref sig .tc .vmem S512x1024 .f32) (harg16 : arg16.IsWhole) (arg17 : Memref sig .tc .vmem S4x456x1024 .bf16) (harg17 : arg17.IsWhole) (arg18 : Memref sig .tc .vmem S1920x1024 .f32) (harg18 : arg18.IsWhole) (hc0 : ¬cond0_0 g) (hc1 : cond0_1 g) (hc2 : cond0_2 g)
    (x0 : Vec Ideal S512x1024 .f32) (x1 : Vec Ideal S1920x1024 .bf16) (x2 : Vec Ideal S512x1024 .f32) (x3 : Vec Ideal S2x512x256 .f32) (x4 : Vec Ideal S512x256 .bf16) (x5 : Vec Ideal S512x128 .bf16) (x6 : Vec Ideal S512x128 .bf16) (x7 : Vec Ideal S512x128 .bf16) (x8 : Vec Ideal S512x128 .bf16) (x9 : Vec Ideal S512x256 .bf16) (x10 : Vec Ideal S512x256 .bf16) (x11 : Vec Ideal S512x256 .bf16) (x12 : Vec Ideal S512x512 .bf16) (x13 : Vec Ideal S512x256 .bf16) (x14 : Vec Ideal S512x128 .bf16) (xs0 : Vec Ideal S1920x1024 .f32) (j : Fin 4) (r : Fin 456) (k : Fin 1024) :
    out0_C_16 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 (ix3 j r k)
      = xs0 (ix2 (src ⟨j.val * 456 + r.val, by omega⟩) k)
        + ∑ r' : Fin 512, dhV x3 x4 x5 x6 x7 x8 x9 x10 x11 x12 x13 x14 r' (src ⟨j.val * 456 + r.val, by omega⟩) * x0 (ix2 r' k) := by
  have hacc : ∀ (i1 i2) (m : Fin 1920),
      k0_pay5 (F := Ideal) (k0_pay13 (F := Ideal) (View.ld x3 (Rect.unit (s := S2x512x256) ![0, 0, 0] ![1, 512, 256] i1))
          (View.ld x3 (Rect.unit (s := S2x512x256) ![1, 0, 0] ![1, 512, 256] i2)) x4)
        (k0_pay14 (F := Ideal) x5 x6) (k0_pay15 (F := Ideal) x7 x8) (k0_pay16 (F := Ideal) x9 x10) (k0_pay17 (F := Ideal) x11)
        (k0_pay18 (F := Ideal) x12) x13 x14 x0 xs0 (ix2 m k)
        = xs0 (ix2 m k) + ∑ r' : Fin 512, dhV x3 x4 x5 x6 x7 x8 x9 x10 x11 x12 x13 x14 r' m * x0 (ix2 r' k) := by
    intro i1 i2 m
    rw [pay5_apply]
    exact congrArg (_ + ·) (Finset.sum_congr rfl fun r' _ => congrArg (· * x0 (ix2 r' k)) (dh_ld x3 x4 x5 x6 x7 x8 x9 x10 x11 x12 x13 x14 _ _ r' m))
  unfold out0_C_16
  rw [View.read_writes_eq_canon _ _ _ (cover0_C_16 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0)]
  refine View.canon_eq_of_allAt _ _ _ (cover0_C_16 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 _) ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, View.ld_unit_zero (S := S512x1024) hz, View.ld_unit_zero (S := S1920x1024) hz, View.ld_unit_zero (S := S512x256) hz, View.ld_unit_zero (S := S512x128) hz, View.ld_unit_zero (S := S512x512) hz, shapeCast_self]
  refine View.allAt_cons_unit _ _ _ _ _ (tile j r k _ 3 0 456 _ fun p e0 e1 => ?_) (View.allAt_cons_unit _ _ _ _ _ (tile j r k _ 2 144 312 _ fun p e0 e1 => ?_)
    (View.allAt_cons_unit _ _ _ _ _ (tile j r k _ 2 112 32 _ fun p e0 e1 => ?_) (View.allAt_cons_unit _ _ _ _ _ (tile j r k _ 2 0 112 _ fun p e0 e1 => ?_)
      (View.allAt_cons_unit _ _ _ _ _ (tile j r k _ 1 0 456 _ fun p e0 e1 => ?_) (View.allAt_cons_unit _ _ _ _ _ (tile j r k _ 0 0 456 _ fun p e0 e1 => ?_)
        (View.allAt_nil _ _))))))
  · refine (pay6_apply _ p k).trans ((rows _ _ 1336 456 _ _ (src ⟨j.val * 456 + r.val, by omega⟩) p k ?_).trans (hacc _ _ _))
    unfold src
    dsimp only
    rw [if_neg (by omega), if_neg (by omega)]
    omega
  · refine (pay11_apply _ p k).trans ((rows _ _ 1024 312 _ _ (src ⟨j.val * 456 + r.val, by omega⟩) p k ?_).trans (hacc _ _ _))
    unfold src
    dsimp only
    rw [if_neg (by omega), if_neg (by omega)]
    omega
  · refine (pay10_apply _ p k).trans ((rows _ _ 1792 32 _ _ (src ⟨j.val * 456 + r.val, by omega⟩) p k ?_).trans (hacc _ _ _))
    unfold src
    dsimp only
    rw [if_neg (by omega), if_pos (by omega)]
    omega
  · refine (pay9_apply _ p k).trans ((rows _ _ 912 112 _ _ (src ⟨j.val * 456 + r.val, by omega⟩) p k ?_).trans (hacc _ _ _))
    unfold src
    dsimp only
    rw [if_pos (by omega)]
    omega
  · refine (pay8_apply _ p k).trans ((rows _ _ 456 456 _ _ (src ⟨j.val * 456 + r.val, by omega⟩) p k ?_).trans (hacc _ _ _))
    unfold src
    dsimp only
    rw [if_pos (by omega)]
    omega
  · refine (pay7_apply _ p k).trans ((rows _ _ 0 456 _ _ (src ⟨j.val * 456 + r.val, by omega⟩) p k ?_).trans (hacc _ _ _))
    unfold src
    dsimp only
    rw [if_pos (by omega)]
    omega

end Cert.InBwd

end
-- ==== Proof.InBwdBlk.lean ====
/- The blocks the body of the projection's gradients reads, element by element, as functions of the arguments. -/
module

public import proofs.«01_k».proof.Proof.Gen.Kernel6Ideal.Frame
public import proofs.«01_k».proof.Proof.InBwdPay
public import proofs.«01_k».proof.Proof.Spec
public import Idealize.ShloMosaic.Lib.StableHlo.ReadAt

@[expose] public section

noncomputable section

namespace Cert.InBwd

open Cert.Kernel6Ideal Cert.Kernel6Ideal.Gen Cert.Proj Idealize.ShloMosaic Idealize.ShloMosaic.TcCoe

variable (m : (ℓ : Loc nD τ sig) → Buf (Elt Ideal) ℓ)

/-! ## The arguments -/

abbrev b0 (c : Dev nD) : Vec Ideal S4096x1024 .f32 := m (c, Proc.tc.devRef main_arg0)
abbrev b1 (c : Dev nD) : Vec Ideal S1024x1824 .f32 := m (c, Proc.tc.devRef main_arg1)
abbrev b2 (c : Dev nD) : Vec Ideal S4096x1024 .f32 := m (c, Proc.tc.devRef main_arg2)
abbrev b3 (c : Dev nD) : Vec Ideal S2x4096x256 .f32 := m (c, Proc.tc.devRef main_arg3)
abbrev b4 (c : Dev nD) : Vec Ideal S4096x256 .f32 := m (c, Proc.tc.devRef main_arg4)
abbrev b5 (c : Dev nD) : Vec Ideal S4096x128 .f32 := m (c, Proc.tc.devRef main_arg5)
abbrev b6 (c : Dev nD) : Vec Ideal S4096x128 .f32 := m (c, Proc.tc.devRef main_arg6)
abbrev b7 (c : Dev nD) : Vec Ideal S4096x128 .f32 := m (c, Proc.tc.devRef main_arg7)
abbrev b8 (c : Dev nD) : Vec Ideal S4096x128 .f32 := m (c, Proc.tc.devRef main_arg8)
abbrev b9 (c : Dev nD) : Vec Ideal S4096x256 .f32 := m (c, Proc.tc.devRef main_arg9)
abbrev b10 (c : Dev nD) : Vec Ideal S4096x256 .f32 := m (c, Proc.tc.devRef main_arg10)
abbrev b11 (c : Dev nD) : Vec Ideal S4096x256 .f32 := m (c, Proc.tc.devRef main_arg11)
abbrev b12 (c : Dev nD) : Vec Ideal S4096x512 .f32 := m (c, Proc.tc.devRef main_arg12)
abbrev b13 (c : Dev nD) : Vec Ideal S4096x256 .f32 := m (c, Proc.tc.devRef main_arg13)
abbrev b14 (c : Dev nD) : Vec Ideal S4096x32 .f32 := m (c, Proc.tc.devRef main_arg14)

/-- The arguments as functions of their coordinates. -/
def gv (c : Dev nD) : Given where
  X := fun n k => b0 m c (ix2 n k)
  W := fun k j => b1 m c (ix2 k j)
  P := fun n k => b2 m c (ix2 n k)
  DU := fun n k => b3 m c (ix3 0 n k) + b3 m c (ix3 1 n k) + b4 m c (ix2 n k)
  DQ := fun n k => b5 m c (ix2 n k) + b6 m c (ix2 n k)
  DK := fun n k => b7 m c (ix2 n k) + b8 m c (ix2 n k)
  DV := fun n k => b9 m c (ix2 n k) + b10 m c (ix2 n k)
  DR := fun n k => b11 m c (ix2 n k)
  DA := fun n k => b12 m c (ix2 n k)
  DE := fun n k => b13 m c (ix2 n k)
  DL := fun n k => b14 m c (ix2 n k)

/-! ## The arrays the blocks are cut from -/

theorem V_0 (c : Dev nD) (n : Fin 4096) (k : Fin 1024) : (V m c main_arg0 : S4096x1024.Idx → EReal) (ix2 n k) = b0 m c (ix2 n k) := by
  rw [V_main_arg0]

theorem V_2 (c : Dev nD) (n : Fin 4096) (k : Fin 1024) : (V m c main_arg2 : S4096x1024.Idx → EReal) (ix2 n k) = b2 m c (ix2 n k) := by
  rw [V_main_arg2]

theorem V_3 (c : Dev nD) (s : Fin 2) (n : Fin 4096) (k : Fin 256) : (V m c main_arg3 : S2x4096x256.Idx → EReal) (ix3 s n k) = b3 m c (ix3 s n k) := by
  rw [V_main_arg3]

theorem V_4 (c : Dev nD) (n : Fin 4096) (k : Fin 256) : (V m c main_v9 : S4096x256.Idx → EReal) (ix2 n k) = b4 m c (ix2 n k) := by
  unfold V hostOps0
  after_reads_at

theorem V_5 (c : Dev nD) (n : Fin 4096) (k : Fin 128) : (V m c main_v10 : S4096x128.Idx → EReal) (ix2 n k) = b5 m c (ix2 n k) := by
  unfold V hostOps0
  after_reads_at

theorem V_6 (c : Dev nD) (n : Fin 4096) (k : Fin 128) : (V m c main_v11 : S4096x128.Idx → EReal) (ix2 n k) = b6 m c (ix2 n k) := by
  unfold V hostOps0
  after_reads_at

theorem V_7 (c : Dev nD) (n : Fin 4096) (k : Fin 128) : (V m c main_v12 : S4096x128.Idx → EReal) (ix2 n k) = b7 m c (ix2 n k) := by
  unfold V hostOps0
  after_reads_at

theorem V_8 (c : Dev nD) (n : Fin 4096) (k : Fin 128) : (V m c main_v13 : S4096x128.Idx → EReal) (ix2 n k) = b8 m c (ix2 n k) := by
  unfold V hostOps0
  after_reads_at

theorem V_9 (c : Dev nD) (n : Fin 4096) (k : Fin 256) : (V m c main_v14 : S4096x256.Idx → EReal) (ix2 n k) = b9 m c (ix2 n k) := by
  unfold V hostOps0
  after_reads_at

theorem V_10 (c : Dev nD) (n : Fin 4096) (k : Fin 256) : (V m c main_v15 : S4096x256.Idx → EReal) (ix2 n k) = b10 m c (ix2 n k) := by
  unfold V hostOps0
  after_reads_at

theorem V_11 (c : Dev nD) (n : Fin 4096) (k : Fin 256) : (V m c main_v16 : S4096x256.Idx → EReal) (ix2 n k) = b11 m c (ix2 n k) := by
  unfold V hostOps0
  after_reads_at

theorem V_12 (c : Dev nD) (n : Fin 4096) (k : Fin 512) : (V m c main_v17 : S4096x512.Idx → EReal) (ix2 n k) = b12 m c (ix2 n k) := by
  unfold V hostOps0
  after_reads_at

theorem V_13 (c : Dev nD) (n : Fin 4096) (k : Fin 256) : (V m c main_v18 : S4096x256.Idx → EReal) (ix2 n k) = b13 m c (ix2 n k) := by
  unfold V hostOps0
  after_reads_at

theorem V_14 (c : Dev nD) (n : Fin 4096) (i : Fin 128) : (V m c main_v19 : S4096x128.Idx → EReal) (ix2 n i) = pad32 ((gv m c).DL n) i := by
  unfold V hostOps0
  after_reads_at
  repeat after_reads_at
  rfl

theorem V_1 (c : Dev nD) (j : Fin 1920) (k : Fin 1024) : (V m c main_v8 : S1920x1024.Idx → EReal) (ix2 j k) = padC ((gv m c).W k) j := by
  unfold V hostOps0
  after_reads_at
  repeat after_reads_at
  rfl

/-! ## The blocks -/

/-- A row of the whole by its block of 512. -/
def row (t : Fin 8) (r : Fin 512) : Fin 4096 := ⟨512 * t.val + r.val, by omega⟩

theorem row_surj (n : Fin 4096) : ∃ t r, n = row t r :=
  ⟨⟨n.val / 512, by omega⟩, ⟨n.val % 512, by omega⟩, Fin.ext (by simp only [row]; omega)⟩

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 0] := (by decide +kernel : ∀ t : Fin grid0.N, _)
theorem i1 : ∀ t : Fin cfg0.N, cc0_transform_1 (grid0.coords t) = ![0, 0] := (by decide +kernel : ∀ t : Fin grid0.N, _)
theorem i2 : ∀ t : Fin cfg0.N, cc0_transform_2 (grid0.coords t) = ![t.val, 0] := (by decide +kernel : ∀ t : Fin grid0.N, _)
theorem i3 : ∀ t : Fin cfg0.N, cc0_transform_3 (grid0.coords t) = ![0, t.val, 0] := (by decide +kernel : ∀ t : Fin grid0.N, _)
theorem i4 : ∀ t : Fin cfg0.N, cc0_transform_4 (grid0.coords t) = ![t.val, 0] := (by decide +kernel : ∀ t : Fin grid0.N, _)
theorem i5 : ∀ t : Fin cfg0.N, cc0_transform_5 (grid0.coords t) = ![t.val, 0] := (by decide +kernel : ∀ t : Fin grid0.N, _)
theorem i6 : ∀ t : Fin cfg0.N, cc0_transform_6 (grid0.coords t) = ![t.val, 0] := (by decide +kernel : ∀ t : Fin grid0.N, _)
theorem i7 : ∀ t : Fin cfg0.N, cc0_transform_7 (grid0.coords t) = ![t.val, 0] := (by decide +kernel : ∀ t : Fin grid0.N, _)
theorem i8 : ∀ t : Fin cfg0.N, cc0_transform_8 (grid0.coords t) = ![t.val, 0] := (by decide +kernel : ∀ t : Fin grid0.N, _)
theorem i9 : ∀ t : Fin cfg0.N, cc0_transform_9 (grid0.coords t) = ![t.val, 0] := (by decide +kernel : ∀ t : Fin grid0.N, _)
theorem i10 : ∀ t : Fin cfg0.N, cc0_transform_10 (grid0.coords t) = ![t.val, 0] := (by decide +kernel : ∀ t : Fin grid0.N, _)
theorem i11 : ∀ t : Fin cfg0.N, cc0_transform_11 (grid0.coords t) = ![t.val, 0] := (by decide +kernel : ∀ t : Fin grid0.N, _)
theorem i12 : ∀ t : Fin cfg0.N, cc0_transform_12 (grid0.coords t) = ![t.val, 0] := (by decide +kernel : ∀ t : Fin grid0.N, _)
theorem i13 : ∀ t : Fin cfg0.N, cc0_transform_13 (grid0.coords t) = ![t.val, 0] := (by decide +kernel : ∀ t : Fin grid0.N, _)
theorem i14 : ∀ t : Fin cfg0.N, cc0_transform_14 (grid0.coords t) = ![t.val, 0] := (by decide +kernel : ∀ t : Fin grid0.N, _)
theorem i15 : ∀ t : Fin cfg0.N, cc0_transform_15 (grid0.coords t) = ![t.val, 0] := (by decide +kernel : ∀ t : Fin grid0.N, _)
theorem i16 : ∀ t : Fin cfg0.N, cc0_transform_16 (grid0.coords t) = ![0, 0, 0] := (by decide +kernel : ∀ t : Fin grid0.N, _)

theorem blk0 (c : Dev nD) (t : Fin cfg0.N) (r : Fin 512) (k : Fin 1024) : (iblk m c 0 t : S512x1024.Idx → EReal) (ix2 r k) = b0 m c (ix2 (row (blkOf t) r) k) := by
  rw [← V_0]
  unfold iblk
  rw [View.read_apply]
  show V m c main_arg0 _ = V m c main_arg0 _
  congr 1
  funext a
  apply Fin.ext
  match a with
  | ⟨0, _⟩ =>
    show cc0_transform_0 (grid0.coords t) 0 * 512 + 1 * r.val = 512 * t.val + r.val
    rw [i0]
    show t.val * 512 + 1 * r.val = _
    omega
  | ⟨1, _⟩ =>
    show cc0_transform_0 (grid0.coords t) 1 * 1024 + 1 * k.val = k.val
    rw [i0]
    show 0 * 1024 + 1 * k.val = _
    omega

theorem blk2 (c : Dev nD) (t : Fin cfg0.N) (r : Fin 512) (k : Fin 1024) : (iblk m c 2 t : S512x1024.Idx → EReal) (ix2 r k) = b2 m c (ix2 (row (blkOf t) r) k) := by
  rw [← V_2]
  unfold iblk
  rw [View.read_apply]
  show V m c main_arg2 _ = V m c main_arg2 _
  congr 1
  funext a
  apply Fin.ext
  match a with
  | ⟨0, _⟩ =>
    show cc0_transform_2 (grid0.coords t) 0 * 512 + 1 * r.val = 512 * t.val + r.val
    rw [i2]
    show t.val * 512 + 1 * r.val = _
    omega
  | ⟨1, _⟩ =>
    show cc0_transform_2 (grid0.coords t) 1 * 1024 + 1 * k.val = k.val
    rw [i2]
    show 0 * 1024 + 1 * k.val = _
    omega

theorem blk4 (c : Dev nD) (t : Fin cfg0.N) (r : Fin 512) (k : Fin 256) : (iblk m c 4 t : S512x256.Idx → EReal) (ix2 r k) = b4 m c (ix2 (row (blkOf t) r) k) := by
  rw [← V_4]
  unfold iblk
  rw [View.read_apply]
  show V m c main_v9 _ = V m c main_v9 _
  congr 1
  funext a
  apply Fin.ext
  match a with
  | ⟨0, _⟩ =>
    show cc0_transform_4 (grid0.coords t) 0 * 512 + 1 * r.val = 512 * t.val + r.val
    rw [i4]
    show t.val * 512 + 1 * r.val = _
    omega
  | ⟨1, _⟩ =>
    show cc0_transform_4 (grid0.coords t) 1 * 256 + 1 * k.val = k.val
    rw [i4]
    show 0 * 256 + 1 * k.val = _
    omega

theorem blk5 (c : Dev nD) (t : Fin cfg0.N) (r : Fin 512) (k : Fin 128) : (iblk m c 5 t : S512x128.Idx → EReal) (ix2 r k) = b5 m c (ix2 (row (blkOf t) r) k) := by
  rw [← V_5]
  unfold iblk
  rw [View.read_apply]
  show V m c main_v10 _ = V m c main_v10 _
  congr 1
  funext a
  apply Fin.ext
  match a with
  | ⟨0, _⟩ =>
    show cc0_transform_5 (grid0.coords t) 0 * 512 + 1 * r.val = 512 * t.val + r.val
    rw [i5]
    show t.val * 512 + 1 * r.val = _
    omega
  | ⟨1, _⟩ =>
    show cc0_transform_5 (grid0.coords t) 1 * 128 + 1 * k.val = k.val
    rw [i5]
    show 0 * 128 + 1 * k.val = _
    omega

theorem blk6 (c : Dev nD) (t : Fin cfg0.N) (r : Fin 512) (k : Fin 128) : (iblk m c 6 t : S512x128.Idx → EReal) (ix2 r k) = b6 m c (ix2 (row (blkOf t) r) k) := by
  rw [← V_6]
  unfold iblk
  rw [View.read_apply]
  show V m c main_v11 _ = V m c main_v11 _
  congr 1
  funext a
  apply Fin.ext
  match a with
  | ⟨0, _⟩ =>
    show cc0_transform_6 (grid0.coords t) 0 * 512 + 1 * r.val = 512 * t.val + r.val
    rw [i6]
    show t.val * 512 + 1 * r.val = _
    omega
  | ⟨1, _⟩ =>
    show cc0_transform_6 (grid0.coords t) 1 * 128 + 1 * k.val = k.val
    rw [i6]
    show 0 * 128 + 1 * k.val = _
    omega

theorem blk7 (c : Dev nD) (t : Fin cfg0.N) (r : Fin 512) (k : Fin 128) : (iblk m c 7 t : S512x128.Idx → EReal) (ix2 r k) = b7 m c (ix2 (row (blkOf t) r) k) := by
  rw [← V_7]
  unfold iblk
  rw [View.read_apply]
  show V m c main_v12 _ = V m c main_v12 _
  congr 1
  funext a
  apply Fin.ext
  match a with
  | ⟨0, _⟩ =>
    show cc0_transform_7 (grid0.coords t) 0 * 512 + 1 * r.val = 512 * t.val + r.val
    rw [i7]
    show t.val * 512 + 1 * r.val = _
    omega
  | ⟨1, _⟩ =>
    show cc0_transform_7 (grid0.coords t) 1 * 128 + 1 * k.val = k.val
    rw [i7]
    show 0 * 128 + 1 * k.val = _
    omega

theorem blk8 (c : Dev nD) (t : Fin cfg0.N) (r : Fin 512) (k : Fin 128) : (iblk m c 8 t : S512x128.Idx → EReal) (ix2 r k) = b8 m c (ix2 (row (blkOf t) r) k) := by
  rw [← V_8]
  unfold iblk
  rw [View.read_apply]
  show V m c main_v13 _ = V m c main_v13 _
  congr 1
  funext a
  apply Fin.ext
  match a with
  | ⟨0, _⟩ =>
    show cc0_transform_8 (grid0.coords t) 0 * 512 + 1 * r.val = 512 * t.val + r.val
    rw [i8]
    show t.val * 512 + 1 * r.val = _
    omega
  | ⟨1, _⟩ =>
    show cc0_transform_8 (grid0.coords t) 1 * 128 + 1 * k.val = k.val
    rw [i8]
    show 0 * 128 + 1 * k.val = _
    omega

theorem blk9 (c : Dev nD) (t : Fin cfg0.N) (r : Fin 512) (k : Fin 256) : (iblk m c 9 t : S512x256.Idx → EReal) (ix2 r k) = b9 m c (ix2 (row (blkOf t) r) k) := by
  rw [← V_9]
  unfold iblk
  rw [View.read_apply]
  show V m c main_v14 _ = V m c main_v14 _
  congr 1
  funext a
  apply Fin.ext
  match a with
  | ⟨0, _⟩ =>
    show cc0_transform_9 (grid0.coords t) 0 * 512 + 1 * r.val = 512 * t.val + r.val
    rw [i9]
    show t.val * 512 + 1 * r.val = _
    omega
  | ⟨1, _⟩ =>
    show cc0_transform_9 (grid0.coords t) 1 * 256 + 1 * k.val = k.val
    rw [i9]
    show 0 * 256 + 1 * k.val = _
    omega

theorem blk10 (c : Dev nD) (t : Fin cfg0.N) (r : Fin 512) (k : Fin 256) : (iblk m c 10 t : S512x256.Idx → EReal) (ix2 r k) = b10 m c (ix2 (row (blkOf t) r) k) := by
  rw [← V_10]
  unfold iblk
  rw [View.read_apply]
  show V m c main_v15 _ = V m c main_v15 _
  congr 1
  funext a
  apply Fin.ext
  match a with
  | ⟨0, _⟩ =>
    show cc0_transform_10 (grid0.coords t) 0 * 512 + 1 * r.val = 512 * t.val + r.val
    rw [i10]
    show t.val * 512 + 1 * r.val = _
    omega
  | ⟨1, _⟩ =>
    show cc0_transform_10 (grid0.coords t) 1 * 256 + 1 * k.val = k.val
    rw [i10]
    show 0 * 256 + 1 * k.val = _
    omega

theorem blk11 (c : Dev nD) (t : Fin cfg0.N) (r : Fin 512) (k : Fin 256) : (iblk m c 11 t : S512x256.Idx → EReal) (ix2 r k) = b11 m c (ix2 (row (blkOf t) r) k) := by
  rw [← V_11]
  unfold iblk
  rw [View.read_apply]
  show V m c main_v16 _ = V m c main_v16 _
  congr 1
  funext a
  apply Fin.ext
  match a with
  | ⟨0, _⟩ =>
    show cc0_transform_11 (grid0.coords t) 0 * 512 + 1 * r.val = 512 * t.val + r.val
    rw [i11]
    show t.val * 512 + 1 * r.val = _
    omega
  | ⟨1, _⟩ =>
    show cc0_transform_11 (grid0.coords t) 1 * 256 + 1 * k.val = k.val
    rw [i11]
    show 0 * 256 + 1 * k.val = _
    omega

theorem blk12 (c : Dev nD) (t : Fin cfg0.N) (r : Fin 512) (k : Fin 512) : (iblk m c 12 t : S512x512.Idx → EReal) (ix2 r k) = b12 m c (ix2 (row (blkOf t) r) k) := by
  rw [← V_12]
  unfold iblk
  rw [View.read_apply]
  show V m c main_v17 _ = V m c main_v17 _
  congr 1
  funext a
  apply Fin.ext
  match a with
  | ⟨0, _⟩ =>
    show cc0_transform_12 (grid0.coords t) 0 * 512 + 1 * r.val = 512 * t.val + r.val
    rw [i12]
    show t.val * 512 + 1 * r.val = _
    omega
  | ⟨1, _⟩ =>
    show cc0_transform_12 (grid0.coords t) 1 * 512 + 1 * k.val = k.val
    rw [i12]
    show 0 * 512 + 1 * k.val = _
    omega

theorem blk13 (c : Dev nD) (t : Fin cfg0.N) (r : Fin 512) (k : Fin 256) : (iblk m c 13 t : S512x256.Idx → EReal) (ix2 r k) = b13 m c (ix2 (row (blkOf t) r) k) := by
  rw [← V_13]
  unfold iblk
  rw [View.read_apply]
  show V m c main_v18 _ = V m c main_v18 _
  congr 1
  funext a
  apply Fin.ext
  match a with
  | ⟨0, _⟩ =>
    show cc0_transform_13 (grid0.coords t) 0 * 512 + 1 * r.val = 512 * t.val + r.val
    rw [i13]
    show t.val * 512 + 1 * r.val = _
    omega
  | ⟨1, _⟩ =>
    show cc0_transform_13 (grid0.coords t) 1 * 256 + 1 * k.val = k.val
    rw [i13]
    show 0 * 256 + 1 * k.val = _
    omega

theorem blk14 (c : Dev nD) (t : Fin cfg0.N) (r : Fin 512) (k : Fin 128) : (iblk m c 14 t : S512x128.Idx → EReal) (ix2 r k) = pad32 ((gv m c).DL (row (blkOf t) r)) k := by
  rw [← V_14]
  unfold iblk
  rw [View.read_apply]
  show V m c main_v19 _ = V m c main_v19 _
  congr 1
  funext a
  apply Fin.ext
  match a with
  | ⟨0, _⟩ =>
    show cc0_transform_14 (grid0.coords t) 0 * 512 + 1 * r.val = 512 * t.val + r.val
    rw [i14]
    show t.val * 512 + 1 * r.val = _
    omega
  | ⟨1, _⟩ =>
    show cc0_transform_14 (grid0.coords t) 1 * 128 + 1 * k.val = k.val
    rw [i14]
    show 0 * 128 + 1 * k.val = _
    omega

theorem blk1 (c : Dev nD) (t : Fin cfg0.N) (j : Fin 1920) (k : Fin 1024) : (iblk m c 1 t : S1920x1024.Idx → EReal) (ix2 j k) = padC ((gv m c).W k) j := by
  rw [← V_1]
  unfold iblk
  rw [View.read_apply]
  show V m c main_v8 _ = V m c main_v8 _
  congr 1
  funext a
  apply Fin.ext
  match a with
  | ⟨0, _⟩ =>
    show cc0_transform_1 (grid0.coords t) 0 * 1920 + 1 * j.val = j.val
    rw [i1]
    show 0 * 1920 + 1 * j.val = _
    omega
  | ⟨1, _⟩ =>
    show cc0_transform_1 (grid0.coords t) 1 * 1024 + 1 * k.val = k.val
    rw [i1]
    show 0 * 1024 + 1 * k.val = _
    omega

theorem blk3 (c : Dev nD) (t : Fin cfg0.N) (s : Fin 2) (r : Fin 512) (k : Fin 256) :
    (iblk m c 3 t : S2x512x256.Idx → EReal) (ix3 s r k) = b3 m c (ix3 s (row (blkOf t) r) k) := by
  rw [← V_3]
  unfold iblk
  rw [View.read_apply]
  show V m c main_arg3 _ = V m c main_arg3 _
  congr 1
  funext a
  apply Fin.ext
  match a with
  | ⟨0, _⟩ =>
    show cc0_transform_3 (grid0.coords t) 0 * 2 + 1 * s.val = s.val
    rw [i3]
    show 0 * 2 + 1 * s.val = _
    omega
  | ⟨1, _⟩ =>
    show cc0_transform_3 (grid0.coords t) 1 * 512 + 1 * r.val = 512 * t.val + r.val
    rw [i3]
    show t.val * 512 + 1 * r.val = _
    omega
  | ⟨2, _⟩ =>
    show cc0_transform_3 (grid0.coords t) 2 * 256 + 1 * k.val = k.val
    rw [i3]
    show 0 * 256 + 1 * k.val = _
    omega

/-- Equal parts make equal rows. -/
theorem dpad_congr {du du' : Fin 256 → EReal} {dq dq' dk dk' : Fin 128 → EReal} {dv dv' dr dr' : Fin 256 → EReal} {daq daq' : Fin 512 → EReal}
    {dakv dakv' : Fin 256 → EReal} {dl dl' : Fin 128 → EReal} (h0 : du = du') (h1 : dq = dq') (h2 : dk = dk') (h3 : dv = dv') (h4 : dr = dr')
    (h5 : daq = daq') (h6 : dakv = dakv') (h7 : dl = dl') (j : Fin 1920) :
    dpad du dq dk dv dr daq dakv dl j = dpad du' dq' dk' dv' dr' daq' dakv' dl' j := by
  subst h0 h1 h2 h3 h4 h5 h6 h7
  rfl

/-- The gradient at the projection, in a block, is the whole's. -/
theorem dh_blk (c : Dev nD) (t : Fin cfg0.N) (r : Fin 512) (j : Fin 1920) :
    dhV (iblk m c 3 t) (iblk m c 4 t) (iblk m c 5 t) (iblk m c 6 t) (iblk m c 7 t) (iblk m c 8 t) (iblk m c 9 t) (iblk m c 10 t) (iblk m c 11 t)
      (iblk m c 12 t) (iblk m c 13 t) (iblk m c 14 t) r j = padC (dh (gv m c) (row (blkOf t) r)) j := by
  unfold dh
  rw [← dpad_eq]
  unfold dhV
  have e0 := funext fun k => congrArg₂ (fun a b : EReal => a + b) (congrArg₂ (fun a b : EReal => a + b) (blk3 m c t 0 r k) (blk3 m c t 1 r k)) (blk4 m c t r k)
  have e1 := funext fun k => congrArg₂ (fun a b : EReal => a + b) (blk5 m c t r k) (blk6 m c t r k)
  have e2 := funext fun k => congrArg₂ (fun a b : EReal => a + b) (blk7 m c t r k) (blk8 m c t r k)
  have e3 := funext fun k => congrArg₂ (fun a b : EReal => a + b) (blk9 m c t r k) (blk10 m c t r k)
  have e4 := funext fun k => blk11 m c t r k
  have e5 := funext fun k => blk12 m c t r k
  have e6 := funext fun k => blk13 m c t r k
  have e7 := funext fun k => blk14 m c t r k
  exact dpad_congr e0 e1 e2 e3 e4 e5 e6 e7 j

end Cert.InBwd

end
-- ==== Proof.InBwdRun.lean ====
/- The projection's gradients after a run, element by element, as functions of the arguments. -/
module

public import proofs.«01_k».proof.Proof.InBwdOut
public import proofs.«01_k».proof.Proof.InBwdBlk
public import proofs.«01_k».proof.Proof.Gen.Kernel6Ideal.Value

@[expose] public section

noncomputable section

namespace Cert.InBwd

open Cert.Kernel6Ideal Cert.Kernel6Ideal.Gen Cert.Proj Idealize.ShloMosaic Idealize.ShloMosaic.TcCoe

variable (m : (ℓ : Loc nD τ sig) → Buf (Elt Ideal) ℓ)

/-- What a block of rows adds to the weights' gradient. -/
def part (c : Dev nD) (t : Fin 8) (j : Fin 1920) (k : Fin 1024) : EReal :=
  ∑ r : Fin 512, padC (dh (gv m c) (row t r)) j * (gv m c).X (row t r) k

theorem part_blk (c : Dev nD) (t : Fin cfg0.N) (j : Fin 1920) (k : Fin 1024) :
    (∑ r : Fin 512, dhV (iblk m c 3 t) (iblk m c 4 t) (iblk m c 5 t) (iblk m c 6 t) (iblk m c 7 t) (iblk m c 8 t) (iblk m c 9 t) (iblk m c 10 t)
        (iblk m c 11 t) (iblk m c 12 t) (iblk m c 13 t) (iblk m c 14 t) r j * (show EReal from iblk m c 0 t (ix2 r k : S512x1024.Idx)))
      = part m c (blkOf t) j k :=
  Finset.sum_congr rfl fun r _ => congrArg₂ (fun a b : EReal => a * b) (dh_blk m c t r j) (blk0 m c t r k)

theorem rows_blk (c : Dev nD) (t : Fin cfg0.N) (r : Fin 512) (k : Fin 1024) :
    (show EReal from iblk m c 2 t (ix2 r k : S512x1024.Idx))
      + (∑ j : Fin 1920, dhV (iblk m c 3 t) (iblk m c 4 t) (iblk m c 5 t) (iblk m c 6 t) (iblk m c 7 t) (iblk m c 8 t) (iblk m c 9 t) (iblk m c 10 t)
        (iblk m c 11 t) (iblk m c 12 t) (iblk m c 13 t) (iblk m c 14 t) r j * (show EReal from iblk m c 1 t (ix2 j k : S1920x1024.Idx)))
      = dx (gv m c) (row (blkOf t) r) k := by
  unfold dx
  rw [← sum_cols]
  exact congrArg₂ (fun a b : EReal => a + b) (blk2 m c t r k)
    (Finset.sum_congr rfl fun j _ => congrArg₂ (fun a b : EReal => a * b) (dh_blk m c t r j) (blk1 m c t j k))

theorem accA (c : Dev nD) (t : Fin cfg0.N) (h : t.val = 0) :
    (∀ r k, (outsAt0 m c t.val t.isLt).1 (ix2 r k) = dx (gv m c) (row (blkOf t) r) k)
    ∧ ∀ j k, (outsAt0 m c t.val t.isLt).2.2 (ix2 j k) = part m c (blkOf t) j k := by
  rw [outsAt0_A m c t (by omega) (by omega) (by omega)]
  dsimp only
  refine ⟨fun r k => ?_, fun j k => ?_⟩
  · rw [out0_A_15_apply]
    exact rows_blk m c t r k
  · rw [sout0_A_0_apply]
    exact part_blk m c t j k

theorem accB (c : Dev nD) (t : Fin cfg0.N) (h0 : 1 ≤ t.val) (h1 : ¬ t.val % 8 = 7) :
    (∀ r k, (outsAt0 m c t.val t.isLt).1 (ix2 r k) = dx (gv m c) (row (blkOf t) r) k)
    ∧ ∀ j k, (outsAt0 m c t.val t.isLt).2.2 (ix2 j k)
      = (outsAt0 m c (t.val - 1) (Nat.lt_of_le_of_lt (Nat.sub_le _ _) t.isLt)).2.2 (ix2 j k) + part m c (blkOf t) j k := by
  have hN : t.val < 8 := lt_of_lt_of_eq t.isLt (by decide)
  rw [outsAt0_B m c t (by omega) h0 h1]
  dsimp only
  refine ⟨fun r k => ?_, fun j k => ?_⟩
  · rw [out0_B_15_apply]
    exact rows_blk m c t r k
  · rw [sout0_B_0_apply]
    exact congrArg (_ + ·) (part_blk m c t j k)

theorem outC (c : Dev nD) (t : Fin cfg0.N) (h1 : t.val % 8 = 7) :
    (∀ r k, (outsAt0 m c t.val t.isLt).1 (ix2 r k) = dx (gv m c) (row (blkOf t) r) k)
    ∧ ∀ (j : Fin 4) (r : Fin 456) k, (outsAt0 m c t.val t.isLt).2.1 (ix3 j r k)
      = (outsAt0 m c (t.val - 1) (Nat.lt_of_le_of_lt (Nat.sub_le _ _) t.isLt)).2.2 (ix2 (src ⟨j.val * 456 + r.val, by omega⟩) k)
        + part m c (blkOf t) (src ⟨j.val * 456 + r.val, by omega⟩) k := by
  rw [outsAt0_C m c t (by omega) (by omega) h1]
  dsimp only
  refine ⟨fun r k => ?_, fun j r k => ?_⟩
  · rw [out0_C_15_apply]
    exact rows_blk m c t r k
  · rw [out0_C_16_apply]
    exact congrArg (_ + ·) (part_blk m c t _ k)

/-- Before the last point the accumulator holds the parts of the points so far. -/
theorem acc (c : Dev nD) (j : Fin 1920) (k : Fin 1024) : ∀ (n : ℕ) (h : n < 7) (hn : n < cfg0.N),
    (outsAt0 m c n hn).2.2 (ix2 j k) = ∑ u : Fin (n + 1), part m c ⟨u.val, by omega⟩ j k
  | 0, _, hn => by
    refine ((accA m c ⟨0, hn⟩ rfl).2 j k).trans ?_
    rw [Fin.sum_univ_one]
    rfl
  | n + 1, h, hn => by
    refine ((accB m c ⟨n + 1, hn⟩ (Nat.le_add_left _ _) (show ¬ (n + 1) % 8 = 7 by omega)).2 j k).trans ?_
    rw [Fin.sum_univ_castSucc]
    exact congrArg (· + part m c (blkOf ⟨n + 1, hn⟩) j k) (acc c j k n (by omega) (by omega))

/-- Every point's block of the rows' gradient. -/
theorem pt15 (c : Dev nD) (t : Fin cfg0.N) (r : Fin 512) (k : Fin 1024) :
    (outsAt0 m c t.val t.isLt).1 (ix2 r k) = dx (gv m c) (row (blkOf t) r) k := by
  by_cases h0 : t.val = 0
  · exact (accA m c t h0).1 r k
  · by_cases h1 : t.val % 8 = 7
    · exact (outC m c t h1).1 r k
    · exact (accB m c t (by omega) h1).1 r k

/-- The last point's weights' gradient. -/
theorem pt16 (c : Dev nD) (t : Fin cfg0.N) (h : t.val = 7) (j : Fin 4) (r : Fin 456) (k : Fin 1024) :
    (outsAt0 m c t.val t.isLt).2.1 (ix3 j r k) = dw (gv m c) ⟨j.val * 456 + r.val, by omega⟩ k := by
  obtain ⟨n, hn⟩ := t
  obtain rfl : n = 7 := h
  refine ((outC m c ⟨7, hn⟩ rfl).2 j r k).trans ?_
  refine (congrArg (fun a : EReal => a + part m c (blkOf ⟨7, hn⟩) (src ⟨j.val * 456 + r.val, by omega⟩) k)
    (acc m c (src ⟨j.val * 456 + r.val, by omega⟩) k 6 (by omega) (by omega))).trans ?_
  have e : ∑ u : Fin 8, part m c u (src ⟨j.val * 456 + r.val, by omega⟩) k = dw (gv m c) ⟨j.val * 456 + r.val, by omega⟩ k := by
    unfold dw
    rw [Cert.Spec.sum_blocks (a := 8) (b := 512) rfl row (fun _ _ => rfl)]
    refine Finset.sum_congr rfl fun u _ => Finset.sum_congr rfl fun r' _ => ?_
    rw [padC_src]
  rw [← e, Fin.sum_univ_castSucc (n := 7)]
  rfl

/-! ## The arrays -/

theorem arr15 (c : Dev nD) (n : Fin 4096) (k : Fin 1024) : ((Gen.dats m 0 c).arrAt 15 cfg0.N : S4096x1024.Idx → EReal) (ix2 n k) = dx (gv m c) n k := by
  obtain ⟨t, r, rfl⟩ := row_surj n
  have hN : t.val < cfg0.N := lt_of_lt_of_eq t.isLt (by decide)
  have h := congrFun (Value.blocks15 m c ⟨t.val, hN⟩ (flush0_15 _)) (ix2 r k : S512x1024.Idx)
  rw [View.read_apply, Value.flushed15] at h
  refine Eq.trans ?_ (h.trans (pt15 m c ⟨t.val, hN⟩ r k))
  show (Gen.dats m 0 c).arrAt 15 cfg0.N _ = (Gen.dats m 0 c).arrAt 15 cfg0.N _
  congr 1
  funext a
  apply Fin.ext
  match a with
  | ⟨0, _⟩ =>
    show 512 * t.val + r.val = cc0_transform_15 (grid0.coords ⟨t.val, hN⟩) 0 * 512 + 1 * r.val
    rw [i15]
    show _ = t.val * 512 + 1 * r.val
    omega
  | ⟨1, _⟩ =>
    show k.val = cc0_transform_15 (grid0.coords ⟨t.val, hN⟩) 1 * 1024 + 1 * k.val
    rw [i15]
    show _ = 0 * 1024 + 1 * k.val
    omega

theorem disjoint16 (t t' : Fin cfg0.N) (h : (cfg0.win 16).flush t = true) (h' : (cfg0.win 16).flush t' = true) (hne : t ≠ t') :
    Disjoint ((cfg0.win 16).blk t).view.set ((cfg0.win 16).blk t').view.set := by
  have f := (flush0_16 t).mp h
  have f' := (flush0_16 t').mp h'
  have hN : t.val < 8 := lt_of_lt_of_eq t.isLt (by decide)
  have hN' : t'.val < 8 := lt_of_lt_of_eq t'.isLt (by decide)
  exact absurd (Fin.ext (by omega)) hne

theorem arrAt16 (c : Dev nD) (j : Fin 4) (r : Fin 456) (k : Fin 1024) (t : Fin cfg0.N) (ht : t.val = 7) :
    ((Gen.dats m 0 c).arrAt 16 cfg0.N : S4x456x1024.Idx → EReal) (ix3 j r k) = dw (gv m c) ⟨j.val * 456 + r.val, by omega⟩ k := by
  have h := congrFun ((Gen.dats m 0 c).read_blk_arrAt_eq_flushed 16 disjoint16 cfg0.N t t.isLt
    ((flush0_16 _).mpr (by omega))) (ix3 j r k : S4x456x1024.Idx)
  rw [View.read_apply, Value.flushed16] at h
  refine Eq.trans ?_ (h.trans (pt16 m c t ht j r k))
  show (Gen.dats m 0 c).arrAt 16 cfg0.N _ = (Gen.dats m 0 c).arrAt 16 cfg0.N _
  congr 1
  funext a
  apply Fin.ext
  match a with
  | ⟨0, _⟩ =>
    show j.val = cc0_transform_16 (grid0.coords t) 0 * 4 + 1 * j.val
    rw [i16]
    show _ = 0 * 4 + 1 * j.val
    omega
  | ⟨1, _⟩ =>
    show r.val = cc0_transform_16 (grid0.coords t) 1 * 456 + 1 * r.val
    rw [i16]
    show _ = 0 * 456 + 1 * r.val
    omega
  | ⟨2, _⟩ =>
    show k.val = cc0_transform_16 (grid0.coords t) 2 * 1024 + 1 * k.val
    rw [i16]
    show _ = 0 * 1024 + 1 * k.val
    omega

theorem arr16 (c : Dev nD) (j : Fin 4) (r : Fin 456) (k : Fin 1024) :
    ((Gen.dats m 0 c).arrAt 16 cfg0.N : S4x456x1024.Idx → EReal) (ix3 j r k) = dw (gv m c) ⟨j.val * 456 + r.val, by omega⟩ k :=
  arrAt16 m c j r k ⟨7, lt_of_lt_of_eq (show 7 < 8 by omega) (by decide)⟩ rfl

end Cert.InBwd

end
-- ==== Proof.InBwdRef.lean ====
/- The reference of the projection's gradients, element by element. -/
module

public import proofs.«01_k».proof.Proof.Gen.Reference6Ideal.Read
public import proofs.«01_k».proof.Proof.InBwd

@[expose] public section

noncomputable section

namespace Cert.InBwdRef

open Cert.Reference6Ideal Cert.Reference6Ideal.Gen Cert.Reference6Ideal.Read Cert.Proj Cert.InBwd Idealize.ShloMosaic

variable (x0 : Vec Ideal S4096x1024 .f32)
  (x1 : Vec Ideal S1024x1824 .f32)
  (x2 : Vec Ideal S4096x1024 .f32)
  (x3 : Vec Ideal S2x4096x256 .f32)
  (x4 : Vec Ideal S4096x256 .f32)
  (x5 : Vec Ideal S4096x128 .f32)
  (x6 : Vec Ideal S4096x128 .f32)
  (x7 : Vec Ideal S4096x128 .f32)
  (x8 : Vec Ideal S4096x128 .f32)
  (x9 : Vec Ideal S4096x256 .f32)
  (x10 : Vec Ideal S4096x256 .f32)
  (x11 : Vec Ideal S4096x256 .f32)
  (x12 : Vec Ideal S4096x512 .f32)
  (x13 : Vec Ideal S4096x256 .f32)
  (x14 : Vec Ideal S4096x32 .f32)

/-- The arguments as functions of their coordinates. -/
def given : Given where
  X := fun n k => x0 (ix2 n k)
  W := fun k j => x1 (ix2 k j)
  P := fun n k => x2 (ix2 n k)
  DU := fun n c => x3 (ix3 0 n c) + x3 (ix3 1 n c) + x4 (ix2 n c)
  DQ := fun n c => x5 (ix2 n c) + x6 (ix2 n c)
  DK := fun n c => x7 (ix2 n c) + x8 (ix2 n c)
  DV := fun n c => x9 (ix2 n c) + x10 (ix2 n c)
  DR := fun n c => x11 (ix2 n c)
  DA := fun n c => x12 (ix2 n c)
  DE := fun n c => x13 (ix2 n c)
  DL := fun n c => x14 (ix2 n c)

theorem v32 (n : Fin 4096) (i : Fin 1824) : val_main_v32 (F := Ideal) x3 x4 x5 x6 x7 x8 x9 x10 x11 x12 x13 x14 (ix2 n i) = dh (given x0 x1 x2 x3 x4 x5 x6 x7 x8 x9 x10 x11 x12 x13 x14) n i := by
  unfold val_main_v32 val_main_v31 val_main_cst_6 val_main_v14 val_main_v13 val_main_v12 val_main_v11 val_main_v10 val_main_v9 val_main_v30 val_main_v29 val_main_cst_5 val_main_v15 val_main_v28 val_main_v27 val_main_cst_4 val_main_v16 val_main_v26 val_main_v25 val_main_cst_3 val_main_v17 val_main_v24 val_main_v23 val_main_cst_2 val_main_v22 val_main_v21 val_main_cst_1 val_main_v20 val_main_v19 val_main_cst_0 val_main_v18 val_main_cst
  pointwise
  obtain ⟨i, hi⟩ := i
  dsimp only
  unfold dh dcols
  dsimp only
  by_cases h0 : i < 256
  · rw [dif_neg (show ¬ (1568 ≤ i ∧ i - 1568 < 256) by omega), dif_neg (show ¬ (1056 ≤ i ∧ i - 1056 < 512) by omega), dif_neg (show ¬ (1024 ≤ i ∧ i - 1024 < 32) by omega), dif_neg (show ¬ (768 ≤ i ∧ i - 768 < 256) by omega), dif_neg (show ¬ (512 ≤ i ∧ i - 512 < 256) by omega), dif_neg (show ¬ (384 ≤ i ∧ i - 384 < 128) by omega), dif_neg (show ¬ (256 ≤ i ∧ i - 256 < 128) by omega), dif_pos (show i < 256 by omega), dif_pos (show i < 256 by omega)]
    simp only [add_zero, zero_add]
    rfl
  ·
    by_cases h1 : i < 384
    · rw [dif_neg (show ¬ (1568 ≤ i ∧ i - 1568 < 256) by omega), dif_neg (show ¬ (1056 ≤ i ∧ i - 1056 < 512) by omega), dif_neg (show ¬ (1024 ≤ i ∧ i - 1024 < 32) by omega), dif_neg (show ¬ (768 ≤ i ∧ i - 768 < 256) by omega), dif_neg (show ¬ (512 ≤ i ∧ i - 512 < 256) by omega), dif_neg (show ¬ (384 ≤ i ∧ i - 384 < 128) by omega), dif_pos (show 256 ≤ i ∧ i - 256 < 128 by omega), dif_neg (show ¬ (i < 256) by omega), dif_neg (show ¬ i < 256 by omega), dif_pos (show i < 384 by omega)]
      simp only [add_zero, zero_add]
      rfl
    ·
      by_cases h2 : i < 512
      · rw [dif_neg (show ¬ (1568 ≤ i ∧ i - 1568 < 256) by omega), dif_neg (show ¬ (1056 ≤ i ∧ i - 1056 < 512) by omega), dif_neg (show ¬ (1024 ≤ i ∧ i - 1024 < 32) by omega), dif_neg (show ¬ (768 ≤ i ∧ i - 768 < 256) by omega), dif_neg (show ¬ (512 ≤ i ∧ i - 512 < 256) by omega), dif_pos (show 384 ≤ i ∧ i - 384 < 128 by omega), dif_neg (show ¬ (256 ≤ i ∧ i - 256 < 128) by omega), dif_neg (show ¬ (i < 256) by omega), dif_neg (show ¬ i < 256 by omega), dif_neg (show ¬ i < 384 by omega), dif_pos (show i < 512 by omega)]
        simp only [add_zero, zero_add]
        rfl
      ·
        by_cases h3 : i < 768
        · rw [dif_neg (show ¬ (1568 ≤ i ∧ i - 1568 < 256) by omega), dif_neg (show ¬ (1056 ≤ i ∧ i - 1056 < 512) by omega), dif_neg (show ¬ (1024 ≤ i ∧ i - 1024 < 32) by omega), dif_neg (show ¬ (768 ≤ i ∧ i - 768 < 256) by omega), dif_pos (show 512 ≤ i ∧ i - 512 < 256 by omega), dif_neg (show ¬ (384 ≤ i ∧ i - 384 < 128) by omega), dif_neg (show ¬ (256 ≤ i ∧ i - 256 < 128) by omega), dif_neg (show ¬ (i < 256) by omega), dif_neg (show ¬ i < 256 by omega), dif_neg (show ¬ i < 384 by omega), dif_neg (show ¬ i < 512 by omega), dif_pos (show i < 768 by omega)]
          simp only [add_zero, zero_add]
          rfl
        ·
          by_cases h4 : i < 1024
          · rw [dif_neg (show ¬ (1568 ≤ i ∧ i - 1568 < 256) by omega), dif_neg (show ¬ (1056 ≤ i ∧ i - 1056 < 512) by omega), dif_neg (show ¬ (1024 ≤ i ∧ i - 1024 < 32) by omega), dif_pos (show 768 ≤ i ∧ i - 768 < 256 by omega), dif_neg (show ¬ (512 ≤ i ∧ i - 512 < 256) by omega), dif_neg (show ¬ (384 ≤ i ∧ i - 384 < 128) by omega), dif_neg (show ¬ (256 ≤ i ∧ i - 256 < 128) by omega), dif_neg (show ¬ (i < 256) by omega), dif_neg (show ¬ i < 256 by omega), dif_neg (show ¬ i < 384 by omega), dif_neg (show ¬ i < 512 by omega), dif_neg (show ¬ i < 768 by omega), dif_pos (show i < 1024 by omega)]
            simp only [add_zero, zero_add]
            rfl
          ·
            by_cases h5 : i < 1056
            · rw [dif_neg (show ¬ (1568 ≤ i ∧ i - 1568 < 256) by omega), dif_neg (show ¬ (1056 ≤ i ∧ i - 1056 < 512) by omega), dif_pos (show 1024 ≤ i ∧ i - 1024 < 32 by omega), dif_neg (show ¬ (768 ≤ i ∧ i - 768 < 256) by omega), dif_neg (show ¬ (512 ≤ i ∧ i - 512 < 256) by omega), dif_neg (show ¬ (384 ≤ i ∧ i - 384 < 128) by omega), dif_neg (show ¬ (256 ≤ i ∧ i - 256 < 128) by omega), dif_neg (show ¬ (i < 256) by omega), dif_neg (show ¬ i < 256 by omega), dif_neg (show ¬ i < 384 by omega), dif_neg (show ¬ i < 512 by omega), dif_neg (show ¬ i < 768 by omega), dif_neg (show ¬ i < 1024 by omega), dif_pos (show i < 1056 by omega)]
              simp only [add_zero, zero_add]
              rfl
            ·
              by_cases h6 : i < 1568
              · rw [dif_neg (show ¬ (1568 ≤ i ∧ i - 1568 < 256) by omega), dif_pos (show 1056 ≤ i ∧ i - 1056 < 512 by omega), dif_neg (show ¬ (1024 ≤ i ∧ i - 1024 < 32) by omega), dif_neg (show ¬ (768 ≤ i ∧ i - 768 < 256) by omega), dif_neg (show ¬ (512 ≤ i ∧ i - 512 < 256) by omega), dif_neg (show ¬ (384 ≤ i ∧ i - 384 < 128) by omega), dif_neg (show ¬ (256 ≤ i ∧ i - 256 < 128) by omega), dif_neg (show ¬ (i < 256) by omega), dif_neg (show ¬ i < 256 by omega), dif_neg (show ¬ i < 384 by omega), dif_neg (show ¬ i < 512 by omega), dif_neg (show ¬ i < 768 by omega), dif_neg (show ¬ i < 1024 by omega), dif_neg (show ¬ i < 1056 by omega), dif_pos (show i < 1568 by omega)]
                simp only [add_zero, zero_add]
                rfl
              ·
                rw [dif_pos (show 1568 ≤ i ∧ i - 1568 < 256 by omega), dif_neg (show ¬ (1056 ≤ i ∧ i - 1056 < 512) by omega), dif_neg (show ¬ (1024 ≤ i ∧ i - 1024 < 32) by omega), dif_neg (show ¬ (768 ≤ i ∧ i - 768 < 256) by omega), dif_neg (show ¬ (512 ≤ i ∧ i - 512 < 256) by omega), dif_neg (show ¬ (384 ≤ i ∧ i - 384 < 128) by omega), dif_neg (show ¬ (256 ≤ i ∧ i - 256 < 128) by omega), dif_neg (show ¬ (i < 256) by omega), dif_neg (show ¬ i < 256 by omega), dif_neg (show ¬ i < 384 by omega), dif_neg (show ¬ i < 512 by omega), dif_neg (show ¬ i < 768 by omega), dif_neg (show ¬ i < 1024 by omega), dif_neg (show ¬ i < 1056 by omega), dif_neg (show ¬ i < 1568 by omega)]
                simp only [add_zero, zero_add]
                rfl

theorem v36 (n : Fin 4096) (k : Fin 1024) : val_main_v36 (F := Ideal) x1 x2 x3 x4 x5 x6 x7 x8 x9 x10 x11 x12 x13 x14 (ix2 n k) = dx (given x0 x1 x2 x3 x4 x5 x6 x7 x8 x9 x10 x11 x12 x13 x14) n k := by
  unfold val_main_v36 val_main_v35
  pointwise
  refine congrArg (x2 (ix2 n k) + ·) (Finset.sum_congr rfl fun i _ => ?_)
  rw [v32 x0 x1 x2 x3 x4 x5 x6 x7 x8 x9 x10 x11 x12 x13 x14 n i]
  rfl

theorem v39 (j : Fin 4) (r : Fin 456) (k : Fin 1024) :
    val_main_v39 (F := Ideal) x0 x3 x4 x5 x6 x7 x8 x9 x10 x11 x12 x13 x14 (ix3 j r k) = dw (given x0 x1 x2 x3 x4 x5 x6 x7 x8 x9 x10 x11 x12 x13 x14) ⟨j.val * 456 + r.val, by omega⟩ k := by
  unfold val_main_v39 val_main_v38 val_main_v37 val_main_v34 val_main_v33
  pointwise
  refine Finset.sum_congr rfl fun n _ => ?_
  rw [v32 x0 x1 x2 x3 x4 x5 x6 x7 x8 x9 x10 x11 x12 x13 x14 n _]
  rfl

end Cert.InBwdRef

end
-- ==== Proof.InBwdClaim.lean ====
/- The kernel of the projection's gradients and its reference end with equal results. -/
module

public import proofs.«01_k».proof.Defs
public import proofs.«01_k».proof.Proof.Gen.Reference6Ideal.Run
public import proofs.«01_k».proof.Proof.InBwdRun
public import proofs.«01_k».proof.Proof.InBwdRef

@[expose] public section

noncomputable section

namespace Cert.InBwd

open Cert.Proj Idealize.ShloMosaic Idealize.SL.Sem

section
open Cert.Kernel6Ideal Cert.Kernel6Ideal.Gen

variable (m : (ℓ : Loc nD τ sig) → Buf (Elt Ideal) ℓ) (c : Dev nD)

theorem res_v36 : Cert.Reference6Ideal.Read.val_main_v36 (F := Ideal) (b1 m c) (b2 m c) (b3 m c) (b4 m c) (b5 m c) (b6 m c) (b7 m c) (b8 m c) (b9 m c) (b10 m c) (b11 m c) (b12 m c) (b13 m c) (b14 m c) = (Gen.dats m 0 c).arrAt 15 cfg0.N := by
  funext i
  obtain ⟨p, q, rfl⟩ : ∃ (p : Fin 4096) (q : Fin 1024), i = ix2 p q := ⟨i 0, i 1, (ix2_eta i).symm⟩
  rw [arr15]
  exact Cert.InBwdRef.v36 (b0 m c) (b1 m c) (b2 m c) (b3 m c) (b4 m c) (b5 m c) (b6 m c) (b7 m c) (b8 m c) (b9 m c) (b10 m c) (b11 m c) (b12 m c) (b13 m c) (b14 m c) p q

theorem res_v39 : Cert.Reference6Ideal.Read.val_main_v39 (F := Ideal) (b0 m c) (b3 m c) (b4 m c) (b5 m c) (b6 m c) (b7 m c) (b8 m c) (b9 m c) (b10 m c) (b11 m c) (b12 m c) (b13 m c) (b14 m c) = (Gen.dats m 0 c).arrAt 16 cfg0.N := by
  funext i
  obtain ⟨j, p, q, rfl⟩ : ∃ (j : Fin 4) (p : Fin 456) (q : Fin 1024), i = ix3 j p q := ⟨i 0, i 1, i 2, (ix3_eta i).symm⟩
  rw [arr16]
  exact Cert.InBwdRef.v39 (b0 m c) (b1 m c) (b2 m c) (b3 m c) (b4 m c) (b5 m c) (b6 m c) (b7 m c) (b8 m c) (b9 m c) (b10 m c) (b11 m c) (b12 m c) (b13 m c) (b14 m c) j p q

end

set_option maxHeartbeats 4000000 in
/-- The claim. -/
theorem algebraic : Cert.algebraic_Kernel6Ideal_Reference6Ideal := by
  intro m ρ m' ρ' _ hagree
  refine ⟨_, _, Cert.Kernel6Ideal.Value.run_blocks m ρ, ?_⟩
  refine (θ_run _ _ _).mono (fun _ h c => ?_) (Cert.Reference6Ideal.Value.run (F := Ideal) m' ρ')
  obtain ⟨hv36, hv39, ha⟩ := h c
  obtain ⟨e0, e1, e2, e3, e4, e5, e6, e7, e8, e9, e10, e11, e12, e13, e14⟩ := hagree c
  refine ⟨hv36.trans ?_, hv39.trans ?_, ha⟩
  · rw [Cert.Reference6Ideal.Read.val_main_v36_eq]; try dsimp only [StableHlo.launchContents]
    rw [e1, e2, e3, e4, e5, e6, e7, e8, e9, e10, e11, e12, e13, e14]; exact res_v36 m c
  · rw [Cert.Reference6Ideal.Read.val_main_v39_eq]; try dsimp only [StableHlo.launchContents]
    rw [e0, e3, e4, e5, e6, e7, e8, e9, e10, e11, e12, e13, e14]; exact res_v39 m c

end Cert.InBwd

end
-- ==== Proof.OutBwd.lean ====
/- What the output projection's gradient is worth, over extended reals: a residual layer `α x + y W` normalised, and the gradient `dy` of the
   scaled normalisation carried back through it. -/
module

public import proofs.«01_k».proof.Proof.Spec

@[expose] public section

noncomputable section

namespace Cert.OutBwd

open Cert.Norm Cert.Spec Idealize.ShloMosaic

variable (y x : Fin 4096 → Fin 1024 → EReal) (w : Fin 1024 → Fin 1024 → EReal) (g : Fin 1024 → EReal) (d : Fin 4096 → Fin 1024 → EReal)

/-- The sum before the normalisation. -/
def preO (n : Fin 4096) (k : Fin 1024) : EReal := Ideal.ofBits .f32 0x3FB504F3#32 * x n k + ∑ j : Fin 1024, y n j * w j k

/-- The gradient of that sum. -/
def dsO (n : Fin 4096) (k : Fin 1024) : EReal := gradK (preO y x w n) (fun j => d n j * g j) k

/-- The gradient of the mixed rows. -/
def dyO (n : Fin 4096) (j : Fin 1024) : EReal := ∑ k : Fin 1024, dsO y x w g d n k * w j k

/-- The gradient of the layer's input along the residual path. -/
def dxO (n : Fin 4096) (k : Fin 1024) : EReal := Ideal.ofBits .f32 0x3FB504F3#32 * dsO y x w g d n k

/-- The gradient of the weights. -/
def dwO (j k : Fin 1024) : EReal := ∑ n : Fin 4096, y n j * dsO y x w g d n k

/-- The gradient of the normalisation's scale. -/
def dgO (k : Fin 1024) : EReal := ∑ n : Fin 4096, d n k * (cen (preO y x w n) k * rstd (preO y x w n))

/-- The gradient of the normalisation's shift. -/
def dbO (k : Fin 1024) : EReal := ∑ n : Fin 4096, d n k

end Cert.OutBwd

end
-- ==== Proof.OutBwdPay.lean ====
/- What the stores of the body of the output projection's gradients are worth, element by element, as extended reals. -/
module

public import proofs.«01_k».proof.Proof.Gen.Kernel7Ideal.Skeleton
public import proofs.«01_k».proof.Proof.OutBwd
public import Idealize.ShloMosaic.Lib.Pipeline.Value
public import Idealize.ShloMosaic.Lib.Pointwise

@[expose] public section

noncomputable section

namespace Cert.OutBwd

open Cert.Kernel7Ideal Cert.Kernel7Ideal.Gen Cert.Norm Idealize.ShloMosaic

theorem pay8_apply (x : Vec Ideal S512x1024 .f32) (r : Fin 512) (k : Fin 1024) :
    k0_pay8 (F := Ideal) x (ix2 r k) = cen (fun j => x (ix2 r j)) k := by
  unfold k0_pay8 cen
  pointwise

theorem pay9_apply (x : Vec Ideal S512x1024 .f32) (r : Fin 512) :
    k0_pay9 (F := Ideal) x (ix2 r 0) = rstd (fun j => x (ix2 r j)) := by
  unfold k0_pay9 rstd vare
  pointwise [pay8_apply]

theorem pay10_apply (x : Vec Ideal S512x1024 .f32) (r : Fin 512) (k : Fin 1024) :
    k0_pay10 (F := Ideal) x (ix2 r k) = cen (fun j => x (ix2 r j)) k * rstd (fun j => x (ix2 r j)) := by
  unfold k0_pay10
  pointwise [pay8_apply, pay9_apply]

/-- The gradient of the sum before the normalisation, at a point of a block of 512 rows. -/
def dsB (d s : Vec Ideal S512x1024 .f32) (g : Vec Ideal S1x1024 .f32) (r : Fin 512) (k : Fin 1024) : EReal :=
  gradK (fun j => s (ix2 r j)) (fun j => d (ix2 r j) * g (ix2 0 j)) k

section
variable (d s : Vec Ideal S512x1024 .f32) (g : Vec Ideal S1x1024 .f32)

theorem pay13_apply (r : Fin 512) (k : Fin 1024) : k0_pay13 (F := Ideal) (k0_pay11 d s g) (k0_pay12 s) (ix2 r k) = dsB d s g r k := by
  unfold k0_pay13 k0_pay11 k0_pay12 dsB gradK
  pointwise [pay9_apply, pay10_apply]

theorem pay14_apply (a : Vec Ideal S1x1024 .f32) (k : Fin 1024) :
    k0_pay14 (F := Ideal) d (k0_pay10 s) a (ix2 0 k)
      = a (ix2 0 k) + ∑ r : Fin 512, d (ix2 r k) * (cen (fun j => s (ix2 r j)) k * rstd (fun j => s (ix2 r j))) := by
  unfold k0_pay14
  pointwise [pay10_apply]

theorem pay15_apply (a : Vec Ideal S1x1024 .f32) (k : Fin 1024) :
    k0_pay15 (F := Ideal) d a (ix2 0 k) = a (ix2 0 k) + ∑ r : Fin 512, d (ix2 r k) := by
  unfold k0_pay15
  pointwise

theorem pay16_apply (r : Fin 512) (k : Fin 1024) :
    k0_pay16 (F := Ideal) (k0_pay11 d s g) (k0_pay12 s) (ix2 r k) = Ideal.ofBits .f32 0x3FB504F3#32 * dsB d s g r k := by
  unfold k0_pay16
  pointwise [pay13_apply]

/-- The gradient of the mixed rows, at a point of a block. -/
def dyB (w : Vec Ideal S1024x1024 .bf16) (r : Fin 512) (j : Fin 1024) : EReal := ∑ k : Fin 1024, dsB d s g r k * w (ix2 j k)

theorem pay17_apply (w : Vec Ideal S1024x1024 .bf16) (r : Fin 512) (j : Fin 1024) :
    k0_pay17 (F := Ideal) (k0_pay11 d s g) (k0_pay12 s) w (ix2 r j) = dyB d s g w r j := by
  unfold k0_pay17 dyB
  pointwise [pay13_apply]

theorem pay18_apply (w : Vec Ideal S1024x1024 .bf16) (r : Fin 512) (j : Fin 256) :
    k0_pay18 (F := Ideal) (k0_pay11 d s g) (k0_pay12 s) w (ix2 r j) = dyB d s g w r ⟨j.val, by omega⟩ := by
  refine Eq.trans ?_ (pay17_apply d s g w r ⟨j.val, by omega⟩)
  unfold k0_pay18
  generalize k0_pay17 (F := Ideal) (k0_pay11 d s g) (k0_pay12 s) w = X
  pointwise

theorem pay19_apply (w : Vec Ideal S1024x1024 .bf16) (r : Fin 512) (j : Fin 256) :
    k0_pay19 (F := Ideal) (k0_pay11 d s g) (k0_pay12 s) w (ix2 r j) = dyB d s g w r ⟨256 + j.val, by omega⟩ := by
  refine Eq.trans ?_ (pay17_apply d s g w r ⟨256 + j.val, by omega⟩)
  unfold k0_pay19
  generalize k0_pay17 (F := Ideal) (k0_pay11 d s g) (k0_pay12 s) w = X
  pointwise

theorem pay20_apply (w : Vec Ideal S1024x1024 .bf16) (r : Fin 512) (j : Fin 512) :
    k0_pay20 (F := Ideal) (k0_pay11 d s g) (k0_pay12 s) w (ix2 r j) = dyB d s g w r ⟨512 + j.val, by omega⟩ := by
  refine Eq.trans ?_ (pay17_apply d s g w r ⟨512 + j.val, by omega⟩)
  unfold k0_pay20
  generalize k0_pay17 (F := Ideal) (k0_pay11 d s g) (k0_pay12 s) w = X
  pointwise

end

theorem pay1_apply (v : FVec Ideal S512x1024 .f32) (a : Vec Ideal S256x1024 .f32) (y : Vec Ideal S512x256 .bf16) (p : Fin 256) (k : Fin 1024) :
    k0_pay1 (F := Ideal) v a y (ix2 p k) = a (ix2 p k) + ∑ r : Fin 512, y (ix2 r p) * v (ix2 r k) := by
  unfold k0_pay1
  pointwise

theorem pay2_apply (v : FVec Ideal S512x1024 .f32) (a : Vec Ideal S256x1024 .f32) (y : Vec Ideal S512x256 .bf16) (p : Fin 256) (k : Fin 1024) :
    k0_pay2 (F := Ideal) v a y (ix2 p k) = a (ix2 p k) + ∑ r : Fin 512, y (ix2 r p) * v (ix2 r k) := by
  unfold k0_pay2
  pointwise

theorem pay3_apply (v : FVec Ideal S512x1024 .f32) (a : Vec Ideal S512x1024 .f32) (y : Vec Ideal S512x512 .bf16) (p : Fin 512) (k : Fin 1024) :
    k0_pay3 (F := Ideal) v a y (ix2 p k) = a (ix2 p k) + ∑ r : Fin 512, y (ix2 r p) * v (ix2 r k) := by
  unfold k0_pay3
  pointwise

theorem pay4_apply (a : Vec Ideal S1024x1024 .f32) (j k : Fin 1024) : k0_pay4 (F := Ideal) a (ix2 j k) = a (ix2 j k) := by
  unfold k0_pay4
  pointwise

theorem pay5_apply (j k : Fin 1024) : k0_pay5 (F := Ideal) (ix2 j k) = 0 := by
  unfold k0_pay5
  pointwise

theorem pay6_apply (k : Fin 1024) : k0_pay6 (F := Ideal) (ix2 0 k) = 0 := by
  unfold k0_pay6
  pointwise

theorem pay7_apply (k : Fin 1024) : k0_pay7 (F := Ideal) (ix2 0 k) = 0 := by
  unfold k0_pay7
  pointwise

end Cert.OutBwd

end
-- ==== Proof.OutBwdOut.lean ====
/- What a run of the body of the output projection's gradients leaves in its accumulator and its outputs, element by element. -/
module

public import proofs.«01_k».proof.Proof.Gen.Kernel7Ideal.Frame
public import proofs.«01_k».proof.Proof.OutBwdPay
public import Idealize.ShloMosaic.Lib.Pipeline.ValueKit.Tiles
public import Idealize.ShloMosaic.Lib.Pipeline.ReadBack

@[expose] public section

noncomputable section

namespace Cert.OutBwd

open Cert.Kernel7Ideal Cert.Kernel7Ideal.Gen Cert.Norm Idealize.ShloMosaic Idealize.ShloMosaic.TcCoe

theorem hz : (![0, 0] : Fin 2 → Nat) = fun _ => 0 := funext fun a => by fin_cases a <;> rfl

/-- The mixed rows of a block, out of the three arrays that hold their columns. -/
def cat3 (x2 x3 : Vec Ideal S512x256 .bf16) (x4 : Vec Ideal S512x512 .bf16) (r : Fin 512) (j : Fin 1024) : EReal :=
  if h : j.val < 256 then x2 (ix2 r ⟨j.val, h⟩)
  else if h' : j.val < 512 then x3 (ix2 r ⟨j.val - 256, by omega⟩)
  else x4 (ix2 r ⟨j.val - 512, by omega⟩)

section
variable (x2 x3 : Vec Ideal S512x256 .bf16) (x4 : Vec Ideal S512x512 .bf16) (r : Fin 512)

theorem cat3_1 (p : Fin 256) : cat3 x2 x3 x4 r ⟨p.val, by omega⟩ = x2 (ix2 r p) := by
  unfold cat3
  rw [dif_pos p.isLt]

theorem cat3_2 (p : Fin 256) : cat3 x2 x3 x4 r ⟨256 + p.val, by omega⟩ = x3 (ix2 r p) := by
  unfold cat3
  rw [dif_neg (by show ¬ 256 + p.val < 256; omega), dif_pos (by show 256 + p.val < 512; omega)]
  exact congrArg x3 (congrArg (ix2 r) (Fin.ext (by show 256 + p.val - 256 = p.val; omega)))

theorem cat3_3 (p : Fin 512) : cat3 x2 x3 x4 r ⟨512 + p.val, by omega⟩ = x4 (ix2 r p) := by
  unfold cat3
  rw [dif_neg (by show ¬ 512 + p.val < 256; omega), dif_neg (by show ¬ 512 + p.val < 512; omega)]
  exact congrArg x4 (congrArg (ix2 r) (Fin.ext (by show 512 + p.val - 512 = p.val; omega)))

end

/-- A load of rows reads those rows. -/
theorem ldRows (X : Vec Ideal S1024x1024 .f32) (s n : Nat) (inb) (m : Fin 1024) (p : Fin n) (k : Fin 1024) (hm : m.val = s + p.val) :
    View.ld X (Rect.unit (s := S1024x1024) ![s, 0] ![n, 1024] inb) (ix2 p k) = X (ix2 m k) :=
  View.ld_unit_apply_of X _ _ inb _ _ fun a => match a with
    | ⟨0, _⟩ => hm
    | ⟨1, _⟩ => (Nat.zero_add _).symm

/-- A load of rows of the zeroed accumulator reads zero. -/
theorem zeroRows {sig : RefSig} {κ : Kind} {sp : Space} (v : View sig κ sp S1024x1024 .f32) (s n : Nat) (inb)
    (inb' : ∀ a, ![s, 0] a + ![n, 1024] a ≤ S1024x1024.size a) (h : s + n ≤ 1024) (p : Fin n) (k : Fin 1024) :
    v.readCov (Val := Elt Ideal) [⟨Rect.unit (s := S1024x1024) ![0, 0] ![1024, 1024] inb, k0_pay5 (F := Ideal)⟩]
      (Rect.unit (s := S1024x1024) ![s, 0] ![n, 1024] inb').toLoadRect (ix2 p k) = 0 := by
  have e := View.readCov_fill (Val := Elt Ideal) v (off := ![0, 0]) inb (k0_pay5 (F := Ideal)) [] (Rect.unit (s := S1024x1024) ![s, 0] ![n, 1024] inb')
    (fun a => by fin_cases a <;> rfl)
  exact (congrFun e (ix2 p k)).trans ((ldRows _ s n inb' ⟨s + p.val, by omega⟩ p k rfl).trans (pay5_apply _ _))

/-- Rows stored after a load of other rows do not change it. -/
theorem skipRows {sig : RefSig} {κ : Kind} {sp : Space} (v : View sig κ sp S1024x1024 .f32) (o n s m : Nat) (i1) (i2) (w : Vec Ideal ⟨2, ![n, 1024]⟩ .f32)
    (L : List (View.Piece (Elt Ideal) S1024x1024 .f32)) (h : o + n ≤ s ∨ s + m ≤ o) :
    v.readCov (Val := Elt Ideal) (⟨Rect.unit (s := S1024x1024) ![o, 0] ![n, 1024] i1, w⟩ :: L) (Rect.unit (s := S1024x1024) ![s, 0] ![m, 1024] i2).toLoadRect
      = v.readCov (Val := Elt Ideal) L (Rect.unit (s := S1024x1024) ![s, 0] ![m, 1024] i2).toLoadRect :=
  View.readCov_cons_of_disjoint v _ L _ (Rect.unit_disjoint (inb := i1) (inb' := i2) 0 h)

theorem memRows (o n : Nat) (i1) (j k : Fin 1024) (h0 : o ≤ j.val) (h1 : j.val < o + n) :
    (ix2 j k : S1024x1024.Idx) ∈ (Rect.unit (s := S1024x1024) ![o, 0] ![n, 1024] i1).set :=
  Rect.mem_set_unit.mpr fun a => match a with
    | ⟨0, _⟩ => ⟨h0, h1⟩
    | ⟨1, _⟩ => ⟨Nat.zero_le _, by show k.val < 0 + 1024; omega⟩

/-- Three stores that share the accumulator's rows out leave it whole. -/
theorem acc3 (G : Fin 1024 → Fin 1024 → EReal) (i1 i2 i3) (w1 w2 : Vec Ideal S256x1024 .f32) (w3 : Vec Ideal S512x1024 .f32)
    (L : List (View.Piece (Elt Ideal) S1024x1024 .f32)) (h1 : ∀ p k, w1 (ix2 p k) = G ⟨p.val, by omega⟩ k)
    (h2 : ∀ p k, w2 (ix2 p k) = G ⟨256 + p.val, by omega⟩ k) (h3 : ∀ p k, w3 (ix2 p k) = G ⟨512 + p.val, by omega⟩ k) (j k : Fin 1024) :
    View.canon (Val := Elt Ideal) (⟨Rect.unit (s := S1024x1024) ![512, 0] ![512, 1024] i3, w3⟩
      :: ⟨Rect.unit (s := S1024x1024) ![256, 0] ![256, 1024] i2, w2⟩ :: ⟨Rect.unit (s := S1024x1024) ![0, 0] ![256, 1024] i1, w1⟩ :: L) (ix2 j k) = G j k := by
  have ix : ∀ {a b : Nat} (x : (⟨2, ![a, b]⟩ : Shape).Idx), x = ix2 (x 0) (x 1) := fun x => funext fun a => match a with
    | ⟨0, _⟩ => rfl
    | ⟨1, _⟩ => rfl
  have eG : ∀ (a b : Fin 1024) (a' b' : Fin 1024), a.val = a'.val → b.val = b'.val → G a b = G a' b' := fun a b a' b' ha hb => by
    rw [Fin.ext ha, Fin.ext hb]
  refine View.canon_append_of_pieces (fun y => G (y 0) (y 1)) L [⟨Rect.unit (s := S1024x1024) ![512, 0] ![512, 1024] i3, w3⟩,
    ⟨Rect.unit (s := S1024x1024) ![256, 0] ![256, 1024] i2, w2⟩, ⟨Rect.unit (s := S1024x1024) ![0, 0] ![256, 1024] i1, w1⟩] ?_ (ix2 j k) ?_
  · intro p hp x
    rcases List.mem_cons.mp hp with rfl | hp
    · exact (congrArg w3 (ix x)).trans ((h3 (x 0) (x 1)).trans (eG _ _ _ _ (Rect.idx_unit_val _ _ i3 x 0).symm
        ((Rect.idx_unit_val _ _ i3 x 1).trans (Nat.zero_add _)).symm))
    rcases List.mem_cons.mp hp with rfl | hp
    · exact (congrArg w2 (ix x)).trans ((h2 (x 0) (x 1)).trans (eG _ _ _ _ (Rect.idx_unit_val _ _ i2 x 0).symm
        ((Rect.idx_unit_val _ _ i2 x 1).trans (Nat.zero_add _)).symm))
    rcases List.mem_singleton.mp hp with rfl
    exact (congrArg w1 (ix x)).trans ((h1 (x 0) (x 1)).trans (eG _ _ _ _ ((Rect.idx_unit_val _ _ i1 x 0).trans (Nat.zero_add _)).symm
      ((Rect.idx_unit_val _ _ i1 x 1).trans (Nat.zero_add _)).symm))
  · by_cases hj : j.val < 256
    · exact ⟨_, List.mem_cons_of_mem _ (List.mem_cons_of_mem _ List.mem_cons_self), memRows 0 256 i1 j k (Nat.zero_le _) (by omega)⟩
    by_cases hj' : j.val < 512
    · exact ⟨_, List.mem_cons_of_mem _ List.mem_cons_self, memRows 256 256 i2 j k (by omega) (by omega)⟩
    · exact ⟨_, List.mem_cons_self, memRows 512 512 i3 j k (by omega) (by omega)⟩

section
variable (d s : Vec Ideal S512x1024 .f32) (g : Vec Ideal S1x1024 .f32) (x2 x3 : Vec Ideal S512x256 .bf16) (x4 : Vec Ideal S512x512 .bf16)

/-- What one block adds to the weights' gradient. -/
def dwB (j k : Fin 1024) : EReal := ∑ r : Fin 512, cat3 x2 x3 x4 r j * dsB d s g r k

theorem acc_1 (a : Vec Ideal S256x1024 .f32) (p : Fin 256) (k : Fin 1024) (b : EReal) (h : a (ix2 p k) = b) :
    k0_pay1 (F := Ideal) (k0_pay13 (k0_pay11 d s g) (k0_pay12 s)) a x2 (ix2 p k) = b + dwB d s g x2 x3 x4 ⟨p.val, by omega⟩ k :=
  (pay1_apply _ _ _ p k).trans (congrArg₂ (fun a b : EReal => a + b) h (Finset.sum_congr rfl fun r _ =>
    congrArg₂ (fun a b : EReal => a * b) (cat3_1 x2 x3 x4 r p).symm (pay13_apply d s g r k)))

theorem acc_2 (a : Vec Ideal S256x1024 .f32) (p : Fin 256) (k : Fin 1024) (b : EReal) (h : a (ix2 p k) = b) :
    k0_pay2 (F := Ideal) (k0_pay13 (k0_pay11 d s g) (k0_pay12 s)) a x3 (ix2 p k) = b + dwB d s g x2 x3 x4 ⟨256 + p.val, by omega⟩ k :=
  (pay2_apply _ _ _ p k).trans (congrArg₂ (fun a b : EReal => a + b) h (Finset.sum_congr rfl fun r _ =>
    congrArg₂ (fun a b : EReal => a * b) (cat3_2 x2 x3 x4 r p).symm (pay13_apply d s g r k)))

theorem acc_3 (a : Vec Ideal S512x1024 .f32) (p : Fin 512) (k : Fin 1024) (b : EReal) (h : a (ix2 p k) = b) :
    k0_pay3 (F := Ideal) (k0_pay13 (k0_pay11 d s g) (k0_pay12 s)) a x4 (ix2 p k) = b + dwB d s g x2 x3 x4 ⟨512 + p.val, by omega⟩ k :=
  (pay3_apply _ _ _ p k).trans (congrArg₂ (fun a b : EReal => a + b) h (Finset.sum_congr rfl fun r _ =>
    congrArg₂ (fun a b : EReal => a * b) (cat3_3 x2 x3 x4 r p).symm (pay13_apply d s g r k)))

end

theorem out0_A_7_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (r : Fin 512) (j : Fin 256) :
    out0_A_7 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 r j) = dyB x0 x1 x6 x5 r ⟨j.val, by omega⟩ := by
  unfold out0_A_7
  rw [View.read_writes_eq_canon _ _ _ (cover0_A_7 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x256) hz]
  exact pay18_apply x0 x1 x6 x5 r j

theorem out0_A_8_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (r : Fin 512) (j : Fin 256) :
    out0_A_8 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 r j) = dyB x0 x1 x6 x5 r ⟨256 + j.val, by omega⟩ := by
  unfold out0_A_8
  rw [View.read_writes_eq_canon _ _ _ (cover0_A_8 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x256) hz]
  exact pay19_apply x0 x1 x6 x5 r j

theorem out0_A_9_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (r : Fin 512) (j : Fin 512) :
    out0_A_9 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 r j) = dyB x0 x1 x6 x5 r ⟨512 + j.val, by omega⟩ := by
  unfold out0_A_9
  rw [View.read_writes_eq_canon _ _ _ (cover0_A_9 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x512) hz]
  exact pay20_apply x0 x1 x6 x5 r j

theorem out0_A_10_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (r : Fin 512) (k : Fin 1024) :
    out0_A_10 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 r k) = Ideal.ofBits .f32 0x3FB504F3#32 * dsB x0 x1 x6 r k := by
  unfold out0_A_10
  rw [View.read_writes_eq_canon _ _ _ (cover0_A_10 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x1024) hz]
  exact pay16_apply x0 x1 x6 r k

theorem out0_A_12_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (k : Fin 1024) :
    out0_A_12 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 0 k) = 0 + ∑ r : Fin 512, x0 (ix2 r k) * (cen (fun j => x1 (ix2 r j)) k * rstd (fun j => x1 (ix2 r j))) := by
  unfold out0_A_12
  rw [View.read_writes_eq_canon _ _ _ (cover0_A_12 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_cons_unit_zero (S := S1x1024) hz, View.readCov_unit_zero (S := S1x1024) _ hz, pay14_apply x0 x1, pay6_apply]

theorem out0_A_13_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (k : Fin 1024) :
    out0_A_13 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 0 k) = 0 + ∑ r : Fin 512, x0 (ix2 r k) := by
  unfold out0_A_13
  rw [View.read_writes_eq_canon _ _ _ (cover0_A_13 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_cons_unit_zero (S := S1x1024) hz, View.readCov_unit_zero (S := S1x1024) _ hz, pay15_apply x0, pay7_apply]

theorem sout0_A_0_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (j k : Fin 1024) :
    sout0_A_0 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 (ix2 j k) = 0 + dwB x0 x1 x6 x2 x3 x4 j k := by
  unfold sout0_A_0
  rw [View.read_writes_eq_canon _ _ _ (scover0_A_0 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  refine acc3 (fun j k => 0 + dwB x0 x1 x6 x2 x3 x4 j k) _ _ _ _ _ _ _ (fun p k => ?_) (fun p k => ?_) (fun p k => ?_) j k
  · exact acc_1 x0 x1 x6 x2 x3 x4 _ p k _ (zeroRows _ 0 256 _ _ (by omega) p k)
  · exact acc_2 x0 x1 x6 x2 x3 x4 _ p k _ ((congrFun (skipRows _ 0 256 256 256 _ _ _ _ (Or.inl (by omega))) _).trans (zeroRows _ 256 256 _ _ (by omega) p k))
  · exact acc_3 x0 x1 x6 x2 x3 x4 _ p k _ ((congrFun (skipRows _ 256 256 512 512 _ _ _ _ (Or.inl (by omega))) _).trans
      ((congrFun (skipRows _ 0 256 512 512 _ _ _ _ (Or.inl (by omega))) _).trans (zeroRows _ 512 512 _ _ (by omega) p k)))

theorem out0_B_7_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (j : Fin 256) :
    out0_B_7 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r j) = dyB x0 x1 x6 x5 r ⟨j.val, by omega⟩ := by
  unfold out0_B_7
  rw [View.read_writes_eq_canon _ _ _ (cover0_B_7 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x256) hz]
  exact pay18_apply x0 x1 x6 x5 r j

theorem out0_B_8_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (j : Fin 256) :
    out0_B_8 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r j) = dyB x0 x1 x6 x5 r ⟨256 + j.val, by omega⟩ := by
  unfold out0_B_8
  rw [View.read_writes_eq_canon _ _ _ (cover0_B_8 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x256) hz]
  exact pay19_apply x0 x1 x6 x5 r j

theorem out0_B_9_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (j : Fin 512) :
    out0_B_9 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r j) = dyB x0 x1 x6 x5 r ⟨512 + j.val, by omega⟩ := by
  unfold out0_B_9
  rw [View.read_writes_eq_canon _ _ _ (cover0_B_9 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x512) hz]
  exact pay20_apply x0 x1 x6 x5 r j

theorem out0_B_10_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (k : Fin 1024) :
    out0_B_10 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r k) = Ideal.ofBits .f32 0x3FB504F3#32 * dsB x0 x1 x6 r k := by
  unfold out0_B_10
  rw [View.read_writes_eq_canon _ _ _ (cover0_B_10 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x1024) hz]
  exact pay16_apply x0 x1 x6 r k

theorem out0_B_12_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (k : Fin 1024) :
    out0_B_12 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 0 k) = xo12 (ix2 0 k) + ∑ r : Fin 512, x0 (ix2 r k) * (cen (fun j => x1 (ix2 r j)) k * rstd (fun j => x1 (ix2 r j))) := by
  unfold out0_B_12
  rw [View.read_writes_eq_canon _ _ _ (cover0_B_12 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S1x1024) hz]
  exact pay14_apply x0 x1 xo12 k

theorem out0_B_13_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (k : Fin 1024) :
    out0_B_13 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 0 k) = xo13 (ix2 0 k) + ∑ r : Fin 512, x0 (ix2 r k) := by
  unfold out0_B_13
  rw [View.read_writes_eq_canon _ _ _ (cover0_B_13 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S1x1024) hz]
  exact pay15_apply x0 xo13 k

theorem sout0_B_0_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : ¬cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (j k : Fin 1024) :
    sout0_B_0 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 j k) = xs0 (ix2 j k) + dwB x0 x1 x6 x2 x3 x4 j k := by
  unfold sout0_B_0
  rw [View.read_writes_eq_canon _ _ _ (scover0_B_0 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  refine acc3 (fun j k => xs0 (ix2 j k) + dwB x0 x1 x6 x2 x3 x4 j k) _ _ _ _ _ _ _ (fun p k => ?_) (fun p k => ?_) (fun p k => ?_) j k
  · exact acc_1 x0 x1 x6 x2 x3 x4 _ p k _ (ldRows xs0 0 256 _ ⟨p.val, by omega⟩ p k (Nat.zero_add _).symm)
  · exact acc_2 x0 x1 x6 x2 x3 x4 _ p k _ (ldRows xs0 256 256 _ ⟨256 + p.val, by omega⟩ p k rfl)
  · exact acc_3 x0 x1 x6 x2 x3 x4 _ p k _ (ldRows xs0 512 512 _ ⟨512 + p.val, by omega⟩ p k rfl)

theorem out0_C_7_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (j : Fin 256) :
    out0_C_7 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r j) = dyB x0 x1 x6 x5 r ⟨j.val, by omega⟩ := by
  unfold out0_C_7
  rw [View.read_writes_eq_canon _ _ _ (cover0_C_7 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x256) hz]
  exact pay18_apply x0 x1 x6 x5 r j

theorem out0_C_8_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (j : Fin 256) :
    out0_C_8 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r j) = dyB x0 x1 x6 x5 r ⟨256 + j.val, by omega⟩ := by
  unfold out0_C_8
  rw [View.read_writes_eq_canon _ _ _ (cover0_C_8 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x256) hz]
  exact pay19_apply x0 x1 x6 x5 r j

theorem out0_C_9_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (j : Fin 512) :
    out0_C_9 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r j) = dyB x0 x1 x6 x5 r ⟨512 + j.val, by omega⟩ := by
  unfold out0_C_9
  rw [View.read_writes_eq_canon _ _ _ (cover0_C_9 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x512) hz]
  exact pay20_apply x0 x1 x6 x5 r j

theorem out0_C_10_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (r : Fin 512) (k : Fin 1024) :
    out0_C_10 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 r k) = Ideal.ofBits .f32 0x3FB504F3#32 * dsB x0 x1 x6 r k := by
  unfold out0_C_10
  rw [View.read_writes_eq_canon _ _ _ (cover0_C_10 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S512x1024) hz]
  exact pay16_apply x0 x1 x6 r k

theorem out0_C_12_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (k : Fin 1024) :
    out0_C_12 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 0 k) = xo12 (ix2 0 k) + ∑ r : Fin 512, x0 (ix2 r k) * (cen (fun j => x1 (ix2 r j)) k * rstd (fun j => x1 (ix2 r j))) := by
  unfold out0_C_12
  rw [View.read_writes_eq_canon _ _ _ (cover0_C_12 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S1x1024) hz]
  exact pay14_apply x0 x1 xo12 k

theorem out0_C_13_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (k : Fin 1024) :
    out0_C_13 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 0 k) = xo13 (ix2 0 k) + ∑ r : Fin 512, x0 (ix2 r k) := by
  unfold out0_C_13
  rw [View.read_writes_eq_canon _ _ _ (cover0_C_13 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S1x1024) hz]
  exact pay15_apply x0 xo13 k

theorem out0_C_11_apply (c : Dev nD) (gc : grid0.Coords) (arg1 : Memref sig .tc .vmem S512x1024 .f32) (harg1 : arg1.IsWhole) (arg2 : Memref sig .tc .vmem S512x1024 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (hc0 : ¬cond0_0 gc) (hc1 : cond0_1 gc)
    (x0 : Vec Ideal S512x1024 .f32) (x1 : Vec Ideal S512x1024 .f32) (x2 : Vec Ideal S512x256 .bf16) (x3 : Vec Ideal S512x256 .bf16) (x4 : Vec Ideal S512x512 .bf16) (x5 : Vec Ideal S1024x1024 .bf16) (x6 : Vec Ideal S1x1024 .f32) (xo12 : Vec Ideal S1x1024 .f32) (xo13 : Vec Ideal S1x1024 .f32) (xs0 : Vec Ideal S1024x1024 .f32) (j k : Fin 1024) :
    out0_C_11 (F := Ideal) c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0 (ix2 j k) = xs0 (ix2 j k) + dwB x0 x1 x6 x2 x3 x4 j k := by
  unfold out0_C_11
  rw [View.read_writes_eq_canon _ _ _ (cover0_C_11 c gc arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo12 xo13 xs0)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S1024x1024) hz, View.ld_unit_zero (S := S512x256) hz, View.ld_unit_zero (S := S512x512) hz, View.ld_unit_zero (S := S1x1024) hz, shapeCast_self]
  rw [View.canon_unit_zero (S := S1024x1024) hz, pay4_apply, View.readCov_eq_canon']
  refine (congrArg (View.canon _) (?_ : _ = (ix2 j k : S1024x1024.Idx))).trans ?_
  · exact funext fun a => match a with
      | ⟨0, _⟩ => Fin.ext ((Rect.idx_unit_val _ _ _ _ 0).trans (Nat.zero_add _))
      | ⟨1, _⟩ => Fin.ext ((Rect.idx_unit_val _ _ _ _ 1).trans (Nat.zero_add _))
  refine acc3 (fun j k => xs0 (ix2 j k) + dwB x0 x1 x6 x2 x3 x4 j k) _ _ _ _ _ _ _ (fun p k => ?_) (fun p k => ?_) (fun p k => ?_) j k
  · exact acc_1 x0 x1 x6 x2 x3 x4 _ p k _ (ldRows xs0 0 256 _ ⟨p.val, by omega⟩ p k (Nat.zero_add _).symm)
  · exact acc_2 x0 x1 x6 x2 x3 x4 _ p k _ (ldRows xs0 256 256 _ ⟨256 + p.val, by omega⟩ p k rfl)
  · exact acc_3 x0 x1 x6 x2 x3 x4 _ p k _ (ldRows xs0 512 512 _ ⟨512 + p.val, by omega⟩ p k rfl)

end Cert.OutBwd

end
-- ==== Proof.OutBwdBlk.lean ====
/- The blocks the body of the output projection's gradients reads, element by element, as functions of the arguments. -/
module

public import proofs.«01_k».proof.Proof.Gen.Kernel7Ideal.Value
public import proofs.«01_k».proof.Proof.OutBwdOut
public import proofs.«01_k».proof.Proof.OutBwd
public import Idealize.ShloMosaic.Lib.StableHlo.ReadAt

@[expose] public section

noncomputable section

namespace Cert.OutBwd

open Cert.Kernel7Ideal Cert.Kernel7Ideal.Gen Cert.Norm Cert.Spec Idealize.ShloMosaic Idealize.ShloMosaic.TcCoe

variable (m : (ℓ : Loc nD τ sig) → Buf (Elt Ideal) ℓ)

/-! ## The arguments -/

def aY (c : Dev nD) (n : Fin 4096) (k : Fin 1024) : EReal := (m (c, Proc.tc.devRef main_arg0) : S4096x1024.Idx → EReal) (ix2 n k)
def aX (c : Dev nD) (n : Fin 4096) (k : Fin 1024) : EReal := (m (c, Proc.tc.devRef main_arg1) : S4096x1024.Idx → EReal) (ix2 n k)
def aW (c : Dev nD) (j k : Fin 1024) : EReal := (m (c, Proc.tc.devRef main_arg2) : S1024x1024.Idx → EReal) (ix2 j k)
def aG (c : Dev nD) (k : Fin 1024) : EReal := (m (c, Proc.tc.devRef main_arg3) : S1024.Idx → EReal) (ix1 k)
def aD (c : Dev nD) (n : Fin 4096) (k : Fin 1024) : EReal := (m (c, Proc.tc.devRef main_arg4) : S4096x1024.Idx → EReal) (ix2 n k)

/-! ## The arrays the blocks are cut from -/

theorem V_d (c : Dev nD) (n : Fin 4096) (k : Fin 1024) : (V m c main_arg4 : S4096x1024.Idx → EReal) (ix2 n k) = aD m c n k := by
  rw [V_main_arg4]; rfl

theorem V_s (c : Dev nD) (n : Fin 4096) (k : Fin 1024) :
    (V m c main_v3 : S4096x1024.Idx → EReal) (ix2 n k) = preO (aY m c) (aX m c) (aW m c) n k := by
  unfold V hostOps0
  after_reads_at
  rfl

theorem V_y1 (c : Dev nD) (n : Fin 4096) (k : Fin 256) : (V m c main_v5 : S4096x256.Idx → EReal) (ix2 n k) = aY m c n ⟨k.val, by omega⟩ := by
  unfold V hostOps0
  after_reads_at
  rfl

theorem V_y2 (c : Dev nD) (n : Fin 4096) (k : Fin 256) : (V m c main_v7 : S4096x256.Idx → EReal) (ix2 n k) = aY m c n ⟨256 + k.val, by omega⟩ := by
  unfold V hostOps0
  after_reads_at
  rfl

theorem V_y3 (c : Dev nD) (n : Fin 4096) (k : Fin 512) : (V m c main_v9 : S4096x512.Idx → EReal) (ix2 n k) = aY m c n ⟨512 + k.val, by omega⟩ := by
  unfold V hostOps0
  after_reads_at
  rfl

theorem V_w (c : Dev nD) (j k : Fin 1024) : (V m c main_v10 : S1024x1024.Idx → EReal) (ix2 j k) = aW m c j k := by
  unfold V hostOps0
  after_reads_at
  rfl

theorem V_g (c : Dev nD) (k : Fin 1024) : (V m c main_v11 : S1x1024.Idx → EReal) (ix2 0 k) = aG m c k := by
  unfold V hostOps0
  after_reads_at
  rfl

/-! ## The blocks -/

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 0] := (by decide +kernel : ∀ t : Fin grid0.N, _)
theorem i1 : ∀ t : Fin cfg0.N, cc0_transform_1 (grid0.coords t) = ![t.val, 0] := (by decide +kernel : ∀ t : Fin grid0.N, _)
theorem i2 : ∀ t : Fin cfg0.N, cc0_transform_2 (grid0.coords t) = ![t.val, 0] := (by decide +kernel : ∀ t : Fin grid0.N, _)
theorem i3 : ∀ t : Fin cfg0.N, cc0_transform_3 (grid0.coords t) = ![t.val, 0] := (by decide +kernel : ∀ t : Fin grid0.N, _)
theorem i4 : ∀ t : Fin cfg0.N, cc0_transform_4 (grid0.coords t) = ![t.val, 0] := (by decide +kernel : ∀ t : Fin grid0.N, _)
theorem i5 : ∀ t : Fin cfg0.N, cc0_transform_5 (grid0.coords t) = ![0, 0] := (by decide +kernel : ∀ t : Fin grid0.N, _)
theorem i6 : ∀ t : Fin cfg0.N, cc0_transform_6 (grid0.coords t) = ![0, 0] := (by decide +kernel : ∀ t : Fin grid0.N, _)
theorem i7 : ∀ t : Fin cfg0.N, cc0_transform_7 (grid0.coords t) = ![t.val, 0] := (by decide +kernel : ∀ t : Fin grid0.N, _)
theorem i8 : ∀ t : Fin cfg0.N, cc0_transform_8 (grid0.coords t) = ![t.val, 0] := (by decide +kernel : ∀ t : Fin grid0.N, _)
theorem i9 : ∀ t : Fin cfg0.N, cc0_transform_9 (grid0.coords t) = ![t.val, 0] := (by decide +kernel : ∀ t : Fin grid0.N, _)
theorem i10 : ∀ t : Fin cfg0.N, cc0_transform_10 (grid0.coords t) = ![t.val, 0] := (by decide +kernel : ∀ t : Fin grid0.N, _)
theorem i11 : ∀ t : Fin cfg0.N, cc0_transform_11 (grid0.coords t) = ![0, 0] := (by decide +kernel : ∀ t : Fin grid0.N, _)
theorem i12 : ∀ t : Fin cfg0.N, cc0_transform_12 (grid0.coords t) = ![0, 0] := (by decide +kernel : ∀ t : Fin grid0.N, _)
theorem i13 : ∀ t : Fin cfg0.N, cc0_transform_13 (grid0.coords t) = ![0, 0] := (by decide +kernel : ∀ t : Fin grid0.N, _)

theorem blk_d (c : Dev nD) (t : Fin cfg0.N) (r : Fin 512) (k : Fin 1024) : (iblk m c 0 t : S512x1024.Idx → EReal) (ix2 r k) = aD m c (row (blkOf t) r) k := by
  rw [← V_d]
  unfold iblk
  rw [View.read_apply]
  show V m c main_arg4 _ = V m c main_arg4 _
  congr 1
  funext a
  apply Fin.ext
  match a with
  | ⟨0, _⟩ =>
    show cc0_transform_0 (grid0.coords t) 0 * 512 + 1 * r.val = 512 * t.val + r.val
    rw [i0]
    show t.val * 512 + 1 * r.val = _
    omega
  | ⟨1, _⟩ =>
    show cc0_transform_0 (grid0.coords t) 1 * 1024 + 1 * k.val = k.val
    rw [i0]
    show 0 * 1024 + 1 * k.val = _
    omega

theorem blk_s (c : Dev nD) (t : Fin cfg0.N) (r : Fin 512) (k : Fin 1024) : (iblk m c 1 t : S512x1024.Idx → EReal) (ix2 r k) = preO (aY m c) (aX m c) (aW m c) (row (blkOf t) r) k := by
  rw [← V_s]
  unfold iblk
  rw [View.read_apply]
  show V m c main_v3 _ = V m c main_v3 _
  congr 1
  funext a
  apply Fin.ext
  match a with
  | ⟨0, _⟩ =>
    show cc0_transform_1 (grid0.coords t) 0 * 512 + 1 * r.val = 512 * t.val + r.val
    rw [i1]
    show t.val * 512 + 1 * r.val = _
    omega
  | ⟨1, _⟩ =>
    show cc0_transform_1 (grid0.coords t) 1 * 1024 + 1 * k.val = k.val
    rw [i1]
    show 0 * 1024 + 1 * k.val = _
    omega

theorem blk_y1 (c : Dev nD) (t : Fin cfg0.N) (r : Fin 512) (k : Fin 256) : (iblk m c 2 t : S512x256.Idx → EReal) (ix2 r k) = aY m c (row (blkOf t) r) ⟨k.val, by omega⟩ := by
  rw [← V_y1]
  unfold iblk
  rw [View.read_apply]
  show V m c main_v5 _ = V m c main_v5 _
  congr 1
  funext a
  apply Fin.ext
  match a with
  | ⟨0, _⟩ =>
    show cc0_transform_2 (grid0.coords t) 0 * 512 + 1 * r.val = 512 * t.val + r.val
    rw [i2]
    show t.val * 512 + 1 * r.val = _
    omega
  | ⟨1, _⟩ =>
    show cc0_transform_2 (grid0.coords t) 1 * 256 + 1 * k.val = k.val
    rw [i2]
    show 0 * 256 + 1 * k.val = _
    omega

theorem blk_y2 (c : Dev nD) (t : Fin cfg0.N) (r : Fin 512) (k : Fin 256) : (iblk m c 3 t : S512x256.Idx → EReal) (ix2 r k) = aY m c (row (blkOf t) r) ⟨256 + k.val, by omega⟩ := by
  rw [← V_y2]
  unfold iblk
  rw [View.read_apply]
  show V m c main_v7 _ = V m c main_v7 _
  congr 1
  funext a
  apply Fin.ext
  match a with
  | ⟨0, _⟩ =>
    show cc0_transform_3 (grid0.coords t) 0 * 512 + 1 * r.val = 512 * t.val + r.val
    rw [i3]
    show t.val * 512 + 1 * r.val = _
    omega
  | ⟨1, _⟩ =>
    show cc0_transform_3 (grid0.coords t) 1 * 256 + 1 * k.val = k.val
    rw [i3]
    show 0 * 256 + 1 * k.val = _
    omega

theorem blk_y3 (c : Dev nD) (t : Fin cfg0.N) (r : Fin 512) (k : Fin 512) : (iblk m c 4 t : S512x512.Idx → EReal) (ix2 r k) = aY m c (row (blkOf t) r) ⟨512 + k.val, by omega⟩ := by
  rw [← V_y3]
  unfold iblk
  rw [View.read_apply]
  show V m c main_v9 _ = V m c main_v9 _
  congr 1
  funext a
  apply Fin.ext
  match a with
  | ⟨0, _⟩ =>
    show cc0_transform_4 (grid0.coords t) 0 * 512 + 1 * r.val = 512 * t.val + r.val
    rw [i4]
    show t.val * 512 + 1 * r.val = _
    omega
  | ⟨1, _⟩ =>
    show cc0_transform_4 (grid0.coords t) 1 * 512 + 1 * k.val = k.val
    rw [i4]
    show 0 * 512 + 1 * k.val = _
    omega

theorem blk_w (c : Dev nD) (t : Fin cfg0.N) (r k : Fin 1024) : (iblk m c 5 t : S1024x1024.Idx → EReal) (ix2 r k) = aW m c r k := by
  rw [← V_w]
  unfold iblk
  rw [View.read_apply]
  show V m c main_v10 _ = V m c main_v10 _
  congr 1
  funext a
  apply Fin.ext
  match a with
  | ⟨0, _⟩ =>
    show cc0_transform_5 (grid0.coords t) 0 * 1024 + 1 * r.val = r.val
    rw [i5]
    show 0 * 1024 + 1 * r.val = _
    omega
  | ⟨1, _⟩ =>
    show cc0_transform_5 (grid0.coords t) 1 * 1024 + 1 * k.val = k.val
    rw [i5]
    show 0 * 1024 + 1 * k.val = _
    omega

theorem blk_g (c : Dev nD) (t : Fin cfg0.N) (k : Fin 1024) : (iblk m c 6 t : S1x1024.Idx → EReal) (ix2 0 k) = aG m c k := by
  rw [← V_g]
  unfold iblk
  rw [View.read_apply]
  show V m c main_v11 _ = V m c main_v11 _
  congr 1
  funext a
  apply Fin.ext
  match a with
  | ⟨0, _⟩ =>
    show cc0_transform_6 (grid0.coords t) 0 * 1 + 1 * 0 = 0
    rw [i6]
    show 0 * 1 + 1 * 0 = _
    omega
  | ⟨1, _⟩ =>
    show cc0_transform_6 (grid0.coords t) 1 * 1024 + 1 * k.val = k.val
    rw [i6]
    show 0 * 1024 + 1 * k.val = _
    omega

end Cert.OutBwd

end
-- ==== Proof.OutBwdRun.lean ====
/- The output projection's gradients after a run, element by element, as functions of the arguments. -/
module

public import proofs.«01_k».proof.Proof.OutBwdOut
public import proofs.«01_k».proof.Proof.OutBwdBlk
public import proofs.«01_k».proof.Proof.Gen.Kernel7Ideal.Value

@[expose] public section

noncomputable section

namespace Cert.OutBwd

open Cert.Kernel7Ideal Cert.Kernel7Ideal.Gen Cert.Norm Cert.Spec Idealize.ShloMosaic Idealize.ShloMosaic.TcCoe

variable (m : (ℓ : Loc nD τ sig) → Buf (Elt Ideal) ℓ)

/-! ## What a block of rows gives -/

theorem dsB_blk (c : Dev nD) (t : Fin cfg0.N) (r : Fin 512) (k : Fin 1024) :
    dsB (iblk m c 0 t) (iblk m c 1 t) (iblk m c 6 t) r k = dsO (aY m c) (aX m c) (aW m c) (aG m c) (aD m c) (row (blkOf t) r) k := by
  unfold dsB dsO
  refine congrArg₂ (gradK · · k) (funext fun j => blk_s m c t r j) (funext fun j => ?_)
  exact congrArg₂ (fun a b : EReal => a * b) (blk_d m c t r j) (blk_g m c t j)

theorem dyB_blk (c : Dev nD) (t : Fin cfg0.N) (r : Fin 512) (j : Fin 1024) :
    dyB (iblk m c 0 t) (iblk m c 1 t) (iblk m c 6 t) (iblk m c 5 t) r j = dyO (aY m c) (aX m c) (aW m c) (aG m c) (aD m c) (row (blkOf t) r) j := by
  unfold dyB dyO
  exact Finset.sum_congr rfl fun k _ => congrArg₂ (fun a b : EReal => a * b) (dsB_blk m c t r k) (blk_w m c t j k)

theorem dxB_blk (c : Dev nD) (t : Fin cfg0.N) (r : Fin 512) (k : Fin 1024) :
    Ideal.ofBits .f32 0x3FB504F3#32 * dsB (iblk m c 0 t) (iblk m c 1 t) (iblk m c 6 t) r k
      = dxO (aY m c) (aX m c) (aW m c) (aG m c) (aD m c) (row (blkOf t) r) k :=
  congrArg (fun a : EReal => Ideal.ofBits .f32 0x3FB504F3#32 * a) (dsB_blk m c t r k)

theorem cat3_blk (c : Dev nD) (t : Fin cfg0.N) (r : Fin 512) (j : Fin 1024) :
    cat3 (iblk m c 2 t) (iblk m c 3 t) (iblk m c 4 t) r j = aY m c (row (blkOf t) r) j := by
  unfold cat3
  by_cases h : j.val < 256
  · rw [dif_pos h]
    exact blk_y1 m c t r ⟨j.val, h⟩
  · by_cases h' : j.val < 512
    · rw [dif_neg h, dif_pos h']
      exact (blk_y2 m c t r ⟨j.val - 256, by omega⟩).trans (congrArg (aY m c _) (Fin.ext (show 256 + (j.val - 256) = j.val by omega)))
    · rw [dif_neg h, dif_neg h']
      exact (blk_y3 m c t r ⟨j.val - 512, by omega⟩).trans (congrArg (aY m c _) (Fin.ext (show 512 + (j.val - 512) = j.val by omega)))

/-- What a block of rows adds to the weights' gradient. -/
def dwT (c : Dev nD) (t : Fin 8) (j k : Fin 1024) : EReal :=
  ∑ r : Fin 512, aY m c (row t r) j * dsO (aY m c) (aX m c) (aW m c) (aG m c) (aD m c) (row t r) k

/-- What it adds to the scale's gradient. -/
def dgT (c : Dev nD) (t : Fin 8) (k : Fin 1024) : EReal :=
  ∑ r : Fin 512, aD m c (row t r) k * (cen (preO (aY m c) (aX m c) (aW m c) (row t r)) k * rstd (preO (aY m c) (aX m c) (aW m c) (row t r)))

/-- What it adds to the shift's gradient. -/
def dbT (c : Dev nD) (t : Fin 8) (k : Fin 1024) : EReal := ∑ r : Fin 512, aD m c (row t r) k

theorem dwT_blk (c : Dev nD) (t : Fin cfg0.N) (j k : Fin 1024) :
    dwB (iblk m c 0 t) (iblk m c 1 t) (iblk m c 6 t) (iblk m c 2 t) (iblk m c 3 t) (iblk m c 4 t) j k = dwT m c (blkOf t) j k :=
  Finset.sum_congr rfl fun r _ => congrArg₂ (fun a b : EReal => a * b) (cat3_blk m c t r j) (dsB_blk m c t r k)

theorem dgT_blk (c : Dev nD) (t : Fin cfg0.N) (k : Fin 1024) :
    (∑ r : Fin 512, (show EReal from iblk m c 0 t (ix2 r k : S512x1024.Idx)) * (cen (fun j => iblk m c 1 t (ix2 r j : S512x1024.Idx)) k
      * rstd (fun j => iblk m c 1 t (ix2 r j : S512x1024.Idx)))) = dgT m c (blkOf t) k := by
  unfold dgT
  refine Finset.sum_congr rfl fun r _ => ?_
  have h : (fun j => iblk m c 1 t (ix2 r j : S512x1024.Idx)) = preO (aY m c) (aX m c) (aW m c) (row (blkOf t) r) :=
    funext fun j => blk_s m c t r j
  exact congrArg₂ (fun a b : EReal => a * b) (blk_d m c t r k) (by rw [h])

theorem dbT_blk (c : Dev nD) (t : Fin cfg0.N) (k : Fin 1024) :
    (∑ r : Fin 512, (show EReal from iblk m c 0 t (ix2 r k : S512x1024.Idx))) = dbT m c (blkOf t) k :=
  Finset.sum_congr rfl fun r _ => blk_d m c t r k

/-! ## What each point leaves -/

theorem pt7 (c : Dev nD) (t : Fin cfg0.N) (r : Fin 512) (j : Fin 256) :
    (outsAt0 m c t.val t.isLt).1 (ix2 r j) = dyO (aY m c) (aX m c) (aW m c) (aG m c) (aD m c) (row (blkOf t) r) ⟨j.val, by omega⟩ := by
  by_cases h0 : t.val % 8 = 0
  · rw [outsAt0_A m c t h0 (by omega)]
    dsimp only
    rw [out0_A_7_apply]
    exact dyB_blk m c t r ⟨j.val, by omega⟩
  · by_cases h1 : t.val % 8 = 7
    · rw [outsAt0_C m c t h0 h1]
      dsimp only
      rw [out0_C_7_apply]
      exact dyB_blk m c t r ⟨j.val, by omega⟩
    · rw [outsAt0_B m c t h0 h1]
      dsimp only
      rw [out0_B_7_apply]
      exact dyB_blk m c t r ⟨j.val, by omega⟩

theorem pt8 (c : Dev nD) (t : Fin cfg0.N) (r : Fin 512) (j : Fin 256) :
    (outsAt0 m c t.val t.isLt).2.1 (ix2 r j) = dyO (aY m c) (aX m c) (aW m c) (aG m c) (aD m c) (row (blkOf t) r) ⟨256 + j.val, by omega⟩ := by
  by_cases h0 : t.val % 8 = 0
  · rw [outsAt0_A m c t h0 (by omega)]
    dsimp only
    rw [out0_A_8_apply]
    exact dyB_blk m c t r ⟨256 + j.val, by omega⟩
  · by_cases h1 : t.val % 8 = 7
    · rw [outsAt0_C m c t h0 h1]
      dsimp only
      rw [out0_C_8_apply]
      exact dyB_blk m c t r ⟨256 + j.val, by omega⟩
    · rw [outsAt0_B m c t h0 h1]
      dsimp only
      rw [out0_B_8_apply]
      exact dyB_blk m c t r ⟨256 + j.val, by omega⟩

theorem pt9 (c : Dev nD) (t : Fin cfg0.N) (r : Fin 512) (j : Fin 512) :
    (outsAt0 m c t.val t.isLt).2.2.1 (ix2 r j) = dyO (aY m c) (aX m c) (aW m c) (aG m c) (aD m c) (row (blkOf t) r) ⟨512 + j.val, by omega⟩ := by
  by_cases h0 : t.val % 8 = 0
  · rw [outsAt0_A m c t h0 (by omega)]
    dsimp only
    rw [out0_A_9_apply]
    exact dyB_blk m c t r ⟨512 + j.val, by omega⟩
  · by_cases h1 : t.val % 8 = 7
    · rw [outsAt0_C m c t h0 h1]
      dsimp only
      rw [out0_C_9_apply]
      exact dyB_blk m c t r ⟨512 + j.val, by omega⟩
    · rw [outsAt0_B m c t h0 h1]
      dsimp only
      rw [out0_B_9_apply]
      exact dyB_blk m c t r ⟨512 + j.val, by omega⟩

theorem pt10 (c : Dev nD) (t : Fin cfg0.N) (r : Fin 512) (j : Fin 1024) :
    (outsAt0 m c t.val t.isLt).2.2.2.1 (ix2 r j) = dxO (aY m c) (aX m c) (aW m c) (aG m c) (aD m c) (row (blkOf t) r) j := by
  by_cases h0 : t.val % 8 = 0
  · rw [outsAt0_A m c t h0 (by omega)]
    dsimp only
    rw [out0_A_10_apply]
    exact dxB_blk m c t r j
  · by_cases h1 : t.val % 8 = 7
    · rw [outsAt0_C m c t h0 h1]
      dsimp only
      rw [out0_C_10_apply]
      exact dxB_blk m c t r j
    · rw [outsAt0_B m c t h0 h1]
      dsimp only
      rw [out0_B_10_apply]
      exact dxB_blk m c t r j

theorem firstA (c : Dev nD) (t : Fin cfg0.N) (h0 : t.val % 8 = 0) (k : Fin 1024) :
    (outsAt0 m c t.val t.isLt).2.2.2.2.2.1 (ix2 0 k) = dgT m c (blkOf t) k
    ∧ (outsAt0 m c t.val t.isLt).2.2.2.2.2.2.1 (ix2 0 k) = dbT m c (blkOf t) k
    ∧ ∀ j, (outsAt0 m c t.val t.isLt).2.2.2.2.2.2.2 (ix2 j k) = dwT m c (blkOf t) j k := by
  rw [outsAt0_A m c t h0 (by omega)]
  dsimp only
  refine ⟨?_, ?_, fun j => ?_⟩
  · rw [out0_A_12_apply]
    exact (zero_add _).trans (dgT_blk m c t k)
  · rw [out0_A_13_apply]
    exact (zero_add _).trans (dbT_blk m c t k)
  · rw [sout0_A_0_apply]
    exact (zero_add _).trans (dwT_blk m c t j k)

theorem nextB (c : Dev nD) (t : Fin cfg0.N) (h0 : ¬ t.val % 8 = 0) (h1 : ¬ t.val % 8 = 7) (k : Fin 1024) :
    (outsAt0 m c t.val t.isLt).2.2.2.2.2.1 (ix2 0 k) = (outsAt0 m c (t.val - 1) (Nat.lt_of_le_of_lt (Nat.sub_le _ _) t.isLt)).2.2.2.2.2.1 (ix2 0 k) + dgT m c (blkOf t) k
    ∧ (outsAt0 m c t.val t.isLt).2.2.2.2.2.2.1 (ix2 0 k) = (outsAt0 m c (t.val - 1) (Nat.lt_of_le_of_lt (Nat.sub_le _ _) t.isLt)).2.2.2.2.2.2.1 (ix2 0 k) + dbT m c (blkOf t) k
    ∧ ∀ j, (outsAt0 m c t.val t.isLt).2.2.2.2.2.2.2 (ix2 j k) = (outsAt0 m c (t.val - 1) (Nat.lt_of_le_of_lt (Nat.sub_le _ _) t.isLt)).2.2.2.2.2.2.2 (ix2 j k) + dwT m c (blkOf t) j k := by
  rw [outsAt0_B m c t h0 h1]
  dsimp only
  refine ⟨?_, ?_, fun j => ?_⟩
  · rw [out0_B_12_apply]
    exact congrArg (_ + ·) (dgT_blk m c t k)
  · rw [out0_B_13_apply]
    exact congrArg (_ + ·) (dbT_blk m c t k)
  · rw [sout0_B_0_apply]
    exact congrArg (_ + ·) (dwT_blk m c t j k)

theorem lastC (c : Dev nD) (t : Fin cfg0.N) (h1 : t.val % 8 = 7) (k : Fin 1024) :
    (outsAt0 m c t.val t.isLt).2.2.2.2.2.1 (ix2 0 k) = (outsAt0 m c (t.val - 1) (Nat.lt_of_le_of_lt (Nat.sub_le _ _) t.isLt)).2.2.2.2.2.1 (ix2 0 k) + dgT m c (blkOf t) k
    ∧ (outsAt0 m c t.val t.isLt).2.2.2.2.2.2.1 (ix2 0 k) = (outsAt0 m c (t.val - 1) (Nat.lt_of_le_of_lt (Nat.sub_le _ _) t.isLt)).2.2.2.2.2.2.1 (ix2 0 k) + dbT m c (blkOf t) k
    ∧ ∀ j, (outsAt0 m c t.val t.isLt).2.2.2.2.1 (ix2 j k) = (outsAt0 m c (t.val - 1) (Nat.lt_of_le_of_lt (Nat.sub_le _ _) t.isLt)).2.2.2.2.2.2.2 (ix2 j k) + dwT m c (blkOf t) j k := by
  rw [outsAt0_C m c t (by omega) h1]
  dsimp only
  refine ⟨?_, ?_, fun j => ?_⟩
  · rw [out0_C_12_apply]
    exact congrArg (_ + ·) (dgT_blk m c t k)
  · rw [out0_C_13_apply]
    exact congrArg (_ + ·) (dbT_blk m c t k)
  · rw [out0_C_11_apply]
    exact congrArg (_ + ·) (dwT_blk m c t j k)

/-- Before the last point the two rows and the accumulator hold the parts of the points so far. -/
theorem sofar (c : Dev nD) (k : Fin 1024) : ∀ (n : ℕ) (h : n < 7) (hn : n < cfg0.N),
    (outsAt0 m c n hn).2.2.2.2.2.1 (ix2 0 k) = ∑ u : Fin (n + 1), dgT m c ⟨u.val, by omega⟩ k
    ∧ (outsAt0 m c n hn).2.2.2.2.2.2.1 (ix2 0 k) = ∑ u : Fin (n + 1), dbT m c ⟨u.val, by omega⟩ k
    ∧ ∀ j, (outsAt0 m c n hn).2.2.2.2.2.2.2 (ix2 j k) = ∑ u : Fin (n + 1), dwT m c ⟨u.val, by omega⟩ j k
  | 0, _, hn => by
    obtain ⟨e1, e2, e3⟩ := firstA m c ⟨0, hn⟩ rfl k
    refine ⟨e1.trans ?_, e2.trans ?_, fun j => (e3 j).trans ?_⟩
    all_goals
      rw [Fin.sum_univ_one]
      rfl
  | n + 1, h, hn => by
    obtain ⟨e1, e2, e3⟩ := nextB m c ⟨n + 1, hn⟩ (show ¬ (n + 1) % 8 = 0 by omega) (show ¬ (n + 1) % 8 = 7 by omega) k
    obtain ⟨i1, i2, i3⟩ := sofar c k n (by omega) (by omega)
    refine ⟨e1.trans ?_, e2.trans ?_, fun j => (e3 j).trans ?_⟩
    · rw [Fin.sum_univ_castSucc]
      exact congrArg (· + dgT m c (blkOf ⟨n + 1, hn⟩) k) i1
    · rw [Fin.sum_univ_castSucc]
      exact congrArg (· + dbT m c (blkOf ⟨n + 1, hn⟩) k) i2
    · rw [Fin.sum_univ_castSucc]
      exact congrArg (· + dwT m c (blkOf ⟨n + 1, hn⟩) j k) (i3 j)

/-- After the last point the weights' gradient and the two rows hold the parts of all points. -/
theorem allC (c : Dev nD) (k : Fin 1024) (n : ℕ) (h : n = 6) (hn : n + 1 < cfg0.N) :
    (outsAt0 m c (n + 1) hn).2.2.2.2.2.1 (ix2 0 k) = ∑ u : Fin (n + 2), dgT m c ⟨u.val, by omega⟩ k
    ∧ (outsAt0 m c (n + 1) hn).2.2.2.2.2.2.1 (ix2 0 k) = ∑ u : Fin (n + 2), dbT m c ⟨u.val, by omega⟩ k
    ∧ ∀ j, (outsAt0 m c (n + 1) hn).2.2.2.2.1 (ix2 j k) = ∑ u : Fin (n + 2), dwT m c ⟨u.val, by omega⟩ j k := by
  obtain ⟨e1, e2, e3⟩ := lastC m c ⟨n + 1, hn⟩ (show (n + 1) % 8 = 7 by omega) k
  obtain ⟨i1, i2, i3⟩ := sofar m c k n (by omega) (by omega)
  refine ⟨e1.trans ?_, e2.trans ?_, fun j => (e3 j).trans ?_⟩
  · rw [Fin.sum_univ_castSucc]
    exact congrArg (· + dgT m c (blkOf ⟨n + 1, hn⟩) k) i1
  · rw [Fin.sum_univ_castSucc]
    exact congrArg (· + dbT m c (blkOf ⟨n + 1, hn⟩) k) i2
  · rw [Fin.sum_univ_castSucc]
    exact congrArg (· + dwT m c (blkOf ⟨n + 1, hn⟩) j k) (i3 j)

theorem dg_eq (c : Dev nD) (k : Fin 1024) (n : ℕ) (h : n = 6) :
    ∑ u : Fin (n + 2), dgT m c ⟨u.val, by omega⟩ k = dgO (aY m c) (aX m c) (aW m c) (aD m c) k := by
  subst h
  unfold dgO
  rw [sum_row]
  rfl

theorem db_eq (c : Dev nD) (k : Fin 1024) (n : ℕ) (h : n = 6) : ∑ u : Fin (n + 2), dbT m c ⟨u.val, by omega⟩ k = dbO (aD m c) k := by
  subst h
  unfold dbO
  rw [sum_row]
  rfl

theorem dw_eq (c : Dev nD) (j k : Fin 1024) (n : ℕ) (h : n = 6) :
    ∑ u : Fin (n + 2), dwT m c ⟨u.val, by omega⟩ j k = dwO (aY m c) (aX m c) (aW m c) (aG m c) (aD m c) j k := by
  subst h
  unfold dwO
  rw [sum_row]
  rfl

/-- The last point's gradients of the weights, the scale and the shift. -/
theorem ptLast (c : Dev nD) (k : Fin 1024) : ∀ (t : Fin cfg0.N), t.val = 7 →
    (outsAt0 m c t.val t.isLt).2.2.2.2.2.1 (ix2 0 k) = dgO (aY m c) (aX m c) (aW m c) (aD m c) k
    ∧ (outsAt0 m c t.val t.isLt).2.2.2.2.2.2.1 (ix2 0 k) = dbO (aD m c) k
    ∧ ∀ j, (outsAt0 m c t.val t.isLt).2.2.2.2.1 (ix2 j k) = dwO (aY m c) (aX m c) (aW m c) (aG m c) (aD m c) j k
  | ⟨0, _⟩, h => absurd (show (0 : ℕ) = 7 from h) (by decide)
  | ⟨n + 1, hn⟩, h => by
    have h6 : n = 6 := Nat.succ.inj h
    obtain ⟨e1, e2, e3⟩ := allC m c k n h6 hn
    exact ⟨e1.trans (dg_eq m c k n h6), e2.trans (db_eq m c k n h6), fun j => (e3 j).trans (dw_eq m c j k n h6)⟩

/-! ## The arrays -/

theorem arr7 (c : Dev nD) (n : Fin 4096) (j : Fin 256) : ((Gen.dats m 0 c).arrAt 7 cfg0.N : S4096x256.Idx → EReal) (ix2 n j)
    = dyO (aY m c) (aX m c) (aW m c) (aG m c) (aD m c) n ⟨j.val, by omega⟩ := by
  obtain ⟨t, r, rfl⟩ := row_surj n
  have hN : t.val < cfg0.N := lt_of_lt_of_eq t.isLt (by decide)
  have h := congrFun (Value.blocks7 m c ⟨t.val, hN⟩ (flush0_7 _)) (ix2 r j : S512x256.Idx)
  rw [View.read_apply, Value.flushed7] at h
  refine Eq.trans ?_ (h.trans (pt7 m c ⟨t.val, hN⟩ r j))
  show (Gen.dats m 0 c).arrAt 7 cfg0.N _ = (Gen.dats m 0 c).arrAt 7 cfg0.N _
  congr 1
  funext a
  apply Fin.ext
  match a with
  | ⟨0, _⟩ =>
    show 512 * t.val + r.val = cc0_transform_7 (grid0.coords ⟨t.val, hN⟩) 0 * 512 + 1 * r.val
    rw [i7]
    show _ = t.val * 512 + 1 * r.val
    omega
  | ⟨1, _⟩ =>
    show j.val = cc0_transform_7 (grid0.coords ⟨t.val, hN⟩) 1 * 256 + 1 * j.val
    rw [i7]
    show _ = 0 * 256 + 1 * j.val
    omega

theorem arr8 (c : Dev nD) (n : Fin 4096) (j : Fin 256) : ((Gen.dats m 0 c).arrAt 8 cfg0.N : S4096x256.Idx → EReal) (ix2 n j)
    = dyO (aY m c) (aX m c) (aW m c) (aG m c) (aD m c) n ⟨256 + j.val, by omega⟩ := by
  obtain ⟨t, r, rfl⟩ := row_surj n
  have hN : t.val < cfg0.N := lt_of_lt_of_eq t.isLt (by decide)
  have h := congrFun (Value.blocks8 m c ⟨t.val, hN⟩ (flush0_8 _)) (ix2 r j : S512x256.Idx)
  rw [View.read_apply, Value.flushed8] at h
  refine Eq.trans ?_ (h.trans (pt8 m c ⟨t.val, hN⟩ r j))
  show (Gen.dats m 0 c).arrAt 8 cfg0.N _ = (Gen.dats m 0 c).arrAt 8 cfg0.N _
  congr 1
  funext a
  apply Fin.ext
  match a with
  | ⟨0, _⟩ =>
    show 512 * t.val + r.val = cc0_transform_8 (grid0.coords ⟨t.val, hN⟩) 0 * 512 + 1 * r.val
    rw [i8]
    show _ = t.val * 512 + 1 * r.val
    omega
  | ⟨1, _⟩ =>
    show j.val = cc0_transform_8 (grid0.coords ⟨t.val, hN⟩) 1 * 256 + 1 * j.val
    rw [i8]
    show _ = 0 * 256 + 1 * j.val
    omega

theorem arr9 (c : Dev nD) (n : Fin 4096) (j : Fin 512) : ((Gen.dats m 0 c).arrAt 9 cfg0.N : S4096x512.Idx → EReal) (ix2 n j)
    = dyO (aY m c) (aX m c) (aW m c) (aG m c) (aD m c) n ⟨512 + j.val, by omega⟩ := by
  obtain ⟨t, r, rfl⟩ := row_surj n
  have hN : t.val < cfg0.N := lt_of_lt_of_eq t.isLt (by decide)
  have h := congrFun (Value.blocks9 m c ⟨t.val, hN⟩ (flush0_9 _)) (ix2 r j : S512x512.Idx)
  rw [View.read_apply, Value.flushed9] at h
  refine Eq.trans ?_ (h.trans (pt9 m c ⟨t.val, hN⟩ r j))
  show (Gen.dats m 0 c).arrAt 9 cfg0.N _ = (Gen.dats m 0 c).arrAt 9 cfg0.N _
  congr 1
  funext a
  apply Fin.ext
  match a with
  | ⟨0, _⟩ =>
    show 512 * t.val + r.val = cc0_transform_9 (grid0.coords ⟨t.val, hN⟩) 0 * 512 + 1 * r.val
    rw [i9]
    show _ = t.val * 512 + 1 * r.val
    omega
  | ⟨1, _⟩ =>
    show j.val = cc0_transform_9 (grid0.coords ⟨t.val, hN⟩) 1 * 512 + 1 * j.val
    rw [i9]
    show _ = 0 * 512 + 1 * j.val
    omega

theorem arr10 (c : Dev nD) (n : Fin 4096) (j : Fin 1024) : ((Gen.dats m 0 c).arrAt 10 cfg0.N : S4096x1024.Idx → EReal) (ix2 n j)
    = dxO (aY m c) (aX m c) (aW m c) (aG m c) (aD m c) n j := by
  obtain ⟨t, r, rfl⟩ := row_surj n
  have hN : t.val < cfg0.N := lt_of_lt_of_eq t.isLt (by decide)
  have h := congrFun (Value.blocks10 m c ⟨t.val, hN⟩ (flush0_10 _)) (ix2 r j : S512x1024.Idx)
  rw [View.read_apply, Value.flushed10] at h
  refine Eq.trans ?_ (h.trans (pt10 m c ⟨t.val, hN⟩ r j))
  show (Gen.dats m 0 c).arrAt 10 cfg0.N _ = (Gen.dats m 0 c).arrAt 10 cfg0.N _
  congr 1
  funext a
  apply Fin.ext
  match a with
  | ⟨0, _⟩ =>
    show 512 * t.val + r.val = cc0_transform_10 (grid0.coords ⟨t.val, hN⟩) 0 * 512 + 1 * r.val
    rw [i10]
    show _ = t.val * 512 + 1 * r.val
    omega
  | ⟨1, _⟩ =>
    show j.val = cc0_transform_10 (grid0.coords ⟨t.val, hN⟩) 1 * 1024 + 1 * j.val
    rw [i10]
    show _ = 0 * 1024 + 1 * j.val
    omega

theorem disjoint11 (t t' : Fin cfg0.N) (h : (cfg0.win 11).flush t = true) (h' : (cfg0.win 11).flush t' = true) (hne : t ≠ t') :
    Disjoint ((cfg0.win 11).blk t).view.set ((cfg0.win 11).blk t').view.set := by
  have f := (flush0_11 t).mp h
  have f' := (flush0_11 t').mp h'
  have hN : t.val < 8 := lt_of_lt_of_eq t.isLt (by decide)
  have hN' : t'.val < 8 := lt_of_lt_of_eq t'.isLt (by decide)
  exact absurd (Fin.ext (by omega)) hne

theorem arrAt11 (c : Dev nD) (j k : Fin 1024) (t : Fin cfg0.N) (ht : t.val = 7) :
    ((Gen.dats m 0 c).arrAt 11 cfg0.N : S1024x1024.Idx → EReal) (ix2 j k) = dwO (aY m c) (aX m c) (aW m c) (aG m c) (aD m c) j k := by
  have h := congrFun ((Gen.dats m 0 c).read_blk_arrAt_eq_flushed 11 disjoint11 cfg0.N t t.isLt
    ((flush0_11 _).mpr (by omega))) (ix2 j k : S1024x1024.Idx)
  rw [View.read_apply, Value.flushed11] at h
  refine Eq.trans ?_ (h.trans ((ptLast m c k t ht).2.2 j))
  show (Gen.dats m 0 c).arrAt 11 cfg0.N _ = (Gen.dats m 0 c).arrAt 11 cfg0.N _
  congr 1
  funext a
  apply Fin.ext
  match a with
  | ⟨0, _⟩ =>
    show j.val = cc0_transform_11 (grid0.coords t) 0 * 1024 + 1 * j.val
    rw [i11]
    show _ = 0 * 1024 + 1 * j.val
    omega
  | ⟨1, _⟩ =>
    show k.val = cc0_transform_11 (grid0.coords t) 1 * 1024 + 1 * k.val
    rw [i11]
    show _ = 0 * 1024 + 1 * k.val
    omega

theorem arr11 (c : Dev nD) (j k : Fin 1024) :
    ((Gen.dats m 0 c).arrAt 11 cfg0.N : S1024x1024.Idx → EReal) (ix2 j k) = dwO (aY m c) (aX m c) (aW m c) (aG m c) (aD m c) j k :=
  arrAt11 m c j k ⟨7, lt_of_lt_of_eq (show 7 < 8 by omega) (by decide)⟩ rfl

theorem disjoint12 (t t' : Fin cfg0.N) (h : (cfg0.win 12).flush t = true) (h' : (cfg0.win 12).flush t' = true) (hne : t ≠ t') :
    Disjoint ((cfg0.win 12).blk t).view.set ((cfg0.win 12).blk t').view.set := by
  have f := (flush0_12 t).mp h
  have f' := (flush0_12 t').mp h'
  have hN : t.val < 8 := lt_of_lt_of_eq t.isLt (by decide)
  have hN' : t'.val < 8 := lt_of_lt_of_eq t'.isLt (by decide)
  exact absurd (Fin.ext (by omega)) hne

theorem arrAt12 (c : Dev nD) (k : Fin 1024) (t : Fin cfg0.N) (ht : t.val = 7) :
    ((Gen.dats m 0 c).arrAt 12 cfg0.N : S1x1024.Idx → EReal) (ix2 0 k) = dgO (aY m c) (aX m c) (aW m c) (aD m c) k := by
  have h := congrFun ((Gen.dats m 0 c).read_blk_arrAt_eq_flushed 12 disjoint12 cfg0.N t t.isLt
    ((flush0_12 _).mpr (by omega))) (ix2 0 k : S1x1024.Idx)
  rw [View.read_apply, Value.flushed12] at h
  refine Eq.trans ?_ (h.trans ((ptLast m c k t ht).1))
  show (Gen.dats m 0 c).arrAt 12 cfg0.N _ = (Gen.dats m 0 c).arrAt 12 cfg0.N _
  congr 1
  funext a
  apply Fin.ext
  match a with
  | ⟨0, _⟩ =>
    show 0 = cc0_transform_12 (grid0.coords t) 0 * 1 + 1 * 0
    rw [i12]
    show _ = 0 * 1 + 1 * 0
    omega
  | ⟨1, _⟩ =>
    show k.val = cc0_transform_12 (grid0.coords t) 1 * 1024 + 1 * k.val
    rw [i12]
    show _ = 0 * 1024 + 1 * k.val
    omega

theorem arr12 (c : Dev nD) (k : Fin 1024) :
    ((Gen.dats m 0 c).arrAt 12 cfg0.N : S1x1024.Idx → EReal) (ix2 0 k) = dgO (aY m c) (aX m c) (aW m c) (aD m c) k :=
  arrAt12 m c k ⟨7, lt_of_lt_of_eq (show 7 < 8 by omega) (by decide)⟩ rfl

theorem disjoint13 (t t' : Fin cfg0.N) (h : (cfg0.win 13).flush t = true) (h' : (cfg0.win 13).flush t' = true) (hne : t ≠ t') :
    Disjoint ((cfg0.win 13).blk t).view.set ((cfg0.win 13).blk t').view.set := by
  have f := (flush0_13 t).mp h
  have f' := (flush0_13 t').mp h'
  have hN : t.val < 8 := lt_of_lt_of_eq t.isLt (by decide)
  have hN' : t'.val < 8 := lt_of_lt_of_eq t'.isLt (by decide)
  exact absurd (Fin.ext (by omega)) hne

theorem arrAt13 (c : Dev nD) (k : Fin 1024) (t : Fin cfg0.N) (ht : t.val = 7) :
    ((Gen.dats m 0 c).arrAt 13 cfg0.N : S1x1024.Idx → EReal) (ix2 0 k) = dbO (aD m c) k := by
  have h := congrFun ((Gen.dats m 0 c).read_blk_arrAt_eq_flushed 13 disjoint13 cfg0.N t t.isLt
    ((flush0_13 _).mpr (by omega))) (ix2 0 k : S1x1024.Idx)
  rw [View.read_apply, Value.flushed13] at h
  refine Eq.trans ?_ (h.trans ((ptLast m c k t ht).2.1))
  show (Gen.dats m 0 c).arrAt 13 cfg0.N _ = (Gen.dats m 0 c).arrAt 13 cfg0.N _
  congr 1
  funext a
  apply Fin.ext
  match a with
  | ⟨0, _⟩ =>
    show 0 = cc0_transform_13 (grid0.coords t) 0 * 1 + 1 * 0
    rw [i13]
    show _ = 0 * 1 + 1 * 0
    omega
  | ⟨1, _⟩ =>
    show k.val = cc0_transform_13 (grid0.coords t) 1 * 1024 + 1 * k.val
    rw [i13]
    show _ = 0 * 1024 + 1 * k.val
    omega

theorem arr13 (c : Dev nD) (k : Fin 1024) :
    ((Gen.dats m 0 c).arrAt 13 cfg0.N : S1x1024.Idx → EReal) (ix2 0 k) = dbO (aD m c) k :=
  arrAt13 m c k ⟨7, lt_of_lt_of_eq (show 7 < 8 by omega) (by decide)⟩ rfl

end Cert.OutBwd

end
-- ==== Proof.OutBwdRef.lean ====
/- The reference's seven results for the output projection's gradients, element by element. -/
module

public import proofs.«01_k».proof.Proof.Gen.Reference7Ideal.Read
public import proofs.«01_k».proof.Proof.OutBwd
public import Idealize.ShloMosaic.Lib.Pointwise

@[expose] public section

noncomputable section

namespace Cert.OutBwdRef

open Cert.Reference7Ideal Cert.Reference7Ideal.Gen Cert.Reference7Ideal.Read Cert.Norm Cert.OutBwd Idealize.ShloMosaic

variable (y x : Vec Ideal S4096x1024 .f32) (w : Vec Ideal S1024x1024 .f32) (g : Vec Ideal S1024 .f32) (d : Vec Ideal S4096x1024 .f32)

abbrev fX (n : Fin 4096) (k : Fin 1024) : EReal := x (ix2 n k)
abbrev fW (j k : Fin 1024) : EReal := w (ix2 j k)
abbrev fG (k : Fin 1024) : EReal := g (ix1 k)

/-- The gradient carried back through the normalisation, the reference's form. -/
def gR (n : Fin 4096) (k : Fin 1024) : EReal := gradR (preO (fX y) (fX x) (fW w) n) (fun j => fX d n j * fG g j) k

theorem v4 (n : Fin 4096) (k : Fin 1024) : val_main_v4 (F := Ideal) y x w (ix2 n k) = preO (fX y) (fX x) (fW w) n k := by
  unfold val_main_v4 val_main_v3 val_main_v2 val_main_v1 val_main_cst_0 preO
  pointwise

theorem v8 (n : Fin 4096) : val_main_v8 (F := Ideal) y x w (ix2 n 0)
    = Ideal.div (∑ j, preO (fX y) (fX x) (fW w) n j) (Ideal.ofBits .f32 0x44800000#32) := by
  unfold val_main_v8 val_main_v7 val_main_v6 val_main_v5 val_main_cst_1 val_main_cst_2
  pointwise [v4]

theorem v10 (n : Fin 4096) (k : Fin 1024) : val_main_v10 (F := Ideal) y x w (ix2 n k) = cen (preO (fX y) (fX x) (fW w) n) k := by
  unfold val_main_v10 val_main_v9 cen
  pointwise [v4, v8]

theorem v19 (n : Fin 4096) (k : Fin 1024) : val_main_v19 (F := Ideal) y x w (ix2 n k) = cen (preO (fX y) (fX x) (fW w) n) k := by
  unfold val_main_v19 val_main_v18 cen
  pointwise [v4, v8]

theorem v21 (n : Fin 4096) : val_main_v21 (F := Ideal) y x w (ix2 n 0) = vare (preO (fX y) (fX x) (fW w) n) := by
  unfold val_main_v21 val_main_v20 val_main_cst_6 val_main_v17 val_main_v16 val_main_cst_5 val_main_v15 val_main_v14 val_main_cst_4 val_main_v11 vare
  pointwise [v10]

theorem v22 (n : Fin 4096) : val_main_v22 (F := Ideal) y x w (ix2 n 0) = rstd (preO (fX y) (fX x) (fW w) n) := by
  unfold val_main_v22 rstd
  pointwise [v21]

theorem v42 (n : Fin 4096) (k : Fin 1024) : val_main_v42 (F := Ideal) g d (ix2 n k) = fX d n k * fG g k := by
  unfold val_main_v42 val_main_v41 val_main_v28 val_main_v34
  pointwise

theorem v48 (n : Fin 4096) (k : Fin 1024) : val_main_v48 (F := Ideal) y x w g d (ix2 n k) = fX d n k * fG g k * rstd (preO (fX y) (fX x) (fW w) n) := by
  unfold val_main_v48 val_main_v47
  pointwise [v42, v22]

theorem v54 (n : Fin 4096) : val_main_v54 (F := Ideal) y x w g d (ix2 n 0) = varR (preO (fX y) (fX x) (fW w) n) (fun j => fX d n j * fG g j) := by
  unfold val_main_v54 val_main_v53 val_main_cst_14 val_main_v49 val_main_v46 val_main_v45 val_main_v44 val_main_cst_12 val_main_v25 val_main_v24 val_main_cst_7 val_main_v23 varR
  pointwise [v42, v22, v21, v19]

theorem v57 (n : Fin 4096) (k : Fin 1024) : val_main_v57 (F := Ideal) y x w g d (ix2 n k)
    = varR (preO (fX y) (fX x) (fW w) n) (fun j => fX d n j * fG g j) * (Ideal.ofBits .f32 0x40000000#32 * cen (preO (fX y) (fX x) (fW w) n) k) := by
  unfold val_main_v57 val_main_v56 val_main_v55 val_main_cst_15 val_main_v13 val_main_v12 val_main_cst_3
  pointwise [v10]
  rw [Fin.sum_univ_one, v54]

theorem v64 (n : Fin 4096) : val_main_v64 (F := Ideal) y x w g d (ix2 n 0)
    = Ideal.div ((∑ j, -(fX d n j * fG g j * rstd (preO (fX y) (fX x) (fW w) n))) + ∑ j, -(varR (preO (fX y) (fX x) (fW w) n) (fun j => fX d n j * fG g j) * (Ideal.ofBits .f32 0x40000000#32 * cen (preO (fX y) (fX x) (fW w) n) j))) (Ideal.ofBits .f32 0x44800000#32) := by
  unfold val_main_v64 val_main_v63 val_main_cst_17 val_main_v62 val_main_v60 val_main_v59 val_main_v58 val_main_cst_16 val_main_v52 val_main_v51 val_main_v50 val_main_cst_13
  pointwise [v48, v57]

theorem v67 (n : Fin 4096) (k : Fin 1024) : val_main_v67 (F := Ideal) y x w g d (ix2 n k) = gR y x w g d n k := by
  unfold val_main_v67 val_main_v66 val_main_v65 val_main_cst_18 val_main_v61 gR gradR
  pointwise [v48, v57]
  rw [Fin.sum_univ_one, v64]

theorem v70 (n : Fin 4096) (j : Fin 1024) : val_main_v70 (F := Ideal) y x w g d (ix2 n j) = ∑ k, gR y x w g d n k * fW w j k := by
  unfold val_main_v70
  pointwise [v67]

theorem v73 (n : Fin 4096) (j : Fin 256) : val_main_v73 (F := Ideal) y x w g d (ix2 n j) = ∑ k, gR y x w g d n k * fW w ⟨j.val, by omega⟩ k := by
  refine Eq.trans ?_ (v70 y x w g d n ⟨j.val, by omega⟩)
  unfold val_main_v73
  generalize val_main_v70 (F := Ideal) y x w g d = X
  pointwise

theorem v74 (n : Fin 4096) (j : Fin 256) : val_main_v74 (F := Ideal) y x w g d (ix2 n j) = ∑ k, gR y x w g d n k * fW w ⟨256 + j.val, by omega⟩ k := by
  refine Eq.trans ?_ (v70 y x w g d n ⟨256 + j.val, by omega⟩)
  unfold val_main_v74
  generalize val_main_v70 (F := Ideal) y x w g d = X
  pointwise

theorem v75 (n : Fin 4096) (j : Fin 512) : val_main_v75 (F := Ideal) y x w g d (ix2 n j) = ∑ k, gR y x w g d n k * fW w ⟨512 + j.val, by omega⟩ k := by
  refine Eq.trans ?_ (v70 y x w g d n ⟨512 + j.val, by omega⟩)
  unfold val_main_v75
  generalize val_main_v70 (F := Ideal) y x w g d = X
  pointwise

theorem v72 (n : Fin 4096) (k : Fin 1024) : val_main_v72 (F := Ideal) y x w g d (ix2 n k) = Ideal.ofBits .f32 0x3FB504F3#32 * gR y x w g d n k := by
  unfold val_main_v72 val_main_v71 val_main_cst_19
  pointwise [v67]

theorem v76 (j k : Fin 1024) : val_main_v76 (F := Ideal) y x w g d (ix2 j k) = ∑ n, fX y n j * gR y x w g d n k := by
  unfold val_main_v76 val_main_v69 val_main_v68
  pointwise [v67]
  exact Finset.sum_congr rfl fun n _ => mul_comm _ _

theorem v77 (k : Fin 1024) : val_main_v77 (F := Ideal) y x w d (ix2 0 k) = dgO (fX y) (fX x) (fW w) (fX d) k := by
  unfold val_main_v77 val_main_v43 val_main_v40 val_main_v39 val_main_v38 val_main_cst_11 val_main_cst_10 val_main_v34 val_main_v27 val_main_v26 dgO
  pointwise [v19, v22]
  rw [Fin.sum_univ_one]
  exact Finset.sum_congr rfl fun n _ => mul_comm _ _

theorem v78 (k : Fin 1024) : val_main_v78 (F := Ideal) d (ix2 0 k) = dbO (fX d) k := by
  unfold val_main_v78 val_main_v37 val_main_v36 val_main_v35 val_main_cst_8 val_main_cst_9 dbO
  pointwise
  rw [Fin.sum_univ_one]

end Cert.OutBwdRef

end
-- ==== Proof.OutBwdClaim.lean ====
/- The kernel of the output projection's gradients and its reference end with equal results, for finite arguments. -/
module

public import proofs.«01_k».proof.Defs
public import proofs.«01_k».proof.Proof.Gen.Reference7Ideal.Run
public import proofs.«01_k».proof.Proof.OutBwdRun
public import proofs.«01_k».proof.Proof.OutBwdRef
public import proofs.«01_k».proof.Proof.Pre
public import proofs.«01_k».proof.Pre_finite7

@[expose] public section

noncomputable section

namespace Cert.OutBwdClaim

open Cert.Norm Cert.Spec Idealize.ShloMosaic Idealize.SL.Sem

theorem facts7 : Cert.Pre_finite7.Facts := ⟨by decide, by decide, by decide⟩

/-! ## The gradient of the sum before the normalisation, in the reference's form -/

section
open Cert.OutBwd
variable {y x : Fin 4096 → Fin 1024 → EReal} {w : Fin 1024 → Fin 1024 → EReal} {g : Fin 1024 → EReal} {d : Fin 4096 → Fin 1024 → EReal}

theorem ds_eq (hy : ∀ n k, IsFin (y n k)) (hx : ∀ n k, IsFin (x n k)) (hw : ∀ j k, IsFin (w j k)) (hg : ∀ k, IsFin (g k))
    (hd : ∀ n k, IsFin (d n k)) (n : Fin 4096) (k : Fin 1024) :
    gradR (preO y x w n) (fun j => d n j * g j) k = dsO y x w g d n k :=
  gradR_eq_gradK (fun k => (bits_alpha.mul (hx n k)).add (IsFin.sum fun j => (hy n j).mul (hw j k))) (fun k => (hd n k).mul (hg k)) k

end

/-! ## The two programs' results -/

section
open Cert.OutBwd Cert.OutBwdRef

variable (m : (ℓ : Loc Cert.Kernel7Ideal.nD Cert.Kernel7Ideal.τ Cert.Kernel7Ideal.sig) → Buf (Elt Ideal) ℓ) (c : Dev Cert.Kernel7Ideal.nD)

abbrev bY : Vec Ideal Cert.Reference7Ideal.S4096x1024 .f32 := m (c, Proc.tc.devRef Cert.Kernel7Ideal.main_arg0)
abbrev bX : Vec Ideal Cert.Reference7Ideal.S4096x1024 .f32 := m (c, Proc.tc.devRef Cert.Kernel7Ideal.main_arg1)
abbrev bW : Vec Ideal Cert.Reference7Ideal.S1024x1024 .f32 := m (c, Proc.tc.devRef Cert.Kernel7Ideal.main_arg2)
abbrev bG : Vec Ideal Cert.Reference7Ideal.S1024 .f32 := m (c, Proc.tc.devRef Cert.Kernel7Ideal.main_arg3)
abbrev bD : Vec Ideal Cert.Reference7Ideal.S4096x1024 .f32 := m (c, Proc.tc.devRef Cert.Kernel7Ideal.main_arg4)

variable (hp : letI := facts7; Cert.Pre_Kernel7Ideal_finite7 m)
include hp

theorem grad_eq (n : Fin 4096) (k : Fin 1024) :
    gR (bY m c) (bX m c) (bW m c) (bG m c) (bD m c) n k = dsO (aY m c) (aX m c) (aW m c) (aG m c) (aD m c) n k := by
  letI := facts7
  obtain ⟨h0, h1, h2, h3, h4⟩ := hp c
  exact ds_eq (y := aY m c) (x := aX m c) (w := aW m c) (g := aG m c) (d := aD m c)
    (fun n k => Cert.Pre_finite.isFin_of Cert.Pre_finite7.Facts.bcast_S_S4096x1024 h0 (ix2 n k))
    (fun n k => Cert.Pre_finite.isFin_of Cert.Pre_finite7.Facts.bcast_S_S4096x1024 h1 (ix2 n k))
    (fun j k => Cert.Pre_finite.isFin_of Cert.Pre_finite7.Facts.bcast_S_S1024x1024 h2 (ix2 j k))
    (fun k => Cert.Pre_finite.isFin_of Cert.Pre_finite7.Facts.bcast_S_S1024 h3 (ix1 k))
    (fun n k => Cert.Pre_finite.isFin_of Cert.Pre_finite7.Facts.bcast_S_S4096x1024 h4 (ix2 n k)) n k

theorem res73 : Cert.Reference7Ideal.Read.val_main_v73 (F := Ideal) (bY m c) (bX m c) (bW m c) (bG m c) (bD m c)
    = (Cert.Kernel7Ideal.Gen.dats m 0 c).arrAt 7 Cert.Kernel7Ideal.cfg0.N := by
  funext i
  obtain ⟨n, j, rfl⟩ : ∃ (n : Fin 4096) (j : Fin 256), i = ix2 n j := ⟨i 0, i 1, (ix2_eta i).symm⟩
  rw [arr7, v73]
  simp only [grad_eq m c hp]
  rfl

theorem res74 : Cert.Reference7Ideal.Read.val_main_v74 (F := Ideal) (bY m c) (bX m c) (bW m c) (bG m c) (bD m c)
    = (Cert.Kernel7Ideal.Gen.dats m 0 c).arrAt 8 Cert.Kernel7Ideal.cfg0.N := by
  funext i
  obtain ⟨n, j, rfl⟩ : ∃ (n : Fin 4096) (j : Fin 256), i = ix2 n j := ⟨i 0, i 1, (ix2_eta i).symm⟩
  rw [arr8, v74]
  simp only [grad_eq m c hp]
  rfl

theorem res75 : Cert.Reference7Ideal.Read.val_main_v75 (F := Ideal) (bY m c) (bX m c) (bW m c) (bG m c) (bD m c)
    = (Cert.Kernel7Ideal.Gen.dats m 0 c).arrAt 9 Cert.Kernel7Ideal.cfg0.N := by
  funext i
  obtain ⟨n, j, rfl⟩ : ∃ (n : Fin 4096) (j : Fin 512), i = ix2 n j := ⟨i 0, i 1, (ix2_eta i).symm⟩
  rw [arr9, v75]
  simp only [grad_eq m c hp]
  rfl

theorem res72 : Cert.Reference7Ideal.Read.val_main_v72 (F := Ideal) (bY m c) (bX m c) (bW m c) (bG m c) (bD m c)
    = (Cert.Kernel7Ideal.Gen.dats m 0 c).arrAt 10 Cert.Kernel7Ideal.cfg0.N := by
  funext i
  obtain ⟨n, j, rfl⟩ : ∃ (n : Fin 4096) (j : Fin 1024), i = ix2 n j := ⟨i 0, i 1, (ix2_eta i).symm⟩
  rw [arr10, v72]
  simp only [grad_eq m c hp]
  rfl

theorem res76 : Cert.Reference7Ideal.Read.val_main_v76 (F := Ideal) (bY m c) (bX m c) (bW m c) (bG m c) (bD m c)
    = (Cert.Kernel7Ideal.Gen.dats m 0 c).arrAt 11 Cert.Kernel7Ideal.cfg0.N := by
  funext i
  obtain ⟨n, j, rfl⟩ : ∃ (n : Fin 1024) (j : Fin 1024), i = ix2 n j := ⟨i 0, i 1, (ix2_eta i).symm⟩
  rw [arr11, v76]
  simp only [grad_eq m c hp]
  rfl

omit hp in
theorem res77 : Cert.Reference7Ideal.Read.val_main_v77 (F := Ideal) (bY m c) (bX m c) (bW m c) (bD m c)
    = (Cert.Kernel7Ideal.Gen.dats m 0 c).arrAt 12 Cert.Kernel7Ideal.cfg0.N := by
  funext i
  obtain ⟨n, j, rfl⟩ : ∃ (n : Fin 1) (j : Fin 1024), i = ix2 n j := ⟨i 0, i 1, (ix2_eta i).symm⟩
  obtain rfl : n = 0 := Subsingleton.elim _ _
  rw [arr12, v77]
  rfl

omit hp in
theorem res78 : Cert.Reference7Ideal.Read.val_main_v78 (F := Ideal) (bD m c)
    = (Cert.Kernel7Ideal.Gen.dats m 0 c).arrAt 13 Cert.Kernel7Ideal.cfg0.N := by
  funext i
  obtain ⟨n, j, rfl⟩ : ∃ (n : Fin 1) (j : Fin 1024), i = ix2 n j := ⟨i 0, i 1, (ix2_eta i).symm⟩
  obtain rfl : n = 0 := Subsingleton.elim _ _
  rw [arr13, v78]
  rfl

end

/-- The claim. -/
theorem algebraic : Cert.algebraic_Kernel7Ideal_Reference7Ideal_pre_finite7 (hPre_finite7 := facts7) := by
  intro m ρ m' ρ' hp hagree
  refine ⟨_, _, _, _, _, _, _, Cert.Kernel7Ideal.Value.run_blocks m ρ, ?_⟩
  refine (θ_run _ _ _).mono (fun _ h c => ?_) (Cert.Reference7Ideal.Value.run (F := Ideal) m' ρ')
  obtain ⟨h73, h74, h75, h72, h76, h77, h78, ha⟩ := h c
  obtain ⟨e0, e1, e2, e3, e4⟩ := hagree c
  refine ⟨h73.trans ?_, h74.trans ?_, h75.trans ?_, h72.trans ?_, h76.trans ?_, h77.trans ?_, h78.trans ?_, ha⟩
  · rw [Cert.Reference7Ideal.Read.val_main_v73_eq, e0, e1, e2, e3, e4]; exact res73 m c hp
  · rw [Cert.Reference7Ideal.Read.val_main_v74_eq, e0, e1, e2, e3, e4]; exact res74 m c hp
  · rw [Cert.Reference7Ideal.Read.val_main_v75_eq, e0, e1, e2, e3, e4]; exact res75 m c hp
  · rw [Cert.Reference7Ideal.Read.val_main_v72_eq, e0, e1, e2, e3, e4]; exact res72 m c hp
  · rw [Cert.Reference7Ideal.Read.val_main_v76_eq, e0, e1, e2, e3, e4]; exact res76 m c hp
  · rw [e0, e1, e2, e4]; exact (Cert.Reference7Ideal.Read.val_main_v77_eq _ _ _ _).symm.trans (res77 m c)
  · rw [e4]; exact (Cert.Reference7Ideal.Read.val_main_v78_eq _).symm.trans (res78 m c)

end Cert.OutBwdClaim

end
-- ==== Proof.AdamRef.lean ====
/- One step of the optimiser at one element, and the four results of the reference element by element. -/
module

public import proofs.«01_k».proof.Proof.Gen.Reference8Ideal.Read
public import Idealize.ShloMosaic.Lib.Pointwise

@[expose] public section

noncomputable section

/-! ## The step at one element -/

namespace Cert.Adam

open Idealize.ShloMosaic

/-- A constant of the program, by its word. -/
abbrev lit (b : BitVec 32) : EReal := Ideal.ofBits .f32 b

/-- The first moment after the step. -/
def mom (g m : EReal) : EReal := lit 0x3F666666#32 * m + lit 0x3DCCCCCD#32 * g

/-- The second moment after the step. -/
def vel (g v : EReal) : EReal := lit 0x3F7FBE77#32 * v + lit 0x3A83126F#32 * (g * g)

/-- What the step adds to the weight. -/
def delta (g w m v : EReal) : EReal :=
  lit 0xBA83126F#32 * (Ideal.div (Ideal.div (mom g m) (lit 0x3F26BD02#32)) (Ideal.sqrt (Ideal.div (vel g v) (lit 0x3C231ACC#32)) + lit 0x322BCC77#32)
    + lit 0x3C23D70A#32 * w)

/-- A matrix in two halves, one above the other: the half and the row in it of a row of the whole. -/
def half (n : Fin 2048) : Fin 2 := ⟨n.val / 1024, by omega⟩
def inner (n : Fin 2048) : Fin 1024 := ⟨n.val % 1024, by omega⟩

end Cert.Adam

/-! ## The reference -/

namespace Cert.AdamRef

open Cert.Reference8Ideal Cert.Reference8Ideal.Gen Cert.Reference8Ideal.Read Cert.Adam Idealize.ShloMosaic

variable (x0 x1 : Vec Ideal S2048x1024 .f32) (x2 x3 x4 : Vec Ideal S2x1024x1024 .f32)

/-- The gradient: the sum of the two parts. -/
abbrev gr (n : Fin 2048) (k : Fin 1024) : EReal := x0 (ix2 n k) + x1 (ix2 n k)

theorem idx_main_v26_ix (n : Fin 2048) (k : Fin 1024) : idx_main_v26 (ix2 n k) = ix3 (half n) (inner n) k := by
  funext a
  apply Fin.ext
  match a with
  | ⟨0, _⟩ => show (n.val * 1024 + k.val) / 1048576 = n.val / 1024; omega
  | ⟨1, _⟩ => show (n.val * 1024 + k.val) / 1024 % 1024 = n.val % 1024; omega
  | ⟨2, _⟩ => show (n.val * 1024 + k.val) % 1024 = k.val; omega

theorem v1 (n : Fin 2048) (k : Fin 1024) : val_main_v1 (F := Ideal) x0 x1 (ix3 (half n) (inner n) k) = gr x0 x1 n k := by
  rw [val_main_v1_apply]
  have h : idx_main_v1 (ix3 (half n) (inner n) k) = ix2 n k := by
    funext a
    apply Fin.ext
    match a with
    | ⟨0, _⟩ => show ((n.val / 1024 * 1024 + n.val % 1024) * 1024 + k.val) / 1024 = n.val; omega
    | ⟨1, _⟩ => show ((n.val / 1024 * 1024 + n.val % 1024) * 1024 + k.val) % 1024 = k.val; omega
  rw [h]
  rfl

theorem v6 (n : Fin 2048) (k : Fin 1024) : val_main_v6 (F := Ideal) x0 x1 x3 (ix3 (half n) (inner n) k) = mom (gr x0 x1 n k) (x3 (ix3 (half n) (inner n) k)) := by
  rw [← v1]
  rfl

theorem v12 (n : Fin 2048) (k : Fin 1024) : val_main_v12 (F := Ideal) x0 x1 x4 (ix3 (half n) (inner n) k) = vel (gr x0 x1 n k) (x4 (ix3 (half n) (inner n) k)) := by
  rw [← v1]
  rfl

theorem v25 (n : Fin 2048) (k : Fin 1024) : val_main_v25 (F := Ideal) x0 x1 x2 x3 x4 (ix3 (half n) (inner n) k)
    = delta (gr x0 x1 n k) (x2 (ix3 (half n) (inner n) k)) (x3 (ix3 (half n) (inner n) k)) (x4 (ix3 (half n) (inner n) k)) := by
  unfold delta
  rw [← v6, ← v12]
  rfl

theorem v26 (n : Fin 2048) (k : Fin 1024) : val_main_v26 (F := Ideal) x0 x1 (ix2 n k) = gr x0 x1 n k :=
  ((val_main_v26_apply x0 x1 (ix2 n k)).trans (congrArg (val_main_v1 (F := Ideal) x0 x1) (idx_main_v26_ix n k))).trans (v1 x0 x1 n k)

theorem v27 (n : Fin 2048) (k : Fin 1024) : val_main_v27 (F := Ideal) x0 x1 x2 x3 x4 (ix2 n k)
    = delta (gr x0 x1 n k) (x2 (ix3 (half n) (inner n) k)) (x3 (ix3 (half n) (inner n) k)) (x4 (ix3 (half n) (inner n) k)) :=
  ((val_main_v27_apply x0 x1 x2 x3 x4 (ix2 n k)).trans (congrArg (val_main_v25 (F := Ideal) x0 x1 x2 x3 x4) (idx_main_v26_ix n k))).trans (v25 x0 x1 x2 x3 x4 n k)

theorem v28 (n : Fin 2048) (k : Fin 1024) : val_main_v28 (F := Ideal) x0 x1 x3 (ix2 n k) = mom (gr x0 x1 n k) (x3 (ix3 (half n) (inner n) k)) :=
  ((val_main_v28_apply x0 x1 x3 (ix2 n k)).trans (congrArg (val_main_v6 (F := Ideal) x0 x1 x3) (idx_main_v26_ix n k))).trans (v6 x0 x1 x3 n k)

theorem v29 (n : Fin 2048) (k : Fin 1024) : val_main_v29 (F := Ideal) x0 x1 x4 (ix2 n k) = vel (gr x0 x1 n k) (x4 (ix3 (half n) (inner n) k)) :=
  ((val_main_v29_apply x0 x1 x4 (ix2 n k)).trans (congrArg (val_main_v12 (F := Ideal) x0 x1 x4) (idx_main_v26_ix n k))).trans (v12 x0 x1 x4 n k)

end Cert.AdamRef

end
-- ==== Proof.AdamTile.lean ====
/- Reading an element of a block of whole rows out of the array the block is cut from. -/
module

public import Idealize.ShloMosaic.Lib.Pointwise

@[expose] public section

namespace Cert.Adam

open Idealize.ShloMosaic

/-- Row `r` of the block `t` of `T` rows is row `T * t + r` of the array. -/
theorem pick {R C : ℕ} (A : (⟨2, ![R, C]⟩ : Shape).Idx → EReal) (p : (⟨2, ![R, C]⟩ : Shape).Idx) (n : Fin R) (k : Fin C) (T t r : ℕ)
    (ix : Fin 2 → ℕ) (h : ix = ![t, 0]) (h0 : (p 0).val = ix 0 * T + 1 * r) (h1 : (p 1).val = ix 1 * C + 1 * k.val)
    (hn : n.val = T * t + r) : A p = A (ix2 n k) := by
  subst h
  congr 1
  funext a
  apply Fin.ext
  match a with
  | ⟨0, _⟩ =>
    refine h0.trans (Eq.trans ?_ hn.symm)
    show t * T + 1 * r = T * t + r
    rw [Nat.mul_comm, Nat.one_mul]
  | ⟨1, _⟩ =>
    refine h1.trans ?_
    show 0 * C + 1 * k.val = k.val
    omega

/-- Arrays of rows that agree at every row and column are equal. -/
theorem ext2 {R C : ℕ} {A B : (⟨2, ![R, C]⟩ : Shape).Idx → EReal} (h : ∀ n k, A (ix2 n k) = B (ix2 n k)) : A = B := by
  funext i
  obtain ⟨n, k, rfl⟩ : ∃ (n : Fin R) (k : Fin C), i = ix2 n k := ⟨i 0, i 1, (ix2_eta i).symm⟩
  exact h n k

end Cert.Adam

end
-- ==== Proof.AdamRun.lean ====
/- The four arrays of the optimiser's kernel after a run, element by element, as functions of the arguments. -/
module

public import proofs.«01_k».proof.Proof.AdamRef
public import proofs.«01_k».proof.Proof.AdamTile
public import proofs.«01_k».proof.Proof.Gen.Kernel8Ideal.Value
public import Idealize.ShloMosaic.Lib.StableHlo.ReadAt

@[expose] public section

noncomputable section

namespace Cert.Adam

open Cert.Kernel8Ideal Cert.Kernel8Ideal.Gen Idealize.ShloMosaic Idealize.ShloMosaic.TcCoe Idealize.SL.Sem

theorem hz : (![0, 0] : Fin 2 → Nat) = fun _ => 0 := funext fun a => by fin_cases a <;> rfl

/-! ## What the body computes -/

section
variable (x0 x1 x2 x3 x4 : Vec Ideal S256x1024 .f32) (r : Fin 256) (k : Fin 1024)

theorem out5_apply : out0_5 x0 x1 x2 x3 x4 (ix2 r k) = x0 (ix2 r k) + x1 (ix2 r k) := by
  unfold out0_5
  rw [View.canon_unit_zero (S := S256x1024) hz]
  simp only [View.ld_unit_zero (S := S256x1024) hz, shapeCast_self]
  rfl

theorem out6_apply : out0_6 x0 x1 x2 x3 x4 (ix2 r k) = delta (x0 (ix2 r k) + x1 (ix2 r k)) (x2 (ix2 r k)) (x3 (ix2 r k)) (x4 (ix2 r k)) := by
  unfold out0_6
  rw [View.canon_unit_zero (S := S256x1024) hz]
  simp only [View.ld_unit_zero (S := S256x1024) hz, shapeCast_self]
  unfold k0_pay4 k0_pay3 k0_pay2
  simp only [shapeCast_self]
  rfl

theorem out7_apply : out0_7 x0 x1 x2 x3 x4 (ix2 r k) = mom (x0 (ix2 r k) + x1 (ix2 r k)) (x3 (ix2 r k)) := by
  unfold out0_7
  rw [View.canon_unit_zero (S := S256x1024) hz]
  simp only [View.ld_unit_zero (S := S256x1024) hz, shapeCast_self]
  unfold k0_pay2
  simp only [shapeCast_self]
  rfl

theorem out8_apply : out0_8 x0 x1 x2 x3 x4 (ix2 r k) = vel (x0 (ix2 r k) + x1 (ix2 r k)) (x4 (ix2 r k)) := by
  unfold out0_8
  rw [View.canon_unit_zero (S := S256x1024) hz]
  simp only [View.ld_unit_zero (S := S256x1024) hz, shapeCast_self]
  unfold k0_pay3
  simp only [shapeCast_self]
  rfl
end

/-! ## The arrays the blocks are cut from -/

variable (m : (ℓ : Loc nD τ sig) → Buf (Elt Ideal) ℓ)

def aG0 (c : Dev nD) (n : Fin 2048) (k : Fin 1024) : EReal := (m (c, Proc.tc.devRef main_arg0) : S2048x1024.Idx → EReal) (ix2 n k)
def aG1 (c : Dev nD) (n : Fin 2048) (k : Fin 1024) : EReal := (m (c, Proc.tc.devRef main_arg1) : S2048x1024.Idx → EReal) (ix2 n k)
def aW (c : Dev nD) (n : Fin 2048) (k : Fin 1024) : EReal := (m (c, Proc.tc.devRef main_arg2) : S2x1024x1024.Idx → EReal) (ix3 (half n) (inner n) k)
def aM (c : Dev nD) (n : Fin 2048) (k : Fin 1024) : EReal := (m (c, Proc.tc.devRef main_arg3) : S2x1024x1024.Idx → EReal) (ix3 (half n) (inner n) k)
def aV (c : Dev nD) (n : Fin 2048) (k : Fin 1024) : EReal := (m (c, Proc.tc.devRef main_arg4) : S2x1024x1024.Idx → EReal) (ix3 (half n) (inner n) k)

theorem V_g0 (c : Dev nD) (n : Fin 2048) (k : Fin 1024) : (V m c main_arg0 : S2048x1024.Idx → EReal) (ix2 n k) = aG0 m c n k := by
  rw [V_main_arg0]; rfl

theorem V_g1 (c : Dev nD) (n : Fin 2048) (k : Fin 1024) : (V m c main_arg1 : S2048x1024.Idx → EReal) (ix2 n k) = aG1 m c n k := by
  rw [V_main_arg1]; rfl

theorem V_w (c : Dev nD) (n : Fin 2048) (k : Fin 1024) : (V m c main_v0 : S2048x1024.Idx → EReal) (ix2 n k) = aW m c n k := by
  unfold V hostOps0
  after_reads_at
  rfl

theorem V_m (c : Dev nD) (n : Fin 2048) (k : Fin 1024) : (V m c main_v1 : S2048x1024.Idx → EReal) (ix2 n k) = aM m c n k := by
  unfold V hostOps0
  after_reads_at
  rfl

theorem V_v (c : Dev nD) (n : Fin 2048) (k : Fin 1024) : (V m c main_v2 : S2048x1024.Idx → EReal) (ix2 n k) = aV m c n k := by
  unfold V hostOps0
  after_reads_at
  rfl

/-! ## The blocks -/

/-- A row of the whole by its block of 256. -/
def row (t : Fin 8) (r : Fin 256) : Fin 2048 := ⟨256 * t.val + r.val, by omega⟩

theorem row_surj (n : Fin 2048) : ∃ t r, n = row t r :=
  ⟨⟨n.val / 256, by omega⟩, ⟨n.val % 256, by omega⟩, Fin.ext (by simp only [row]; omega)⟩

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 0] := (by decide +kernel : ∀ t : Fin grid0.N, _)
theorem i1 : ∀ t : Fin cfg0.N, cc0_transform_1 (grid0.coords t) = ![t.val, 0] := (by decide +kernel : ∀ t : Fin grid0.N, _)
theorem i2 : ∀ t : Fin cfg0.N, cc0_transform_2 (grid0.coords t) = ![t.val, 0] := (by decide +kernel : ∀ t : Fin grid0.N, _)
theorem i3 : ∀ t : Fin cfg0.N, cc0_transform_3 (grid0.coords t) = ![t.val, 0] := (by decide +kernel : ∀ t : Fin grid0.N, _)
theorem i4 : ∀ t : Fin cfg0.N, cc0_transform_4 (grid0.coords t) = ![t.val, 0] := (by decide +kernel : ∀ t : Fin grid0.N, _)
theorem i5 : ∀ t : Fin cfg0.N, cc0_transform_5 (grid0.coords t) = ![t.val, 0] := (by decide +kernel : ∀ t : Fin grid0.N, _)
theorem i6 : ∀ t : Fin cfg0.N, cc0_transform_6 (grid0.coords t) = ![t.val, 0] := (by decide +kernel : ∀ t : Fin grid0.N, _)
theorem i7 : ∀ t : Fin cfg0.N, cc0_transform_7 (grid0.coords t) = ![t.val, 0] := (by decide +kernel : ∀ t : Fin grid0.N, _)
theorem i8 : ∀ t : Fin cfg0.N, cc0_transform_8 (grid0.coords t) = ![t.val, 0] := (by decide +kernel : ∀ t : Fin grid0.N, _)

theorem blk_g0 (c : Dev nD) (t : Fin cfg0.N) (r : Fin 256) (k : Fin 1024) : (iblk m c 0 t : S256x1024.Idx → EReal) (ix2 r k) = aG0 m c (row (blkOf t) r) k := by
  rw [← V_g0]
  unfold iblk
  rw [View.read_apply]
  exact pick (V m c main_arg0) _ (row (blkOf t) r) k 256 t.val r.val _ (i0 t) rfl rfl rfl

theorem blk_g1 (c : Dev nD) (t : Fin cfg0.N) (r : Fin 256) (k : Fin 1024) : (iblk m c 1 t : S256x1024.Idx → EReal) (ix2 r k) = aG1 m c (row (blkOf t) r) k := by
  rw [← V_g1]
  unfold iblk
  rw [View.read_apply]
  exact pick (V m c main_arg1) _ (row (blkOf t) r) k 256 t.val r.val _ (i1 t) rfl rfl rfl

theorem blk_w (c : Dev nD) (t : Fin cfg0.N) (r : Fin 256) (k : Fin 1024) : (iblk m c 2 t : S256x1024.Idx → EReal) (ix2 r k) = aW m c (row (blkOf t) r) k := by
  rw [← V_w]
  unfold iblk
  rw [View.read_apply]
  exact pick (V m c main_v0) _ (row (blkOf t) r) k 256 t.val r.val _ (i2 t) rfl rfl rfl

theorem blk_m (c : Dev nD) (t : Fin cfg0.N) (r : Fin 256) (k : Fin 1024) : (iblk m c 3 t : S256x1024.Idx → EReal) (ix2 r k) = aM m c (row (blkOf t) r) k := by
  rw [← V_m]
  unfold iblk
  rw [View.read_apply]
  exact pick (V m c main_v1) _ (row (blkOf t) r) k 256 t.val r.val _ (i3 t) rfl rfl rfl

theorem blk_v (c : Dev nD) (t : Fin cfg0.N) (r : Fin 256) (k : Fin 1024) : (iblk m c 4 t : S256x1024.Idx → EReal) (ix2 r k) = aV m c (row (blkOf t) r) k := by
  rw [← V_v]
  unfold iblk
  rw [View.read_apply]
  exact pick (V m c main_v2) _ (row (blkOf t) r) k 256 t.val r.val _ (i4 t) rfl rfl rfl

/-! ## The arrays written -/

theorem pt5 (c : Dev nD) (t : Fin cfg0.N) (r : Fin 256) (k : Fin 1024) :
    (out0_5 (iblk m c 0 t) (iblk m c 1 t) (iblk m c 2 t) (iblk m c 3 t) (iblk m c 4 t) : S256x1024.Idx → EReal) (ix2 r k)
      = aG0 m c (row (blkOf t) r) k + aG1 m c (row (blkOf t) r) k := by
  rw [← blk_g0, ← blk_g1]
  exact out5_apply _ _ _ _ _ r k

theorem arr5 (c : Dev nD) (n : Fin 2048) (k : Fin 1024) : ((Gen.dats m 0 c).arrAt 5 cfg0.N : S2048x1024.Idx → EReal) (ix2 n k)
    = aG0 m c n k + aG1 m c n k := by
  obtain ⟨t, r, rfl⟩ := row_surj n
  have hN : t.val < cfg0.N := lt_of_lt_of_eq t.isLt (by decide)
  have h := congrFun (Value.blocks5 m c ⟨t.val, hN⟩ (flush0_5 _)) (ix2 r k : S256x1024.Idx)
  rw [View.read_apply, Value.flushed5] at h
  exact (pick ((Gen.dats m 0 c).arrAt 5 cfg0.N) _ (row t r) k 256 t.val r.val _ (i5 ⟨t.val, hN⟩) rfl rfl rfl).symm.trans (h.trans (pt5 m c ⟨t.val, hN⟩ r k))

theorem pt6 (c : Dev nD) (t : Fin cfg0.N) (r : Fin 256) (k : Fin 1024) :
    (out0_6 (iblk m c 0 t) (iblk m c 1 t) (iblk m c 2 t) (iblk m c 3 t) (iblk m c 4 t) : S256x1024.Idx → EReal) (ix2 r k)
      = delta (aG0 m c (row (blkOf t) r) k + aG1 m c (row (blkOf t) r) k) (aW m c (row (blkOf t) r) k) (aM m c (row (blkOf t) r) k) (aV m c (row (blkOf t) r) k) := by
  rw [← blk_g0, ← blk_g1, ← blk_w, ← blk_m, ← blk_v]
  exact out6_apply _ _ _ _ _ r k

theorem arr6 (c : Dev nD) (n : Fin 2048) (k : Fin 1024) : ((Gen.dats m 0 c).arrAt 6 cfg0.N : S2048x1024.Idx → EReal) (ix2 n k)
    = delta (aG0 m c n k + aG1 m c n k) (aW m c n k) (aM m c n k) (aV m c n k) := by
  obtain ⟨t, r, rfl⟩ := row_surj n
  have hN : t.val < cfg0.N := lt_of_lt_of_eq t.isLt (by decide)
  have h := congrFun (Value.blocks6 m c ⟨t.val, hN⟩ (flush0_6 _)) (ix2 r k : S256x1024.Idx)
  rw [View.read_apply, Value.flushed6] at h
  exact (pick ((Gen.dats m 0 c).arrAt 6 cfg0.N) _ (row t r) k 256 t.val r.val _ (i6 ⟨t.val, hN⟩) rfl rfl rfl).symm.trans (h.trans (pt6 m c ⟨t.val, hN⟩ r k))

theorem pt7 (c : Dev nD) (t : Fin cfg0.N) (r : Fin 256) (k : Fin 1024) :
    (out0_7 (iblk m c 0 t) (iblk m c 1 t) (iblk m c 2 t) (iblk m c 3 t) (iblk m c 4 t) : S256x1024.Idx → EReal) (ix2 r k)
      = mom (aG0 m c (row (blkOf t) r) k + aG1 m c (row (blkOf t) r) k) (aM m c (row (blkOf t) r) k) := by
  rw [← blk_g0, ← blk_g1, ← blk_m]
  exact out7_apply _ _ _ _ _ r k

theorem arr7 (c : Dev nD) (n : Fin 2048) (k : Fin 1024) : ((Gen.dats m 0 c).arrAt 7 cfg0.N : S2048x1024.Idx → EReal) (ix2 n k)
    = mom (aG0 m c n k + aG1 m c n k) (aM m c n k) := by
  obtain ⟨t, r, rfl⟩ := row_surj n
  have hN : t.val < cfg0.N := lt_of_lt_of_eq t.isLt (by decide)
  have h := congrFun (Value.blocks7 m c ⟨t.val, hN⟩ (flush0_7 _)) (ix2 r k : S256x1024.Idx)
  rw [View.read_apply, Value.flushed7] at h
  exact (pick ((Gen.dats m 0 c).arrAt 7 cfg0.N) _ (row t r) k 256 t.val r.val _ (i7 ⟨t.val, hN⟩) rfl rfl rfl).symm.trans (h.trans (pt7 m c ⟨t.val, hN⟩ r k))

theorem pt8 (c : Dev nD) (t : Fin cfg0.N) (r : Fin 256) (k : Fin 1024) :
    (out0_8 (iblk m c 0 t) (iblk m c 1 t) (iblk m c 2 t) (iblk m c 3 t) (iblk m c 4 t) : S256x1024.Idx → EReal) (ix2 r k)
      = vel (aG0 m c (row (blkOf t) r) k + aG1 m c (row (blkOf t) r) k) (aV m c (row (blkOf t) r) k) := by
  rw [← blk_g0, ← blk_g1, ← blk_v]
  exact out8_apply _ _ _ _ _ r k

theorem arr8 (c : Dev nD) (n : Fin 2048) (k : Fin 1024) : ((Gen.dats m 0 c).arrAt 8 cfg0.N : S2048x1024.Idx → EReal) (ix2 n k)
    = vel (aG0 m c n k + aG1 m c n k) (aV m c n k) := by
  obtain ⟨t, r, rfl⟩ := row_surj n
  have hN : t.val < cfg0.N := lt_of_lt_of_eq t.isLt (by decide)
  have h := congrFun (Value.blocks8 m c ⟨t.val, hN⟩ (flush0_8 _)) (ix2 r k : S256x1024.Idx)
  rw [View.read_apply, Value.flushed8] at h
  exact (pick ((Gen.dats m 0 c).arrAt 8 cfg0.N) _ (row t r) k 256 t.val r.val _ (i8 ⟨t.val, hN⟩) rfl rfl rfl).symm.trans (h.trans (pt8 m c ⟨t.val, hN⟩ r k))

end Cert.Adam

end
-- ==== Proof.AdamClaim.lean ====
/- The optimiser's kernel and its reference end with equal results. -/
module

public import proofs.«01_k».proof.Defs
public import proofs.«01_k».proof.Proof.Gen.Reference8Ideal.Run
public import proofs.«01_k».proof.Proof.AdamRun

@[expose] public section

noncomputable section

namespace Cert.Adam

open Idealize.ShloMosaic Idealize.SL.Sem

section
open Cert.Kernel8Ideal Cert.Kernel8Ideal.Gen

variable (m : (ℓ : Loc nD τ sig) → Buf (Elt Ideal) ℓ) (c : Dev nD)

abbrev q0 : S2048x1024.Idx → EReal := m (c, Proc.tc.devRef main_arg0)
abbrev q1 : S2048x1024.Idx → EReal := m (c, Proc.tc.devRef main_arg1)
abbrev q2 : S2x1024x1024.Idx → EReal := m (c, Proc.tc.devRef main_arg2)
abbrev q3 : S2x1024x1024.Idx → EReal := m (c, Proc.tc.devRef main_arg3)
abbrev q4 : S2x1024x1024.Idx → EReal := m (c, Proc.tc.devRef main_arg4)

theorem res_v26 : Cert.Reference8Ideal.Read.val_main_v26 (F := Ideal) (q0 m c) (q1 m c) = (Gen.dats m 0 c).arrAt 5 cfg0.N := by
  funext i
  obtain ⟨p, q, rfl⟩ : ∃ (p : Fin 2048) (q : Fin 1024), i = ix2 p q := ⟨i 0, i 1, (ix2_eta i).symm⟩
  rw [arr5]
  exact Cert.AdamRef.v26 _ _ p q

theorem res_v27 : Cert.Reference8Ideal.Read.val_main_v27 (F := Ideal) (q0 m c) (q1 m c) (q2 m c) (q3 m c) (q4 m c) = (Gen.dats m 0 c).arrAt 6 cfg0.N := by
  funext i
  obtain ⟨p, q, rfl⟩ : ∃ (p : Fin 2048) (q : Fin 1024), i = ix2 p q := ⟨i 0, i 1, (ix2_eta i).symm⟩
  rw [arr6]
  exact Cert.AdamRef.v27 _ _ _ _ _ p q

theorem res_v28 : Cert.Reference8Ideal.Read.val_main_v28 (F := Ideal) (q0 m c) (q1 m c) (q3 m c) = (Gen.dats m 0 c).arrAt 7 cfg0.N := by
  funext i
  obtain ⟨p, q, rfl⟩ : ∃ (p : Fin 2048) (q : Fin 1024), i = ix2 p q := ⟨i 0, i 1, (ix2_eta i).symm⟩
  rw [arr7]
  exact Cert.AdamRef.v28 _ _ _ p q

theorem res_v29 : Cert.Reference8Ideal.Read.val_main_v29 (F := Ideal) (q0 m c) (q1 m c) (q4 m c) = (Gen.dats m 0 c).arrAt 8 cfg0.N := by
  funext i
  obtain ⟨p, q, rfl⟩ : ∃ (p : Fin 2048) (q : Fin 1024), i = ix2 p q := ⟨i 0, i 1, (ix2_eta i).symm⟩
  rw [arr8]
  exact Cert.AdamRef.v29 _ _ _ p q

end

/-- The claim. -/
theorem algebraic : Cert.algebraic_Kernel8Ideal_Reference8Ideal := by
  intro m ρ m' ρ' _ hagree
  refine ⟨_, _, _, _, Cert.Kernel8Ideal.Value.run_blocks m ρ, ?_⟩
  refine (θ_run _ _ _).mono (fun _ h c => ?_) (Cert.Reference8Ideal.Value.run (F := Ideal) m' ρ')
  obtain ⟨hv26, hv27, hv28, hv29, ha⟩ := h c
  obtain ⟨e0, e1, e2, e3, e4⟩ := hagree c
  refine ⟨hv26.trans ?_, hv27.trans ?_, hv28.trans ?_, hv29.trans ?_, ha⟩
  · rw [Cert.Reference8Ideal.Read.val_main_v26_eq]; try dsimp only [StableHlo.launchContents]
    rw [e0, e1]; exact res_v26 m c
  · rw [Cert.Reference8Ideal.Read.val_main_v27_eq]; try dsimp only [StableHlo.launchContents]
    rw [e0, e1, e2, e3, e4]; exact res_v27 m c
  · rw [Cert.Reference8Ideal.Read.val_main_v28_eq]; try dsimp only [StableHlo.launchContents]
    rw [e0, e1, e3]; exact res_v28 m c
  · rw [Cert.Reference8Ideal.Read.val_main_v29_eq]; try dsimp only [StableHlo.launchContents]
    rw [e0, e1, e4]; exact res_v29 m c

end Cert.Adam

end
-- ==== Proof.Gates.lean ====
/- What the gradient of the logarithmic gates is worth, over extended reals. -/
module

public import proofs.«01_k».proof.Proof.Proj

@[expose] public section

noncomputable section

namespace Cert.Gates

open Cert.Proj Idealize.ShloMosaic

/-- The largest bit pattern of an exponent is the infinite number. -/
theorem infinite : Ideal.ofBits .f32 0x7F800000#32 = ⊤ := by
  simp [Ideal.ofBits, Ideal.ieee]

/-- The exponential of a number less its smoothed positive part is the logistic function. -/
theorem real_sig (q : ℝ) : Real.exp (q - (max q 0 + Real.log (1 + Real.exp (-max q (-q))))) = 1 / (1 + Real.exp (-q)) := by
  have hp : ∀ r : ℝ, 0 < 1 + Real.exp r := fun r => by positivity
  rw [Real.exp_sub, Real.exp_add, Real.exp_log (hp _), div_eq_div_iff (ne_of_gt (mul_pos (Real.exp_pos _) (hp _))) (ne_of_gt (hp _)), one_mul]
  rcases le_total q 0 with h | h
  · rw [max_eq_right h, max_eq_right (show q ≤ -q by linarith), neg_neg, Real.exp_zero, one_mul, mul_add, mul_one, ← Real.exp_add, add_neg_cancel,
      Real.exp_zero, add_comm]
  · rw [max_eq_left h, max_eq_left (show -q ≤ q by linarith)]

/-- The smoothed positive part. -/
def soft (q : EReal) : EReal := max q 0 + Ideal.log1p (Ideal.exp (-max q (-q)))

/-- What differentiating the smoothed positive part multiplies with: infinite values count as zero. -/
def slope (q : EReal) : EReal := Ideal.exp ((if q = ⊤ then 0 else q) - (if soft q = ⊤ then 0 else soft q))

theorem soft_real (q : ℝ) : soft q = ((max q 0 + Real.log (1 + Real.exp (-max q (-q))) : ℝ) : EReal) := by
  unfold soft Ideal.log1p
  have e1 : max (q : EReal) (-(q : EReal)) = ((max q (-q) : ℝ) : EReal) := by
    rw [← EReal.coe_neg]; exact (EReal.coe_strictMono.monotone.map_max).symm
  have e2 : max (q : EReal) 0 = ((max q 0 : ℝ) : EReal) := by
    rw [← EReal.coe_zero]; exact (EReal.coe_strictMono.monotone.map_max).symm
  rw [e1, e2, ← EReal.coe_neg, exp_real, ← EReal.coe_one, ← EReal.coe_add, log_pos _ (by positivity), ← EReal.coe_add]

theorem logistic_real (q : ℝ) : Ideal.logistic (q : EReal) = ((1 / (1 + Real.exp (-q)) : ℝ) : EReal) := by
  unfold Ideal.logistic
  rw [← EReal.coe_neg, exp_real, ← EReal.coe_one, ← EReal.coe_add, Ideal.div_coe (show (1 + Real.exp (-q) : ℝ) ≠ 0 by positivity), ← EReal.coe_mul, one_mul]

theorem soft_top : soft ⊤ = ⊤ := by
  unfold soft
  have h : max (⊤ : EReal) (-⊤) = ⊤ := by simp
  have h' : Ideal.log1p (Ideal.exp (-⊤)) = 0 := by
    rw [EReal.neg_top]
    exact zero_of_abs_top
  rw [h, h', add_zero]
  simp

theorem soft_bot : soft ⊥ = 0 := by
  unfold soft
  have h : max (⊥ : EReal) (-⊥) = ⊤ := by simp
  have h' : Ideal.log1p (Ideal.exp (-⊤)) = 0 := by
    rw [EReal.neg_top]
    exact zero_of_abs_top
  rw [h, h', add_zero]
  simp

/-- It is the logistic function, at the infinite numbers too. -/
theorem slope_eq (q : EReal) : slope q = Ideal.logistic q := by
  unfold slope
  induction q with
  | bot =>
    rw [soft_bot, if_neg (show (⊥ : EReal) ≠ ⊤ by simp), if_neg (show (0 : EReal) ≠ ⊤ by simp), sub_zero]
    unfold Ideal.logistic
    rw [EReal.neg_bot]
    show (0 : EReal) = Ideal.div 1 (1 + ⊤)
    rw [EReal.add_top_of_ne_bot (show (1 : EReal) ≠ ⊥ from EReal.coe_ne_bot 1)]
    simp [Ideal.div]
  | top =>
    rw [soft_top, if_pos rfl, sub_zero]
    unfold Ideal.logistic
    rw [EReal.neg_top]
    show ((Real.exp 0 : ℝ) : EReal) = Ideal.div 1 (1 + 0)
    rw [Real.exp_zero, add_zero, ← EReal.coe_one, Ideal.div_coe one_ne_zero]
    norm_num
  | coe r =>
    rw [soft_real, if_neg (EReal.coe_ne_top _), if_neg (EReal.coe_ne_top _), ← EReal.coe_sub, exp_real, real_sig, logistic_real]

section
variable (l : Fin 4096 → Fin 32 → EReal) (a : Fin 2 → Fin 16 → Fin 128 → EReal) (b : Fin 2 → Fin 128 → EReal) (d : Fin 2 → Fin 4096 → Fin 128 → EReal)

/-- Both gates before their activation. -/
def preG (n : Fin 4096) (c : Fin 256) : EReal :=
  (∑ i : Fin 32, l n i * two (a 0) (a 1) ⟨i.val, by omega⟩ c) + b ⟨c.val / 128, by omega⟩ ⟨c.val % 128, by omega⟩

/-- Both gates' gradients, side by side. -/
def catG (n : Fin 4096) (c : Fin 256) : EReal := if hc : c.val < 128 then d 0 n ⟨c.val, hc⟩ else d 1 n ⟨c.val - 128, by omega⟩

/-- The gradient before the activation. -/
def dpreG (n : Fin 4096) (c : Fin 256) : EReal := catG d n c * Ideal.ofBits .f32 1031798784#32 * Ideal.logistic (0 - preG l a b n c)

/-- The gradient of the low-rank coordinates; zero past the last of them. -/
def dlG (n : Fin 4096) (i : Fin 128) : EReal := ∑ c : Fin 256, dpreG l a b d n c * two (a 0) (a 1) i c

/-- The gradient of the gates' matrix. -/
def dwG (i : Fin 32) (c : Fin 256) : EReal := ∑ n : Fin 4096, l n i * dpreG l a b d n c

/-- The gradient of the gates' biases. -/
def dbG (c : Fin 256) : EReal := ∑ n : Fin 4096, dpreG l a b d n c

theorem dlG_zero (n : Fin 4096) (i : Fin 128) (h : ¬ i.val < 32) : dlG l a b d n i = 0 := by
  unfold dlG
  refine (Finset.sum_congr rfl fun c _ => ?_).trans Finset.sum_const_zero
  unfold two
  rw [dif_neg (show ¬ i.val < 16 by omega), dif_neg (show ¬ i.val - 16 < 16 by omega), mul_zero]

end

/-- The rows past the low-rank coordinates add nothing. -/
theorem sum_low (l : Fin 128 → EReal) (a b : Fin 16 → Fin 128 → EReal) (c : Fin 256) :
    ∑ i, l i * two a b i c = ∑ i : Fin 32, l ⟨i.val, by omega⟩ * two a b ⟨i.val, by omega⟩ c := by
  rw [Fin.sum_univ_add (a := 32) (b := 96)]
  refine (congrArg₂ (fun a b : EReal => a + b) rfl ((Finset.sum_congr rfl fun i _ => ?_).trans Finset.sum_const_zero)).trans (add_zero _)
  exact (congrArg (l _ * ·) (two_low a b i c)).trans (mul_zero _)

/-- The gradient by way of the negated argument and a quotient. -/
theorem dpre_eq (x p : EReal) :
    -(-(Ideal.div x (Ideal.ofBits .f32 1098907648#32)) * slope (-p)) = x * Ideal.ofBits .f32 1031798784#32 * Ideal.logistic (0 - p) := by
  rw [slope_eq, sixteen, Ideal.div_coe (by norm_num : (16 : ℝ) ≠ 0), sixteenth, zero_sub, EReal.neg_mul, neg_neg, one_div]

end Cert.Gates

end
-- ==== Proof.GatesPay.lean ====
/- What the stores of the body of the gates' gradients are worth, element by element, as extended reals. -/
module

public import proofs.«01_k».proof.Proof.Gen.Kernel9Ideal.Skeleton
public import proofs.«01_k».proof.Proof.Gates

@[expose] public section

noncomputable section

namespace Cert.Gates

open Cert.Kernel9Ideal Cert.Kernel9Ideal.Gen Cert.Proj Idealize.ShloMosaic

/-- Two blocks of columns side by side, at a point of a block of 512 rows. -/
def catB (df db : Vec Ideal S512x128 .f32) (r : Fin 512) (c : Fin 256) : EReal :=
  if hc : c.val < 128 then df (ix2 r ⟨c.val, hc⟩) else db (ix2 r ⟨c.val - 128, by omega⟩)

/-- The gradient before the activation, at a point of a block. -/
def dpreB (l : Vec Ideal S512x128 .f32) (w : Vec Ideal S128x256 .bf16) (b : Vec Ideal S1x256 .f32) (df db : Vec Ideal S512x128 .f32)
    (r : Fin 512) (c : Fin 256) : EReal :=
  catB df db r c * Ideal.ofBits .f32 1031798784#32 * Ideal.logistic (0 - ((∑ i : Fin 128, l (ix2 r i) * w (ix2 i c)) + b (ix2 0 c)))

section
variable (l : Vec Ideal S512x128 .f32) (w : Vec Ideal S128x256 .bf16) (b : Vec Ideal S1x256 .f32) (df db : Vec Ideal S512x128 .f32)

theorem pay5_apply (r : Fin 512) (i : Fin 128) : k0_pay5 (F := Ideal) l (ix2 r i) = l (ix2 r i) := by
  unfold k0_pay5
  pointwise

theorem pay6_apply (r : Fin 512) (c : Fin 256) : k0_pay6 (F := Ideal) l w b df db (ix2 r c) = dpreB l w b df db r c := by
  unfold k0_pay6 dpreB catB
  pointwise [pay5_apply]

theorem pay7_apply (r : Fin 512) (i : Fin 128) :
    k0_pay7 (F := Ideal) l w b df db w (ix2 r i) = ∑ c : Fin 256, dpreB l w b df db r c * w (ix2 i c) := by
  unfold k0_pay7
  pointwise [pay6_apply]

theorem pay9_apply (i : Fin 32) (c : Fin 256) :
    k0_pay9 (F := Ideal) l w b df db (ix2 i c) = ∑ r : Fin 512, l (ix2 r ⟨i.val, by omega⟩) * dpreB l w b df db r c := by
  unfold k0_pay9
  pointwise [pay5_apply, pay6_apply]

/-- What a block adds to the matrix' gradient. -/
theorem pay1_apply (x : Vec Ideal S32x256 .f32) (i : Fin 32) (c : Fin 256) :
    k0_pay1 (F := Ideal) (k0_pay8 x) (k0_pay9 l w b df db) (ix2 i c)
      = x (ix2 i c) + ∑ r : Fin 512, l (ix2 r ⟨i.val, by omega⟩) * dpreB l w b df db r c := by
  unfold k0_pay1 k0_pay8
  pointwise [pay9_apply]

/-- What a block adds to the biases' gradient. -/
theorem pay2_apply (x : Vec Ideal S1x256 .f32) (c : Fin 256) :
    k0_pay2 (F := Ideal) (k0_pay6 l w b df db) x (ix2 0 c) = x (ix2 0 c) + ∑ r : Fin 512, dpreB l w b df db r c := by
  unfold k0_pay2
  pointwise [pay6_apply]

end

theorem pay3_apply (i : Fin 32) (c : Fin 256) : k0_pay3 (F := Ideal) (ix2 i c) = 0 := by
  unfold k0_pay3
  pointwise

theorem pay4_apply (c : Fin 256) : k0_pay4 (F := Ideal) (ix2 0 c) = 0 := by
  unfold k0_pay4
  pointwise

end Cert.Gates

end
-- ==== Proof.GatesOut.lean ====
/- What a run of the body of the gates' gradients leaves in its outputs, element by element. -/
module

public import proofs.«01_k».proof.Proof.Gen.Kernel9Ideal.Frame
public import proofs.«01_k».proof.Proof.GatesPay
public import Idealize.ShloMosaic.Lib.Pipeline.ValueKit.Tiles
public import Idealize.ShloMosaic.Lib.Pipeline.ReadBack

@[expose] public section

noncomputable section

namespace Cert.Gates

open Cert.Kernel9Ideal Cert.Kernel9Ideal.Gen Cert.Proj Idealize.ShloMosaic Idealize.ShloMosaic.TcCoe

theorem hz : (![0, 0] : Fin 2 → Nat) = fun _ => 0 := funext fun a => by fin_cases a <;> rfl

section
variable (c : Dev nD) (gc : grid0.Coords) (arg1 : Memref sig .tc .vmem S512x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .bf16) (harg6 : arg6.IsWhole) (arg7 : Memref sig .tc .vmem S32x256 .f32) (harg7 : arg7.IsWhole) (arg8 : Memref sig .tc .vmem S1x256 .f32) (harg8 : arg8.IsWhole)
  (x0 : Vec Ideal S512x128 .f32) (x1 : Vec Ideal S128x256 .bf16) (x2 : Vec Ideal S1x256 .f32) (x3 x4 : Vec Ideal S512x128 .f32)
  (xo6 : Vec Ideal S32x256 .f32) (xo7 : Vec Ideal S1x256 .f32)

theorem out0_A_5_apply (hc0 : cond0_0 gc) (r : Fin 512) (i : Fin 128) :
    out0_A_5 (F := Ideal) c gc arg1 harg1 arg2 harg2 arg3 harg3 arg4 harg4 arg5 harg5 arg6 harg6 arg7 harg7 arg8 harg8 hc0 x0 x1 x2 x3 x4 (ix2 r i) = ∑ k : Fin 256, dpreB x0 x1 x2 x3 x4 r k * x1 (ix2 i k) := by
  unfold out0_A_5
  rw [View.read_writes_eq_canon _ _ _ (cover0_A_5 c gc arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S512x128) hz, View.ld_unit_zero (S := S128x256) hz, View.ld_unit_zero (S := S1x256) hz, View.ld_unit_zero (S := S32x256) hz, shapeCast_self]
  rw [View.canon_unit_zero (S := S512x128) hz]
  exact pay7_apply x0 x1 x2 x3 x4 r i

theorem out0_A_6_apply (hc0 : cond0_0 gc) (i : Fin 32) (k : Fin 256) :
    out0_A_6 (F := Ideal) c gc arg1 harg1 arg2 harg2 arg3 harg3 arg4 harg4 arg5 harg5 arg6 harg6 arg7 harg7 arg8 harg8 hc0 x0 x1 x2 x3 x4 (ix2 i k) = 0 + ∑ r : Fin 512, x0 (ix2 r ⟨i.val, by omega⟩) * dpreB x0 x1 x2 x3 x4 r k := by
  unfold out0_A_6
  rw [View.read_writes_eq_canon _ _ _ (cover0_A_6 c gc arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S32x256) hz, View.readCov_unit_zero (S := S32x256) _ hz]
  simp only [View.readAt_eq_ld, harg1.read_unread, harg2.read_unread, harg3.read_unread, harg4.read_unread, harg5.read_unread, harg6.read_unread, harg7.read_unread, harg8.read_unread, View.ld_unit_zero (S := S512x128) hz, View.ld_unit_zero (S := S128x256) hz, View.ld_unit_zero (S := S1x256) hz, View.ld_unit_zero (S := S32x256) hz, shapeCast_self]
  rw [pay1_apply, pay3_apply]

theorem out0_A_7_apply (hc0 : cond0_0 gc) (k : Fin 256) :
    out0_A_7 (F := Ideal) c gc arg1 harg1 arg2 harg2 arg3 harg3 arg4 harg4 arg5 harg5 arg6 harg6 arg7 harg7 arg8 harg8 hc0 x0 x1 x2 x3 x4 (ix2 0 k) = 0 + ∑ r : Fin 512, dpreB x0 x1 x2 x3 x4 r k := by
  unfold out0_A_7
  rw [View.read_writes_eq_canon _ _ _ (cover0_A_7 c gc arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg6.read_unread, harg7.read_unread, harg8.read_unread, View.ld_unit_zero (S := S512x128) hz, View.ld_unit_zero (S := S128x256) hz, View.ld_unit_zero (S := S1x256) hz, View.ld_unit_zero (S := S32x256) hz, shapeCast_self]
  rw [pay2_apply, pay4_apply]

theorem out0_B_5_apply (hc0 : ¬cond0_0 gc) (r : Fin 512) (i : Fin 128) :
    out0_B_5 (F := Ideal) c gc arg1 harg1 arg2 harg2 arg3 harg3 arg4 harg4 arg5 harg5 arg6 harg6 arg7 harg7 arg8 harg8 hc0 x0 x1 x2 x3 x4 xo6 xo7 (ix2 r i) = ∑ k : Fin 256, dpreB x0 x1 x2 x3 x4 r k * x1 (ix2 i k) := by
  unfold out0_B_5
  rw [View.read_writes_eq_canon _ _ _ (cover0_B_5 c gc arg1 harg1 arg2 harg2 arg3 harg3 arg4 harg4 arg5 harg5 arg6 harg6 arg7 harg7 arg8 harg8 hc0 x0 x1 x2 x3 x4 xo6 xo7)]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S512x128) hz, View.ld_unit_zero (S := S128x256) hz, View.ld_unit_zero (S := S1x256) hz, View.ld_unit_zero (S := S32x256) hz, shapeCast_self]
  rw [View.canon_unit_zero (S := S512x128) hz]
  exact pay7_apply x0 x1 x2 x3 x4 r i

theorem out0_B_6_apply (hc0 : ¬cond0_0 gc) (i : Fin 32) (k : Fin 256) :
    out0_B_6 (F := Ideal) c gc arg1 harg1 arg2 harg2 arg3 harg3 arg4 harg4 arg5 harg5 arg6 harg6 arg7 harg7 arg8 harg8 hc0 x0 x1 x2 x3 x4 xo6 xo7 (ix2 i k) = xo6 (ix2 i k) + ∑ r : Fin 512, x0 (ix2 r ⟨i.val, by omega⟩) * dpreB x0 x1 x2 x3 x4 r k := by
  unfold out0_B_6
  rw [View.read_writes_eq_canon _ _ _ (cover0_B_6 c gc arg1 harg1 arg2 harg2 arg3 harg3 arg4 harg4 arg5 harg5 arg6 harg6 arg7 harg7 arg8 harg8 hc0 x0 x1 x2 x3 x4 xo6 xo7)]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S512x128) hz, View.ld_unit_zero (S := S128x256) hz, View.ld_unit_zero (S := S1x256) hz, View.ld_unit_zero (S := S32x256) hz, shapeCast_self]
  rw [View.canon_unit_zero (S := S32x256) hz]
  exact pay1_apply x0 x1 x2 x3 x4 xo6 i k

theorem out0_B_7_apply (hc0 : ¬cond0_0 gc) (k : Fin 256) :
    out0_B_7 (F := Ideal) c gc arg1 harg1 arg2 harg2 arg3 harg3 arg4 harg4 arg5 harg5 arg6 harg6 arg7 harg7 arg8 harg8 hc0 x0 x1 x2 x3 x4 xo6 xo7 (ix2 0 k) = xo7 (ix2 0 k) + ∑ r : Fin 512, dpreB x0 x1 x2 x3 x4 r k := by
  unfold out0_B_7
  rw [View.read_writes_eq_canon _ _ _ (cover0_B_7 c gc arg1 harg1 arg2 harg2 arg3 harg3 arg4 harg4 arg5 harg5 arg6 harg6 arg7 harg7 arg8 harg8 hc0 x0 x1 x2 x3 x4 xo6 xo7)]
  unfold kernelRun0_B
  dsimp only
  sl_unfold_words
  simp only [View.readAt_eq_ld, harg1.read_unread, harg2.read_unread, harg3.read_unread, harg4.read_unread, harg5.read_unread, harg6.read_unread, harg7.read_unread, harg8.read_unread, View.ld_unit_zero (S := S512x128) hz, View.ld_unit_zero (S := S128x256) hz, View.ld_unit_zero (S := S1x256) hz, View.ld_unit_zero (S := S32x256) hz, shapeCast_self]
  rw [View.canon_unit_zero (S := S1x256) hz]
  exact pay2_apply x0 x1 x2 x3 x4 xo7 k

end

end Cert.Gates

end
-- ==== Proof.GatesBlk.lean ====
/- The blocks the body of the gates' gradients reads, element by element, as functions of the arguments. -/
module

public import proofs.«01_k».proof.Proof.Gen.Kernel9Ideal.Value
public import proofs.«01_k».proof.Proof.GatesOut
public import proofs.«01_k».proof.Proof.Spec
public import Idealize.ShloMosaic.Lib.StableHlo.ReadAt

@[expose] public section

noncomputable section

namespace Cert.Gates

open Cert.Kernel9Ideal Cert.Kernel9Ideal.Gen Cert.Proj Cert.Spec Idealize.ShloMosaic Idealize.ShloMosaic.TcCoe

variable (m : (ℓ : Loc nD τ sig) → Buf (Elt Ideal) ℓ)

/-! ## The arguments -/

def aH (c : Dev nD) (n : Fin 4096) (j : Fin 1824) : EReal := (m (c, Proc.tc.devRef main_arg0) : S4096x1824.Idx → EReal) (ix2 n j)
def aA (c : Dev nD) (s : Fin 2) (i : Fin 16) (k : Fin 128) : EReal := (m (c, Proc.tc.devRef main_arg1) : S2x16x128.Idx → EReal) (ix3 s i k)
def aB (c : Dev nD) (s : Fin 2) (k : Fin 128) : EReal := (m (c, Proc.tc.devRef main_arg2) : S2x128.Idx → EReal) (ix2 s k)
def aDf (c : Dev nD) (n : Fin 4096) (k : Fin 128) : EReal := (m (c, Proc.tc.devRef main_arg3) : S4096x128.Idx → EReal) (ix2 n k)
def aDb (c : Dev nD) (n : Fin 4096) (k : Fin 128) : EReal := (m (c, Proc.tc.devRef main_arg4) : S4096x128.Idx → EReal) (ix2 n k)

/-- The low-rank coordinates, and the two gradients. -/
def aL (c : Dev nD) (n : Fin 4096) (i : Fin 32) : EReal := aH m c n ⟨1024 + i.val, by omega⟩
def aD (c : Dev nD) (s : Fin 2) (n : Fin 4096) (k : Fin 128) : EReal := if s = 0 then aDf m c n k else aDb m c n k

/-! ## The arrays the blocks are cut from -/

theorem V_h (c : Dev nD) (n : Fin 4096) (j : Fin 1920) : (V m c main_v4 : S4096x1920.Idx → EReal) (ix2 n j) = padC (aH m c n) j := by
  unfold V hostOps0
  after_reads_at
  repeat after_reads_at
  rfl

theorem V_a (c : Dev nD) (i : Fin 128) (k : Fin 256) : (V m c main_v14 : S128x256.Idx → EReal) (ix2 i k) = two (aA m c 0) (aA m c 1) i k := by
  unfold V hostOps0
  after_reads_at
  repeat after_reads_at
  rfl

theorem V_b (c : Dev nD) (k : Fin 256) : (V m c main_v15 : S1x256.Idx → EReal) (ix2 0 k) = aB m c ⟨k.val / 128, by omega⟩ ⟨k.val % 128, by omega⟩ := by
  unfold V hostOps0
  after_reads_at
  rfl

theorem V_df (c : Dev nD) (n : Fin 4096) (k : Fin 128) : (V m c main_arg3 : S4096x128.Idx → EReal) (ix2 n k) = aDf m c n k := by
  rw [V_main_arg3]; rfl

theorem V_db (c : Dev nD) (n : Fin 4096) (k : Fin 128) : (V m c main_arg4 : S4096x128.Idx → EReal) (ix2 n k) = aDb m c n k := by
  rw [V_main_arg4]; rfl

/-! ## The blocks -/

/-- A grid point as one of the eight blocks of rows. -/
def blkOf (t : Fin cfg0.N) : Fin 8 := ⟨t.val, lt_of_lt_of_eq t.isLt (by decide)⟩

theorem i0 : ∀ t : Fin cfg0.N, cc0_transform_0 (grid0.coords t) = ![t.val, 14] := (by decide +kernel : ∀ t : Fin grid0.N, _)
theorem i1 : ∀ t : Fin cfg0.N, cc0_transform_1 (grid0.coords t) = ![0, 0] := (by decide +kernel : ∀ t : Fin grid0.N, _)
theorem i2 : ∀ t : Fin cfg0.N, cc0_transform_2 (grid0.coords t) = ![0, 0] := (by decide +kernel : ∀ t : Fin grid0.N, _)
theorem i3 : ∀ t : Fin cfg0.N, cc0_transform_3 (grid0.coords t) = ![t.val, 0] := (by decide +kernel : ∀ t : Fin grid0.N, _)
theorem i4 : ∀ t : Fin cfg0.N, cc0_transform_4 (grid0.coords t) = ![t.val, 0] := (by decide +kernel : ∀ t : Fin grid0.N, _)
theorem i5 : ∀ t : Fin cfg0.N, cc0_transform_5 (grid0.coords t) = ![t.val, 0] := (by decide +kernel : ∀ t : Fin grid0.N, _)
theorem i6 : ∀ t : Fin cfg0.N, cc0_transform_6 (grid0.coords t) = ![0, 0] := (by decide +kernel : ∀ t : Fin grid0.N, _)
theorem i7 : ∀ t : Fin cfg0.N, cc0_transform_7 (grid0.coords t) = ![0, 0] := (by decide +kernel : ∀ t : Fin grid0.N, _)

theorem blk_h (c : Dev nD) (t : Fin cfg0.N) (r : Fin 512) (i : Fin 128) : (iblk m c 0 t : S512x128.Idx → EReal) (ix2 r i) = padC (aH m c (row (blkOf t) r)) ⟨1792 + i.val, by omega⟩ := by
  rw [← V_h]
  unfold iblk
  rw [View.read_apply]
  show V m c main_v4 _ = V m c main_v4 _
  congr 1
  funext a
  apply Fin.ext
  match a with
  | ⟨0, _⟩ =>
    show cc0_transform_0 (grid0.coords t) 0 * 512 + 1 * r.val = 512 * t.val + r.val
    rw [i0]
    show t.val * 512 + 1 * r.val = _
    omega
  | ⟨1, _⟩ =>
    show cc0_transform_0 (grid0.coords t) 1 * 128 + 1 * i.val = 1792 + i.val
    rw [i0]
    show 14 * 128 + 1 * i.val = _
    omega

theorem blk_a (c : Dev nD) (t : Fin cfg0.N) (i : Fin 128) (k : Fin 256) : (iblk m c 1 t : S128x256.Idx → EReal) (ix2 i k) = two (aA m c 0) (aA m c 1) i k := by
  rw [← V_a]
  unfold iblk
  rw [View.read_apply]
  show V m c main_v14 _ = V m c main_v14 _
  congr 1
  funext a
  apply Fin.ext
  match a with
  | ⟨0, _⟩ =>
    show cc0_transform_1 (grid0.coords t) 0 * 128 + 1 * i.val = i.val
    rw [i1]
    show 0 * 128 + 1 * i.val = _
    omega
  | ⟨1, _⟩ =>
    show cc0_transform_1 (grid0.coords t) 1 * 256 + 1 * k.val = k.val
    rw [i1]
    show 0 * 256 + 1 * k.val = _
    omega

theorem blk_b (c : Dev nD) (t : Fin cfg0.N) (k : Fin 256) : (iblk m c 2 t : S1x256.Idx → EReal) (ix2 0 k) = aB m c ⟨k.val / 128, by omega⟩ ⟨k.val % 128, by omega⟩ := by
  rw [← V_b]
  unfold iblk
  rw [View.read_apply]
  show V m c main_v15 _ = V m c main_v15 _
  congr 1
  funext a
  apply Fin.ext
  match a with
  | ⟨0, _⟩ =>
    show cc0_transform_2 (grid0.coords t) 0 * 1 + 1 * 0 = 0
    rw [i2]
    show 0 * 1 + 1 * 0 = _
    omega
  | ⟨1, _⟩ =>
    show cc0_transform_2 (grid0.coords t) 1 * 256 + 1 * k.val = k.val
    rw [i2]
    show 0 * 256 + 1 * k.val = _
    omega

theorem blk_df (c : Dev nD) (t : Fin cfg0.N) (r : Fin 512) (k : Fin 128) : (iblk m c 3 t : S512x128.Idx → EReal) (ix2 r k) = aDf m c (row (blkOf t) r) k := by
  rw [← V_df]
  unfold iblk
  rw [View.read_apply]
  show V m c main_arg3 _ = V m c main_arg3 _
  congr 1
  funext a
  apply Fin.ext
  match a with
  | ⟨0, _⟩ =>
    show cc0_transform_3 (grid0.coords t) 0 * 512 + 1 * r.val = 512 * t.val + r.val
    rw [i3]
    show t.val * 512 + 1 * r.val = _
    omega
  | ⟨1, _⟩ =>
    show cc0_transform_3 (grid0.coords t) 1 * 128 + 1 * k.val = k.val
    rw [i3]
    show 0 * 128 + 1 * k.val = _
    omega

theorem blk_db (c : Dev nD) (t : Fin cfg0.N) (r : Fin 512) (k : Fin 128) : (iblk m c 4 t : S512x128.Idx → EReal) (ix2 r k) = aDb m c (row (blkOf t) r) k := by
  rw [← V_db]
  unfold iblk
  rw [View.read_apply]
  show V m c main_arg4 _ = V m c main_arg4 _
  congr 1
  funext a
  apply Fin.ext
  match a with
  | ⟨0, _⟩ =>
    show cc0_transform_4 (grid0.coords t) 0 * 512 + 1 * r.val = 512 * t.val + r.val
    rw [i4]
    show t.val * 512 + 1 * r.val = _
    omega
  | ⟨1, _⟩ =>
    show cc0_transform_4 (grid0.coords t) 1 * 128 + 1 * k.val = k.val
    rw [i4]
    show 0 * 128 + 1 * k.val = _
    omega

/-- A low-rank coordinate of a block. -/
theorem blk_l (c : Dev nD) (t : Fin cfg0.N) (r : Fin 512) (i : Fin 32) :
    (iblk m c 0 t : S512x128.Idx → EReal) (ix2 r ⟨i.val, by omega⟩) = aL m c (row (blkOf t) r) i :=
  (blk_h m c t r ⟨i.val, by omega⟩).trans (padC_low (aH m c _) ⟨i.val, by omega⟩ i.isLt _)

theorem dpre_blk (c : Dev nD) (t : Fin cfg0.N) (r : Fin 512) (k : Fin 256) :
    dpreB (iblk m c 0 t) (iblk m c 1 t) (iblk m c 2 t) (iblk m c 3 t) (iblk m c 4 t) r k
      = dpreG (aL m c) (aA m c) (aB m c) (aD m c) (row (blkOf t) r) k := by
  unfold dpreB dpreG
  refine congrArg₂ (fun a b : EReal => a * Ideal.ofBits .f32 1031798784#32 * Ideal.logistic (0 - b)) ?_ ?_
  · unfold catB catG
    split_ifs
    · exact blk_df m c t r _
    · exact blk_db m c t r _
  · unfold preG
    refine congrArg₂ (fun a b : EReal => a + b) ?_ (blk_b m c t k)
    refine Eq.trans (Finset.sum_congr rfl fun i _ => congrArg₂ (fun a b : EReal => a * b) rfl (blk_a m c t i k)) ?_
    refine (sum_low (fun i => (iblk m c 0 t : S512x128.Idx → EReal) (ix2 r i)) (aA m c 0) (aA m c 1) k).trans ?_
    exact Finset.sum_congr rfl fun i _ => congrArg (fun a : EReal => a * two (aA m c 0) (aA m c 1) ⟨i.val, by omega⟩ k) (blk_l m c t r i)

end Cert.Gates

end
-- ==== Proof.GatesRun.lean ====
/- The gates' gradients after a run, element by element, as functions of the arguments. -/
module

public import proofs.«01_k».proof.Proof.GatesBlk

@[expose] public section

noncomputable section

namespace Cert.Gates

open Cert.Kernel9Ideal Cert.Kernel9Ideal.Gen Cert.Proj Cert.Spec Idealize.ShloMosaic Idealize.ShloMosaic.TcCoe

variable (m : (ℓ : Loc nD τ sig) → Buf (Elt Ideal) ℓ)

/-! ## What a block of rows gives -/

theorem dl_blk (c : Dev nD) (t : Fin cfg0.N) (r : Fin 512) (i : Fin 128) :
    (∑ k : Fin 256, dpreB (iblk m c 0 t) (iblk m c 1 t) (iblk m c 2 t) (iblk m c 3 t) (iblk m c 4 t) r k * (show EReal from iblk m c 1 t (ix2 i k : S128x256.Idx)))
      = dlG (aL m c) (aA m c) (aB m c) (aD m c) (row (blkOf t) r) i :=
  Finset.sum_congr rfl fun k _ => congrArg₂ (fun a b : EReal => a * b) (dpre_blk m c t r k) (blk_a m c t i k)

/-- What a block of rows adds to the matrix's gradient. -/
def dwT (c : Dev nD) (t : Fin 8) (i : Fin 32) (k : Fin 256) : EReal :=
  ∑ r : Fin 512, aL m c (row t r) i * dpreG (aL m c) (aA m c) (aB m c) (aD m c) (row t r) k

/-- What it adds to the biases' gradient. -/
def dbT (c : Dev nD) (t : Fin 8) (k : Fin 256) : EReal := ∑ r : Fin 512, dpreG (aL m c) (aA m c) (aB m c) (aD m c) (row t r) k

theorem dwT_blk (c : Dev nD) (t : Fin cfg0.N) (i : Fin 32) (k : Fin 256) :
    (∑ r : Fin 512, (show EReal from iblk m c 0 t (ix2 r ⟨i.val, by omega⟩ : S512x128.Idx))
      * dpreB (iblk m c 0 t) (iblk m c 1 t) (iblk m c 2 t) (iblk m c 3 t) (iblk m c 4 t) r k) = dwT m c (blkOf t) i k :=
  Finset.sum_congr rfl fun r _ => congrArg₂ (fun a b : EReal => a * b) (blk_l m c t r i) (dpre_blk m c t r k)

theorem dbT_blk (c : Dev nD) (t : Fin cfg0.N) (k : Fin 256) :
    (∑ r : Fin 512, dpreB (iblk m c 0 t) (iblk m c 1 t) (iblk m c 2 t) (iblk m c 3 t) (iblk m c 4 t) r k) = dbT m c (blkOf t) k :=
  Finset.sum_congr rfl fun r _ => dpre_blk m c t r k

/-! ## What each point leaves -/

theorem pt5 (c : Dev nD) (t : Fin cfg0.N) (r : Fin 512) (i : Fin 128) :
    (outsAt0 m c t.val t.isLt).1 (ix2 r i) = dlG (aL m c) (aA m c) (aB m c) (aD m c) (row (blkOf t) r) i := by
  by_cases h0 : t.val % 8 = 0
  · rw [outsAt0_A m c t h0]
    dsimp only
    rw [out0_A_5_apply]
    exact dl_blk m c t r i
  · rw [outsAt0_B m c t h0]
    dsimp only
    rw [out0_B_5_apply]
    exact dl_blk m c t r i

theorem firstA (c : Dev nD) (t : Fin cfg0.N) (h0 : t.val % 8 = 0) (k : Fin 256) :
    (∀ i, (outsAt0 m c t.val t.isLt).2.1 (ix2 i k) = dwT m c (blkOf t) i k)
    ∧ (outsAt0 m c t.val t.isLt).2.2 (ix2 0 k) = dbT m c (blkOf t) k := by
  rw [outsAt0_A m c t h0]
  dsimp only
  refine ⟨fun i => ?_, ?_⟩
  · rw [out0_A_6_apply]
    exact (zero_add _).trans (dwT_blk m c t i k)
  · rw [out0_A_7_apply]
    exact (zero_add _).trans (dbT_blk m c t k)

theorem nextB (c : Dev nD) (t : Fin cfg0.N) (h0 : ¬ t.val % 8 = 0) (k : Fin 256) :
    (∀ i, (outsAt0 m c t.val t.isLt).2.1 (ix2 i k)
      = (outsAt0 m c (t.val - 1) (Nat.lt_of_le_of_lt (Nat.sub_le _ _) t.isLt)).2.1 (ix2 i k) + dwT m c (blkOf t) i k)
    ∧ (outsAt0 m c t.val t.isLt).2.2 (ix2 0 k)
      = (outsAt0 m c (t.val - 1) (Nat.lt_of_le_of_lt (Nat.sub_le _ _) t.isLt)).2.2 (ix2 0 k) + dbT m c (blkOf t) k := by
  rw [outsAt0_B m c t h0]
  dsimp only
  refine ⟨fun i => ?_, ?_⟩
  · rw [out0_B_6_apply]
    exact congrArg (_ + ·) (dwT_blk m c t i k)
  · rw [out0_B_7_apply]
    exact congrArg (_ + ·) (dbT_blk m c t k)

/-- After a point the matrix's and the biases' gradients hold the parts of the points so far. -/
theorem sofar (c : Dev nD) (k : Fin 256) : ∀ (n : ℕ) (h : n < 8) (hn : n < cfg0.N),
    (∀ i, (outsAt0 m c n hn).2.1 (ix2 i k) = ∑ u : Fin (n + 1), dwT m c ⟨u.val, by omega⟩ i k)
    ∧ (outsAt0 m c n hn).2.2 (ix2 0 k) = ∑ u : Fin (n + 1), dbT m c ⟨u.val, by omega⟩ k
  | 0, _, hn => by
    obtain ⟨e1, e2⟩ := firstA m c ⟨0, hn⟩ rfl k
    refine ⟨fun i => (e1 i).trans ?_, e2.trans ?_⟩
    all_goals
      rw [Fin.sum_univ_one]
      rfl
  | n + 1, h, hn => by
    obtain ⟨e1, e2⟩ := nextB m c ⟨n + 1, hn⟩ (show ¬ (n + 1) % 8 = 0 by omega) k
    obtain ⟨i1, i2⟩ := sofar c k n (by omega) (by omega)
    refine ⟨fun i => (e1 i).trans ?_, e2.trans ?_⟩
    · rw [Fin.sum_univ_castSucc]
      exact congrArg (· + dwT m c (blkOf ⟨n + 1, hn⟩) i k) (i1 i)
    · rw [Fin.sum_univ_castSucc]
      exact congrArg (· + dbT m c (blkOf ⟨n + 1, hn⟩) k) i2

theorem dw_eq (c : Dev nD) (i : Fin 32) (k : Fin 256) (n : ℕ) (h : n = 7) :
    ∑ u : Fin (n + 1), dwT m c ⟨u.val, by omega⟩ i k = dwG (aL m c) (aA m c) (aB m c) (aD m c) i k := by
  subst h
  unfold dwG
  rw [sum_row]
  rfl

theorem db_eq (c : Dev nD) (k : Fin 256) (n : ℕ) (h : n = 7) :
    ∑ u : Fin (n + 1), dbT m c ⟨u.val, by omega⟩ k = dbG (aL m c) (aA m c) (aB m c) (aD m c) k := by
  subst h
  unfold dbG
  rw [sum_row]
  rfl

/-- The last point's gradients of the matrix and the biases. -/
theorem ptLast (c : Dev nD) (k : Fin 256) (t : Fin cfg0.N) (h : t.val = 7) :
    (∀ i, (outsAt0 m c t.val t.isLt).2.1 (ix2 i k) = dwG (aL m c) (aA m c) (aB m c) (aD m c) i k)
    ∧ (outsAt0 m c t.val t.isLt).2.2 (ix2 0 k) = dbG (aL m c) (aA m c) (aB m c) (aD m c) k := by
  obtain ⟨e1, e2⟩ := sofar m c k t.val (by omega) t.isLt
  exact ⟨fun i => (e1 i).trans (dw_eq m c i k t.val h), e2.trans (db_eq m c k t.val h)⟩

/-! ## The arrays -/

theorem arr5 (c : Dev nD) (n : Fin 4096) (i : Fin 128) : ((Gen.dats m 0 c).arrAt 5 cfg0.N : S4096x128.Idx → EReal) (ix2 n i)
    = dlG (aL m c) (aA m c) (aB m c) (aD m c) n i := by
  obtain ⟨t, r, rfl⟩ := row_surj n
  have hN : t.val < cfg0.N := lt_of_lt_of_eq t.isLt (by decide)
  have h := congrFun (Value.blocks5 m c ⟨t.val, hN⟩ (flush0_5 _)) (ix2 r i : S512x128.Idx)
  rw [View.read_apply, Value.flushed5] at h
  refine Eq.trans ?_ (h.trans (pt5 m c ⟨t.val, hN⟩ r i))
  show (Gen.dats m 0 c).arrAt 5 cfg0.N _ = (Gen.dats m 0 c).arrAt 5 cfg0.N _
  congr 1
  funext a
  apply Fin.ext
  match a with
  | ⟨0, _⟩ =>
    show 512 * t.val + r.val = cc0_transform_5 (grid0.coords ⟨t.val, hN⟩) 0 * 512 + 1 * r.val
    rw [i5]
    show _ = t.val * 512 + 1 * r.val
    omega
  | ⟨1, _⟩ =>
    show i.val = cc0_transform_5 (grid0.coords ⟨t.val, hN⟩) 1 * 128 + 1 * i.val
    rw [i5]
    show _ = 0 * 128 + 1 * i.val
    omega

theorem disjoint6 (t t' : Fin cfg0.N) (h : (cfg0.win 6).flush t = true) (h' : (cfg0.win 6).flush t' = true) (hne : t ≠ t') :
    Disjoint ((cfg0.win 6).blk t).view.set ((cfg0.win 6).blk t').view.set := by
  have f := (flush0_6 t).mp h
  have f' := (flush0_6 t').mp h'
  have hN : t.val < 8 := lt_of_lt_of_eq t.isLt (by decide)
  have hN' : t'.val < 8 := lt_of_lt_of_eq t'.isLt (by decide)
  exact absurd (Fin.ext (by omega)) hne

theorem arrAt6 (c : Dev nD) (i : Fin 32) (k : Fin 256) (t : Fin cfg0.N) (ht : t.val = 7) :
    ((Gen.dats m 0 c).arrAt 6 cfg0.N : S32x256.Idx → EReal) (ix2 i k) = dwG (aL m c) (aA m c) (aB m c) (aD m c) i k := by
  have h := congrFun ((Gen.dats m 0 c).read_blk_arrAt_eq_flushed 6 disjoint6 cfg0.N t t.isLt
    ((flush0_6 _).mpr (by omega))) (ix2 i k : S32x256.Idx)
  rw [View.read_apply, Value.flushed6] at h
  refine Eq.trans ?_ (h.trans ((ptLast m c k t ht).1 i))
  show (Gen.dats m 0 c).arrAt 6 cfg0.N _ = (Gen.dats m 0 c).arrAt 6 cfg0.N _
  congr 1
  funext a
  apply Fin.ext
  match a with
  | ⟨0, _⟩ =>
    show i.val = cc0_transform_6 (grid0.coords t) 0 * 32 + 1 * i.val
    rw [i6]
    show _ = 0 * 32 + 1 * i.val
    omega
  | ⟨1, _⟩ =>
    show k.val = cc0_transform_6 (grid0.coords t) 1 * 256 + 1 * k.val
    rw [i6]
    show _ = 0 * 256 + 1 * k.val
    omega

theorem arr6 (c : Dev nD) (i : Fin 32) (k : Fin 256) :
    ((Gen.dats m 0 c).arrAt 6 cfg0.N : S32x256.Idx → EReal) (ix2 i k) = dwG (aL m c) (aA m c) (aB m c) (aD m c) i k :=
  arrAt6 m c i k ⟨7, lt_of_lt_of_eq (show 7 < 8 by omega) (by decide)⟩ rfl

theorem disjoint7 (t t' : Fin cfg0.N) (h : (cfg0.win 7).flush t = true) (h' : (cfg0.win 7).flush t' = true) (hne : t ≠ t') :
    Disjoint ((cfg0.win 7).blk t).view.set ((cfg0.win 7).blk t').view.set := by
  have f := (flush0_7 t).mp h
  have f' := (flush0_7 t').mp h'
  have hN : t.val < 8 := lt_of_lt_of_eq t.isLt (by decide)
  have hN' : t'.val < 8 := lt_of_lt_of_eq t'.isLt (by decide)
  exact absurd (Fin.ext (by omega)) hne

theorem arrAt7 (c : Dev nD) (k : Fin 256) (t : Fin cfg0.N) (ht : t.val = 7) :
    ((Gen.dats m 0 c).arrAt 7 cfg0.N : S1x256.Idx → EReal) (ix2 0 k) = dbG (aL m c) (aA m c) (aB m c) (aD m c) k := by
  have h := congrFun ((Gen.dats m 0 c).read_blk_arrAt_eq_flushed 7 disjoint7 cfg0.N t t.isLt
    ((flush0_7 _).mpr (by omega))) (ix2 0 k : S1x256.Idx)
  rw [View.read_apply, Value.flushed7] at h
  refine Eq.trans ?_ (h.trans ((ptLast m c k t ht).2))
  show (Gen.dats m 0 c).arrAt 7 cfg0.N _ = (Gen.dats m 0 c).arrAt 7 cfg0.N _
  congr 1
  funext a
  apply Fin.ext
  match a with
  | ⟨0, _⟩ =>
    show 0 = cc0_transform_7 (grid0.coords t) 0 * 1 + 1 * 0
    rw [i7]
    show _ = 0 * 1 + 1 * 0
    omega
  | ⟨1, _⟩ =>
    show k.val = cc0_transform_7 (grid0.coords t) 1 * 256 + 1 * k.val
    rw [i7]
    show _ = 0 * 256 + 1 * k.val
    omega

theorem arr7 (c : Dev nD) (k : Fin 256) :
    ((Gen.dats m 0 c).arrAt 7 cfg0.N : S1x256.Idx → EReal) (ix2 0 k) = dbG (aL m c) (aA m c) (aB m c) (aD m c) k :=
  arrAt7 m c k ⟨7, lt_of_lt_of_eq (show 7 < 8 by omega) (by decide)⟩ rfl

end Cert.Gates

end
-- ==== Proof.GatesRef.lean ====
/- The reference of the gates' gradients, element by element. -/
module

public import proofs.«01_k».proof.Proof.Gen.Reference9Ideal.Read
public import proofs.«01_k».proof.Proof.Gates

@[expose] public section

noncomputable section

namespace Cert.GatesRef

open Cert.Reference9Ideal Cert.Reference9Ideal.Gen Cert.Reference9Ideal.Read Cert.Proj Cert.Gates Idealize.ShloMosaic

variable (h : Vec Ideal S4096x1824 .f32) (wa : Vec Ideal S2x16x128 .f32) (ba : Vec Ideal S2x128 .f32) (df db : Vec Ideal S4096x128 .f32)

/-- The low-rank coordinates. -/
abbrev low (n : Fin 4096) (i : Fin 32) : EReal := h (ix2 n ⟨1024 + i.val, by omega⟩)

/-- The gates' matrices, their biases and the two gradients. -/
abbrev mat (s : Fin 2) (i : Fin 16) (k : Fin 128) : EReal := wa (ix3 s i k)
abbrev bias (s : Fin 2) (k : Fin 128) : EReal := ba (ix2 s k)
abbrev grads (s : Fin 2) (n : Fin 4096) (k : Fin 128) : EReal := if s = 0 then df (ix2 n k) else db (ix2 n k)

theorem v7 (i : Fin 32) (c : Fin 256) : val_main_v7 (F := Ideal) wa (ix2 i c) = two (mat wa 0) (mat wa 1) ⟨i.val, by omega⟩ c := by
  unfold val_main_v7 val_main_v6 val_main_v5 val_main_v4 val_main_v3 val_main_v2 val_main_v1 val_main_v0 val_main_cst
  pointwise
  unfold two
  have h : i.val - 16 < 16 := by omega
  by_cases hi : i.val < 16 <;> by_cases hc : c.val < 128 <;> simp only [hi, hc, h, dite_true, dite_false] <;> rfl

theorem v14 (n : Fin 4096) (c : Fin 256) : val_main_v14 (F := Ideal) h wa ba (ix2 n c) = preG (low h) (mat wa) (bias ba) n c := by
  unfold val_main_v14 val_main_v13 val_main_v12 val_main_v11 val_main_v10 val_main_v9
  pointwise [v7]
  rfl

theorem soft_at (n : Fin 4096) (c : Fin 256) :
    val_main_call0_v1_0 (F := Ideal) h wa ba (ix2 n c) = soft (-(val_main_v14 (F := Ideal) h wa ba (ix2 n c))) := by
  unfold val_main_call0_v1_0 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  pointwise
  simp only [ne_eq, not_true_eq_false, if_false]
  rfl

theorem slope_at (n : Fin 4096) (c : Fin 256) :
    val_main_v15_1 (F := Ideal) h wa ba (ix2 n c) = slope (-(val_main_v14 (F := Ideal) h wa ba (ix2 n c))) := by
  unfold val_main_v15_1 val_main_call0_call0_v21 val_main_call0_call0_v20 val_main_call0_call0_v19 val_main_call0_call0_cst_3 val_main_call0_call0_v18 val_main_call0_call0_v17 val_main_call0_call0_cst_2 val_main_call0_call0_v16 val_main_call0_call0_v15 val_main_call0_call0_cst_1 val_main_call0_call0_v14 val_main_call0_call0_v13 val_main_call0_call0_cst_0 val_main_call0_v0
  pointwise [soft_at]
  rw [infinite]
  rfl

theorem v20 (n : Fin 4096) (c : Fin 256) :
    val_main_v20 (F := Ideal) h wa ba df db (ix2 n c) = dpreG (low h) (mat wa) (bias ba) (grads df db) n c := by
  unfold dpreG
  rw [← dpre_eq, ← v14]
  unfold val_main_v20 val_main_call1_v1 val_main_call1_v0 val_main_v19 val_main_v18 val_main_cst_1 val_main_v8
  pointwise [slope_at]
  unfold catG grads
  rfl

theorem v29 (n : Fin 4096) (i : Fin 128) :
    val_main_v29 (F := Ideal) h wa ba df db (ix2 n i) = dlG (low h) (mat wa) (bias ba) (grads df db) n i := by
  by_cases hi : i.val < 32
  · unfold val_main_v29 val_main_v28 val_main_v27 val_main_cst_4 val_main_v26
    pointwise [v20, v7]
    rw [dif_pos hi]
    rfl
  · rw [dlG_zero _ _ _ _ _ _ hi]
    unfold val_main_v29 val_main_v28 val_main_v27 val_main_cst_4 val_main_v26
    pointwise [v20, v7]
    rw [dif_neg hi]

theorem v25 (i : Fin 32) (c : Fin 256) :
    val_main_v25 (F := Ideal) h wa ba df db (ix2 i c) = dwG (low h) (mat wa) (bias ba) (grads df db) i c := by
  unfold val_main_v25 val_main_v24 val_main_v9
  pointwise [v20]
  exact Finset.sum_congr rfl fun n _ => mul_comm _ _

theorem v30 (c : Fin 256) :
    val_main_v30 (F := Ideal) h wa ba df db (ix2 0 c) = dbG (low h) (mat wa) (bias ba) (grads df db) c := by
  unfold val_main_v30 val_main_v23 val_main_v22 val_main_v21 val_main_cst_2 val_main_cst_3
  pointwise [v20]
  exact Fin.sum_univ_one _

end Cert.GatesRef

end
-- ==== Proof.GatesClaim.lean ====
/- The kernel of the gates' gradients and its reference end with equal results. -/
module

public import proofs.«01_k».proof.Defs
public import proofs.«01_k».proof.Proof.Gen.Reference9Ideal.Run
public import proofs.«01_k».proof.Proof.GatesRun
public import proofs.«01_k».proof.Proof.GatesRef

@[expose] public section

noncomputable section

namespace Cert.Gates

open Cert.Proj Idealize.ShloMosaic Idealize.SL.Sem

section
open Cert.Kernel9Ideal Cert.Kernel9Ideal.Gen

variable (m : (ℓ : Loc nD τ sig) → Buf (Elt Ideal) ℓ) (c : Dev nD)

/-- The arguments, whole. -/
abbrev g0 : S4096x1824.Idx → EReal := m (c, Proc.tc.devRef main_arg0)
abbrev g1 : S2x16x128.Idx → EReal := m (c, Proc.tc.devRef main_arg1)
abbrev g2 : S2x128.Idx → EReal := m (c, Proc.tc.devRef main_arg2)
abbrev g3 : S4096x128.Idx → EReal := m (c, Proc.tc.devRef main_arg3)
abbrev g4 : S4096x128.Idx → EReal := m (c, Proc.tc.devRef main_arg4)

theorem res_v29 : Cert.Reference9Ideal.Read.val_main_v29 (F := Ideal) (g0 m c) (g1 m c) (g2 m c) (g3 m c) (g4 m c) = (Gen.dats m 0 c).arrAt 5 cfg0.N := by
  funext i
  obtain ⟨p, q, rfl⟩ : ∃ (p : Fin 4096) (q : Fin 128), i = ix2 p q := ⟨i 0, i 1, (ix2_eta i).symm⟩
  rw [arr5]
  exact Cert.GatesRef.v29 (g0 m c) (g1 m c) (g2 m c) (g3 m c) (g4 m c) p q

theorem res_v25 : Cert.Reference9Ideal.Read.val_main_v25 (F := Ideal) (g0 m c) (g1 m c) (g2 m c) (g3 m c) (g4 m c) = (Gen.dats m 0 c).arrAt 6 cfg0.N := by
  funext i
  obtain ⟨p, q, rfl⟩ : ∃ (p : Fin 32) (q : Fin 256), i = ix2 p q := ⟨i 0, i 1, (ix2_eta i).symm⟩
  rw [arr6]
  exact Cert.GatesRef.v25 (g0 m c) (g1 m c) (g2 m c) (g3 m c) (g4 m c) p q

theorem res_v30 : Cert.Reference9Ideal.Read.val_main_v30 (F := Ideal) (g0 m c) (g1 m c) (g2 m c) (g3 m c) (g4 m c) = (Gen.dats m 0 c).arrAt 7 cfg0.N := by
  funext i
  obtain ⟨p, q, rfl⟩ : ∃ (p : Fin 1) (q : Fin 256), i = ix2 p q := ⟨i 0, i 1, (ix2_eta i).symm⟩
  obtain rfl := Subsingleton.elim p 0
  rw [arr7]
  exact Cert.GatesRef.v30 (g0 m c) (g1 m c) (g2 m c) (g3 m c) (g4 m c) q

end

set_option maxHeartbeats 4000000 in
/-- The claim. -/
theorem algebraic : Cert.algebraic_Kernel9Ideal_Reference9Ideal := by
  intro m ρ m' ρ' _ hagree
  refine ⟨_, _, _, Cert.Kernel9Ideal.Value.run_blocks m ρ, ?_⟩
  refine (θ_run _ _ _).mono (fun _ h c => ?_) (Cert.Reference9Ideal.Value.run (F := Ideal) m' ρ')
  obtain ⟨h29, h25, h30, ha⟩ := h c
  obtain ⟨e0, e1, e2, e3, e4⟩ := hagree c
  refine ⟨h29.trans ?_, h25.trans ?_, h30.trans ?_, ha⟩
  · rw [Cert.Reference9Ideal.Read.val_main_v29_eq]; try dsimp only [StableHlo.launchContents]
    rw [e0, e1, e2, e3, e4]; exact res_v29 m c
  · rw [Cert.Reference9Ideal.Read.val_main_v25_eq]; try dsimp only [StableHlo.launchContents]
    rw [e0, e1, e2, e3, e4]; exact res_v25 m c
  · rw [Cert.Reference9Ideal.Read.val_main_v30_eq]; try dsimp only [StableHlo.launchContents]
    rw [e0, e1, e2, e3, e4]; exact res_v30 m c

end Cert.Gates

end
-- ==== Proof.AdamOut.lean ====
/- The update of the output weights: the kernel and its reference end with equal results. -/
module

public import proofs.«01_k».proof.Defs
public import proofs.«01_k».proof.Proof.Gen.Reference10Ideal.Run
public import proofs.«01_k».proof.Proof.Gen.Reference10Ideal.Read
public import proofs.«01_k».proof.Proof.Gen.Kernel10Ideal.Value
public import proofs.«01_k».proof.Proof.AdamRef
public import proofs.«01_k».proof.Proof.AdamTile
public import Idealize.ShloMosaic.Lib.StableHlo.ReadAt

@[expose] public section

noncomputable section

namespace Cert.AdamOut

open Cert.Adam Idealize.ShloMosaic Idealize.ShloMosaic.TcCoe Idealize.SL.Sem

/-- The place in the two layers' weights of an element of the matrix of all rows. -/
def at3 (n : Fin 512) (k : Fin 1024) : (⟨3, ![2, 256, 1024]⟩ : Shape).Idx := ix3 ⟨n.val / 256, by omega⟩ ⟨n.val % 256, by omega⟩ k

/-! ## The reference -/

section
open Cert.Reference10Ideal Cert.Reference10Ideal.Gen Cert.Reference10Ideal.Read

variable (x0 x1 : Vec Ideal S512x1024 .f32) (x2 x3 x4 : Vec Ideal S2x256x1024 .f32) (n : Fin 512) (k : Fin 1024)

theorem to_at : idx_main_v27 (ix2 n k) = at3 n k := by
  funext a
  apply Fin.ext
  match a with
  | ⟨0, _⟩ => show (n.val * 1024 + k.val) / 262144 = n.val / 256; omega
  | ⟨1, _⟩ => show (n.val * 1024 + k.val) / 1024 % 256 = n.val % 256; omega
  | ⟨2, _⟩ => show (n.val * 1024 + k.val) % 1024 = k.val; omega

theorem grad_at : val_main_v1 (F := Ideal) x0 x1 (at3 n k) = x0 (ix2 n k) + x1 (ix2 n k) := by
  rw [val_main_v1_apply]
  have h : idx_main_v1 (at3 n k) = ix2 n k := by
    funext a
    apply Fin.ext
    match a with
    | ⟨0, _⟩ => show ((n.val / 256 * 256 + n.val % 256) * 1024 + k.val) / 1024 = n.val; omega
    | ⟨1, _⟩ => show ((n.val / 256 * 256 + n.val % 256) * 1024 + k.val) % 1024 = k.val; omega
  rw [h]
  rfl

theorem ref27 : val_main_v27 (F := Ideal) x0 x1 x2 x3 x4 (ix2 n k)
    = delta (x0 (ix2 n k) + x1 (ix2 n k)) (x2 (at3 n k)) (x3 (at3 n k)) (x4 (at3 n k)) := by
  rw [val_main_v27_apply, to_at, ← grad_at]
  rfl

theorem ref28 : val_main_v28 (F := Ideal) x0 x1 x3 (ix2 n k) = mom (x0 (ix2 n k) + x1 (ix2 n k)) (x3 (at3 n k)) := by
  refine (val_main_v28_apply x0 x1 x3 _).trans ((congrArg (val_main_v6 (F := Ideal) x0 x1 x3) (to_at n k)).trans ?_)
  rw [← grad_at]
  rfl

theorem ref29 : val_main_v29 (F := Ideal) x0 x1 x4 (ix2 n k) = vel (x0 (ix2 n k) + x1 (ix2 n k)) (x4 (at3 n k)) := by
  refine (val_main_v29_apply x0 x1 x4 _).trans ((congrArg (val_main_v12 (F := Ideal) x0 x1 x4) (to_at n k)).trans ?_)
  rw [← grad_at]
  rfl

end

/-! ## The kernel -/

section
open Cert.Kernel10Ideal Cert.Kernel10Ideal.Gen

theorem hz : (![0, 0] : Fin 2 → Nat) = fun _ => 0 := funext fun a => by fin_cases a <;> rfl

/-- What the body leaves, element by element. -/
theorem body (x0 x1 x2 x3 x4 : Vec Ideal S256x1024 .f32) (r : Fin 256) (k : Fin 1024) :
    out0_5 x0 x1 x2 x3 x4 (ix2 r k) = x0 (ix2 r k) + x1 (ix2 r k)
    ∧ out0_6 x0 x1 x2 x3 x4 (ix2 r k) = delta (x0 (ix2 r k) + x1 (ix2 r k)) (x2 (ix2 r k)) (x3 (ix2 r k)) (x4 (ix2 r k))
    ∧ out0_7 x0 x1 x2 x3 x4 (ix2 r k) = mom (x0 (ix2 r k) + x1 (ix2 r k)) (x3 (ix2 r k))
    ∧ out0_8 x0 x1 x2 x3 x4 (ix2 r k) = vel (x0 (ix2 r k) + x1 (ix2 r k)) (x4 (ix2 r k)) := by
  unfold out0_5 out0_6 out0_7 out0_8 k0_pay4 k0_pay3 k0_pay2
  simp only [View.canon_unit_zero (S := S256x1024) hz, View.ld_unit_zero (S := S256x1024) hz, shapeCast_self]
  exact ⟨rfl, rfl, rfl, rfl⟩

variable (m : (ℓ : Loc nD τ sig) → Buf (Elt Ideal) ℓ) (c : Dev nD)

abbrev q0 : S512x1024.Idx → EReal := m (c, Proc.tc.devRef main_arg0)
abbrev q1 : S512x1024.Idx → EReal := m (c, Proc.tc.devRef main_arg1)
abbrev q2 : S2x256x1024.Idx → EReal := m (c, Proc.tc.devRef main_arg2)
abbrev q3 : S2x256x1024.Idx → EReal := m (c, Proc.tc.devRef main_arg3)
abbrev q4 : S2x256x1024.Idx → EReal := m (c, Proc.tc.devRef main_arg4)

theorem V_w (n : Fin 512) (k : Fin 1024) : (V m c main_v0 : S512x1024.Idx → EReal) (ix2 n k) = q2 m c (at3 n k) := by
  unfold V hostOps0
  after_reads_at
  rfl

theorem V_m (n : Fin 512) (k : Fin 1024) : (V m c main_v1 : S512x1024.Idx → EReal) (ix2 n k) = q3 m c (at3 n k) := by
  unfold V hostOps0
  after_reads_at
  rfl

theorem V_v (n : Fin 512) (k : Fin 1024) : (V m c main_v2 : S512x1024.Idx → EReal) (ix2 n k) = q4 m c (at3 n k) := by
  unfold V hostOps0
  after_reads_at
  rfl

theorem rows (t : Fin cfg0.N) : t.val < 2 := lt_of_lt_of_eq t.isLt (by decide)

/-- A row of the whole by its block of 256. -/
def row (t : Fin cfg0.N) (r : Fin 256) : Fin 512 := ⟨256 * t.val + r.val, by have := rows t; omega⟩

theorem row_surj (n : Fin 512) : ∃ t r, n = row t r :=
  ⟨⟨n.val / 256, lt_of_lt_of_eq (show n.val / 256 < 2 by omega) (by decide)⟩, ⟨n.val % 256, by omega⟩, Fin.ext (by simp only [row]; omega)⟩

theorem ix : ∀ t : Fin cfg0.N, cc0_transform_0 (grid0.coords t) = ![t.val, 0] := (by decide +kernel : ∀ t : Fin grid0.N, _)

/-- The blocks a point reads. -/
theorem blks (t : Fin cfg0.N) (r : Fin 256) (k : Fin 1024) :
    (iblk m c 0 t : S256x1024.Idx → EReal) (ix2 r k) = q0 m c (ix2 (row t r) k)
    ∧ (iblk m c 1 t : S256x1024.Idx → EReal) (ix2 r k) = q1 m c (ix2 (row t r) k)
    ∧ (iblk m c 2 t : S256x1024.Idx → EReal) (ix2 r k) = q2 m c (at3 (row t r) k)
    ∧ (iblk m c 3 t : S256x1024.Idx → EReal) (ix2 r k) = q3 m c (at3 (row t r) k)
    ∧ (iblk m c 4 t : S256x1024.Idx → EReal) (ix2 r k) = q4 m c (at3 (row t r) k) := by
  rw [← V_w, ← V_m, ← V_v]
  unfold iblk
  simp only [View.read_apply]
  exact ⟨(pick (V m c main_arg0) _ (row t r) k 256 t.val r.val _ (ix t) rfl rfl rfl).trans (by rw [V_main_arg0]),
    (pick (V m c main_arg1) _ (row t r) k 256 t.val r.val _ (ix t) rfl rfl rfl).trans (by rw [V_main_arg1]),
    pick (V m c main_v0) _ (row t r) k 256 t.val r.val _ (ix t) rfl rfl rfl,
    pick (V m c main_v1) _ (row t r) k 256 t.val r.val _ (ix t) rfl rfl rfl,
    pick (V m c main_v2) _ (row t r) k 256 t.val r.val _ (ix t) rfl rfl rfl⟩

/-- What a point leaves. -/
theorem pt (t : Fin cfg0.N) (r : Fin 256) (k : Fin 1024) (g w a b : EReal) (hg : g = q0 m c (ix2 (row t r) k) + q1 m c (ix2 (row t r) k))
    (hw : w = q2 m c (at3 (row t r) k)) (ha : a = q3 m c (at3 (row t r) k)) (hb : b = q4 m c (at3 (row t r) k)) :
    (out0_5 (iblk m c 0 t) (iblk m c 1 t) (iblk m c 2 t) (iblk m c 3 t) (iblk m c 4 t) : S256x1024.Idx → EReal) (ix2 r k) = g
    ∧ (out0_6 (iblk m c 0 t) (iblk m c 1 t) (iblk m c 2 t) (iblk m c 3 t) (iblk m c 4 t) : S256x1024.Idx → EReal) (ix2 r k) = delta g w a b
    ∧ (out0_7 (iblk m c 0 t) (iblk m c 1 t) (iblk m c 2 t) (iblk m c 3 t) (iblk m c 4 t) : S256x1024.Idx → EReal) (ix2 r k) = mom g a
    ∧ (out0_8 (iblk m c 0 t) (iblk m c 1 t) (iblk m c 2 t) (iblk m c 3 t) (iblk m c 4 t) : S256x1024.Idx → EReal) (ix2 r k) = vel g b := by
  obtain ⟨e0, e1, e2, e3, e4⟩ := blks m c t r k
  rw [hg, hw, ha, hb, ← e0, ← e1, ← e2, ← e3, ← e4]
  exact body _ _ _ _ _ r k

theorem arr5 (n : Fin 512) (k : Fin 1024) : ((Gen.dats m 0 c).arrAt 5 cfg0.N : S512x1024.Idx → EReal) (ix2 n k)
    = q0 m c (ix2 n k) + q1 m c (ix2 n k) := by
  obtain ⟨t, r, rfl⟩ := row_surj n
  have h := congrFun (Value.blocks5 m c t (flush0_5 _)) (ix2 r k : S256x1024.Idx)
  rw [View.read_apply, Value.flushed5] at h
  exact (pick ((Gen.dats m 0 c).arrAt 5 cfg0.N) _ (row t r) k 256 t.val r.val _ (ix t) rfl rfl rfl).symm.trans (h.trans (pt m c t r k _ _ _ _ rfl rfl rfl rfl).1)

theorem arr6 (n : Fin 512) (k : Fin 1024) : ((Gen.dats m 0 c).arrAt 6 cfg0.N : S512x1024.Idx → EReal) (ix2 n k)
    = delta (q0 m c (ix2 n k) + q1 m c (ix2 n k)) (q2 m c (at3 n k)) (q3 m c (at3 n k)) (q4 m c (at3 n k)) := by
  obtain ⟨t, r, rfl⟩ := row_surj n
  have h := congrFun (Value.blocks6 m c t (flush0_6 _)) (ix2 r k : S256x1024.Idx)
  rw [View.read_apply, Value.flushed6] at h
  exact (pick ((Gen.dats m 0 c).arrAt 6 cfg0.N) _ (row t r) k 256 t.val r.val _ (ix t) rfl rfl rfl).symm.trans (h.trans (pt m c t r k _ _ _ _ rfl rfl rfl rfl).2.1)

theorem arr7 (n : Fin 512) (k : Fin 1024) : ((Gen.dats m 0 c).arrAt 7 cfg0.N : S512x1024.Idx → EReal) (ix2 n k)
    = mom (q0 m c (ix2 n k) + q1 m c (ix2 n k)) (q3 m c (at3 n k)) := by
  obtain ⟨t, r, rfl⟩ := row_surj n
  have h := congrFun (Value.blocks7 m c t (flush0_7 _)) (ix2 r k : S256x1024.Idx)
  rw [View.read_apply, Value.flushed7] at h
  exact (pick ((Gen.dats m 0 c).arrAt 7 cfg0.N) _ (row t r) k 256 t.val r.val _ (ix t) rfl rfl rfl).symm.trans (h.trans (pt m c t r k _ _ _ _ rfl rfl rfl rfl).2.2.1)

theorem arr8 (n : Fin 512) (k : Fin 1024) : ((Gen.dats m 0 c).arrAt 8 cfg0.N : S512x1024.Idx → EReal) (ix2 n k)
    = vel (q0 m c (ix2 n k) + q1 m c (ix2 n k)) (q4 m c (at3 n k)) := by
  obtain ⟨t, r, rfl⟩ := row_surj n
  have h := congrFun (Value.blocks8 m c t (flush0_8 _)) (ix2 r k : S256x1024.Idx)
  rw [View.read_apply, Value.flushed8] at h
  exact (pick ((Gen.dats m 0 c).arrAt 8 cfg0.N) _ (row t r) k 256 t.val r.val _ (ix t) rfl rfl rfl).symm.trans (h.trans (pt m c t r k _ _ _ _ rfl rfl rfl rfl).2.2.2)

end

/-- The claim. -/
theorem algebraic : Cert.algebraic_Kernel10Ideal_Reference10Ideal := by
  intro m ρ m' ρ' _ hagree
  refine ⟨_, _, _, _, Cert.Kernel10Ideal.Value.run_blocks m ρ, ?_⟩
  refine (θ_run _ _ _).mono (fun _ h c => ?_) (Cert.Reference10Ideal.Value.run (F := Ideal) m' ρ')
  obtain ⟨h5, h6, h7, h8, ha⟩ := h c
  obtain ⟨e0, e1, e2, e3, e4⟩ := hagree c
  refine ⟨h5.trans ?_, h6.trans ?_, h7.trans ?_, h8.trans ?_, ha⟩
  · rw [e0, e1]
    exact ext2 fun p q => (arr5 m c p q).symm
  · rw [Cert.Reference10Ideal.Read.val_main_v27_eq]; try dsimp only [StableHlo.launchContents]
    rw [e0, e1, e2, e3, e4]
    exact ext2 fun p q => (ref27 (q0 m c) (q1 m c) (q2 m c) (q3 m c) (q4 m c) p q).trans (arr6 m c p q).symm
  · rw [Cert.Reference10Ideal.Read.val_main_v28_eq]; try dsimp only [StableHlo.launchContents]
    rw [e0, e1, e3]
    exact ext2 fun p q => (ref28 (q0 m c) (q1 m c) (q3 m c) p q).trans (arr7 m c p q).symm
  · rw [Cert.Reference10Ideal.Read.val_main_v29_eq]; try dsimp only [StableHlo.launchContents]
    rw [e0, e1, e4]
    exact ext2 fun p q => (ref29 (q0 m c) (q1 m c) (q4 m c) p q).trans (arr8 m c p q).symm

end Cert.AdamOut

end
-- ==== Proof.AdamIn.lean ====
/- The update of the input projection's weights: the kernel and its reference end with equal results. -/
module

public import proofs.«01_k».proof.Defs
public import proofs.«01_k».proof.Proof.Gen.Reference11Ideal.Run
public import proofs.«01_k».proof.Proof.Gen.Reference11Ideal.Read
public import proofs.«01_k».proof.Proof.Gen.Kernel11Ideal.Value
public import proofs.«01_k».proof.Proof.AdamRef
public import proofs.«01_k».proof.Proof.AdamTile
public import Idealize.ShloMosaic.Lib.StableHlo.ReadAt

@[expose] public section

noncomputable section

namespace Cert.AdamIn

open Cert.Adam Idealize.ShloMosaic Idealize.ShloMosaic.TcCoe Idealize.SL.Sem

/-- The place in the two layers' weights of an element of the matrix of all rows. -/
def at3 (n : Fin 912) (k : Fin 1024) : (⟨3, ![2, 1024, 456]⟩ : Shape).Idx := ix3 ⟨n.val / 456, by omega⟩ k ⟨n.val % 456, by omega⟩

/-! ## The reference -/

section
open Cert.Reference11Ideal Cert.Reference11Ideal.Gen Cert.Reference11Ideal.Read

variable (x0 x1 : Vec Ideal S912x1024 .f32) (x2 x3 x4 : Vec Ideal S2x1024x456 .f32) (n : Fin 912) (k : Fin 1024)

theorem to_at : idx_main_v28 (idx_main_v29 (ix2 n k)) = at3 n k := by
  funext a
  apply Fin.ext
  match a with
  | ⟨0, _⟩ => show (n.val * 1024 + k.val) / 466944 = n.val / 456; omega
  | ⟨1, _⟩ => show (n.val * 1024 + k.val) % 1024 = k.val; omega
  | ⟨2, _⟩ => show (n.val * 1024 + k.val) / 1024 % 456 = n.val % 456; omega

theorem grad_at : val_main_v2 (F := Ideal) x0 x1 (at3 n k) = x0 (ix2 n k) + x1 (ix2 n k) := by
  rw [val_main_v2_apply, val_main_v1_apply]
  have h : idx_main_v1 (idx_main_v2 (at3 n k)) = ix2 n k := by
    funext a
    apply Fin.ext
    match a with
    | ⟨0, _⟩ => show ((n.val / 456 * 456 + n.val % 456) * 1024 + k.val) / 1024 = n.val; omega
    | ⟨1, _⟩ => show ((n.val / 456 * 456 + n.val % 456) * 1024 + k.val) % 1024 = k.val; omega
  rw [h]
  rfl

theorem ref29 : val_main_v29 (F := Ideal) x0 x1 x2 x3 x4 (ix2 n k)
    = delta (x0 (ix2 n k) + x1 (ix2 n k)) (x2 (at3 n k)) (x3 (at3 n k)) (x4 (at3 n k)) := by
  rw [val_main_v29_apply, val_main_v28_apply, to_at, ← grad_at]
  rfl

theorem ref31 : val_main_v31 (F := Ideal) x0 x1 x3 (ix2 n k) = mom (x0 (ix2 n k) + x1 (ix2 n k)) (x3 (at3 n k)) := by
  refine (val_main_v31_apply x0 x1 x3 _).trans ((val_main_v30_apply x0 x1 x3 _).trans
    ((congrArg (val_main_v7 (F := Ideal) x0 x1 x3) (to_at n k)).trans ?_))
  rw [← grad_at]
  rfl

theorem ref33 : val_main_v33 (F := Ideal) x0 x1 x4 (ix2 n k) = vel (x0 (ix2 n k) + x1 (ix2 n k)) (x4 (at3 n k)) := by
  refine (val_main_v33_apply x0 x1 x4 _).trans ((val_main_v32_apply x0 x1 x4 _).trans
    ((congrArg (val_main_v13 (F := Ideal) x0 x1 x4) (to_at n k)).trans ?_))
  rw [← grad_at]
  rfl

end

/-! ## The kernel -/

section
open Cert.Kernel11Ideal Cert.Kernel11Ideal.Gen

theorem hz : (![0, 0] : Fin 2 → Nat) = fun _ => 0 := funext fun a => by fin_cases a <;> rfl

/-- What the body leaves, element by element. -/
theorem body (x0 x1 x2 x3 x4 : Vec Ideal S456x1024 .f32) (r : Fin 456) (k : Fin 1024) :
    out0_5 x0 x1 x2 x3 x4 (ix2 r k) = x0 (ix2 r k) + x1 (ix2 r k)
    ∧ out0_6 x0 x1 x2 x3 x4 (ix2 r k) = delta (x0 (ix2 r k) + x1 (ix2 r k)) (x2 (ix2 r k)) (x3 (ix2 r k)) (x4 (ix2 r k))
    ∧ out0_7 x0 x1 x2 x3 x4 (ix2 r k) = mom (x0 (ix2 r k) + x1 (ix2 r k)) (x3 (ix2 r k))
    ∧ out0_8 x0 x1 x2 x3 x4 (ix2 r k) = vel (x0 (ix2 r k) + x1 (ix2 r k)) (x4 (ix2 r k)) := by
  unfold out0_5 out0_6 out0_7 out0_8 k0_pay4 k0_pay3 k0_pay2
  simp only [View.canon_unit_zero (S := S456x1024) hz, View.ld_unit_zero (S := S456x1024) hz, shapeCast_self]
  exact ⟨rfl, rfl, rfl, rfl⟩

variable (m : (ℓ : Loc nD τ sig) → Buf (Elt Ideal) ℓ) (c : Dev nD)

abbrev q0 : S912x1024.Idx → EReal := m (c, Proc.tc.devRef main_arg0)
abbrev q1 : S912x1024.Idx → EReal := m (c, Proc.tc.devRef main_arg1)
abbrev q2 : S2x1024x456.Idx → EReal := m (c, Proc.tc.devRef main_arg2)
abbrev q3 : S2x1024x456.Idx → EReal := m (c, Proc.tc.devRef main_arg3)
abbrev q4 : S2x1024x456.Idx → EReal := m (c, Proc.tc.devRef main_arg4)

theorem V_w (n : Fin 912) (k : Fin 1024) : (V m c main_v1 : S912x1024.Idx → EReal) (ix2 n k) = q2 m c (at3 n k) := by
  unfold V hostOps0
  after_reads_at
  repeat after_reads_at
  rfl

theorem V_m (n : Fin 912) (k : Fin 1024) : (V m c main_v3 : S912x1024.Idx → EReal) (ix2 n k) = q3 m c (at3 n k) := by
  unfold V hostOps0
  after_reads_at
  repeat after_reads_at
  rfl

theorem V_v (n : Fin 912) (k : Fin 1024) : (V m c main_v5 : S912x1024.Idx → EReal) (ix2 n k) = q4 m c (at3 n k) := by
  unfold V hostOps0
  after_reads_at
  repeat after_reads_at
  rfl

theorem rows (t : Fin cfg0.N) : t.val < 2 := lt_of_lt_of_eq t.isLt (by decide)

/-- A row of the whole by its block of 456. -/
def row (t : Fin cfg0.N) (r : Fin 456) : Fin 912 := ⟨456 * t.val + r.val, by have := rows t; omega⟩

theorem row_surj (n : Fin 912) : ∃ t r, n = row t r :=
  ⟨⟨n.val / 456, lt_of_lt_of_eq (show n.val / 456 < 2 by omega) (by decide)⟩, ⟨n.val % 456, by omega⟩, Fin.ext (by simp only [row]; omega)⟩

theorem ix : ∀ t : Fin cfg0.N, cc0_transform_0 (grid0.coords t) = ![t.val, 0] := (by decide +kernel : ∀ t : Fin grid0.N, _)

/-- The blocks a point reads. -/
theorem blks (t : Fin cfg0.N) (r : Fin 456) (k : Fin 1024) :
    (iblk m c 0 t : S456x1024.Idx → EReal) (ix2 r k) = q0 m c (ix2 (row t r) k)
    ∧ (iblk m c 1 t : S456x1024.Idx → EReal) (ix2 r k) = q1 m c (ix2 (row t r) k)
    ∧ (iblk m c 2 t : S456x1024.Idx → EReal) (ix2 r k) = q2 m c (at3 (row t r) k)
    ∧ (iblk m c 3 t : S456x1024.Idx → EReal) (ix2 r k) = q3 m c (at3 (row t r) k)
    ∧ (iblk m c 4 t : S456x1024.Idx → EReal) (ix2 r k) = q4 m c (at3 (row t r) k) := by
  rw [← V_w, ← V_m, ← V_v]
  unfold iblk
  simp only [View.read_apply]
  exact ⟨(pick (V m c main_arg0) _ (row t r) k 456 t.val r.val _ (ix t) rfl rfl rfl).trans (by rw [V_main_arg0]),
    (pick (V m c main_arg1) _ (row t r) k 456 t.val r.val _ (ix t) rfl rfl rfl).trans (by rw [V_main_arg1]),
    pick (V m c main_v1) _ (row t r) k 456 t.val r.val _ (ix t) rfl rfl rfl,
    pick (V m c main_v3) _ (row t r) k 456 t.val r.val _ (ix t) rfl rfl rfl,
    pick (V m c main_v5) _ (row t r) k 456 t.val r.val _ (ix t) rfl rfl rfl⟩

/-- What a point leaves. -/
theorem pt (t : Fin cfg0.N) (r : Fin 456) (k : Fin 1024) (g w a b : EReal) (hg : g = q0 m c (ix2 (row t r) k) + q1 m c (ix2 (row t r) k))
    (hw : w = q2 m c (at3 (row t r) k)) (ha : a = q3 m c (at3 (row t r) k)) (hb : b = q4 m c (at3 (row t r) k)) :
    (out0_5 (iblk m c 0 t) (iblk m c 1 t) (iblk m c 2 t) (iblk m c 3 t) (iblk m c 4 t) : S456x1024.Idx → EReal) (ix2 r k) = g
    ∧ (out0_6 (iblk m c 0 t) (iblk m c 1 t) (iblk m c 2 t) (iblk m c 3 t) (iblk m c 4 t) : S456x1024.Idx → EReal) (ix2 r k) = delta g w a b
    ∧ (out0_7 (iblk m c 0 t) (iblk m c 1 t) (iblk m c 2 t) (iblk m c 3 t) (iblk m c 4 t) : S456x1024.Idx → EReal) (ix2 r k) = mom g a
    ∧ (out0_8 (iblk m c 0 t) (iblk m c 1 t) (iblk m c 2 t) (iblk m c 3 t) (iblk m c 4 t) : S456x1024.Idx → EReal) (ix2 r k) = vel g b := by
  obtain ⟨e0, e1, e2, e3, e4⟩ := blks m c t r k
  rw [hg, hw, ha, hb, ← e0, ← e1, ← e2, ← e3, ← e4]
  exact body _ _ _ _ _ r k

theorem arr5 (n : Fin 912) (k : Fin 1024) : ((Gen.dats m 0 c).arrAt 5 cfg0.N : S912x1024.Idx → EReal) (ix2 n k)
    = q0 m c (ix2 n k) + q1 m c (ix2 n k) := by
  obtain ⟨t, r, rfl⟩ := row_surj n
  have h := congrFun (Value.blocks5 m c t (flush0_5 _)) (ix2 r k : S456x1024.Idx)
  rw [View.read_apply, Value.flushed5] at h
  exact (pick ((Gen.dats m 0 c).arrAt 5 cfg0.N) _ (row t r) k 456 t.val r.val _ (ix t) rfl rfl rfl).symm.trans (h.trans (pt m c t r k _ _ _ _ rfl rfl rfl rfl).1)

theorem arr6 (n : Fin 912) (k : Fin 1024) : ((Gen.dats m 0 c).arrAt 6 cfg0.N : S912x1024.Idx → EReal) (ix2 n k)
    = delta (q0 m c (ix2 n k) + q1 m c (ix2 n k)) (q2 m c (at3 n k)) (q3 m c (at3 n k)) (q4 m c (at3 n k)) := by
  obtain ⟨t, r, rfl⟩ := row_surj n
  have h := congrFun (Value.blocks6 m c t (flush0_6 _)) (ix2 r k : S456x1024.Idx)
  rw [View.read_apply, Value.flushed6] at h
  exact (pick ((Gen.dats m 0 c).arrAt 6 cfg0.N) _ (row t r) k 456 t.val r.val _ (ix t) rfl rfl rfl).symm.trans (h.trans (pt m c t r k _ _ _ _ rfl rfl rfl rfl).2.1)

theorem arr7 (n : Fin 912) (k : Fin 1024) : ((Gen.dats m 0 c).arrAt 7 cfg0.N : S912x1024.Idx → EReal) (ix2 n k)
    = mom (q0 m c (ix2 n k) + q1 m c (ix2 n k)) (q3 m c (at3 n k)) := by
  obtain ⟨t, r, rfl⟩ := row_surj n
  have h := congrFun (Value.blocks7 m c t (flush0_7 _)) (ix2 r k : S456x1024.Idx)
  rw [View.read_apply, Value.flushed7] at h
  exact (pick ((Gen.dats m 0 c).arrAt 7 cfg0.N) _ (row t r) k 456 t.val r.val _ (ix t) rfl rfl rfl).symm.trans (h.trans (pt m c t r k _ _ _ _ rfl rfl rfl rfl).2.2.1)

theorem arr8 (n : Fin 912) (k : Fin 1024) : ((Gen.dats m 0 c).arrAt 8 cfg0.N : S912x1024.Idx → EReal) (ix2 n k)
    = vel (q0 m c (ix2 n k) + q1 m c (ix2 n k)) (q4 m c (at3 n k)) := by
  obtain ⟨t, r, rfl⟩ := row_surj n
  have h := congrFun (Value.blocks8 m c t (flush0_8 _)) (ix2 r k : S456x1024.Idx)
  rw [View.read_apply, Value.flushed8] at h
  exact (pick ((Gen.dats m 0 c).arrAt 8 cfg0.N) _ (row t r) k 456 t.val r.val _ (ix t) rfl rfl rfl).symm.trans (h.trans (pt m c t r k _ _ _ _ rfl rfl rfl rfl).2.2.2)

end

/-- The claim. -/
theorem algebraic : Cert.algebraic_Kernel11Ideal_Reference11Ideal := by
  intro m ρ m' ρ' _ hagree
  refine ⟨_, _, _, _, Cert.Kernel11Ideal.Value.run_blocks m ρ, ?_⟩
  refine (θ_run _ _ _).mono (fun _ h c => ?_) (Cert.Reference11Ideal.Value.run (F := Ideal) m' ρ')
  obtain ⟨h5, h6, h7, h8, ha⟩ := h c
  obtain ⟨e0, e1, e2, e3, e4⟩ := hagree c
  refine ⟨h5.trans ?_, h6.trans ?_, h7.trans ?_, h8.trans ?_, ha⟩
  · rw [e0, e1]
    exact ext2 fun p q => (arr5 m c p q).symm
  · rw [Cert.Reference11Ideal.Read.val_main_v29_eq]; try dsimp only [StableHlo.launchContents]
    rw [e0, e1, e2, e3, e4]
    exact ext2 fun p q => (ref29 (q0 m c) (q1 m c) (q2 m c) (q3 m c) (q4 m c) p q).trans (arr6 m c p q).symm
  · rw [Cert.Reference11Ideal.Read.val_main_v31_eq]; try dsimp only [StableHlo.launchContents]
    rw [e0, e1, e3]
    exact ext2 fun p q => (ref31 (q0 m c) (q1 m c) (q3 m c) p q).trans (arr7 m c p q).symm
  · rw [Cert.Reference11Ideal.Read.val_main_v33_eq]; try dsimp only [StableHlo.launchContents]
    rw [e0, e1, e4]
    exact ext2 fun p q => (ref33 (q0 m c) (q1 m c) (q4 m c) p q).trans (arr8 m c p q).symm

end Cert.AdamIn

end
-- ==== Proof.AdamGlu.lean ====
/- The update of the gated unit's weights: the kernel and its reference end with equal results. -/
module

public import proofs.«01_k».proof.Defs
public import proofs.«01_k».proof.Proof.Gen.Reference12Ideal.Run
public import proofs.«01_k».proof.Proof.Gen.Reference12Ideal.Read
public import proofs.«01_k».proof.Proof.Gen.Kernel12Ideal.Value
public import proofs.«01_k».proof.Proof.AdamRef
public import proofs.«01_k».proof.Proof.AdamTile
public import Idealize.ShloMosaic.Lib.StableHlo.ReadAt

@[expose] public section

noncomputable section

namespace Cert.AdamGlu

open Cert.Adam Idealize.ShloMosaic Idealize.ShloMosaic.TcCoe Idealize.SL.Sem

/-- The place in the two layers' weights of an element of the matrix of all rows. -/
def at3 (n : Fin 512) (k : Fin 128) : (⟨3, ![2, 256, 128]⟩ : Shape).Idx := ix3 ⟨n.val / 256, by omega⟩ ⟨n.val % 256, by omega⟩ k

/-! ## The reference -/

section
open Cert.Reference12Ideal Cert.Reference12Ideal.Gen Cert.Reference12Ideal.Read

variable (x0 x1 : Vec Ideal S512x128 .f32) (x2 x3 x4 : Vec Ideal S2x256x128 .f32) (n : Fin 512) (k : Fin 128)

theorem to_at : idx_main_v27 (ix2 n k) = at3 n k := by
  funext a
  apply Fin.ext
  match a with
  | ⟨0, _⟩ => show (n.val * 128 + k.val) / 32768 = n.val / 256; omega
  | ⟨1, _⟩ => show (n.val * 128 + k.val) / 128 % 256 = n.val % 256; omega
  | ⟨2, _⟩ => show (n.val * 128 + k.val) % 128 = k.val; omega

theorem grad_at : val_main_v1 (F := Ideal) x0 x1 (at3 n k) = x0 (ix2 n k) + x1 (ix2 n k) := by
  rw [val_main_v1_apply]
  have h : idx_main_v1 (at3 n k) = ix2 n k := by
    funext a
    apply Fin.ext
    match a with
    | ⟨0, _⟩ => show ((n.val / 256 * 256 + n.val % 256) * 128 + k.val) / 128 = n.val; omega
    | ⟨1, _⟩ => show ((n.val / 256 * 256 + n.val % 256) * 128 + k.val) % 128 = k.val; omega
  rw [h]
  rfl

theorem ref27 : val_main_v27 (F := Ideal) x0 x1 x2 x3 x4 (ix2 n k)
    = delta (x0 (ix2 n k) + x1 (ix2 n k)) (x2 (at3 n k)) (x3 (at3 n k)) (x4 (at3 n k)) := by
  rw [val_main_v27_apply, to_at, ← grad_at]
  rfl

theorem ref28 : val_main_v28 (F := Ideal) x0 x1 x3 (ix2 n k) = mom (x0 (ix2 n k) + x1 (ix2 n k)) (x3 (at3 n k)) := by
  refine (val_main_v28_apply x0 x1 x3 _).trans ((congrArg (val_main_v6 (F := Ideal) x0 x1 x3) (to_at n k)).trans ?_)
  rw [← grad_at]
  rfl

theorem ref29 : val_main_v29 (F := Ideal) x0 x1 x4 (ix2 n k) = vel (x0 (ix2 n k) + x1 (ix2 n k)) (x4 (at3 n k)) := by
  refine (val_main_v29_apply x0 x1 x4 _).trans ((congrArg (val_main_v12 (F := Ideal) x0 x1 x4) (to_at n k)).trans ?_)
  rw [← grad_at]
  rfl

end

/-! ## The kernel -/

section
open Cert.Kernel12Ideal Cert.Kernel12Ideal.Gen

theorem hz : (![0, 0] : Fin 2 → Nat) = fun _ => 0 := funext fun a => by fin_cases a <;> rfl

/-- What the body leaves, element by element. -/
theorem body (x0 x1 x2 x3 x4 : Vec Ideal S256x128 .f32) (r : Fin 256) (k : Fin 128) :
    out0_5 x0 x1 x2 x3 x4 (ix2 r k) = x0 (ix2 r k) + x1 (ix2 r k)
    ∧ out0_6 x0 x1 x2 x3 x4 (ix2 r k) = delta (x0 (ix2 r k) + x1 (ix2 r k)) (x2 (ix2 r k)) (x3 (ix2 r k)) (x4 (ix2 r k))
    ∧ out0_7 x0 x1 x2 x3 x4 (ix2 r k) = mom (x0 (ix2 r k) + x1 (ix2 r k)) (x3 (ix2 r k))
    ∧ out0_8 x0 x1 x2 x3 x4 (ix2 r k) = vel (x0 (ix2 r k) + x1 (ix2 r k)) (x4 (ix2 r k)) := by
  unfold out0_5 out0_6 out0_7 out0_8 k0_pay4 k0_pay3 k0_pay2
  simp only [View.canon_unit_zero (S := S256x128) hz, View.ld_unit_zero (S := S256x128) hz, shapeCast_self]
  exact ⟨rfl, rfl, rfl, rfl⟩

variable (m : (ℓ : Loc nD τ sig) → Buf (Elt Ideal) ℓ) (c : Dev nD)

abbrev q0 : S512x128.Idx → EReal := m (c, Proc.tc.devRef main_arg0)
abbrev q1 : S512x128.Idx → EReal := m (c, Proc.tc.devRef main_arg1)
abbrev q2 : S2x256x128.Idx → EReal := m (c, Proc.tc.devRef main_arg2)
abbrev q3 : S2x256x128.Idx → EReal := m (c, Proc.tc.devRef main_arg3)
abbrev q4 : S2x256x128.Idx → EReal := m (c, Proc.tc.devRef main_arg4)

theorem V_w (n : Fin 512) (k : Fin 128) : (V m c main_v0 : S512x128.Idx → EReal) (ix2 n k) = q2 m c (at3 n k) := by
  unfold V hostOps0
  after_reads_at
  rfl

theorem V_m (n : Fin 512) (k : Fin 128) : (V m c main_v1 : S512x128.Idx → EReal) (ix2 n k) = q3 m c (at3 n k) := by
  unfold V hostOps0
  after_reads_at
  rfl

theorem V_v (n : Fin 512) (k : Fin 128) : (V m c main_v2 : S512x128.Idx → EReal) (ix2 n k) = q4 m c (at3 n k) := by
  unfold V hostOps0
  after_reads_at
  rfl

theorem rows (t : Fin cfg0.N) : t.val < 2 := lt_of_lt_of_eq t.isLt (by decide)

/-- A row of the whole by its block of 256. -/
def row (t : Fin cfg0.N) (r : Fin 256) : Fin 512 := ⟨256 * t.val + r.val, by have := rows t; omega⟩

theorem row_surj (n : Fin 512) : ∃ t r, n = row t r :=
  ⟨⟨n.val / 256, lt_of_lt_of_eq (show n.val / 256 < 2 by omega) (by decide)⟩, ⟨n.val % 256, by omega⟩, Fin.ext (by simp only [row]; omega)⟩

theorem ix : ∀ t : Fin cfg0.N, cc0_transform_0 (grid0.coords t) = ![t.val, 0] := (by decide +kernel : ∀ t : Fin grid0.N, _)

/-- The blocks a point reads. -/
theorem blks (t : Fin cfg0.N) (r : Fin 256) (k : Fin 128) :
    (iblk m c 0 t : S256x128.Idx → EReal) (ix2 r k) = q0 m c (ix2 (row t r) k)
    ∧ (iblk m c 1 t : S256x128.Idx → EReal) (ix2 r k) = q1 m c (ix2 (row t r) k)
    ∧ (iblk m c 2 t : S256x128.Idx → EReal) (ix2 r k) = q2 m c (at3 (row t r) k)
    ∧ (iblk m c 3 t : S256x128.Idx → EReal) (ix2 r k) = q3 m c (at3 (row t r) k)
    ∧ (iblk m c 4 t : S256x128.Idx → EReal) (ix2 r k) = q4 m c (at3 (row t r) k) := by
  rw [← V_w, ← V_m, ← V_v]
  unfold iblk
  simp only [View.read_apply]
  exact ⟨(pick (V m c main_arg0) _ (row t r) k 256 t.val r.val _ (ix t) rfl rfl rfl).trans (by rw [V_main_arg0]),
    (pick (V m c main_arg1) _ (row t r) k 256 t.val r.val _ (ix t) rfl rfl rfl).trans (by rw [V_main_arg1]),
    pick (V m c main_v0) _ (row t r) k 256 t.val r.val _ (ix t) rfl rfl rfl,
    pick (V m c main_v1) _ (row t r) k 256 t.val r.val _ (ix t) rfl rfl rfl,
    pick (V m c main_v2) _ (row t r) k 256 t.val r.val _ (ix t) rfl rfl rfl⟩

/-- What a point leaves. -/
theorem pt (t : Fin cfg0.N) (r : Fin 256) (k : Fin 128) (g w a b : EReal) (hg : g = q0 m c (ix2 (row t r) k) + q1 m c (ix2 (row t r) k))
    (hw : w = q2 m c (at3 (row t r) k)) (ha : a = q3 m c (at3 (row t r) k)) (hb : b = q4 m c (at3 (row t r) k)) :
    (out0_5 (iblk m c 0 t) (iblk m c 1 t) (iblk m c 2 t) (iblk m c 3 t) (iblk m c 4 t) : S256x128.Idx → EReal) (ix2 r k) = g
    ∧ (out0_6 (iblk m c 0 t) (iblk m c 1 t) (iblk m c 2 t) (iblk m c 3 t) (iblk m c 4 t) : S256x128.Idx → EReal) (ix2 r k) = delta g w a b
    ∧ (out0_7 (iblk m c 0 t) (iblk m c 1 t) (iblk m c 2 t) (iblk m c 3 t) (iblk m c 4 t) : S256x128.Idx → EReal) (ix2 r k) = mom g a
    ∧ (out0_8 (iblk m c 0 t) (iblk m c 1 t) (iblk m c 2 t) (iblk m c 3 t) (iblk m c 4 t) : S256x128.Idx → EReal) (ix2 r k) = vel g b := by
  obtain ⟨e0, e1, e2, e3, e4⟩ := blks m c t r k
  rw [hg, hw, ha, hb, ← e0, ← e1, ← e2, ← e3, ← e4]
  exact body _ _ _ _ _ r k

theorem arr5 (n : Fin 512) (k : Fin 128) : ((Gen.dats m 0 c).arrAt 5 cfg0.N : S512x128.Idx → EReal) (ix2 n k)
    = q0 m c (ix2 n k) + q1 m c (ix2 n k) := by
  obtain ⟨t, r, rfl⟩ := row_surj n
  have h := congrFun (Value.blocks5 m c t (flush0_5 _)) (ix2 r k : S256x128.Idx)
  rw [View.read_apply, Value.flushed5] at h
  exact (pick ((Gen.dats m 0 c).arrAt 5 cfg0.N) _ (row t r) k 256 t.val r.val _ (ix t) rfl rfl rfl).symm.trans (h.trans (pt m c t r k _ _ _ _ rfl rfl rfl rfl).1)

theorem arr6 (n : Fin 512) (k : Fin 128) : ((Gen.dats m 0 c).arrAt 6 cfg0.N : S512x128.Idx → EReal) (ix2 n k)
    = delta (q0 m c (ix2 n k) + q1 m c (ix2 n k)) (q2 m c (at3 n k)) (q3 m c (at3 n k)) (q4 m c (at3 n k)) := by
  obtain ⟨t, r, rfl⟩ := row_surj n
  have h := congrFun (Value.blocks6 m c t (flush0_6 _)) (ix2 r k : S256x128.Idx)
  rw [View.read_apply, Value.flushed6] at h
  exact (pick ((Gen.dats m 0 c).arrAt 6 cfg0.N) _ (row t r) k 256 t.val r.val _ (ix t) rfl rfl rfl).symm.trans (h.trans (pt m c t r k _ _ _ _ rfl rfl rfl rfl).2.1)

theorem arr7 (n : Fin 512) (k : Fin 128) : ((Gen.dats m 0 c).arrAt 7 cfg0.N : S512x128.Idx → EReal) (ix2 n k)
    = mom (q0 m c (ix2 n k) + q1 m c (ix2 n k)) (q3 m c (at3 n k)) := by
  obtain ⟨t, r, rfl⟩ := row_surj n
  have h := congrFun (Value.blocks7 m c t (flush0_7 _)) (ix2 r k : S256x128.Idx)
  rw [View.read_apply, Value.flushed7] at h
  exact (pick ((Gen.dats m 0 c).arrAt 7 cfg0.N) _ (row t r) k 256 t.val r.val _ (ix t) rfl rfl rfl).symm.trans (h.trans (pt m c t r k _ _ _ _ rfl rfl rfl rfl).2.2.1)

theorem arr8 (n : Fin 512) (k : Fin 128) : ((Gen.dats m 0 c).arrAt 8 cfg0.N : S512x128.Idx → EReal) (ix2 n k)
    = vel (q0 m c (ix2 n k) + q1 m c (ix2 n k)) (q4 m c (at3 n k)) := by
  obtain ⟨t, r, rfl⟩ := row_surj n
  have h := congrFun (Value.blocks8 m c t (flush0_8 _)) (ix2 r k : S256x128.Idx)
  rw [View.read_apply, Value.flushed8] at h
  exact (pick ((Gen.dats m 0 c).arrAt 8 cfg0.N) _ (row t r) k 256 t.val r.val _ (ix t) rfl rfl rfl).symm.trans (h.trans (pt m c t r k _ _ _ _ rfl rfl rfl rfl).2.2.2)

end

/-- The claim. -/
theorem algebraic : Cert.algebraic_Kernel12Ideal_Reference12Ideal := by
  intro m ρ m' ρ' _ hagree
  refine ⟨_, _, _, _, Cert.Kernel12Ideal.Value.run_blocks m ρ, ?_⟩
  refine (θ_run _ _ _).mono (fun _ h c => ?_) (Cert.Reference12Ideal.Value.run (F := Ideal) m' ρ')
  obtain ⟨h5, h6, h7, h8, ha⟩ := h c
  obtain ⟨e0, e1, e2, e3, e4⟩ := hagree c
  refine ⟨h5.trans ?_, h6.trans ?_, h7.trans ?_, h8.trans ?_, ha⟩
  · rw [e0, e1]
    exact ext2 fun p q => (arr5 m c p q).symm
  · rw [Cert.Reference12Ideal.Read.val_main_v27_eq]; try dsimp only [StableHlo.launchContents]
    rw [e0, e1, e2, e3, e4]
    exact ext2 fun p q => (ref27 (q0 m c) (q1 m c) (q2 m c) (q3 m c) (q4 m c) p q).trans (arr6 m c p q).symm
  · rw [Cert.Reference12Ideal.Read.val_main_v28_eq]; try dsimp only [StableHlo.launchContents]
    rw [e0, e1, e3]
    exact ext2 fun p q => (ref28 (q0 m c) (q1 m c) (q3 m c) p q).trans (arr7 m c p q).symm
  · rw [Cert.Reference12Ideal.Read.val_main_v29_eq]; try dsimp only [StableHlo.launchContents]
    rw [e0, e1, e4]
    exact ext2 fun p q => (ref29 (q0 m c) (q1 m c) (q4 m c) p q).trans (arr8 m c p q).symm

end Cert.AdamGlu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value

public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference3Ideal
public import proofs.«01_k».proof.Proof.Gen.Reference4Ideal
public import proofs.«01_k».proof.Proof.ActClaim
public import proofs.«01_k».proof.Proof.WClaim
public import proofs.«01_k».proof.Proof.Mix3Claim
public import proofs.«01_k».proof.Proof.Mix4Claim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.InClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.InBwdClaim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.OutBwdClaim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.AdamClaim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.GatesClaim
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.AdamOut
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.AdamIn
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.AdamGlu
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The first reference runs, and leaves its arguments and the counters as they were. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The second reference runs, and leaves its arguments and the counters as they were. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The third reference runs, and leaves its arguments and the counters as they were. -/
theorem frame_reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The fourth reference runs, and leaves its arguments and the counters as they were. -/
theorem frame_reference4 : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- The fifth reference runs, and leaves its arguments and the counters as they were. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The sixth reference runs, and leaves its arguments and the counters as they were. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The seventh reference runs, and leaves its arguments and the counters as they were. -/
theorem frame_reference7 : Cert.quiescent_Reference7Ideal := fun m ρ _ =>
  (θ_run Cert.Reference7Ideal.defs _ _).mono (fun r h => ⟨fun c => (h c).2.2.2.2.2.2.2, sem_eq_zero_of_no_sems (by decide) r.2⟩)
    (Cert.Reference7Ideal.Value.run (F := Ideal) m ρ)

/-- The eighth reference runs, and leaves its arguments and the counters as they were. -/
theorem frame_reference8 : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- The ninth reference runs, and leaves its arguments and the counters as they were. -/
theorem frame_reference9 : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The tenth reference runs, and leaves its arguments and the counters as they were. -/
theorem frame_reference10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- The eleventh reference runs, and leaves its arguments and the counters as they were. -/
theorem frame_reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The twelfth reference runs, and leaves its arguments and the counters as they were. -/
theorem frame_reference12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.facts, Cert.OutBwdClaim.facts7,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  fun m ρ _ => Cert.Kernel7Ideal.Gen.frame m ρ,
  frame_reference7,
  fun m ρ _ => frame_reference7 m ρ trivial,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  trivial, Cert.ActClaim.algebraic, trivial, Cert.Wts.algebraic, trivial, Cert.Mix3.algebraic, trivial, Cert.Mix4.algebraic, trivial, Cert.In.algebraic, trivial, Cert.InBwd.algebraic, trivial, Cert.OutBwdClaim.algebraic, trivial, Cert.Adam.algebraic, trivial, Cert.Gates.algebraic, trivial, Cert.AdamOut.algebraic, trivial, Cert.AdamIn.algebraic, trivial, Cert.AdamGlu.algebraic⟩

end Cert.Proof

end
